-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 [hPre_plan : Cert.Pre_plan.Facts] (m : (ℓ : Loc Cert.Kernel10.nD Cert.Kernel10.τ Cert.Kernel10.sig) → Buf (Elt Bits) ℓ) : Prop :=
  ∀ c : Dev Cert.Kernel10.nD,
    (Cert.Pre_plan.fn (F := Bits) (m ((c.tc : Thread Cert.Kernel10.nD Cert.Kernel10.τ).loc Cert.Kernel10.main_arg0)) (m ((c.tc : Thread Cert.Kernel10.nD Cert.Kernel10.τ).loc Cert.Kernel10.main_arg1)) (m ((c.tc : Thread Cert.Kernel10.nD Cert.Kernel10.τ).loc Cert.Kernel10.main_arg2)) (m ((c.tc : Thread Cert.Kernel10.nD Cert.Kernel10.τ).loc Cert.Kernel10.main_arg3)) (m ((c.tc : Thread Cert.Kernel10.nD Cert.Kernel10.τ).loc Cert.Kernel10.main_arg4)) (m ((c.tc : Thread Cert.Kernel10.nD Cert.Kernel10.τ).loc Cert.Kernel10.main_arg5)) (m ((c.tc : Thread Cert.Kernel10.nD Cert.Kernel10.τ).loc Cert.Kernel10.main_arg6)) (m ((c.tc : Thread Cert.Kernel10.nD Cert.Kernel10.τ).loc Cert.Kernel10.main_arg7)) (m ((c.tc : Thread Cert.Kernel10.nD Cert.Kernel10.τ).loc Cert.Kernel10.main_arg8))) = (fun _ => 1#1)

def Pre_Kernel10Ideal [hPre_plan : Cert.Pre_plan.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_plan.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_plan [hPre_plan : Cert.Pre_plan.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_plan.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] [hPre_plan : Cert.Pre_plan.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8))
      ∧ r.2.sem = fun _ => 0)

def quiescent_Kernel10Ideal [hKernel10Ideal : Cert.Kernel10Ideal.Facts] [hPre_plan : Cert.Pre_plan.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8))
      ∧ r.2.sem = fun _ => 0)

def quiescent_Reference10Ideal_pre_plan [hReference10Ideal : Cert.Reference10Ideal.Facts] [hPre_plan : Cert.Pre_plan.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_plan m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8))
      ∧ r.2.sem = fun _ => 0)

def preserves_Kernel_KernelIdeal : Prop :=
  IdealRules.named_const.Statement Cert.KernelIdeal.κ "q_scale" .f32 0x3DD53B95#32 (((Real.sqrt 192)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v40) = v0 c
          ∧ r.2.mem ((c.tc : Thread Cert.Reference3Ideal.nD Cert.Reference3Ideal.τ).loc Cert.Reference3Ideal.main_v41) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v15)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v15) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v54) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_v14) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] [hPre_plan : Cert.Pre_plan.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v121) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_plan : Cert.Pre_plan.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10) (hPre_plan := hPre_plan)
    ∧ quiescent_Kernel10Ideal (hKernel10Ideal := hKernel10Ideal) (hPre_plan := hPre_plan)
    ∧ quiescent_Reference10Ideal (hReference10Ideal := hReference10Ideal)
    ∧ quiescent_Reference10Ideal_pre_plan (hReference10Ideal := hReference10Ideal) (hPre_plan := hPre_plan)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal) (hPre_plan := hPre_plan)
-- ==== Pre_finite.lean ====
abbrev S10240x2048 : Shape := ⟨2, ![10240, 2048]⟩
abbrev S10240x16x64 : Shape := ⟨3, ![10240, 16, 64]⟩
abbrev S10240x512 : Shape := ⟨2, ![10240, 512]⟩
abbrev S10240x64 : Shape := ⟨2, ![10240, 64]⟩
abbrev S2x32x1024x512 : Shape := ⟨4, ![2, 32, 1024, 512]⟩
abbrev S2x32x1024x64 : Shape := ⟨4, ![2, 32, 1024, 64]⟩
abbrev S512x4096 : Shape := ⟨2, ![512, 4096]⟩
abbrev S_ : Shape := ⟨0, ![]⟩

class Facts : Prop where
  bcast_S_S10240x2048 : S_.BroadcastsInDim S10240x2048 (![] : Fin 0 → Fin S10240x2048.rank)
  reducesTo_S10240x2048_S_d0_1 : S10240x2048.ReducesTo [0, 1] S_
  h_S_ : 0 < S_.numel
  bcast_S_S10240x16x64 : S_.BroadcastsInDim S10240x16x64 (![] : Fin 0 → Fin S10240x16x64.rank)
  reducesTo_S10240x16x64_S_d0_1_2 : S10240x16x64.ReducesTo [0, 1, 2] S_
  bcast_S_S10240x512 : S_.BroadcastsInDim S10240x512 (![] : Fin 0 → Fin S10240x512.rank)
  reducesTo_S10240x512_S_d0_1 : S10240x512.ReducesTo [0, 1] S_
  bcast_S_S10240x64 : S_.BroadcastsInDim S10240x64 (![] : Fin 0 → Fin S10240x64.rank)
  reducesTo_S10240x64_S_d0_1 : S10240x64.ReducesTo [0, 1] S_
  bcast_S_S2x32x1024x512 : S_.BroadcastsInDim S2x32x1024x512 (![] : Fin 0 → Fin S2x32x1024x512.rank)
  reducesTo_S2x32x1024x512_S_d0_1_2_3 : S2x32x1024x512.ReducesTo [0, 1, 2, 3] S_
  bcast_S_S2x32x1024x64 : S_.BroadcastsInDim S2x32x1024x64 (![] : Fin 0 → Fin S2x32x1024x64.rank)
  reducesTo_S2x32x1024x64_S_d0_1_2_3 : S2x32x1024x64.ReducesTo [0, 1, 2, 3] S_
  bcast_S_S512x4096 : S_.BroadcastsInDim S512x4096 (![] : Fin 0 → Fin S512x4096.rank)
  reducesTo_S512x4096_S_d0_1 : S512x4096.ReducesTo [0, 1] S_

variable [Facts]

def fn_part1 {F : FTy → Type} [FloatOps F] (main_arg4 : FVec F S2x32x1024x512 .f32) (main_arg5 : FVec F S2x32x1024x64 .f32) (main_arg6 : FVec F S512x4096 .f32) (main_v13 : IVec S_ 1) (main_v16 : IVec S10240x64 1) : IVec S_ 1 :=
  let main_c_5 : IVec S_ 1 := constantI S_ 1 1#1
  let main_v17 : IVec S_ 1 := (fun x v => Host.reduce IntOp.andi x v reducesTo_S10240x64_S_d0_1 h_S_) main_v16 main_c_5
  let main_v18 : IVec S_ 1 := andi main_v13 main_v17
  let main_v19 : FVec F S2x32x1024x512 .f32 := Host.absf main_arg4
  let main_cst_6 : FVec F S_ .f32 := constant S_ .f32 0x7F800000#32
  let main_v20 : FVec F S2x32x1024x512 .f32 := broadcastInDim S2x32x1024x512 ![] bcast_S_S2x32x1024x512 main_cst_6
  let main_v21 : IVec S2x32x1024x512 1 := cmpf .olt main_v19 main_v20
  let main_c_7 : IVec S_ 1 := constantI S_ 1 1#1
  let main_v22 : IVec S_ 1 := (fun x v => Host.reduce IntOp.andi x v reducesTo_S2x32x1024x512_S_d0_1_2_3 h_S_) main_v21 main_c_7
  let main_v23 : IVec S_ 1 := andi main_v18 main_v22
  let main_v24 : FVec F S2x32x1024x64 .f32 := Host.absf main_arg5
  let main_cst_8 : FVec F S_ .f32 := constant S_ .f32 0x7F800000#32
  let main_v25 : FVec F S2x32x1024x64 .f32 := broadcastInDim S2x32x1024x64 ![] bcast_S_S2x32x1024x64 main_cst_8
  let main_v26 : IVec S2x32x1024x64 1 := cmpf .olt main_v24 main_v25
  let main_c_9 : IVec S_ 1 := constantI S_ 1 1#1
  let main_v27 : IVec S_ 1 := (fun x v => Host.reduce IntOp.andi x v reducesTo_S2x32x1024x64_S_d0_1_2_3 h_S_) main_v26 main_c_9
  let main_v28 : IVec S_ 1 := andi main_v23 main_v27
  let main_v29 : FVec F S512x4096 .f32 := Host.absf main_arg6
  let main_cst_10 : FVec F S_ .f32 := constant S_ .f32 0x7F800000#32
  let main_v30 : FVec F S512x4096 .f32 := broadcastInDim S512x4096 ![] bcast_S_S512x4096 main_cst_10
  let main_v31 : IVec S512x4096 1 := cmpf .olt main_v29 main_v30
  let main_c_11 : IVec S_ 1 := constantI S_ 1 1#1
  let main_v32 : IVec S_ 1 := (fun x v => Host.reduce IntOp.andi x v reducesTo_S512x4096_S_d0_1 h_S_) main_v31 main_c_11
  let main_v33 : IVec S_ 1 := andi main_v28 main_v32
  main_v33

def fn {F : FTy → Type} [FloatOps F] (main_arg0 : FVec F S10240x2048 .f32) (main_arg1 : FVec F S10240x16x64 .f32) (main_arg2 : FVec F S10240x512 .f32) (main_arg3 : FVec F S10240x64 .f32) (main_arg4 : FVec F S2x32x1024x512 .f32) (main_arg5 : FVec F S2x32x1024x64 .f32) (main_arg6 : FVec F S512x4096 .f32) : IVec S_ 1 :=
  let main_v0 : FVec F S10240x2048 .f32 := Host.absf main_arg0
  let main_cst : FVec F S_ .f32 := constant S_ .f32 0x7F800000#32
  let main_v1 : FVec F S10240x2048 .f32 := broadcastInDim S10240x2048 ![] bcast_S_S10240x2048 main_cst
  let main_v2 : IVec S10240x2048 1 := cmpf .olt main_v0 main_v1
  let main_c : IVec S_ 1 := constantI S_ 1 1#1
  let main_v3 : IVec S_ 1 := (fun x v => Host.reduce IntOp.andi x v reducesTo_S10240x2048_S_d0_1 h_S_) main_v2 main_c
  let main_v4 : FVec F S10240x16x64 .f32 := Host.absf main_arg1
  let main_cst_0 : FVec F S_ .f32 := constant S_ .f32 0x7F800000#32
  let main_v5 : FVec F S10240x16x64 .f32 := broadcastInDim S10240x16x64 ![] bcast_S_S10240x16x64 main_cst_0
  let main_v6 : IVec S10240x16x64 1 := cmpf .olt main_v4 main_v5
  let main_c_1 : IVec S_ 1 := constantI S_ 1 1#1
  let main_v7 : IVec S_ 1 := (fun x v => Host.reduce IntOp.andi x v reducesTo_S10240x16x64_S_d0_1_2 h_S_) main_v6 main_c_1
  let main_v8 : IVec S_ 1 := andi main_v3 main_v7
  let main_v9 : FVec F S10240x512 .f32 := Host.absf main_arg2
  let main_cst_2 : FVec F S_ .f32 := constant S_ .f32 0x7F800000#32
  let main_v10 : FVec F S10240x512 .f32 := broadcastInDim S10240x512 ![] bcast_S_S10240x512 main_cst_2
  let main_v11 : IVec S10240x512 1 := cmpf .olt main_v9 main_v10
  let main_c_3 : IVec S_ 1 := constantI S_ 1 1#1
  let main_v12 : IVec S_ 1 := (fun x v => Host.reduce IntOp.andi x v reducesTo_S10240x512_S_d0_1 h_S_) main_v11 main_c_3
  let main_v13 : IVec S_ 1 := andi main_v8 main_v12
  let main_v14 : FVec F S10240x64 .f32 := Host.absf main_arg3
  let main_cst_4 : FVec F S_ .f32 := constant S_ .f32 0x7F800000#32
  let main_v15 : FVec F S10240x64 .f32 := broadcastInDim S10240x64 ![] bcast_S_S10240x64 main_cst_4
  let main_v16 : IVec S10240x64 1 := cmpf .olt main_v14 main_v15
  fn_part1 (F := F) main_arg4 main_arg5 main_arg6 main_v13 main_v16
-- ==== Pre_plan.lean ====
abbrev S22528x2048 : Shape := ⟨2, ![22528, 2048]⟩
abbrev S2x8x2048x11264 : Shape := ⟨4, ![2, 8, 2048, 11264]⟩
abbrev S2x8x5632x2048 : Shape := ⟨4, ![2, 8, 5632, 2048]⟩
abbrev S22528 : Shape := ⟨1, ![22528]⟩
abbrev S29 : Shape := ⟨1, ![29]⟩
abbrev S_ : Shape := ⟨0, ![]⟩
abbrev S1 : Shape := ⟨1, ![1]⟩
abbrev S28 : Shape := ⟨1, ![28]⟩
abbrev S29x1 : Shape := ⟨2, ![29, 1]⟩
abbrev S1x29 : Shape := ⟨2, ![1, 29]⟩
abbrev S29x29 : Shape := ⟨2, ![29, 29]⟩
abbrev S1x22528 : Shape := ⟨2, ![1, 22528]⟩
abbrev S29x22528 : Shape := ⟨2, ![29, 22528]⟩

class Facts : Prop where
  bcast_S_S29 : S_.BroadcastsInDim S29 (![] : Fin 0 → Fin S29.rank)
  reducesTo_S29_S_d0 : S29.ReducesTo [0] S_
  h_S_ : 0 < S_.numel
  slices_S29_S1_0 : S29.Slices ![0] S1
  bcast_S_S1 : S_.BroadcastsInDim S1 (![] : Fin 0 → Fin S1.rank)
  slices_S29_S1_28 : S29.Slices ![28] S1
  reducesTo_S1_S_d0 : S1.ReducesTo [0] S_
  slices_S29_S28_1 : S29.Slices ![1] S28
  slices_S29_S28_0 : S29.Slices ![0] S28
  bcast_S_S28 : S_.BroadcastsInDim S28 (![] : Fin 0 → Fin S28.rank)
  reducesTo_S28_S_d0 : S28.ReducesTo [0] S_
  bcast_S29_S29x1_0 : S29.BroadcastsInDim S29x1 (![0] : Fin 1 → Fin S29x1.rank)
  bcast_S29_S1x29_1 : S29.BroadcastsInDim S1x29 (![1] : Fin 1 → Fin S1x29.rank)
  bcast_S29x1_S29x29_0_1 : S29x1.BroadcastsInDim S29x29 (![0, 1] : Fin 2 → Fin S29x29.rank)
  bcast_S1x29_S29x29_0_1 : S1x29.BroadcastsInDim S29x29 (![0, 1] : Fin 2 → Fin S29x29.rank)
  reducesTo_S29x29_S_d0_1 : S29x29.ReducesTo [0, 1] S_
  bcast_S22528_S1x22528_1 : S22528.BroadcastsInDim S1x22528 (![1] : Fin 1 → Fin S1x22528.rank)
  bcast_S29x1_S29x22528_0_1 : S29x1.BroadcastsInDim S29x22528 (![0, 1] : Fin 2 → Fin S29x22528.rank)
  bcast_S1x22528_S29x22528_0_1 : S1x22528.BroadcastsInDim S29x22528 (![0, 1] : Fin 2 → Fin S29x22528.rank)
  reducesTo_S29x22528_S_d0_1 : S29x22528.ReducesTo [0, 1] S_
  reducesTo_S29x22528_S22528_d0 : S29x22528.ReducesTo [0] S22528
  bcast_S_S22528 : S_.BroadcastsInDim S22528 (![] : Fin 0 → Fin S22528.rank)
  reducesTo_S22528_S_d0 : S22528.ReducesTo [0] S_

variable [Facts]

def fn_part6 {F : FTy → Type} [FloatOps F] (main_v27 : IVec S_ 1) (main_v39 : IVec S_ 1) (main_v57 : IVec S_ 1) (main_v90 : IVec S_ 1) (main_v109 : IVec S_ 1) (main_v116 : IVec S22528 1) : IVec S_ 1 :=
  let main_c_26 : IVec S_ 1 := constantI S_ 1 1#1
  let main_v117 : IVec S_ 1 := (fun x v => Host.reduce IntOp.andi x v reducesTo_S22528_S_d0 h_S_) main_v116 main_c_26
  let main_v118 : IVec S_ 1 := andi main_v27 main_v39
  let main_v119 : IVec S_ 1 := andi main_v118 main_v57
  let main_v120 : IVec S_ 1 := andi main_v119 main_v90
  let main_v121 : IVec S_ 1 := andi main_v120 main_v109
  let main_v122 : IVec S_ 1 := andi main_v121 main_v117
  main_v122

def fn_part5 {F : FTy → Type} [FloatOps F] (main_arg3 : IVec S22528 32) (main_arg5 : IVec S29 32) (main_v27 : IVec S_ 1) (main_v39 : IVec S_ 1) (main_v57 : IVec S_ 1) (main_v65 : IVec S29 32) (main_v90 : IVec S_ 1) (main_v95 : IVec S29x22528 1) (main_v96 : IVec S1x22528 32) : IVec S_ 1 :=
  let main_v97 : IVec S29x1 32 := broadcastInDim S29x1 ![0] bcast_S29_S29x1_0 main_v65
  let main_v98 : IVec S29x22528 32 := broadcastInDim S29x22528 ![0, 1] bcast_S1x22528_S29x22528_0_1 main_v96
  let main_v99 : IVec S29x22528 32 := broadcastInDim S29x22528 ![0, 1] bcast_S29x1_S29x22528_0_1 main_v97
  let main_v100 : IVec S29x22528 1 := cmpi .slt main_v98 main_v99
  let main_v101 : IVec S29x22528 1 := andi main_v95 main_v100
  let main_v102 : IVec S29x22528 1 := noti main_v101
  let main_v103 : IVec S29x1 32 := broadcastInDim S29x1 ![0] bcast_S29_S29x1_0 main_arg5
  let main_v104 : IVec S1x22528 32 := broadcastInDim S1x22528 ![1] bcast_S22528_S1x22528_1 main_arg3
  let main_v105 : IVec S29x22528 32 := broadcastInDim S29x22528 ![0, 1] bcast_S29x1_S29x22528_0_1 main_v103
  let main_v106 : IVec S29x22528 32 := broadcastInDim S29x22528 ![0, 1] bcast_S1x22528_S29x22528_0_1 main_v104
  let main_v107 : IVec S29x22528 1 := cmpi .eq main_v105 main_v106
  let main_v108 : IVec S29x22528 1 := ori main_v102 main_v107
  let main_c_22 : IVec S_ 1 := constantI S_ 1 1#1
  let main_v109 : IVec S_ 1 := (fun x v => Host.reduce IntOp.andi x v reducesTo_S29x22528_S_d0_1 h_S_) main_v108 main_c_22
  let main_c_23 : IVec S_ 1 := constantI S_ 1 0#1
  let main_v110 : IVec S22528 1 := (fun x v => Host.reduce IntOp.ori x v reducesTo_S29x22528_S22528_d0 h_S_) main_v101 main_c_23
  let main_c_24 : IVec S_ 32 := constantI S_ 32 0#32
  let main_v111 : IVec S22528 32 := broadcastInDim S22528 ![] bcast_S_S22528 main_c_24
  let main_v112 : IVec S22528 1 := cmpi .slt main_arg3 main_v111
  let main_v113 : IVec S22528 1 := ori main_v110 main_v112
  let main_c_25 : IVec S_ 32 := constantI S_ 32 8#32
  let main_v114 : IVec S22528 32 := broadcastInDim S22528 ![] bcast_S_S22528 main_c_25
  let main_v115 : IVec S22528 1 := cmpi .sge main_arg3 main_v114
  let main_v116 : IVec S22528 1 := ori main_v113 main_v115
  fn_part6 (F := F) main_v27 main_v39 main_v57 main_v90 main_v109 main_v116

def fn_part4 {F : FTy → Type} [FloatOps F] (main_arg3 : IVec S22528 32) (main_arg5 : IVec S29 32) (main_arg7 : IVec S29 32) (main_v27 : IVec S_ 1) (main_v39 : IVec S_ 1) (main_v57 : IVec S_ 1) (main_v62 : IVec S29 32) (main_v65 : IVec S29 32) (main_v66 : IVec S22528 32) (main_v72 : IVec S29x29 1) (main_v73 : IVec S29 32) : IVec S_ 1 :=
  let main_v74 : IVec S29 1 := cmpi .eq main_arg7 main_v73
  let main_v75 : IVec S29x1 1 := broadcastInDim S29x1 ![0] bcast_S29_S29x1_0 main_v74
  let main_v76 : IVec S29x29 1 := broadcastInDim S29x29 ![0, 1] bcast_S29x1_S29x29_0_1 main_v75
  let main_v77 : IVec S29x29 1 := ori main_v72 main_v76
  let main_v78 : IVec S29x1 32 := broadcastInDim S29x1 ![0] bcast_S29_S29x1_0 main_v65
  let main_v79 : IVec S1x29 32 := broadcastInDim S1x29 ![1] bcast_S29_S1x29_1 main_v62
  let main_v80 : IVec S29x29 32 := broadcastInDim S29x29 ![0, 1] bcast_S29x1_S29x29_0_1 main_v78
  let main_v81 : IVec S29x29 32 := broadcastInDim S29x29 ![0, 1] bcast_S1x29_S29x29_0_1 main_v79
  let main_v82 : IVec S29x29 1 := cmpi .sle main_v80 main_v81
  let main_v83 : IVec S29x29 1 := ori main_v77 main_v82
  let main_v84 : IVec S1x29 32 := broadcastInDim S1x29 ![1] bcast_S29_S1x29_1 main_v65
  let main_v85 : IVec S29x1 32 := broadcastInDim S29x1 ![0] bcast_S29_S29x1_0 main_v62
  let main_v86 : IVec S29x29 32 := broadcastInDim S29x29 ![0, 1] bcast_S1x29_S29x29_0_1 main_v84
  let main_v87 : IVec S29x29 32 := broadcastInDim S29x29 ![0, 1] bcast_S29x1_S29x29_0_1 main_v85
  let main_v88 : IVec S29x29 1 := cmpi .sle main_v86 main_v87
  let main_v89 : IVec S29x29 1 := ori main_v83 main_v88
  let main_c_21 : IVec S_ 1 := constantI S_ 1 1#1
  let main_v90 : IVec S_ 1 := (fun x v => Host.reduce IntOp.andi x v reducesTo_S29x29_S_d0_1 h_S_) main_v89 main_c_21
  let main_v91 : IVec S29x1 32 := broadcastInDim S29x1 ![0] bcast_S29_S29x1_0 main_v62
  let main_v92 : IVec S1x22528 32 := broadcastInDim S1x22528 ![1] bcast_S22528_S1x22528_1 main_v66
  let main_v93 : IVec S29x22528 32 := broadcastInDim S29x22528 ![0, 1] bcast_S29x1_S29x22528_0_1 main_v91
  let main_v94 : IVec S29x22528 32 := broadcastInDim S29x22528 ![0, 1] bcast_S1x22528_S29x22528_0_1 main_v92
  let main_v95 : IVec S29x22528 1 := cmpi .sle main_v93 main_v94
  let main_v96 : IVec S1x22528 32 := broadcastInDim S1x22528 ![1] bcast_S22528_S1x22528_1 main_v66
  fn_part5 (F := F) main_arg3 main_arg5 main_v27 main_v39 main_v57 main_v65 main_v90 main_v95 main_v96

def fn_part3 {F : FTy → Type} [FloatOps F] (main_arg3 : IVec S22528 32) (main_arg4 : IVec S29 32) (main_arg5 : IVec S29 32) (main_arg6 : IVec S29 32) (main_arg7 : IVec S29 32) (main_v27 : IVec S_ 1) (main_v39 : IVec S_ 1) (main_v46 : IVec S28 1) (main_v51 : IVec S28 1) (main_v54 : IVec S28 1) : IVec S_ 1 :=
  let main_v55 : IVec S28 1 := andi main_v51 main_v54
  let main_v56 : IVec S28 1 := ori main_v46 main_v55
  let main_c_16 : IVec S_ 1 := constantI S_ 1 1#1
  let main_v57 : IVec S_ 1 := (fun x v => Host.reduce IntOp.andi x v reducesTo_S28_S_d0 h_S_) main_v56 main_c_16
  let main_c_17 : IVec S_ 32 := constantI S_ 32 1024#32
  let main_v58 : IVec S29 32 := broadcastInDim S29 ![] bcast_S_S29 main_c_17
  let main_v59 : IVec S29 32 := muli main_arg4 main_v58
  let main_c_18 : IVec S_ 32 := constantI S_ 32 256#32
  let main_v60 : IVec S29 32 := broadcastInDim S29 ![] bcast_S_S29 main_c_18
  let main_v61 : IVec S29 32 := muli main_arg6 main_v60
  let main_v62 : IVec S29 32 := addi main_v59 main_v61
  let main_c_19 : IVec S_ 32 := constantI S_ 32 256#32
  let main_v63 : IVec S29 32 := broadcastInDim S29 ![] bcast_S_S29 main_c_19
  let main_v64 : IVec S29 32 := muli main_arg7 main_v63
  let main_v65 : IVec S29 32 := addi main_v62 main_v64
  let main_v66 : IVec S22528 32 := iotaInDim S22528 32 0
  let main_v67 : IVec S29 32 := iotaInDim S29 32 0
  let main_v68 : IVec S29x1 32 := broadcastInDim S29x1 ![0] bcast_S29_S29x1_0 main_v67
  let main_v69 : IVec S1x29 32 := broadcastInDim S1x29 ![1] bcast_S29_S1x29_1 main_v67
  let main_v70 : IVec S29x29 32 := broadcastInDim S29x29 ![0, 1] bcast_S29x1_S29x29_0_1 main_v68
  let main_v71 : IVec S29x29 32 := broadcastInDim S29x29 ![0, 1] bcast_S1x29_S29x29_0_1 main_v69
  let main_v72 : IVec S29x29 1 := cmpi .eq main_v70 main_v71
  let main_c_20 : IVec S_ 32 := constantI S_ 32 0#32
  let main_v73 : IVec S29 32 := broadcastInDim S29 ![] bcast_S_S29 main_c_20
  fn_part4 (F := F) main_arg3 main_arg5 main_arg7 main_v27 main_v39 main_v57 main_v62 main_v65 main_v66 main_v72 main_v73

def fn_part2 {F : FTy → Type} [FloatOps F] (main_arg3 : IVec S22528 32) (main_arg4 : IVec S29 32) (main_arg5 : IVec S29 32) (main_arg6 : IVec S29 32) (main_arg7 : IVec S29 32) (main_arg8 : IVec S29 32) (main_v27 : IVec S_ 1) (main_v34 : IVec S1 1) (main_v35 : IVec S1 32) : IVec S_ 1 :=
  let main_c_11 : IVec S_ 32 := constantI S_ 32 21#32
  let main_v36 : IVec S1 32 := broadcastInDim S1 ![] bcast_S_S1 main_c_11
  let main_v37 : IVec S1 1 := cmpi .eq main_v35 main_v36
  let main_v38 : IVec S1 1 := andi main_v34 main_v37
  let main_c_12 : IVec S_ 1 := constantI S_ 1 1#1
  let main_v39 : IVec S_ 1 := (fun x v => Host.reduce IntOp.andi x v reducesTo_S1_S_d0 h_S_) main_v38 main_c_12
  let main_v40 : IVec S28 32 := (extractStridedSlice S28 ![1] · slices_S29_S28_1) main_arg4
  let main_v41 : IVec S28 32 := (extractStridedSlice S28 ![0] · slices_S29_S28_0) main_arg4
  let main_v42 : IVec S28 1 := cmpi .eq main_v40 main_v41
  let main_v43 : IVec S28 32 := (extractStridedSlice S28 ![1] · slices_S29_S28_1) main_arg8
  let main_c_13 : IVec S_ 32 := constantI S_ 32 1#32
  let main_v44 : IVec S28 32 := broadcastInDim S28 ![] bcast_S_S28 main_c_13
  let main_v45 : IVec S28 1 := cmpi .ne main_v43 main_v44
  let main_v46 : IVec S28 1 := andi main_v42 main_v45
  let main_v47 : IVec S28 32 := (extractStridedSlice S28 ![1] · slices_S29_S28_1) main_arg4
  let main_v48 : IVec S28 32 := (extractStridedSlice S28 ![0] · slices_S29_S28_0) main_arg4
  let main_c_14 : IVec S_ 32 := constantI S_ 32 1#32
  let main_v49 : IVec S28 32 := broadcastInDim S28 ![] bcast_S_S28 main_c_14
  let main_v50 : IVec S28 32 := addi main_v48 main_v49
  let main_v51 : IVec S28 1 := cmpi .eq main_v47 main_v50
  let main_v52 : IVec S28 32 := (extractStridedSlice S28 ![1] · slices_S29_S28_1) main_arg8
  let main_c_15 : IVec S_ 32 := constantI S_ 32 1#32
  let main_v53 : IVec S28 32 := broadcastInDim S28 ![] bcast_S_S28 main_c_15
  let main_v54 : IVec S28 1 := cmpi .eq main_v52 main_v53
  fn_part3 (F := F) main_arg3 main_arg4 main_arg5 main_arg6 main_arg7 main_v27 main_v39 main_v46 main_v51 main_v54

def fn_part1 {F : FTy → Type} [FloatOps F] (main_arg3 : IVec S22528 32) (main_arg4 : IVec S29 32) (main_arg5 : IVec S29 32) (main_arg6 : IVec S29 32) (main_arg7 : IVec S29 32) (main_arg8 : IVec S29 32) (main_v16 : IVec S29 1) (main_c_5 : IVec S_ 32) : IVec S_ 1 :=
  let main_v17 : IVec S29 32 := broadcastInDim S29 ![] bcast_S_S29 main_c_5
  let main_v18 : IVec S29 1 := cmpi .sge main_arg7 main_v17
  let main_v19 : IVec S29 1 := andi main_v16 main_v18
  let main_c_6 : IVec S_ 32 := constantI S_ 32 4#32
  let main_v20 : IVec S29 32 := broadcastInDim S29 ![] bcast_S_S29 main_c_6
  let main_v21 : IVec S29 1 := cmpi .sle main_arg7 main_v20
  let main_v22 : IVec S29 1 := andi main_v19 main_v21
  let main_v23 : IVec S29 32 := addi main_arg6 main_arg7
  let main_c_7 : IVec S_ 32 := constantI S_ 32 4#32
  let main_v24 : IVec S29 32 := broadcastInDim S29 ![] bcast_S_S29 main_c_7
  let main_v25 : IVec S29 1 := cmpi .sle main_v23 main_v24
  let main_v26 : IVec S29 1 := andi main_v22 main_v25
  let main_c_8 : IVec S_ 1 := constantI S_ 1 1#1
  let main_v27 : IVec S_ 1 := (fun x v => Host.reduce IntOp.andi x v reducesTo_S29_S_d0 h_S_) main_v26 main_c_8
  let main_v28 : IVec S1 32 := (extractStridedSlice S1 ![0] · slices_S29_S1_0) main_arg4
  let main_c_9 : IVec S_ 32 := constantI S_ 32 0#32
  let main_v29 : IVec S1 32 := broadcastInDim S1 ![] bcast_S_S1 main_c_9
  let main_v30 : IVec S1 1 := cmpi .eq main_v28 main_v29
  let main_v31 : IVec S1 32 := (extractStridedSlice S1 ![0] · slices_S29_S1_0) main_arg8
  let main_c_10 : IVec S_ 32 := constantI S_ 32 1#32
  let main_v32 : IVec S1 32 := broadcastInDim S1 ![] bcast_S_S1 main_c_10
  let main_v33 : IVec S1 1 := cmpi .eq main_v31 main_v32
  let main_v34 : IVec S1 1 := andi main_v30 main_v33
  let main_v35 : IVec S1 32 := (extractStridedSlice S1 ![28] · slices_S29_S1_28) main_arg4
  fn_part2 (F := F) main_arg3 main_arg4 main_arg5 main_arg6 main_arg7 main_arg8 main_v27 main_v34 main_v35

def fn {F : FTy → Type} [FloatOps F] (main_arg0 : FVec F S22528x2048 .bf16) (main_arg1 : FVec F S2x8x2048x11264 .f32) (main_arg2 : FVec F S2x8x5632x2048 .f32) (main_arg3 : IVec S22528 32) (main_arg4 : IVec S29 32) (main_arg5 : IVec S29 32) (main_arg6 : IVec S29 32) (main_arg7 : IVec S29 32) (main_arg8 : IVec S29 32) : IVec S_ 1 :=
  let main_c : IVec S_ 32 := constantI S_ 32 0#32
  let main_v0 : IVec S29 32 := broadcastInDim S29 ![] bcast_S_S29 main_c
  let main_v1 : IVec S29 1 := cmpi .sge main_arg4 main_v0
  let main_c_0 : IVec S_ 32 := constantI S_ 32 22#32
  let main_v2 : IVec S29 32 := broadcastInDim S29 ![] bcast_S_S29 main_c_0
  let main_v3 : IVec S29 1 := cmpi .slt main_arg4 main_v2
  let main_v4 : IVec S29 1 := andi main_v1 main_v3
  let main_c_1 : IVec S_ 32 := constantI S_ 32 0#32
  let main_v5 : IVec S29 32 := broadcastInDim S29 ![] bcast_S_S29 main_c_1
  let main_v6 : IVec S29 1 := cmpi .sge main_arg5 main_v5
  let main_v7 : IVec S29 1 := andi main_v4 main_v6
  let main_c_2 : IVec S_ 32 := constantI S_ 32 8#32
  let main_v8 : IVec S29 32 := broadcastInDim S29 ![] bcast_S_S29 main_c_2
  let main_v9 : IVec S29 1 := cmpi .slt main_arg5 main_v8
  let main_v10 : IVec S29 1 := andi main_v7 main_v9
  let main_c_3 : IVec S_ 32 := constantI S_ 32 0#32
  let main_v11 : IVec S29 32 := broadcastInDim S29 ![] bcast_S_S29 main_c_3
  let main_v12 : IVec S29 1 := cmpi .sge main_arg6 main_v11
  let main_v13 : IVec S29 1 := andi main_v10 main_v12
  let main_c_4 : IVec S_ 32 := constantI S_ 32 4#32
  let main_v14 : IVec S29 32 := broadcastInDim S29 ![] bcast_S_S29 main_c_4
  let main_v15 : IVec S29 1 := cmpi .slt main_arg6 main_v14
  let main_v16 : IVec S29 1 := andi main_v13 main_v15
  let main_c_5 : IVec S_ 32 := constantI S_ 32 0#32
  fn_part1 (F := F) main_arg3 main_arg4 main_arg5 main_arg6 main_arg7 main_arg8 main_v16 main_c_5
-- ==== Kernel.lean ====
abbrev S10240x2048 : Shape := ⟨2, ![10240, 2048]⟩
abbrev S10240x16x64 : Shape := ⟨3, ![10240, 16, 64]⟩
abbrev S10240x512 : Shape := ⟨2, ![10240, 512]⟩
abbrev S10240x64 : Shape := ⟨2, ![10240, 64]⟩
abbrev S2x32x1024x512 : Shape := ⟨4, ![2, 32, 1024, 512]⟩
abbrev S2x32x1024x64 : Shape := ⟨4, ![2, 32, 1024, 64]⟩
abbrev S512x4096 : Shape := ⟨2, ![512, 4096]⟩
abbrev S512x16x256 : Shape := ⟨3, ![512, 16, 256]⟩
abbrev S512x16x128 : Shape := ⟨3, ![512, 16, 128]⟩
abbrev S16x128x512 : Shape := ⟨3, ![16, 128, 512]⟩
abbrev S16x512x128 : Shape := ⟨3, ![16, 512, 128]⟩
abbrev S_ : Shape := ⟨0, ![]⟩
abbrev S10240x16x128 : Shape := ⟨3, ![10240, 16, 128]⟩
abbrev S10240x128 : Shape := ⟨2, ![10240, 128]⟩
abbrev S2048x2048 : Shape := ⟨2, ![2048, 2048]⟩
abbrev S64x2048 : Shape := ⟨2, ![64, 2048]⟩
abbrev S64x512 : Shape := ⟨2, ![64, 512]⟩
abbrev S64x128 : Shape := ⟨2, ![64, 128]⟩
abbrev S1x1x1024x512 : Shape := ⟨4, ![1, 1, 1024, 512]⟩
abbrev S1x1x1024x64 : Shape := ⟨4, ![1, 1, 1024, 64]⟩
abbrev S1x128x512 : Shape := ⟨3, ![1, 128, 512]⟩
abbrev S128x512 : Shape := ⟨2, ![128, 512]⟩
abbrev S1024x512 : Shape := ⟨2, ![1024, 512]⟩
abbrev S1024x128 : Shape := ⟨2, ![1024, 128]⟩
abbrev S1024x64 : Shape := ⟨2, ![1024, 64]⟩
abbrev S1024x1024 : Shape := ⟨2, ![1024, 1024]⟩
abbrev S1024 : Shape := ⟨1, ![1024]⟩
abbrev S1024x1 : Shape := ⟨2, ![1024, 1]⟩
abbrev S1x512x128 : Shape := ⟨3, ![1, 512, 128]⟩
abbrev S512x128 : Shape := ⟨2, ![512, 128]⟩

abbrev nBuf : Space → Nat
  | .hbm => 26
  | .vmem => 16
  | .smem => 0
  | _ => 0

abbrev bufTy : (tb : Table) → Fin (tcTables nBuf tb) → BufTy
  | .hbm, ⟨0, _⟩ => ⟨S10240x2048, .f32⟩
  | .hbm, ⟨1, _⟩ => ⟨S10240x16x64, .f32⟩
  | .hbm, ⟨2, _⟩ => ⟨S10240x512, .f32⟩
  | .hbm, ⟨3, _⟩ => ⟨S10240x64, .f32⟩
  | .hbm, ⟨4, _⟩ => ⟨S2x32x1024x512, .f32⟩
  | .hbm, ⟨5, _⟩ => ⟨S2x32x1024x64, .f32⟩
  | .hbm, ⟨6, _⟩ => ⟨S512x4096, .f32⟩
  | .hbm, ⟨7, _⟩ => ⟨S512x16x256, .f32⟩
  | .hbm, ⟨8, _⟩ => ⟨S512x16x128, .f32⟩
  | .hbm, ⟨9, _⟩ => ⟨S16x128x512, .f32⟩
  | .hbm, ⟨10, _⟩ => ⟨S16x128x512, .bf16⟩
  | .hbm, ⟨11, _⟩ => ⟨S512x16x128, .f32⟩
  | .hbm, ⟨12, _⟩ => ⟨S16x512x128, .f32⟩
  | .hbm, ⟨13, _⟩ => ⟨S16x512x128, .bf16⟩
  | .hbm, ⟨14, _⟩ => ⟨S10240x2048, .bf16⟩
  | .hbm, ⟨15, _⟩ => ⟨S_, .f32⟩
  | .hbm, ⟨16, _⟩ => ⟨S10240x16x64, .f32⟩
  | .hbm, ⟨17, _⟩ => ⟨S10240x16x128, .f32⟩
  | .hbm, ⟨18, _⟩ => ⟨S10240x2048, .f32⟩
  | .hbm, ⟨19, _⟩ => ⟨S10240x2048, .bf16⟩
  | .hbm, ⟨20, _⟩ => ⟨S10240x512, .bf16⟩
  | .hbm, ⟨21, _⟩ => ⟨S_, .f32⟩
  | .hbm, ⟨22, _⟩ => ⟨S10240x64, .f32⟩
  | .hbm, ⟨23, _⟩ => ⟨S10240x128, .f32⟩
  | .hbm, ⟨24, _⟩ => ⟨S10240x128, .bf16⟩
  | .hbm, ⟨25, _⟩ => ⟨S2048x2048, .bf16⟩
  | .local _ .vmem, ⟨0, _⟩ => ⟨S64x2048, .bf16⟩
  | .local _ .vmem, ⟨1, _⟩ => ⟨S64x2048, .bf16⟩
  | .local _ .vmem, ⟨2, _⟩ => ⟨S64x2048, .bf16⟩
  | .local _ .vmem, ⟨3, _⟩ => ⟨S64x2048, .bf16⟩
  | .local _ .vmem, ⟨4, _⟩ => ⟨S64x512, .bf16⟩
  | .local _ .vmem, ⟨5, _⟩ => ⟨S64x512, .bf16⟩
  | .local _ .vmem, ⟨6, _⟩ => ⟨S64x128, .bf16⟩
  | .local _ .vmem, ⟨7, _⟩ => ⟨S64x128, .bf16⟩
  | .local _ .vmem, ⟨8, _⟩ => ⟨S1x1x1024x512, .f32⟩
  | .local _ .vmem, ⟨9, _⟩ => ⟨S1x1x1024x512, .f32⟩
  | .local _ .vmem, ⟨10, _⟩ => ⟨S1x1x1024x64, .f32⟩
  | .local _ .vmem, ⟨11, _⟩ => ⟨S1x1x1024x64, .f32⟩
  | .local _ .vmem, ⟨12, _⟩ => ⟨S16x128x512, .bf16⟩
  | .local _ .vmem, ⟨13, _⟩ => ⟨S16x512x128, .bf16⟩
  | .local _ .vmem, ⟨14, _⟩ => ⟨S64x2048, .bf16⟩
  | .local _ .vmem, ⟨15, _⟩ => ⟨S64x2048, .bf16⟩
  | _, _ => ⟨S10240x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S16x128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x512x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S64x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "q_scale" => some (((Real.sqrt 192)⁻¹ * (Real.log 2)⁻¹ : ℝ) : EReal)
  | _ => none
-- ==== ReferenceIdeal.lean ====
abbrev S10240x2048 : Shape := ⟨2, ![10240, 2048]⟩
abbrev S10240x16x64 : Shape := ⟨3, ![10240, 16, 64]⟩
abbrev S10240x512 : Shape := ⟨2, ![10240, 512]⟩
abbrev S10240x64 : Shape := ⟨2, ![10240, 64]⟩
abbrev S2x32x1024x512 : Shape := ⟨4, ![2, 32, 1024, 512]⟩
abbrev S2x32x1024x64 : Shape := ⟨4, ![2, 32, 1024, 64]⟩
abbrev S512x4096 : Shape := ⟨2, ![512, 4096]⟩
abbrev S2048x2048 : Shape := ⟨2, ![2048, 2048]⟩
abbrev S32x64x16x128 : Shape := ⟨4, ![32, 64, 16, 128]⟩
abbrev S2048x16x64 : Shape := ⟨3, ![2048, 16, 64]⟩
abbrev S32x64x16x64 : Shape := ⟨4, ![32, 64, 16, 64]⟩
abbrev S2048x512 : Shape := ⟨2, ![2048, 512]⟩
abbrev S32x64x512 : Shape := ⟨3, ![32, 64, 512]⟩
abbrev S2048x64 : Shape := ⟨2, ![2048, 64]⟩
abbrev S32x64x64 : Shape := ⟨3, ![32, 64, 64]⟩
abbrev S64 : Shape := ⟨1, ![64]⟩
abbrev S_ : Shape := ⟨0, ![]⟩
abbrev S512x16x256 : Shape := ⟨3, ![512, 16, 256]⟩
abbrev S1x32x1024x512 : Shape := ⟨4, ![1, 32, 1024, 512]⟩
abbrev S32x1024x512 : Shape := ⟨3, ![32, 1024, 512]⟩
abbrev S32x1088x512 : Shape := ⟨3, ![32, 1088, 512]⟩
abbrev S1x32x1024x64 : Shape := ⟨4, ![1, 32, 1024, 64]⟩
abbrev S32x1024x64 : Shape := ⟨3, ![32, 1024, 64]⟩
abbrev S32x1088x64 : Shape := ⟨3, ![32, 1088, 64]⟩
abbrev S512x16x128 : Shape := ⟨3, ![512, 16, 128]⟩
abbrev S16x512x32x64 : Shape := ⟨4, ![16, 512, 32, 64]⟩
abbrev S32x64x16x512 : Shape := ⟨4, ![32, 64, 16, 512]⟩
abbrev S32x64x16x576 : Shape := ⟨4, ![32, 64, 16, 576]⟩
abbrev S32x1088x576 : Shape := ⟨3, ![32, 1088, 576]⟩
abbrev S1088 : Shape := ⟨1, ![1088]⟩
abbrev S32x1088x64x16 : Shape := ⟨4, ![32, 1088, 64, 16]⟩
abbrev S32x16x64x1088 : Shape := ⟨4, ![32, 16, 64, 1088]⟩
abbrev S1x1088 : Shape := ⟨2, ![1, 1088]⟩
abbrev S64x1 : Shape := ⟨2, ![64, 1]⟩
abbrev S64x1088 : Shape := ⟨2, ![64, 1088]⟩
abbrev S1x1x64x1088 : Shape := ⟨4, ![1, 1, 64, 1088]⟩
abbrev S32x16x64 : Shape := ⟨3, ![32, 16, 64]⟩
abbrev S32x16x64x1 : Shape := ⟨4, ![32, 16, 64, 1]⟩
abbrev S32x512x16x64 : Shape := ⟨4, ![32, 512, 16, 64]⟩
abbrev S16x128x32x64 : Shape := ⟨4, ![16, 128, 32, 64]⟩

abbrev nBuf : Space → Nat
  | .hbm => 108
  | .vmem => 0
  | .smem => 0
  | _ => 0

abbrev bufTy : (tb : Table) → Fin (tcTables nBuf tb) → BufTy
  | .hbm, ⟨0, _⟩ => ⟨S10240x2048, .f32⟩
  | .hbm, ⟨1, _⟩ => ⟨S10240x16x64, .f32⟩
  | .hbm, ⟨2, _⟩ => ⟨S10240x512, .f32⟩
  | .hbm, ⟨3, _⟩ => ⟨S10240x64, .f32⟩
  | .hbm, ⟨4, _⟩ => ⟨S2x32x1024x512, .f32⟩
  | .hbm, ⟨5, _⟩ => ⟨S2x32x1024x64, .f32⟩
  | .hbm, ⟨6, _⟩ => ⟨S512x4096, .f32⟩
  | .hbm, ⟨7, _⟩ => ⟨S2048x2048, .f32⟩
  | .hbm, ⟨8, _⟩ => ⟨S32x64x16x128, .f32⟩
  | .hbm, ⟨9, _⟩ => ⟨S2048x16x64, .f32⟩
  | .hbm, ⟨10, _⟩ => ⟨S32x64x16x64, .f32⟩
  | .hbm, ⟨11, _⟩ => ⟨S2048x512, .f32⟩
  | .hbm, ⟨12, _⟩ => ⟨S32x64x512, .f32⟩
  | .hbm, ⟨13, _⟩ => ⟨S2048x64, .f32⟩
  | .hbm, ⟨14, _⟩ => ⟨S32x64x64, .f32⟩
  | .hbm, ⟨15, _⟩ => ⟨S64, .i32⟩
  | .hbm, ⟨16, _⟩ => ⟨S_, .i32⟩
  | .hbm, ⟨17, _⟩ => ⟨S64, .i32⟩
  | .hbm, ⟨18, _⟩ => ⟨S64, .i32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S512x16x256, .f32⟩
  | .hbm, ⟨24, _⟩ => ⟨S1x32x1024x512, .f32⟩
  | .hbm, ⟨25, _⟩ => ⟨S32x1024x512, .f32⟩
  | .hbm, ⟨26, _⟩ => ⟨S32x1088x512, .f32⟩
  | .hbm, ⟨27, _⟩ => ⟨S1x32x1024x64, .f32⟩
  | .hbm, ⟨28, _⟩ => ⟨S32x1024x64, .f32⟩
  | .hbm, ⟨29, _⟩ => ⟨S32x1088x64, .f32⟩
  | .hbm, ⟨30, _⟩ => ⟨S512x16x128, .f32⟩
  | .hbm, ⟨31, _⟩ => ⟨S16x512x32x64, .f32⟩
  | .hbm, ⟨32, _⟩ => ⟨S32x64x16x512, .f32⟩
  | .hbm, ⟨33, _⟩ => ⟨S32x64x16x576, .f32⟩
  | .hbm, ⟨34, _⟩ => ⟨S32x1088x576, .f32⟩
  | .hbm, ⟨35, _⟩ => ⟨S1088, .i32⟩
  | .hbm, ⟨36, _⟩ => ⟨S32x1088x64x16, .f32⟩
  | .hbm, ⟨37, _⟩ => ⟨S32x16x64x1088, .f32⟩
  | .hbm, ⟨38, _⟩ => ⟨S32x16x64x1088, .f32⟩
  | .hbm, ⟨39, _⟩ => ⟨S32x16x64x1088, .f32⟩
  | .hbm, ⟨40, _⟩ => ⟨S1x1088, .i32⟩
  | .hbm, ⟨41, _⟩ => ⟨S_, .i32⟩
  | .hbm, ⟨42, _⟩ => ⟨S_, .i32⟩
  | .hbm, ⟨43, _⟩ => ⟨S1x1088, .i32⟩
  | .hbm, ⟨44, _⟩ => ⟨S1x1088, .i32⟩
  | .hbm, ⟨45, _⟩ => ⟨S1x1088, .i32⟩
  | .hbm, ⟨46, _⟩ => ⟨S_, .i32⟩
  | .hbm, ⟨47, _⟩ => ⟨S1x1088, .i32⟩
  | .hbm, ⟨48, _⟩ => ⟨S1x1088, .i1⟩
  | .hbm, ⟨49, _⟩ => ⟨S1x1088, .i32⟩
  | .hbm, ⟨50, _⟩ => ⟨S1x1088, .i32⟩
  | .hbm, ⟨51, _⟩ => ⟨S_, .i32⟩
  | .hbm, ⟨52, _⟩ => ⟨S1x1088, .i32⟩
  | .hbm, ⟨53, _⟩ => ⟨S1x1088, .i1⟩
  | .hbm, ⟨54, _⟩ => ⟨S1x1088, .i1⟩
  | .hbm, ⟨55, _⟩ => ⟨S_, .i32⟩
  | .hbm, ⟨56, _⟩ => ⟨S1x1088, .i32⟩
  | .hbm, ⟨57, _⟩ => ⟨S1x1088, .i32⟩
  | .hbm, ⟨58, _⟩ => ⟨S1x1088, .i32⟩
  | .hbm, ⟨59, _⟩ => ⟨S64x1, .i32⟩
  | .hbm, ⟨60, _⟩ => ⟨S_, .i32⟩
  | .hbm, ⟨61, _⟩ => ⟨S_, .i32⟩
  | .hbm, ⟨62, _⟩ => ⟨S64x1, .i32⟩
  | .hbm, ⟨63, _⟩ => ⟨S64x1, .i32⟩
  | .hbm, ⟨64, _⟩ => ⟨S64x1, .i32⟩
  | .hbm, ⟨65, _⟩ => ⟨S_, .i32⟩
  | .hbm, ⟨66, _⟩ => ⟨S64x1, .i32⟩
  | .hbm, ⟨67, _⟩ => ⟨S64x1, .i1⟩
  | .hbm, ⟨68, _⟩ => ⟨S64x1, .i32⟩
  | .hbm, ⟨69, _⟩ => ⟨S64x1, .i32⟩
  | .hbm, ⟨70, _⟩ => ⟨S_, .i32⟩
  | .hbm, ⟨71, _⟩ => ⟨S64x1, .i32⟩
  | .hbm, ⟨72, _⟩ => ⟨S64x1, .i1⟩
  | .hbm, ⟨73, _⟩ => ⟨S64x1, .i1⟩
  | .hbm, ⟨74, _⟩ => ⟨S_, .i32⟩
  | .hbm, ⟨75, _⟩ => ⟨S64x1, .i32⟩
  | .hbm, ⟨76, _⟩ => ⟨S64x1, .i32⟩
  | .hbm, ⟨77, _⟩ => ⟨S64x1, .i32⟩
  | .hbm, ⟨78, _⟩ => ⟨S64x1088, .i32⟩
  | .hbm, ⟨79, _⟩ => ⟨S64x1088, .i32⟩
  | .hbm, ⟨80, _⟩ => ⟨S64x1088, .i1⟩
  | .hbm, ⟨81, _⟩ => ⟨S1x1x64x1088, .i1⟩
  | .hbm, ⟨82, _⟩ => ⟨S_, .f32⟩
  | .hbm, ⟨83, _⟩ => ⟨S_, .f32⟩
  | .hbm, ⟨84, _⟩ => ⟨S32x16x64x1088, .i1⟩
  | .hbm, ⟨85, _⟩ => ⟨S32x16x64x1088, .f32⟩
  | .hbm, ⟨86, _⟩ => ⟨S32x16x64x1088, .f32⟩
  | .hbm, ⟨87, _⟩ => ⟨S_, .f32⟩
  | .hbm, ⟨88, _⟩ => ⟨S32x16x64, .f32⟩
  | .hbm, ⟨89, _⟩ => ⟨S_, .f32⟩
  | .hbm, ⟨90, _⟩ => ⟨S32x16x64, .f32⟩
  | .hbm, ⟨91, _⟩ => ⟨S32x16x64, .f32⟩
  | .hbm, ⟨92, _⟩ => ⟨S32x16x64x1, .f32⟩
  | .hbm, ⟨93, _⟩ => ⟨S32x16x64x1088, .f32⟩
  | .hbm, ⟨94, _⟩ => ⟨S32x16x64x1088, .f32⟩
  | .hbm, ⟨95, _⟩ => ⟨S32x16x64x1088, .f32⟩
  | .hbm, ⟨96, _⟩ => ⟨S_, .f32⟩
  | .hbm, ⟨97, _⟩ => ⟨S32x16x64, .f32⟩
  | .hbm, ⟨98, _⟩ => ⟨S32x16x64x1, .f32⟩
  | .hbm, ⟨99, _⟩ => ⟨S32x16x64x1088, .f32⟩
  | .hbm, ⟨100, _⟩ => ⟨S32x16x64x1088, .f32⟩
  | .hbm, ⟨101, _⟩ => ⟨S32x512x16x64, .f32⟩
  | .hbm, ⟨102, _⟩ => ⟨S32x64x16x512, .f32⟩
  | .hbm, ⟨103, _⟩ => ⟨S512x16x128, .f32⟩
  | .hbm, ⟨104, _⟩ => ⟨S16x128x32x64, .f32⟩
  | .hbm, ⟨105, _⟩ => ⟨S32x64x16x128, .f32⟩
  | .hbm, ⟨106, _⟩ => ⟨S2048x2048, .f32⟩
  | .hbm, ⟨107, _⟩ => ⟨S2048x2048, .bf16⟩
  | _, _ => ⟨S10240x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_1 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_v8 : Ref sig .tc := ⟨.hbm, 50, rfl⟩
abbrev main_call0_c : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_c_0 : Ref sig .tc := ⟨.hbm, 55, rfl⟩
abbrev main_call0_v12 : Ref sig .tc := ⟨.hbm, 56, rfl⟩
abbrev main_call0_v13 : Ref sig .tc := ⟨.hbm, 57, rfl⟩
abbrev main_v31 : Ref sig .tc := ⟨.hbm, 58, rfl⟩
abbrev main_v32 : Ref sig .tc := ⟨.hbm, 59, rfl⟩
abbrev main_c_2 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_c : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_call1_c_0 : Ref sig .tc := ⟨.hbm, 74, rfl⟩
abbrev main_call1_v12 : Ref sig .tc := ⟨.hbm, 75, rfl⟩
abbrev main_call1_v13 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_cst_3 : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_v38 : Ref sig .tc := ⟨.hbm, 86, rfl⟩
abbrev main_cst_4 : Ref sig .tc := ⟨.hbm, 87, rfl⟩
abbrev main_v39 : Ref sig .tc := ⟨.hbm, 88, rfl⟩
abbrev main_cst_5 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_cst_6 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩

abbrev nD : Nat := 1
abbrev τ : Topo := Topo.v7x

variable {F : FTy → Type} [FloatOps F]
-- ==== Kernel2.lean ====
abbrev S10240x2048 : Shape := ⟨2, ![10240, 2048]⟩
abbrev S2048 : Shape := ⟨1, ![2048]⟩
abbrev S2x2048x11264 : Shape := ⟨3, ![2, 2048, 11264]⟩
abbrev S2x5632x2048 : Shape := ⟨3, ![2, 5632, 2048]⟩
abbrev S1x2048 : Shape := ⟨2, ![1, 2048]⟩
abbrev S1024x2048 : Shape := ⟨2, ![1024, 2048]⟩
abbrev S1x2048x256 : Shape := ⟨3, ![1, 2048, 256]⟩
abbrev S1x256x2048 : Shape := ⟨3, ![1, 256, 2048]⟩
abbrev S1024 : Shape := ⟨1, ![1024]⟩
abbrev S1024x1 : Shape := ⟨2, ![1024, 1]⟩
abbrev S2048x256 : Shape := ⟨2, ![2048, 256]⟩
abbrev S256x2048 : Shape := ⟨2, ![256, 2048]⟩
abbrev S1024x256 : Shape := ⟨2, ![1024, 256]⟩

abbrev nBuf : Space → Nat
  | .hbm => 6
  | .vmem => 12
  | .smem => 0
  | _ => 0

abbrev bufTy : (tb : Table) → Fin (tcTables nBuf tb) → BufTy
  | .hbm, ⟨0, _⟩ => ⟨S10240x2048, .f32⟩
  | .hbm, ⟨1, _⟩ => ⟨S2048, .f32⟩
  | .hbm, ⟨2, _⟩ => ⟨S2x2048x11264, .f32⟩
  | .hbm, ⟨3, _⟩ => ⟨S2x5632x2048, .f32⟩
  | .hbm, ⟨4, _⟩ => ⟨S1x2048, .f32⟩
  | .hbm, ⟨5, _⟩ => ⟨S10240x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x256x2048, .f32⟩
  | .local _ .vmem, ⟨8, _⟩ => ⟨S1x256x2048, .f32⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | _, _ => ⟨S10240x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![10, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c22_i32 : BitVec 32 := 22#32
  let v0 : BitVec 32 := Scalar.addi arg1 c22_i32
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S10240x2048 : Shape := ⟨2, ![10240, 2048]⟩
abbrev S2048 : Shape := ⟨1, ![2048]⟩
abbrev S2x2048x11264 : Shape := ⟨3, ![2, 2048, 11264]⟩
abbrev S2x5632x2048 : Shape := ⟨3, ![2, 5632, 2048]⟩
abbrev S_ : Shape := ⟨0, ![]⟩
abbrev S10240 : Shape := ⟨1, ![10240]⟩
abbrev S10240x1 : Shape := ⟨2, ![10240, 1]⟩
abbrev S1x2048 : Shape := ⟨2, ![1, 2048]⟩
abbrev S1x2048x11264 : Shape := ⟨3, ![1, 2048, 11264]⟩
abbrev S2048x11264 : Shape := ⟨2, ![2048, 11264]⟩
abbrev S1x5632x2048 : Shape := ⟨3, ![1, 5632, 2048]⟩
abbrev S5632x2048 : Shape := ⟨2, ![5632, 2048]⟩
abbrev S10240x11264 : Shape := ⟨2, ![10240, 11264]⟩
abbrev S10240x5632 : Shape := ⟨2, ![10240, 5632]⟩

abbrev nBuf : Space → Nat
  | .hbm => 39
  | .vmem => 0
  | .smem => 0
  | _ => 0

abbrev bufTy : (tb : Table) → Fin (tcTables nBuf tb) → BufTy
  | .hbm, ⟨0, _⟩ => ⟨S10240x2048, .f32⟩
  | .hbm, ⟨1, _⟩ => ⟨S2048, .f32⟩
  | .hbm, ⟨2, _⟩ => ⟨S2x2048x11264, .f32⟩
  | .hbm, ⟨3, _⟩ => ⟨S2x5632x2048, .f32⟩
  | .hbm, ⟨4, _⟩ => ⟨S10240x2048, .f32⟩
  | .hbm, ⟨5, _⟩ => ⟨S_, .f32⟩
  | .hbm, ⟨6, _⟩ => ⟨S10240, .f32⟩
  | .hbm, ⟨7, _⟩ => ⟨S10240x1, .f32⟩
  | .hbm, ⟨8, _⟩ => ⟨S_, .f32⟩
  | .hbm, ⟨9, _⟩ => ⟨S10240x1, .f32⟩
  | .hbm, ⟨10, _⟩ => ⟨S10240x1, .f32⟩
  | .hbm, ⟨11, _⟩ => ⟨S_, .f32⟩
  | .hbm, ⟨12, _⟩ => ⟨S10240x1, .f32⟩
  | .hbm, ⟨13, _⟩ => ⟨S10240x1, .f32⟩
  | .hbm, ⟨14, _⟩ => ⟨S10240x1, .f32⟩
  | .hbm, ⟨15, _⟩ => ⟨S10240x2048, .f32⟩
  | .hbm, ⟨16, _⟩ => ⟨S10240x2048, .f32⟩
  | .hbm, ⟨17, _⟩ => ⟨S1x2048, .f32⟩
  | .hbm, ⟨18, _⟩ => ⟨S10240x2048, .f32⟩
  | .hbm, ⟨19, _⟩ => ⟨S10240x2048, .f32⟩
  | .hbm, ⟨20, _⟩ => ⟨S1x2048x11264, .f32⟩
  | .hbm, ⟨21, _⟩ => ⟨S2048x11264, .f32⟩
  | .hbm, ⟨22, _⟩ => ⟨S1x5632x2048, .f32⟩
  | .hbm, ⟨23, _⟩ => ⟨S5632x2048, .f32⟩
  | .hbm, ⟨24, _⟩ => ⟨S10240x11264, .f32⟩
  | .hbm, ⟨25, _⟩ => ⟨S10240x5632, .f32⟩
  | .hbm, ⟨26, _⟩ => ⟨S10240x5632, .f32⟩
  | .hbm, ⟨27, _⟩ => ⟨S10240x5632, .f32⟩
  | .hbm, ⟨28, _⟩ => ⟨S_, .f32⟩
  | .hbm, ⟨29, _⟩ => ⟨S10240x5632, .f32⟩
  | .hbm, ⟨30, _⟩ => ⟨S10240x5632, .f32⟩
  | .hbm, ⟨31, _⟩ => ⟨S_, .f32⟩
  | .hbm, ⟨32, _⟩ => ⟨S10240x5632, .f32⟩
  | .hbm, ⟨33, _⟩ => ⟨S10240x5632, .f32⟩
  | .hbm, ⟨34, _⟩ => ⟨S10240x5632, .f32⟩
  | .hbm, ⟨35, _⟩ => ⟨S10240x5632, .f32⟩
  | .hbm, ⟨36, _⟩ => ⟨S10240x5632, .f32⟩
  | .hbm, ⟨37, _⟩ => ⟨S10240x2048, .f32⟩
  | .hbm, ⟨38, _⟩ => ⟨S10240x2048, .f32⟩
  | _, _ => ⟨S10240x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩

abbrev nD : Nat := 1
abbrev τ : Topo := Topo.v7x

variable {F : FTy → Type} [FloatOps F]
-- ==== Kernel3.lean ====
abbrev S2x4096x2048 : Shape := ⟨3, ![2, 4096, 2048]⟩
abbrev S32x64x2048 : Shape := ⟨3, ![32, 64, 2048]⟩
abbrev S4x2048 : Shape := ⟨2, ![4, 2048]⟩
abbrev S2x2048x6160 : Shape := ⟨3, ![2, 2048, 6160]⟩
abbrev S8192x2048 : Shape := ⟨2, ![8192, 2048]⟩
abbrev S2048x2048 : Shape := ⟨2, ![2048, 2048]⟩
abbrev S10240x2048 : Shape := ⟨2, ![10240, 2048]⟩
abbrev S1x2048 : Shape := ⟨2, ![1, 2048]⟩
abbrev S2048 : Shape := ⟨1, ![2048]⟩
abbrev S10240x4096 : Shape := ⟨2, ![10240, 4096]⟩
abbrev S1024x2048 : Shape := ⟨2, ![1024, 2048]⟩
abbrev S1x2048x1024 : Shape := ⟨3, ![1, 2048, 1024]⟩
abbrev S1024x1024 : Shape := ⟨2, ![1024, 1024]⟩
abbrev S1024 : Shape := ⟨1, ![1024]⟩
abbrev S1024x1 : Shape := ⟨2, ![1024, 1]⟩
abbrev S2048x1024 : Shape := ⟨2, ![2048, 1024]⟩

abbrev nBuf : Space → Nat
  | .hbm => 12
  | .vmem => 10
  | .smem => 0
  | _ => 0

abbrev bufTy : (tb : Table) → Fin (tcTables nBuf tb) → BufTy
  | .hbm, ⟨0, _⟩ => ⟨S2x4096x2048, .f32⟩
  | .hbm, ⟨1, _⟩ => ⟨S32x64x2048, .f32⟩
  | .hbm, ⟨2, _⟩ => ⟨S4x2048, .f32⟩
  | .hbm, ⟨3, _⟩ => ⟨S2x2048x6160, .f32⟩
  | .hbm, ⟨4, _⟩ => ⟨S8192x2048, .f32⟩
  | .hbm, ⟨5, _⟩ => ⟨S2048x2048, .f32⟩
  | .hbm, ⟨6, _⟩ => ⟨S10240x2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S10240x4096, .f32⟩
  | .hbm, ⟨11, _⟩ => ⟨S10240x4096, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .f32⟩
  | .local _ .vmem, ⟨4, _⟩ => ⟨S1x2048x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![10, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S2x4096x2048 : Shape := ⟨3, ![2, 4096, 2048]⟩
abbrev S32x64x2048 : Shape := ⟨3, ![32, 64, 2048]⟩
abbrev S4x2048 : Shape := ⟨2, ![4, 2048]⟩
abbrev S2x2048x6160 : Shape := ⟨3, ![2, 2048, 6160]⟩
abbrev S1x2048 : Shape := ⟨2, ![1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S1x2048x6160 : Shape := ⟨3, ![1, 2048, 6160]⟩
abbrev S2048x6160 : Shape := ⟨2, ![2048, 6160]⟩
abbrev S2x4096x6160 : Shape := ⟨3, ![2, 4096, 6160]⟩
abbrev S2x4096x4096 : Shape := ⟨3, ![2, 4096, 4096]⟩
abbrev S8192x4096 : Shape := ⟨2, ![8192, 4096]⟩
abbrev S32x64 : Shape := ⟨2, ![32, 64]⟩
abbrev S32x64x1 : Shape := ⟨3, ![32, 64, 1]⟩
abbrev S32x64x6160 : Shape := ⟨3, ![32, 64, 6160]⟩
abbrev S32x64x4096 : Shape := ⟨3, ![32, 64, 4096]⟩
abbrev S2048x4096 : Shape := ⟨2, ![2048, 4096]⟩
abbrev S10240x4096 : Shape := ⟨2, ![10240, 4096]⟩

abbrev nBuf : Space → Nat
  | .hbm => 52
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S32x64x2048, .f32⟩
  | .hbm, ⟨2, _⟩ => ⟨S4x2048, .f32⟩
  | .hbm, ⟨3, _⟩ => ⟨S2x2048x6160, .f32⟩
  | .hbm, ⟨4, _⟩ => ⟨S1x2048, .f32⟩
  | .hbm, ⟨5, _⟩ => ⟨S2048, .f32⟩
  | .hbm, ⟨6, _⟩ => ⟨S2x4096x2048, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x2048, .f32⟩
  | .hbm, ⟨18, _⟩ => ⟨S2x4096x2048, .f32⟩
  | .hbm, ⟨19, _⟩ => ⟨S1x1x2048, .f32⟩
  | .hbm, ⟨20, _⟩ => ⟨S2x4096x2048, .f32⟩
  | .hbm, ⟨21, _⟩ => ⟨S2x4096x2048, .f32⟩
  | .hbm, ⟨22, _⟩ => ⟨S1x2048x6160, .f32⟩
  | .hbm, ⟨23, _⟩ => ⟨S2048x6160, .f32⟩
  | .hbm, ⟨24, _⟩ => ⟨S2x4096x6160, .f32⟩
  | .hbm, ⟨25, _⟩ => ⟨S2x4096x4096, .f32⟩
  | .hbm, ⟨26, _⟩ => ⟨S8192x4096, .f32⟩
  | .hbm, ⟨27, _⟩ => ⟨S1x2048, .f32⟩
  | .hbm, ⟨28, _⟩ => ⟨S2048, .f32⟩
  | .hbm, ⟨29, _⟩ => ⟨S32x64x2048, .f32⟩
  | .hbm, ⟨30, _⟩ => ⟨S_, .f32⟩
  | .hbm, ⟨31, _⟩ => ⟨S32x64, .f32⟩
  | .hbm, ⟨32, _⟩ => ⟨S32x64x1, .f32⟩
  | .hbm, ⟨33, _⟩ => ⟨S_, .f32⟩
  | .hbm, ⟨34, _⟩ => ⟨S32x64x1, .f32⟩
  | .hbm, ⟨35, _⟩ => ⟨S32x64x1, .f32⟩
  | .hbm, ⟨36, _⟩ => ⟨S_, .f32⟩
  | .hbm, ⟨37, _⟩ => ⟨S32x64x1, .f32⟩
  | .hbm, ⟨38, _⟩ => ⟨S32x64x1, .f32⟩
  | .hbm, ⟨39, _⟩ => ⟨S32x64x1, .f32⟩
  | .hbm, ⟨40, _⟩ => ⟨S32x64x2048, .f32⟩
  | .hbm, ⟨41, _⟩ => ⟨S32x64x2048, .f32⟩
  | .hbm, ⟨42, _⟩ => ⟨S1x1x2048, .f32⟩
  | .hbm, ⟨43, _⟩ => ⟨S32x64x2048, .f32⟩
  | .hbm, ⟨44, _⟩ => ⟨S32x64x2048, .f32⟩
  | .hbm, ⟨45, _⟩ => ⟨S1x2048x6160, .f32⟩
  | .hbm, ⟨46, _⟩ => ⟨S2048x6160, .f32⟩
  | .hbm, ⟨47, _⟩ => ⟨S32x64x6160, .f32⟩
  | .hbm, ⟨48, _⟩ => ⟨S32x64x4096, .f32⟩
  | .hbm, ⟨49, _⟩ => ⟨S2048x4096, .f32⟩
  | .hbm, ⟨50, _⟩ => ⟨S10240x4096, .f32⟩
  | .hbm, ⟨51, _⟩ => ⟨S10240x4096, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩

abbrev nD : Nat := 1
abbrev τ : Topo := Topo.v7x

variable {F : FTy → Type} [FloatOps F]
-- ==== Kernel4.lean ====
abbrev S2x256x2048 : Shape := ⟨3, ![2, 256, 2048]⟩
abbrev S4x2048x1024 : Shape := ⟨3, ![4, 2048, 1024]⟩
abbrev S512x2048 : Shape := ⟨2, ![512, 2048]⟩
abbrev S512x1024 : Shape := ⟨2, ![512, 1024]⟩
abbrev S1x2048x1024 : Shape := ⟨3, ![1, 2048, 1024]⟩
abbrev S2048x1024 : Shape := ⟨2, ![2048, 1024]⟩

abbrev nBuf : Space → Nat
  | .hbm => 4
  | .vmem => 4
  | .smem => 0
  | _ => 0

abbrev bufTy : (tb : Table) → Fin (tcTables nBuf tb) → BufTy
  | .hbm, ⟨0, _⟩ => ⟨S2x256x2048, .f32⟩
  | .hbm, ⟨1, _⟩ => ⟨S4x2048x1024, .f32⟩
  | .hbm, ⟨2, _⟩ => ⟨S512x2048, .f32⟩
  | .hbm, ⟨3, _⟩ => ⟨S512x1024, .f32⟩
  | .local _ .vmem, ⟨0, _⟩ => ⟨S512x2048, .f32⟩
  | .local _ .vmem, ⟨1, _⟩ => ⟨S1x2048x1024, .f32⟩
  | .local _ .vmem, ⟨2, _⟩ => ⟨S512x1024, .f32⟩
  | .local _ .vmem, ⟨3, _⟩ => ⟨S512x2048, .bf16⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference4Ideal.lean ====
abbrev S2x256x2048 : Shape := ⟨3, ![2, 256, 2048]⟩
abbrev S4x2048x1024 : Shape := ⟨3, ![4, 2048, 1024]⟩
abbrev S1x2048x1024 : Shape := ⟨3, ![1, 2048, 1024]⟩
abbrev S2048x1024 : Shape := ⟨2, ![2048, 1024]⟩
abbrev S2x256x1024 : Shape := ⟨3, ![2, 256, 1024]⟩
abbrev S512x1024 : Shape := ⟨2, ![512, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S4x2048x1024, .f32⟩
  | .hbm, ⟨2, _⟩ => ⟨S1x2048x1024, .f32⟩
  | .hbm, ⟨3, _⟩ => ⟨S2048x1024, .f32⟩
  | .hbm, ⟨4, _⟩ => ⟨S2x256x1024, .f32⟩
  | .hbm, ⟨5, _⟩ => ⟨S512x1024, .f32⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S2x4096x2048 : Shape := ⟨3, ![2, 4096, 2048]⟩
abbrev S32x64x2048 : Shape := ⟨3, ![32, 64, 2048]⟩
abbrev S4x2048 : Shape := ⟨2, ![4, 2048]⟩
abbrev S2x2048x6160 : Shape := ⟨3, ![2, 2048, 6160]⟩
abbrev S2x16 : Shape := ⟨2, ![2, 16]⟩
abbrev S8192x2048 : Shape := ⟨2, ![8192, 2048]⟩
abbrev S2048x2048 : Shape := ⟨2, ![2048, 2048]⟩
abbrev S10240x2048 : Shape := ⟨2, ![10240, 2048]⟩
abbrev S1x2048x16 : Shape := ⟨3, ![1, 2048, 16]⟩
abbrev S2048x16 : Shape := ⟨2, ![2048, 16]⟩
abbrev S_ : Shape := ⟨0, ![]⟩
abbrev S2048x112 : Shape := ⟨2, ![2048, 112]⟩
abbrev S2048x128 : Shape := ⟨2, ![2048, 128]⟩
abbrev S1x2048 : Shape := ⟨2, ![1, 2048]⟩
abbrev S2048 : Shape := ⟨1, ![2048]⟩
abbrev S1x16 : Shape := ⟨2, ![1, 16]⟩
abbrev S16 : Shape := ⟨1, ![16]⟩
abbrev S112 : Shape := ⟨1, ![112]⟩
abbrev S128 : Shape := ⟨1, ![128]⟩
abbrev S1x128 : Shape := ⟨2, ![1, 128]⟩
abbrev S10240x128 : Shape := ⟨2, ![10240, 128]⟩
abbrev S1024x2048 : Shape := ⟨2, ![1024, 2048]⟩
abbrev S1024x128 : Shape := ⟨2, ![1024, 128]⟩
abbrev S1024 : Shape := ⟨1, ![1024]⟩
abbrev S1024x1 : Shape := ⟨2, ![1024, 1]⟩

abbrev nBuf : Space → Nat
  | .hbm => 23
  | .vmem => 8
  | .smem => 0
  | _ => 0

abbrev bufTy : (tb : Table) → Fin (tcTables nBuf tb) → BufTy
  | .hbm, ⟨0, _⟩ => ⟨S2x4096x2048, .f32⟩
  | .hbm, ⟨1, _⟩ => ⟨S32x64x2048, .f32⟩
  | .hbm, ⟨2, _⟩ => ⟨S4x2048, .f32⟩
  | .hbm, ⟨3, _⟩ => ⟨S2x2048x6160, .f32⟩
  | .hbm, ⟨4, _⟩ => ⟨S2x16, .f32⟩
  | .hbm, ⟨5, _⟩ => ⟨S8192x2048, .f32⟩
  | .hbm, ⟨6, _⟩ => ⟨S2048x2048, .f32⟩
  | .hbm, ⟨7, _⟩ => ⟨S10240x2048, .f32⟩
  | .hbm, ⟨8, _⟩ => ⟨S1x2048x16, .f32⟩
  | .hbm, ⟨9, _⟩ => ⟨S2048x16, .f32⟩
  | .hbm, ⟨10, _⟩ => ⟨S_, .f32⟩
  | .hbm, ⟨11, _⟩ => ⟨S2048x112, .f32⟩
  | .hbm, ⟨12, _⟩ => ⟨S2048x128, .f32⟩
  | .hbm, ⟨13, _⟩ => ⟨S1x2048, .f32⟩
  | .hbm, ⟨14, _⟩ => ⟨S2048, .f32⟩
  | .hbm, ⟨15, _⟩ => ⟨S1x16, .f32⟩
  | .hbm, ⟨16, _⟩ => ⟨S16, .f32⟩
  | .hbm, ⟨17, _⟩ => ⟨S_, .f32⟩
  | .hbm, ⟨18, _⟩ => ⟨S112, .f32⟩
  | .hbm, ⟨19, _⟩ => ⟨S128, .f32⟩
  | .hbm, ⟨20, _⟩ => ⟨S1x2048, .f32⟩
  | .hbm, ⟨21, _⟩ => ⟨S1x128, .f32⟩
  | .hbm, ⟨22, _⟩ => ⟨S10240x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x128, .f32⟩
  | .local _ .vmem, ⟨4, _⟩ => ⟨S1x128, .f32⟩
  | .local _ .vmem, ⟨5, _⟩ => ⟨S1024x128, .f32⟩
  | .local _ .vmem, ⟨6, _⟩ => ⟨S1024x128, .f32⟩
  | .local _ .vmem, ⟨7, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![10, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S2x4096x2048 : Shape := ⟨3, ![2, 4096, 2048]⟩
abbrev S32x64x2048 : Shape := ⟨3, ![32, 64, 2048]⟩
abbrev S4x2048 : Shape := ⟨2, ![4, 2048]⟩
abbrev S2x2048x6160 : Shape := ⟨3, ![2, 2048, 6160]⟩
abbrev S2x16 : Shape := ⟨2, ![2, 16]⟩
abbrev S1x2048 : Shape := ⟨2, ![1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S1x2048x6160 : Shape := ⟨3, ![1, 2048, 6160]⟩
abbrev S2048x6160 : Shape := ⟨2, ![2048, 6160]⟩
abbrev S2x4096x6160 : Shape := ⟨3, ![2, 4096, 6160]⟩
abbrev S2x4096x16 : Shape := ⟨3, ![2, 4096, 16]⟩
abbrev S1x16 : Shape := ⟨2, ![1, 16]⟩
abbrev S16 : Shape := ⟨1, ![16]⟩
abbrev S1x1x16 : Shape := ⟨3, ![1, 1, 16]⟩
abbrev S2x4096x128 : Shape := ⟨3, ![2, 4096, 128]⟩
abbrev S8192x128 : Shape := ⟨2, ![8192, 128]⟩
abbrev S32x64 : Shape := ⟨2, ![32, 64]⟩
abbrev S32x64x1 : Shape := ⟨3, ![32, 64, 1]⟩
abbrev S32x64x6160 : Shape := ⟨3, ![32, 64, 6160]⟩
abbrev S32x64x16 : Shape := ⟨3, ![32, 64, 16]⟩
abbrev S32x64x128 : Shape := ⟨3, ![32, 64, 128]⟩
abbrev S2048x128 : Shape := ⟨2, ![2048, 128]⟩
abbrev S10240x128 : Shape := ⟨2, ![10240, 128]⟩

abbrev nBuf : Space → Nat
  | .hbm => 100
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S32x64x2048, .f32⟩
  | .hbm, ⟨2, _⟩ => ⟨S4x2048, .f32⟩
  | .hbm, ⟨3, _⟩ => ⟨S2x2048x6160, .f32⟩
  | .hbm, ⟨4, _⟩ => ⟨S2x16, .f32⟩
  | .hbm, ⟨5, _⟩ => ⟨S1x2048, .f32⟩
  | .hbm, ⟨6, _⟩ => ⟨S2048, .f32⟩
  | .hbm, ⟨7, _⟩ => ⟨S2x4096x2048, .f32⟩
  | .hbm, ⟨8, _⟩ => ⟨S_, .f32⟩
  | .hbm, ⟨9, _⟩ => ⟨S2x4096, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S2x4096x1, .f32⟩
  | .hbm, ⟨18, _⟩ => ⟨S2x4096x2048, .f32⟩
  | .hbm, ⟨19, _⟩ => ⟨S2x4096x2048, .f32⟩
  | .hbm, ⟨20, _⟩ => ⟨S1x1x2048, .f32⟩
  | .hbm, ⟨21, _⟩ => ⟨S2x4096x2048, .f32⟩
  | .hbm, ⟨22, _⟩ => ⟨S2x4096x2048, .f32⟩
  | .hbm, ⟨23, _⟩ => ⟨S1x2048x6160, .f32⟩
  | .hbm, ⟨24, _⟩ => ⟨S2048x6160, .f32⟩
  | .hbm, ⟨25, _⟩ => ⟨S2x4096x6160, .f32⟩
  | .hbm, ⟨26, _⟩ => ⟨S2x4096x16, .f32⟩
  | .hbm, ⟨27, _⟩ => ⟨S1x16, .f32⟩
  | .hbm, ⟨28, _⟩ => ⟨S16, .f32⟩
  | .hbm, ⟨29, _⟩ => ⟨S1x1x16, .f32⟩
  | .hbm, ⟨30, _⟩ => ⟨S2x4096x16, .f32⟩
  | .hbm, ⟨31, _⟩ => ⟨S2x4096x16, .f32⟩
  | .hbm, ⟨32, _⟩ => ⟨S_, .i32⟩
  | .hbm, ⟨33, _⟩ => ⟨S_, .f32⟩
  | .hbm, ⟨34, _⟩ => ⟨S2x4096x128, .f32⟩
  | .hbm, ⟨35, _⟩ => ⟨S2x4096x128, .f32⟩
  | .hbm, ⟨36, _⟩ => ⟨S_, .f32⟩
  | .hbm, ⟨37, _⟩ => ⟨S2x4096x128, .f32⟩
  | .hbm, ⟨38, _⟩ => ⟨S2x4096x128, .f32⟩
  | .hbm, ⟨39, _⟩ => ⟨S2x4096x128, .f32⟩
  | .hbm, ⟨40, _⟩ => ⟨S2x4096x128, .f32⟩
  | .hbm, ⟨41, _⟩ => ⟨S2x4096x128, .i1⟩
  | .hbm, ⟨42, _⟩ => ⟨S2x4096x128, .f32⟩
  | .hbm, ⟨43, _⟩ => ⟨S2x4096x128, .f32⟩
  | .hbm, ⟨44, _⟩ => ⟨S2x4096x128, .f32⟩
  | .hbm, ⟨45, _⟩ => ⟨S2x4096x128, .f32⟩
  | .hbm, ⟨46, _⟩ => ⟨S2x4096x128, .f32⟩
  | .hbm, ⟨47, _⟩ => ⟨S2x4096x128, .f32⟩
  | .hbm, ⟨48, _⟩ => ⟨S2x4096x128, .f32⟩
  | .hbm, ⟨49, _⟩ => ⟨S2x4096x128, .f32⟩
  | .hbm, ⟨50, _⟩ => ⟨S2x4096x128, .f32⟩
  | .hbm, ⟨51, _⟩ => ⟨S8192x128, .f32⟩
  | .hbm, ⟨52, _⟩ => ⟨S1x2048, .f32⟩
  | .hbm, ⟨53, _⟩ => ⟨S2048, .f32⟩
  | .hbm, ⟨54, _⟩ => ⟨S32x64x2048, .f32⟩
  | .hbm, ⟨55, _⟩ => ⟨S_, .f32⟩
  | .hbm, ⟨56, _⟩ => ⟨S32x64, .f32⟩
  | .hbm, ⟨57, _⟩ => ⟨S32x64x1, .f32⟩
  | .hbm, ⟨58, _⟩ => ⟨S_, .f32⟩
  | .hbm, ⟨59, _⟩ => ⟨S32x64x1, .f32⟩
  | .hbm, ⟨60, _⟩ => ⟨S32x64x1, .f32⟩
  | .hbm, ⟨61, _⟩ => ⟨S_, .f32⟩
  | .hbm, ⟨62, _⟩ => ⟨S32x64x1, .f32⟩
  | .hbm, ⟨63, _⟩ => ⟨S32x64x1, .f32⟩
  | .hbm, ⟨64, _⟩ => ⟨S32x64x1, .f32⟩
  | .hbm, ⟨65, _⟩ => ⟨S32x64x2048, .f32⟩
  | .hbm, ⟨66, _⟩ => ⟨S32x64x2048, .f32⟩
  | .hbm, ⟨67, _⟩ => ⟨S1x1x2048, .f32⟩
  | .hbm, ⟨68, _⟩ => ⟨S32x64x2048, .f32⟩
  | .hbm, ⟨69, _⟩ => ⟨S32x64x2048, .f32⟩
  | .hbm, ⟨70, _⟩ => ⟨S1x2048x6160, .f32⟩
  | .hbm, ⟨71, _⟩ => ⟨S2048x6160, .f32⟩
  | .hbm, ⟨72, _⟩ => ⟨S32x64x6160, .f32⟩
  | .hbm, ⟨73, _⟩ => ⟨S32x64x16, .f32⟩
  | .hbm, ⟨74, _⟩ => ⟨S1x16, .f32⟩
  | .hbm, ⟨75, _⟩ => ⟨S16, .f32⟩
  | .hbm, ⟨76, _⟩ => ⟨S1x1x16, .f32⟩
  | .hbm, ⟨77, _⟩ => ⟨S32x64x16, .f32⟩
  | .hbm, ⟨78, _⟩ => ⟨S32x64x16, .f32⟩
  | .hbm, ⟨79, _⟩ => ⟨S_, .i32⟩
  | .hbm, ⟨80, _⟩ => ⟨S_, .f32⟩
  | .hbm, ⟨81, _⟩ => ⟨S32x64x128, .f32⟩
  | .hbm, ⟨82, _⟩ => ⟨S32x64x128, .f32⟩
  | .hbm, ⟨83, _⟩ => ⟨S_, .f32⟩
  | .hbm, ⟨84, _⟩ => ⟨S32x64x128, .f32⟩
  | .hbm, ⟨85, _⟩ => ⟨S32x64x128, .f32⟩
  | .hbm, ⟨86, _⟩ => ⟨S32x64x128, .f32⟩
  | .hbm, ⟨87, _⟩ => ⟨S32x64x128, .f32⟩
  | .hbm, ⟨88, _⟩ => ⟨S32x64x128, .i1⟩
  | .hbm, ⟨89, _⟩ => ⟨S32x64x128, .f32⟩
  | .hbm, ⟨90, _⟩ => ⟨S32x64x128, .f32⟩
  | .hbm, ⟨91, _⟩ => ⟨S32x64x128, .f32⟩
  | .hbm, ⟨92, _⟩ => ⟨S32x64x128, .f32⟩
  | .hbm, ⟨93, _⟩ => ⟨S32x64x128, .f32⟩
  | .hbm, ⟨94, _⟩ => ⟨S32x64x128, .f32⟩
  | .hbm, ⟨95, _⟩ => ⟨S32x64x128, .f32⟩
  | .hbm, ⟨96, _⟩ => ⟨S32x64x128, .f32⟩
  | .hbm, ⟨97, _⟩ => ⟨S32x64x128, .f32⟩
  | .hbm, ⟨98, _⟩ => ⟨S2048x128, .f32⟩
  | .hbm, ⟨99, _⟩ => ⟨S10240x128, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c : Ref sig .tc := ⟨.hbm, 32, rfl⟩
abbrev main_call0_v0 : Ref sig .tc := ⟨.hbm, 33, rfl⟩
abbrev main_v24 : Ref sig .tc := ⟨.hbm, 34, rfl⟩
abbrev main_call1_v0 : Ref sig .tc := ⟨.hbm, 35, rfl⟩
abbrev main_call1_call0_cst : Ref sig .tc := ⟨.hbm, 36, rfl⟩
abbrev main_call1_call0_v0 : Ref sig .tc := ⟨.hbm, 37, rfl⟩
abbrev main_call1_call0_v1 : Ref sig .tc := ⟨.hbm, 38, rfl⟩
abbrev main_call1_call0_v2 : Ref sig .tc := ⟨.hbm, 39, rfl⟩
abbrev main_call1_call0_v3 : Ref sig .tc := ⟨.hbm, 40, rfl⟩
abbrev main_call1_call0_v4 : Ref sig .tc := ⟨.hbm, 41, rfl⟩
abbrev main_call1_call0_v5 : Ref sig .tc := ⟨.hbm, 42, rfl⟩
abbrev main_call1_call0_v6 : Ref sig .tc := ⟨.hbm, 43, rfl⟩
abbrev main_call1_call0_v7 : Ref sig .tc := ⟨.hbm, 44, rfl⟩
abbrev main_call1_call0_v8 : Ref sig .tc := ⟨.hbm, 45, rfl⟩
abbrev main_call1_call0_v9 : Ref sig .tc := ⟨.hbm, 46, rfl⟩
abbrev main_call1_call0_v10 : Ref sig .tc := ⟨.hbm, 47, rfl⟩
abbrev main_call1_call0_v11 : Ref sig .tc := ⟨.hbm, 48, rfl⟩
abbrev main_call1_v1 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_2 : Ref sig .tc := ⟨.hbm, 55, rfl⟩
abbrev main_v30 : Ref sig .tc := ⟨.hbm, 56, rfl⟩
abbrev main_v31 : Ref sig .tc := ⟨.hbm, 57, rfl⟩
abbrev main_cst_3 : Ref sig .tc := ⟨.hbm, 58, rfl⟩
abbrev main_v32 : Ref sig .tc := ⟨.hbm, 59, rfl⟩
abbrev main_v33 : Ref sig .tc := ⟨.hbm, 60, rfl⟩
abbrev main_cst_4 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_c_5 : Ref sig .tc := ⟨.hbm, 79, rfl⟩
abbrev main_call2_v0 : Ref sig .tc := ⟨.hbm, 80, rfl⟩
abbrev main_v51 : Ref sig .tc := ⟨.hbm, 81, rfl⟩
abbrev main_call3_v0 : Ref sig .tc := ⟨.hbm, 82, rfl⟩
abbrev main_call3_call0_cst : Ref sig .tc := ⟨.hbm, 83, rfl⟩
abbrev main_call3_call0_v0 : Ref sig .tc := ⟨.hbm, 84, rfl⟩
abbrev main_call3_call0_v1 : Ref sig .tc := ⟨.hbm, 85, rfl⟩
abbrev main_call3_call0_v2 : Ref sig .tc := ⟨.hbm, 86, rfl⟩
abbrev main_call3_call0_v3 : Ref sig .tc := ⟨.hbm, 87, rfl⟩
abbrev main_call3_call0_v4 : Ref sig .tc := ⟨.hbm, 88, rfl⟩
abbrev main_call3_call0_v5 : Ref sig .tc := ⟨.hbm, 89, rfl⟩
abbrev main_call3_call0_v6 : Ref sig .tc := ⟨.hbm, 90, rfl⟩
abbrev main_call3_call0_v7 : Ref sig .tc := ⟨.hbm, 91, rfl⟩
abbrev main_call3_call0_v8 : Ref sig .tc := ⟨.hbm, 92, rfl⟩
abbrev main_call3_call0_v9 : Ref sig .tc := ⟨.hbm, 93, rfl⟩
abbrev main_call3_call0_v10 : Ref sig .tc := ⟨.hbm, 94, rfl⟩
abbrev main_call3_call0_v11 : Ref sig .tc := ⟨.hbm, 95, rfl⟩
abbrev main_call3_v1 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩

abbrev nD : Nat := 1
abbrev τ : Topo := Topo.v7x

variable {F : FTy → Type} [FloatOps F]
-- ==== Kernel6.lean ====
abbrev S10240x2048 : Shape := ⟨2, ![10240, 2048]⟩
abbrev S2048 : Shape := ⟨1, ![2048]⟩
abbrev S1x2048 : Shape := ⟨2, ![1, 2048]⟩
abbrev S8192x2048 : Shape := ⟨2, ![8192, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S10240x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .f32⟩
  | .local _ .vmem, ⟨4, _⟩ => ⟨S1024x2048, .f32⟩
  | _, _ => ⟨S10240x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S10240x2048 : Shape := ⟨2, ![10240, 2048]⟩
abbrev S2048 : Shape := ⟨1, ![2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S10240x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | _, _ => ⟨S10240x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel7.lean ====
abbrev S10240x2048 : Shape := ⟨2, ![10240, 2048]⟩
abbrev S2048 : Shape := ⟨1, ![2048]⟩
abbrev S1x2048 : Shape := ⟨2, ![1, 2048]⟩
abbrev S2048x2048 : Shape := ⟨2, ![2048, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S10240x2048, .f32⟩
  | .hbm, ⟨1, _⟩ => ⟨S2048, .f32⟩
  | .hbm, ⟨2, _⟩ => ⟨S1x2048, .f32⟩
  | .hbm, ⟨3, _⟩ => ⟨S2048x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .f32⟩
  | .local _ .vmem, ⟨4, _⟩ => ⟨S1024x2048, .f32⟩
  | _, _ => ⟨S10240x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S10240x2048 : Shape := ⟨2, ![10240, 2048]⟩
abbrev S2048 : Shape := ⟨1, ![2048]⟩
abbrev S2048x2048 : Shape := ⟨2, ![2048, 2048]⟩
abbrev S_ : Shape := ⟨0, ![]⟩
abbrev S2048x1 : Shape := ⟨2, ![2048, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S10240x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S1x2048, .f32⟩
  | .hbm, ⟨17, _⟩ => ⟨S2048x2048, .f32⟩
  | .hbm, ⟨18, _⟩ => ⟨S2048x2048, .f32⟩
  | _, _ => ⟨S10240x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel8.lean ====
abbrev S10240x1280 : Shape := ⟨2, ![10240, 1280]⟩
abbrev S512 : Shape := ⟨1, ![512]⟩
abbrev S1x512 : Shape := ⟨2, ![1, 512]⟩
abbrev S10240x512 : Shape := ⟨2, ![10240, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 5
  | .vmem => 7
  | .smem => 0
  | _ => 0

abbrev bufTy : (tb : Table) → Fin (tcTables nBuf tb) → BufTy
  | .hbm, ⟨0, _⟩ => ⟨S10240x1280, .f32⟩
  | .hbm, ⟨1, _⟩ => ⟨S512, .f32⟩
  | .hbm, ⟨2, _⟩ => ⟨S1x512, .f32⟩
  | .hbm, ⟨3, _⟩ => ⟨S10240x512, .f32⟩
  | .hbm, ⟨4, _⟩ => ⟨S10240x512, .bf16⟩
  | .local _ .vmem, ⟨0, _⟩ => ⟨S1024x512, .f32⟩
  | .local _ .vmem, ⟨1, _⟩ => ⟨S1024x512, .f32⟩
  | .local _ .vmem, ⟨2, _⟩ => ⟨S1x512, .f32⟩
  | .local _ .vmem, ⟨3, _⟩ => ⟨S1024x512, .f32⟩
  | .local _ .vmem, ⟨4, _⟩ => ⟨S1024x512, .f32⟩
  | .local _ .vmem, ⟨5, _⟩ => ⟨S1024x512, .bf16⟩
  | .local _ .vmem, ⟨6, _⟩ => ⟨S1024x512, .bf16⟩
  | _, _ => ⟨S10240x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c1_i32 : BitVec 32 := 1#32
  let c0_i32_0 : BitVec 32 := 0#32
  ![v0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S10240x1280 : Shape := ⟨2, ![10240, 1280]⟩
abbrev S512 : Shape := ⟨1, ![512]⟩
abbrev S10240x512 : Shape := ⟨2, ![10240, 512]⟩
abbrev S_ : Shape := ⟨0, ![]⟩
abbrev S10240 : Shape := ⟨1, ![10240]⟩
abbrev S10240x1 : Shape := ⟨2, ![10240, 1]⟩
abbrev S1x512 : Shape := ⟨2, ![1, 512]⟩

abbrev nBuf : Space → Nat
  | .hbm => 20
  | .vmem => 0
  | .smem => 0
  | _ => 0

abbrev bufTy : (tb : Table) → Fin (tcTables nBuf tb) → BufTy
  | .hbm, ⟨0, _⟩ => ⟨S10240x1280, .f32⟩
  | .hbm, ⟨1, _⟩ => ⟨S512, .f32⟩
  | .hbm, ⟨2, _⟩ => ⟨S10240x512, .f32⟩
  | .hbm, ⟨3, _⟩ => ⟨S10240x512, .f32⟩
  | .hbm, ⟨4, _⟩ => ⟨S_, .f32⟩
  | .hbm, ⟨5, _⟩ => ⟨S10240, .f32⟩
  | .hbm, ⟨6, _⟩ => ⟨S10240x1, .f32⟩
  | .hbm, ⟨7, _⟩ => ⟨S_, .f32⟩
  | .hbm, ⟨8, _⟩ => ⟨S10240x1, .f32⟩
  | .hbm, ⟨9, _⟩ => ⟨S10240x1, .f32⟩
  | .hbm, ⟨10, _⟩ => ⟨S_, .f32⟩
  | .hbm, ⟨11, _⟩ => ⟨S10240x1, .f32⟩
  | .hbm, ⟨12, _⟩ => ⟨S10240x1, .f32⟩
  | .hbm, ⟨13, _⟩ => ⟨S10240x1, .f32⟩
  | .hbm, ⟨14, _⟩ => ⟨S10240x512, .f32⟩
  | .hbm, ⟨15, _⟩ => ⟨S10240x512, .f32⟩
  | .hbm, ⟨16, _⟩ => ⟨S1x512, .f32⟩
  | .hbm, ⟨17, _⟩ => ⟨S10240x512, .f32⟩
  | .hbm, ⟨18, _⟩ => ⟨S10240x512, .f32⟩
  | .hbm, ⟨19, _⟩ => ⟨S10240x512, .bf16⟩
  | _, _ => ⟨S10240x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel9.lean ====
abbrev S8192x2048 : Shape := ⟨2, ![8192, 2048]⟩
abbrev S2048x2048 : Shape := ⟨2, ![2048, 2048]⟩
abbrev S2x2048x2048 : Shape := ⟨3, ![2, 2048, 2048]⟩
abbrev S10240x2048 : Shape := ⟨2, ![10240, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2x2048x2048, .f32⟩
  | .hbm, ⟨3, _⟩ => ⟨S10240x2048, .f32⟩
  | .hbm, ⟨4, _⟩ => ⟨S8192x2048, .bf16⟩
  | .hbm, ⟨5, _⟩ => ⟨S2048x2048, .bf16⟩
  | .hbm, ⟨6, _⟩ => ⟨S10240x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x2048x1024, .f32⟩
  | .local _ .vmem, ⟨5, _⟩ => ⟨S1x2048x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![10, 2], ![false, false]⟩

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference9Ideal.lean ====
abbrev S8192x2048 : Shape := ⟨2, ![8192, 2048]⟩
abbrev S2048x2048 : Shape := ⟨2, ![2048, 2048]⟩
abbrev S2x2048x2048 : Shape := ⟨3, ![2, 2048, 2048]⟩
abbrev S10240x2048 : Shape := ⟨2, ![10240, 2048]⟩
abbrev S1x2048x2048 : Shape := ⟨3, ![1, 2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2x2048x2048, .f32⟩
  | .hbm, ⟨3, _⟩ => ⟨S10240x2048, .f32⟩
  | .hbm, ⟨4, _⟩ => ⟨S10240x2048, .f32⟩
  | .hbm, ⟨5, _⟩ => ⟨S1x2048x2048, .f32⟩
  | .hbm, ⟨6, _⟩ => ⟨S2048x2048, .f32⟩
  | .hbm, ⟨7, _⟩ => ⟨S10240x2048, .f32⟩
  | .hbm, ⟨8, _⟩ => ⟨S10240x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel10.lean ====
abbrev S22528x2048 : Shape := ⟨2, ![22528, 2048]⟩
abbrev S2x8x2048x11264 : Shape := ⟨4, ![2, 8, 2048, 11264]⟩
abbrev S2x8x5632x2048 : Shape := ⟨4, ![2, 8, 5632, 2048]⟩
abbrev S22528 : Shape := ⟨1, ![22528]⟩
abbrev S29 : Shape := ⟨1, ![29]⟩
abbrev S1024x2048 : Shape := ⟨2, ![1024, 2048]⟩
abbrev S1 : Shape := ⟨1, ![1]⟩
abbrev S1x1x2048x512 : Shape := ⟨4, ![1, 1, 2048, 512]⟩
abbrev S1x1x512x2048 : Shape := ⟨4, ![1, 1, 512, 2048]⟩
abbrev S256x2048 : Shape := ⟨2, ![256, 2048]⟩
abbrev S2048x512 : Shape := ⟨2, ![2048, 512]⟩
abbrev S512x2048 : Shape := ⟨2, ![512, 2048]⟩
abbrev S256x512 : Shape := ⟨2, ![256, 512]⟩
abbrev S512x512 : Shape := ⟨2, ![512, 512]⟩
abbrev S768x2048 : Shape := ⟨2, ![768, 2048]⟩
abbrev S768x512 : Shape := ⟨2, ![768, 512]⟩
abbrev S1024x512 : Shape := ⟨2, ![1024, 512]⟩

abbrev nBuf : Space → Nat
  | .hbm => 5
  | .vmem => 10
  | .smem => 5
  | _ => 0

abbrev bufTy : (tb : Table) → Fin (tcTables nBuf tb) → BufTy
  | .hbm, ⟨0, _⟩ => ⟨S22528x2048, .bf16⟩
  | .hbm, ⟨1, _⟩ => ⟨S2x8x2048x11264, .f32⟩
  | .hbm, ⟨2, _⟩ => ⟨S2x8x5632x2048, .f32⟩
  | .hbm, ⟨3, _⟩ => ⟨S22528, .i32⟩
  | .hbm, ⟨4, _⟩ => ⟨S22528x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S1x1x512x2048, .f32⟩
  | .local _ .vmem, ⟨7, _⟩ => ⟨S1x1x512x2048, .f32⟩
  | .local _ .vmem, ⟨8, _⟩ => ⟨S1024x2048, .f32⟩
  | .local _ .vmem, ⟨9, _⟩ => ⟨S1024x2048, .f32⟩
  | .local _ .smem, ⟨0, _⟩ => ⟨S29, .i32⟩
  | .local _ .smem, ⟨1, _⟩ => ⟨S29, .i32⟩
  | .local _ .smem, ⟨2, _⟩ => ⟨S29, .i32⟩
  | .local _ .smem, ⟨3, _⟩ => ⟨S29, .i32⟩
  | .local _ .smem, ⟨4, _⟩ => ⟨S29, .i32⟩
  | _, _ => ⟨S22528x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_arg4 : Ref sig .tc := ⟨.smem, 0, rfl⟩
abbrev main_arg5 : Ref sig .tc := ⟨.smem, 1, rfl⟩
abbrev main_arg6 : Ref sig .tc := ⟨.smem, 2, rfl⟩
abbrev main_arg7 : Ref sig .tc := ⟨.smem, 3, rfl⟩
abbrev main_arg8 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![29, 11], ![false, false]⟩

abbrev pre0 : Pipeline.Prefetch sig := ⟨5, ![main_arg4.idx, main_arg5.idx, main_arg6.idx, main_arg7.idx, main_arg8.idx], fun | 0 => main_arg4.names | 1 => main_arg5.names | 2 => main_arg6.names | 3 => main_arg7.names | 4 => main_arg8.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v7 : Index := Scalar.indexCast arg0
  ![v7.toNat]
def k0_cond1 (i : grid0.Coords) (v2 : BitVec 32) : BitVec 1 :=
  let arg1 : BitVec 32 := BitVec.ofNat 32 (i 1).val
  let c0_i32 : BitVec 32 := 0#32
  let v0 : BitVec 1 := Scalar.cmpi .eq arg1 c0_i32
  let c1_i32 : BitVec 32 := 1#32
  let v3 : BitVec 1 := Scalar.cmpi .eq v2 c1_i32
  let v4 : BitVec 1 := Scalar.andi v0 v3
  let v5 : BitVec 32 := Scalar.extui v4
  let c0_i32_0 : BitVec 32 := 0#32
  let v6 : BitVec 1 := Scalar.cmpi .ne v5 c0_i32_0
  v6

def k0_cond2 (v8 : BitVec 32) (v10 : BitVec 32) : BitVec 1 :=
  let c0_i32_1 : BitVec 32 := 0#32
  let v11 : BitVec 1 := Scalar.cmpi .eq v8 c0_i32_1
  let c1_i32_2 : BitVec 32 := 1#32
  let v12 : BitVec 1 := Scalar.cmpi .eq v10 c1_i32_2
  let v13 : BitVec 1 := Scalar.andi v11 v12
  let v14 : BitVec 32 := Scalar.extui v13
  let c0_i32_3 : BitVec 32 := 0#32
  let v15 : BitVec 1 := Scalar.cmpi .ne v14 c0_i32_3
  v15

def k0_cond3 (v8 : BitVec 32) (v10 : BitVec 32) : BitVec 1 :=
  let c0_i32_4 : BitVec 32 := 0#32
  let v16 : BitVec 1 := Scalar.cmpi .eq v8 c0_i32_4
  let c2_i32 : BitVec 32 := 2#32
  let v17 : BitVec 1 := Scalar.cmpi .eq v10 c2_i32
  let v18 : BitVec 1 := Scalar.andi v16 v17
  let v19 : BitVec 32 := Scalar.extui v18
  let c0_i32_5 : BitVec 32 := 0#32
  let v20 : BitVec 1 := Scalar.cmpi .ne v19 c0_i32_5
  v20

def k0_cond4 (v8 : BitVec 32) (v10 : BitVec 32) : BitVec 1 :=
  let c0_i32_6 : BitVec 32 := 0#32
  let v21 : BitVec 1 := Scalar.cmpi .eq v8 c0_i32_6
  let c3_i32 : BitVec 32 := 3#32
  let v22 : BitVec 1 := Scalar.cmpi .eq v10 c3_i32
  let v23 : BitVec 1 := Scalar.andi v21 v22
  let v24 : BitVec 32 := Scalar.extui v23
  let c0_i32_7 : BitVec 32 := 0#32
  let v25 : BitVec 1 := Scalar.cmpi .ne v24 c0_i32_7
  v25

def k0_cond5 (v8 : BitVec 32) (v10 : BitVec 32) : BitVec 1 :=
  let c0_i32_8 : BitVec 32 := 0#32
  let v26 : BitVec 1 := Scalar.cmpi .eq v8 c0_i32_8
  let c4_i32 : BitVec 32 := 4#32
  let v27 : BitVec 1 := Scalar.cmpi .eq v10 c4_i32
  let v28 : BitVec 1 := Scalar.andi v26 v27
  let v29 : BitVec 32 := Scalar.extui v28
  let c0_i32_9 : BitVec 32 := 0#32
  let v30 : BitVec 1 := Scalar.cmpi .ne v29 c0_i32_9
  v30

def k0_cond6 (v8 : BitVec 32) (v10 : BitVec 32) : BitVec 1 :=
  let c1_i32_10 : BitVec 32 := 1#32
  let v31 : BitVec 1 := Scalar.cmpi .eq v8 c1_i32_10
  let c1_i32_11 : BitVec 32 := 1#32
  let v32 : BitVec 1 := Scalar.cmpi .eq v10 c1_i32_11
  let v33 : BitVec 1 := Scalar.andi v31 v32
  let v34 : BitVec 32 := Scalar.extui v33
  let c0_i32_12 : BitVec 32 := 0#32
  let v35 : BitVec 1 := Scalar.cmpi .ne v34 c0_i32_12
  v35

def k0_cond7 (v8 : BitVec 32) (v10 : BitVec 32) : BitVec 1 :=
  let c1_i32_13 : BitVec 32 := 1#32
  let v36 : BitVec 1 := Scalar.cmpi .eq v8 c1_i32_13
  let c2_i32_14 : BitVec 32 := 2#32
  let v37 : BitVec 1 := Scalar.cmpi .eq v10 c2_i32_14
  let v38 : BitVec 1 := Scalar.andi v36 v37
  let v39 : BitVec 32 := Scalar.extui v38
  let c0_i32_15 : BitVec 32 := 0#32
  let v40 : BitVec 1 := Scalar.cmpi .ne v39 c0_i32_15
  v40

def k0_cond8 (v8 : BitVec 32) (v10 : BitVec 32) : BitVec 1 :=
  let c1_i32_16 : BitVec 32 := 1#32
  let v41 : BitVec 1 := Scalar.cmpi .eq v8 c1_i32_16
  let c3_i32_17 : BitVec 32 := 3#32
  let v42 : BitVec 1 := Scalar.cmpi .eq v10 c3_i32_17
  let v43 : BitVec 1 := Scalar.andi v41 v42
  let v44 : BitVec 32 := Scalar.extui v43
  let c0_i32_18 : BitVec 32 := 0#32
  let v45 : BitVec 1 := Scalar.cmpi .ne v44 c0_i32_18
  v45

def k0_cond9 (v8 : BitVec 32) (v10 : BitVec 32) : BitVec 1 :=
  let c2_i32_19 : BitVec 32 := 2#32
  let v46 : BitVec 1 := Scalar.cmpi .eq v8 c2_i32_19
  let c1_i32_20 : BitVec 32 := 1#32
  let v47 : BitVec 1 := Scalar.cmpi .eq v10 c1_i32_20
  let v48 : BitVec 1 := Scalar.andi v46 v47
  let v49 : BitVec 32 := Scalar.extui v48
  let c0_i32_21 : BitVec 32 := 0#32
  let v50 : BitVec 1 := Scalar.cmpi .ne v49 c0_i32_21
  v50

def k0_cond10 (v8 : BitVec 32) (v10 : BitVec 32) : BitVec 1 :=
  let c2_i32_22 : BitVec 32 := 2#32
  let v51 : BitVec 1 := Scalar.cmpi .eq v8 c2_i32_22
  let c2_i32_23 : BitVec 32 := 2#32
  let v52 : BitVec 1 := Scalar.cmpi .eq v10 c2_i32_23
  let v53 : BitVec 1 := Scalar.andi v51 v52
  let v54 : BitVec 32 := Scalar.extui v53
  let c0_i32_24 : BitVec 32 := 0#32
  let v55 : BitVec 1 := Scalar.cmpi .ne v54 c0_i32_24
  v55

def k0_cond11 (v8 : BitVec 32) (v10 : BitVec 32) : BitVec 1 :=
  let c3_i32_25 : BitVec 32 := 3#32
  let v56 : BitVec 1 := Scalar.cmpi .eq v8 c3_i32_25
  let c1_i32_26 : BitVec 32 := 1#32
  let v57 : BitVec 1 := Scalar.cmpi .eq v10 c1_i32_26
  let v58 : BitVec 1 := Scalar.andi v56 v57
  let v59 : BitVec 32 := Scalar.extui v58
  let c0_i32_27 : BitVec 32 := 0#32
  let v60 : BitVec 1 := Scalar.cmpi .ne v59 c0_i32_27
  v60

def cc0_transform_0 (k0_off1_inb : ∀ i : grid0.Coords, ∀ a, (k0_off1 i) a + S1.size a ≤ S29.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S29) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S29.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S29) ![v0.toNat] S1.size (k0_off1_inb i)) numel1_S1
  let v2 : Index := Scalar.indexCast arg0
  let v3 : BitVec 32 := pf.at 3 (Rect.unit (s := S29) ![v2.toNat] S1.size (k0_off1_inb i)) numel1_S1
  let c0_i32 : BitVec 32 := 0#32
  let v4 : BitVec 1 := Scalar.cmpi .sgt v3 c0_i32
  let c10_i32 : BitVec 32 := 10#32
  let v5 : BitVec 32 := Scalar.select v4 arg1 c10_i32
  let c0_i32_0 : BitVec 32 := 0#32
  let c0_i32_1 : BitVec 32 := 0#32
  let c0_i32_2 : BitVec 32 := 0#32
  ![c0_i32_0.toNat, v1.toNat, c0_i32_1.toNat, v5.toNat]

def cc0_transform_2 (k0_off1_inb : ∀ i : grid0.Coords, ∀ a, (k0_off1 i) a + S1.size a ≤ S29.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S29) ![v0.toNat] S1.size (k0_off1_inb i)) numel1_S1
  let v2 : Index := Scalar.indexCast arg0
  let v3 : BitVec 32 := pf.at 3 (Rect.unit (s := S29) ![v2.toNat] S1.size (k0_off1_inb i)) numel1_S1
  let c0_i32 : BitVec 32 := 0#32
  let v4 : BitVec 1 := Scalar.cmpi .sgt v3 c0_i32
  let c10_i32 : BitVec 32 := 10#32
  let v5 : BitVec 32 := Scalar.select v4 arg1 c10_i32
  let c11_i32 : BitVec 32 := 11#32
  let v6 : BitVec 32 := Scalar.addi c11_i32 v5
  let c0_i32_0 : BitVec 32 := 0#32
  let c0_i32_1 : BitVec 32 := 0#32
  let c0_i32_2 : BitVec 32 := 0#32
  ![c0_i32_0.toNat, v1.toNat, c0_i32_1.toNat, v6.toNat]

def cc0_transform_3 (k0_off1_inb : ∀ i : grid0.Coords, ∀ a, (k0_off1 i) a + S1.size a ≤ S29.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S29) ![v0.toNat] S1.size (k0_off1_inb i)) numel1_S1
  let v2 : Index := Scalar.indexCast arg0
  let v3 : BitVec 32 := pf.at 3 (Rect.unit (s := S29) ![v2.toNat] S1.size (k0_off1_inb i)) numel1_S1
  let c0_i32 : BitVec 32 := 0#32
  let v4 : BitVec 1 := Scalar.cmpi .sgt v3 c0_i32
  let c10_i32 : BitVec 32 := 10#32
  let v5 : BitVec 32 := Scalar.select v4 arg1 c10_i32
  let c0_i32_0 : BitVec 32 := 0#32
  let c0_i32_1 : BitVec 32 := 0#32
  let c0_i32_2 : BitVec 32 := 0#32
  ![c0_i32_0.toNat, v1.toNat, v5.toNat, c0_i32_1.toNat]

def cc0_transform_4 (k0_off1_inb : ∀ i : grid0.Coords, ∀ a, (k0_off1 i) a + S1.size a ≤ S29.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S29) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference10Ideal.lean ====
abbrev S22528x2048 : Shape := ⟨2, ![22528, 2048]⟩
abbrev S2x8x2048x11264 : Shape := ⟨4, ![2, 8, 2048, 11264]⟩
abbrev S2x8x5632x2048 : Shape := ⟨4, ![2, 8, 5632, 2048]⟩
abbrev S22528 : Shape := ⟨1, ![22528]⟩
abbrev S29 : Shape := ⟨1, ![29]⟩
abbrev S_ : Shape := ⟨0, ![]⟩
abbrev S22528x1 : Shape := ⟨2, ![22528, 1]⟩
abbrev S1x1x2048x11264 : Shape := ⟨4, ![1, 1, 2048, 11264]⟩
abbrev S2048x11264 : Shape := ⟨2, ![2048, 11264]⟩
abbrev S1x1x5632x2048 : Shape := ⟨4, ![1, 1, 5632, 2048]⟩
abbrev S5632x2048 : Shape := ⟨2, ![5632, 2048]⟩
abbrev S22528x11264 : Shape := ⟨2, ![22528, 11264]⟩
abbrev S22528x5632 : Shape := ⟨2, ![22528, 5632]⟩

abbrev nBuf : Space → Nat
  | .hbm => 236
  | .vmem => 0
  | .smem => 0
  | _ => 0

abbrev hbmTy0_0 (i : Nat) : BufTy := match i % 128 with
  | 0 => ⟨S22528x2048, .bf16⟩
  | 1 => ⟨S2x8x2048x11264, .f32⟩
  | 2 => ⟨S2x8x5632x2048, .f32⟩
  | 3 => ⟨S22528, .i32⟩
  | 4 => ⟨S29, .i32⟩
  | 5 => ⟨S29, .i32⟩
  | 6 => ⟨S29, .i32⟩
  | 7 => ⟨S29, .i32⟩
  | 8 => ⟨S29, .i32⟩
  | 9 => ⟨S22528x2048, .f32⟩
  | 10 => ⟨S_, .f32⟩
  | 11 => ⟨S22528x2048, .f32⟩
  | 12 => ⟨S_, .i32⟩
  | 13 => ⟨S22528, .i32⟩
  | 14 => ⟨S22528, .i1⟩
  | 15 => ⟨S22528x1, .i1⟩
  | 16 => ⟨S1x1x2048x11264, .f32⟩
  | 17 => ⟨S2048x11264, .f32⟩
  | 18 => ⟨S1x1x5632x2048, .f32⟩
  | 19 => ⟨S5632x2048, .f32⟩
  | 20 => ⟨S22528x11264, .f32⟩
  | 21 => ⟨S22528x5632, .f32⟩
  | 22 => ⟨S22528x5632, .f32⟩
  | 23 => ⟨S22528x5632, .f32⟩
  | 24 => ⟨S_, .f32⟩
  | 25 => ⟨S22528x5632, .f32⟩
  | 26 => ⟨S22528x5632, .f32⟩
  | 27 => ⟨S_, .f32⟩
  | 28 => ⟨S22528x5632, .f32⟩
  | 29 => ⟨S22528x5632, .f32⟩
  | 30 => ⟨S22528x5632, .f32⟩
  | 31 => ⟨S22528x5632, .f32⟩
  | 32 => ⟨S22528x5632, .f32⟩
  | 33 => ⟨S22528x2048, .f32⟩
  | 34 => ⟨S_, .f32⟩
  | 35 => ⟨S_, .f32⟩
  | 36 => ⟨S22528x2048, .i1⟩
  | 37 => ⟨S22528x2048, .f32⟩
  | 38 => ⟨S22528x2048, .f32⟩
  | 39 => ⟨S22528x2048, .f32⟩
  | 40 => ⟨S_, .i32⟩
  | 41 => ⟨S22528, .i32⟩
  | 42 => ⟨S22528, .i1⟩
  | 43 => ⟨S22528x1, .i1⟩
  | 44 => ⟨S1x1x2048x11264, .f32⟩
  | 45 => ⟨S2048x11264, .f32⟩
  | 46 => ⟨S1x1x5632x2048, .f32⟩
  | 47 => ⟨S5632x2048, .f32⟩
  | 48 => ⟨S22528x11264, .f32⟩
  | 49 => ⟨S22528x5632, .f32⟩
  | 50 => ⟨S22528x5632, .f32⟩
  | 51 => ⟨S22528x5632, .f32⟩
  | 52 => ⟨S_, .f32⟩
  | 53 => ⟨S22528x5632, .f32⟩
  | 54 => ⟨S22528x5632, .f32⟩
  | 55 => ⟨S_, .f32⟩
  | 56 => ⟨S22528x5632, .f32⟩
  | 57 => ⟨S22528x5632, .f32⟩
  | 58 => ⟨S22528x5632, .f32⟩
  | 59 => ⟨S22528x5632, .f32⟩
  | 60 => ⟨S22528x5632, .f32⟩
  | 61 => ⟨S22528x2048, .f32⟩
  | 62 => ⟨S_, .f32⟩
  | 63 => ⟨S_, .f32⟩
  | 64 => ⟨S22528x2048, .i1⟩
  | 65 => ⟨S22528x2048, .f32⟩
  | 66 => ⟨S22528x2048, .f32⟩
  | 67 => ⟨S22528x2048, .f32⟩
  | 68 => ⟨S_, .i32⟩
  | 69 => ⟨S22528, .i32⟩
  | 70 => ⟨S22528, .i1⟩
  | 71 => ⟨S22528x1, .i1⟩
  | 72 => ⟨S1x1x2048x11264, .f32⟩
  | 73 => ⟨S2048x11264, .f32⟩
  | 74 => ⟨S1x1x5632x2048, .f32⟩
  | 75 => ⟨S5632x2048, .f32⟩
  | 76 => ⟨S22528x11264, .f32⟩
  | 77 => ⟨S22528x5632, .f32⟩
  | 78 => ⟨S22528x5632, .f32⟩
  | 79 => ⟨S22528x5632, .f32⟩
  | 80 => ⟨S_, .f32⟩
  | 81 => ⟨S22528x5632, .f32⟩
  | 82 => ⟨S22528x5632, .f32⟩
  | 83 => ⟨S_, .f32⟩
  | 84 => ⟨S22528x5632, .f32⟩
  | 85 => ⟨S22528x5632, .f32⟩
  | 86 => ⟨S22528x5632, .f32⟩
  | 87 => ⟨S22528x5632, .f32⟩
  | 88 => ⟨S22528x5632, .f32⟩
  | 89 => ⟨S22528x2048, .f32⟩
  | 90 => ⟨S_, .f32⟩
  | 91 => ⟨S_, .f32⟩
  | 92 => ⟨S22528x2048, .i1⟩
  | 93 => ⟨S22528x2048, .f32⟩
  | 94 => ⟨S22528x2048, .f32⟩
  | 95 => ⟨S22528x2048, .f32⟩
  | 96 => ⟨S_, .i32⟩
  | 97 => ⟨S22528, .i32⟩
  | 98 => ⟨S22528, .i1⟩
  | 99 => ⟨S22528x1, .i1⟩
  | 100 => ⟨S1x1x2048x11264, .f32⟩
  | 101 => ⟨S2048x11264, .f32⟩
  | 102 => ⟨S1x1x5632x2048, .f32⟩
  | 103 => ⟨S5632x2048, .f32⟩
  | 104 => ⟨S22528x11264, .f32⟩
  | 105 => ⟨S22528x5632, .f32⟩
  | 106 => ⟨S22528x5632, .f32⟩
  | 107 => ⟨S22528x5632, .f32⟩
  | 108 => ⟨S_, .f32⟩
  | 109 => ⟨S22528x5632, .f32⟩
  | 110 => ⟨S22528x5632, .f32⟩
  | 111 => ⟨S_, .f32⟩
  | 112 => ⟨S22528x5632, .f32⟩
  | 113 => ⟨S22528x5632, .f32⟩
  | 114 => ⟨S22528x5632, .f32⟩
  | 115 => ⟨S22528x5632, .f32⟩
  | 116 => ⟨S22528x5632, .f32⟩
  | 117 => ⟨S22528x2048, .f32⟩
  | 118 => ⟨S_, .f32⟩
  | 119 => ⟨S_, .f32⟩
  | 120 => ⟨S22528x2048, .i1⟩
  | 121 => ⟨S22528x2048, .f32⟩
  | 122 => ⟨S22528x2048, .f32⟩
  | 123 => ⟨S22528x2048, .f32⟩
  | 124 => ⟨S_, .i32⟩
  | 125 => ⟨S22528, .i32⟩
  | 126 => ⟨S22528, .i1⟩
  | 127 => ⟨S22528x1, .i1⟩
  | _ => ⟨S22528x2048, .bf16⟩

abbrev hbmTy0_1 (i : Nat) : BufTy := match i % 128 with
  | 0 => ⟨S1x1x2048x11264, .f32⟩
  | 1 => ⟨S2048x11264, .f32⟩
  | 2 => ⟨S1x1x5632x2048, .f32⟩
  | 3 => ⟨S5632x2048, .f32⟩
  | 4 => ⟨S22528x11264, .f32⟩
  | 5 => ⟨S22528x5632, .f32⟩
  | 6 => ⟨S22528x5632, .f32⟩
  | 7 => ⟨S22528x5632, .f32⟩
  | 8 => ⟨S_, .f32⟩
  | 9 => ⟨S22528x5632, .f32⟩
  | 10 => ⟨S22528x5632, .f32⟩
  | 11 => ⟨S_, .f32⟩
  | 12 => ⟨S22528x5632, .f32⟩
  | 13 => ⟨S22528x5632, .f32⟩
  | 14 => ⟨S22528x5632, .f32⟩
  | 15 => ⟨S22528x5632, .f32⟩
  | 16 => ⟨S22528x5632, .f32⟩
  | 17 => ⟨S22528x2048, .f32⟩
  | 18 => ⟨S_, .f32⟩
  | 19 => ⟨S_, .f32⟩
  | 20 => ⟨S22528x2048, .i1⟩
  | 21 => ⟨S22528x2048, .f32⟩
  | 22 => ⟨S22528x2048, .f32⟩
  | 23 => ⟨S22528x2048, .f32⟩
  | 24 => ⟨S_, .i32⟩
  | 25 => ⟨S22528, .i32⟩
  | 26 => ⟨S22528, .i1⟩
  | 27 => ⟨S22528x1, .i1⟩
  | 28 => ⟨S1x1x2048x11264, .f32⟩
  | 29 => ⟨S2048x11264, .f32⟩
  | 30 => ⟨S1x1x5632x2048, .f32⟩
  | 31 => ⟨S5632x2048, .f32⟩
  | 32 => ⟨S22528x11264, .f32⟩
  | 33 => ⟨S22528x5632, .f32⟩
  | 34 => ⟨S22528x5632, .f32⟩
  | 35 => ⟨S22528x5632, .f32⟩
  | 36 => ⟨S_, .f32⟩
  | 37 => ⟨S22528x5632, .f32⟩
  | 38 => ⟨S22528x5632, .f32⟩
  | 39 => ⟨S_, .f32⟩
  | 40 => ⟨S22528x5632, .f32⟩
  | 41 => ⟨S22528x5632, .f32⟩
  | 42 => ⟨S22528x5632, .f32⟩
  | 43 => ⟨S22528x5632, .f32⟩
  | 44 => ⟨S22528x5632, .f32⟩
  | 45 => ⟨S22528x2048, .f32⟩
  | 46 => ⟨S_, .f32⟩
  | 47 => ⟨S_, .f32⟩
  | 48 => ⟨S22528x2048, .i1⟩
  | 49 => ⟨S22528x2048, .f32⟩
  | 50 => ⟨S22528x2048, .f32⟩
  | 51 => ⟨S22528x2048, .f32⟩
  | 52 => ⟨S_, .i32⟩
  | 53 => ⟨S22528, .i32⟩
  | 54 => ⟨S22528, .i1⟩
  | 55 => ⟨S22528x1, .i1⟩
  | 56 => ⟨S1x1x2048x11264, .f32⟩
  | 57 => ⟨S2048x11264, .f32⟩
  | 58 => ⟨S1x1x5632x2048, .f32⟩
  | 59 => ⟨S5632x2048, .f32⟩
  | 60 => ⟨S22528x11264, .f32⟩
  | 61 => ⟨S22528x5632, .f32⟩
  | 62 => ⟨S22528x5632, .f32⟩
  | 63 => ⟨S22528x5632, .f32⟩
  | 64 => ⟨S_, .f32⟩
  | 65 => ⟨S22528x5632, .f32⟩
  | 66 => ⟨S22528x5632, .f32⟩
  | 67 => ⟨S_, .f32⟩
  | 68 => ⟨S22528x5632, .f32⟩
  | 69 => ⟨S22528x5632, .f32⟩
  | 70 => ⟨S22528x5632, .f32⟩
  | 71 => ⟨S22528x5632, .f32⟩
  | 72 => ⟨S22528x5632, .f32⟩
  | 73 => ⟨S22528x2048, .f32⟩
  | 74 => ⟨S_, .f32⟩
  | 75 => ⟨S_, .f32⟩
  | 76 => ⟨S22528x2048, .i1⟩
  | 77 => ⟨S22528x2048, .f32⟩
  | 78 => ⟨S22528x2048, .f32⟩
  | 79 => ⟨S22528x2048, .f32⟩
  | 80 => ⟨S_, .i32⟩
  | 81 => ⟨S22528, .i32⟩
  | 82 => ⟨S22528, .i1⟩
  | 83 => ⟨S22528x1, .i1⟩
  | 84 => ⟨S1x1x2048x11264, .f32⟩
  | 85 => ⟨S2048x11264, .f32⟩
  | 86 => ⟨S1x1x5632x2048, .f32⟩
  | 87 => ⟨S5632x2048, .f32⟩
  | 88 => ⟨S22528x11264, .f32⟩
  | 89 => ⟨S22528x5632, .f32⟩
  | 90 => ⟨S22528x5632, .f32⟩
  | 91 => ⟨S22528x5632, .f32⟩
  | 92 => ⟨S_, .f32⟩
  | 93 => ⟨S22528x5632, .f32⟩
  | 94 => ⟨S22528x5632, .f32⟩
  | 95 => ⟨S_, .f32⟩
  | 96 => ⟨S22528x5632, .f32⟩
  | 97 => ⟨S22528x5632, .f32⟩
  | 98 => ⟨S22528x5632, .f32⟩
  | 99 => ⟨S22528x5632, .f32⟩
  | 100 => ⟨S22528x5632, .f32⟩
  | 101 => ⟨S22528x2048, .f32⟩
  | 102 => ⟨S_, .f32⟩
  | 103 => ⟨S_, .f32⟩
  | 104 => ⟨S22528x2048, .i1⟩
  | 105 => ⟨S22528x2048, .f32⟩
  | 106 => ⟨S22528x2048, .f32⟩
  | 107 => ⟨S22528x2048, .f32⟩
  | _ => ⟨S22528x2048, .bf16⟩

abbrev hbmTy (i : Nat) : BufTy := match i / 128 with
  | 0 => hbmTy0_0 i
  | 1 => hbmTy0_1 i
  | _ => ⟨S22528x2048, .bf16⟩

abbrev bufTy : (tb : Table) → Fin (tcTables nBuf tb) → BufTy
  | .hbm, ⟨i, _⟩ => hbmTy i
  | _, _ => ⟨S22528x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v15 : Ref sig .tc := ⟨.hbm, 38, rfl⟩
abbrev main_v16 : Ref sig .tc := ⟨.hbm, 39, rfl⟩
abbrev main_c_1 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_call2_v0 : Ref sig .tc := ⟨.hbm, 50, rfl⟩
abbrev main_call2_v1 : Ref sig .tc := ⟨.hbm, 51, rfl⟩
abbrev main_call2_cst : Ref sig .tc := ⟨.hbm, 52, rfl⟩
abbrev main_call2_v2 : Ref sig .tc := ⟨.hbm, 53, rfl⟩
abbrev main_call2_v3 : Ref sig .tc := ⟨.hbm, 54, rfl⟩
abbrev main_call2_cst_0 : Ref sig .tc := ⟨.hbm, 55, rfl⟩
abbrev main_call2_v4 : Ref sig .tc := ⟨.hbm, 56, rfl⟩
abbrev main_call2_v5 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_2 : Ref sig .tc := ⟨.hbm, 62, rfl⟩
abbrev main_call3_v0 : Ref sig .tc := ⟨.hbm, 63, rfl⟩
abbrev main_call3_v1 : Ref sig .tc := ⟨.hbm, 64, rfl⟩
abbrev main_call3_v2 : Ref sig .tc := ⟨.hbm, 65, rfl⟩
abbrev main_v30 : Ref sig .tc := ⟨.hbm, 66, rfl⟩
abbrev main_v31 : Ref sig .tc := ⟨.hbm, 67, rfl⟩
abbrev main_c_3 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_call4_v0 : Ref sig .tc := ⟨.hbm, 78, rfl⟩
abbrev main_call4_v1 : Ref sig .tc := ⟨.hbm, 79, rfl⟩
abbrev main_call4_cst : Ref sig .tc := ⟨.hbm, 80, rfl⟩
abbrev main_call4_v2 : Ref sig .tc := ⟨.hbm, 81, rfl⟩
abbrev main_call4_v3 : Ref sig .tc := ⟨.hbm, 82, rfl⟩
abbrev main_call4_cst_0 : Ref sig .tc := ⟨.hbm, 83, rfl⟩
abbrev main_call4_v4 : Ref sig .tc := ⟨.hbm, 84, rfl⟩
abbrev main_call4_v5 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_cst_4 : Ref sig .tc := ⟨.hbm, 90, rfl⟩
abbrev main_call5_v0 : Ref sig .tc := ⟨.hbm, 91, rfl⟩
abbrev main_call5_v1 : Ref sig .tc := ⟨.hbm, 92, rfl⟩
abbrev main_call5_v2 : Ref sig .tc := ⟨.hbm, 93, rfl⟩
abbrev main_v45 : Ref sig .tc := ⟨.hbm, 94, rfl⟩
abbrev main_v46 : Ref sig .tc := ⟨.hbm, 95, rfl⟩
abbrev main_c_5 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_call6_v0 : Ref sig .tc := ⟨.hbm, 106, rfl⟩
abbrev main_call6_v1 : Ref sig .tc := ⟨.hbm, 107, rfl⟩
abbrev main_call6_cst : Ref sig .tc := ⟨.hbm, 108, rfl⟩
abbrev main_call6_v2 : Ref sig .tc := ⟨.hbm, 109, rfl⟩
abbrev main_call6_v3 : Ref sig .tc := ⟨.hbm, 110, rfl⟩
abbrev main_call6_cst_0 : Ref sig .tc := ⟨.hbm, 111, rfl⟩
abbrev main_call6_v4 : Ref sig .tc := ⟨.hbm, 112, rfl⟩
abbrev main_call6_v5 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_cst_6 : Ref sig .tc := ⟨.hbm, 118, rfl⟩
abbrev main_call7_v0 : Ref sig .tc := ⟨.hbm, 119, rfl⟩
abbrev main_call7_v1 : Ref sig .tc := ⟨.hbm, 120, rfl⟩
abbrev main_call7_v2 : Ref sig .tc := ⟨.hbm, 121, rfl⟩
abbrev main_v60 : Ref sig .tc := ⟨.hbm, 122, rfl⟩
abbrev main_v61 : Ref sig .tc := ⟨.hbm, 123, rfl⟩
abbrev main_c_7 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_call8_v0 : Ref sig .tc := ⟨.hbm, 134, rfl⟩
abbrev main_call8_v1 : Ref sig .tc := ⟨.hbm, 135, rfl⟩
abbrev main_call8_cst : Ref sig .tc := ⟨.hbm, 136, rfl⟩
abbrev main_call8_v2 : Ref sig .tc := ⟨.hbm, 137, rfl⟩
abbrev main_call8_v3 : Ref sig .tc := ⟨.hbm, 138, rfl⟩
abbrev main_call8_cst_0 : Ref sig .tc := ⟨.hbm, 139, rfl⟩
abbrev main_call8_v4 : Ref sig .tc := ⟨.hbm, 140, rfl⟩
abbrev main_call8_v5 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_cst_8 : Ref sig .tc := ⟨.hbm, 146, rfl⟩
abbrev main_call9_v0 : Ref sig .tc := ⟨.hbm, 147, rfl⟩
abbrev main_call9_v1 : Ref sig .tc := ⟨.hbm, 148, rfl⟩
abbrev main_call9_v2 : Ref sig .tc := ⟨.hbm, 149, rfl⟩
abbrev main_v75 : Ref sig .tc := ⟨.hbm, 150, rfl⟩
abbrev main_v76 : Ref sig .tc := ⟨.hbm, 151, rfl⟩
abbrev main_c_9 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_v85 : Ref sig .tc := ⟨.hbm, 161, rfl⟩
abbrev main_call10_v0 : Ref sig .tc := ⟨.hbm, 162, rfl⟩
abbrev main_call10_v1 : Ref sig .tc := ⟨.hbm, 163, rfl⟩
abbrev main_call10_cst : Ref sig .tc := ⟨.hbm, 164, rfl⟩
abbrev main_call10_v2 : Ref sig .tc := ⟨.hbm, 165, rfl⟩
abbrev main_call10_v3 : Ref sig .tc := ⟨.hbm, 166, rfl⟩
abbrev main_call10_cst_0 : Ref sig .tc := ⟨.hbm, 167, rfl⟩
abbrev main_call10_v4 : Ref sig .tc := ⟨.hbm, 168, rfl⟩
abbrev main_call10_v5 : Ref sig .tc := ⟨.hbm, 169, rfl⟩
abbrev main_v86 : Ref sig .tc := ⟨.hbm, 170, rfl⟩
abbrev main_v87 : Ref sig .tc := ⟨.hbm, 171, rfl⟩
abbrev main_v88 : Ref sig .tc := ⟨.hbm, 172, rfl⟩
abbrev main_v89 : Ref sig .tc := ⟨.hbm, 173, rfl⟩
abbrev main_cst_10 : Ref sig .tc := ⟨.hbm, 174, rfl⟩
abbrev main_call11_v0 : Ref sig .tc := ⟨.hbm, 175, rfl⟩
abbrev main_call11_v1 : Ref sig .tc := ⟨.hbm, 176, rfl⟩
abbrev main_call11_v2 : Ref sig .tc := ⟨.hbm, 177, rfl⟩
abbrev main_v90 : Ref sig .tc := ⟨.hbm, 178, rfl⟩
abbrev main_v91 : Ref sig .tc := ⟨.hbm, 179, rfl⟩
abbrev main_c_11 : Ref sig .tc := ⟨.hbm, 180, rfl⟩
abbrev main_v92 : Ref sig .tc := ⟨.hbm, 181, rfl⟩
abbrev main_v93 : Ref sig .tc := ⟨.hbm, 182, rfl⟩
abbrev main_v94 : Ref sig .tc := ⟨.hbm, 183, rfl⟩
abbrev main_v95 : Ref sig .tc := ⟨.hbm, 184, rfl⟩
abbrev main_v96 : Ref sig .tc := ⟨.hbm, 185, rfl⟩
abbrev main_v97 : Ref sig .tc := ⟨.hbm, 186, rfl⟩
abbrev main_v98 : Ref sig .tc := ⟨.hbm, 187, rfl⟩
abbrev main_v99 : Ref sig .tc := ⟨.hbm, 188, rfl⟩
abbrev main_v100 : Ref sig .tc := ⟨.hbm, 189, rfl⟩
abbrev main_call12_v0 : Ref sig .tc := ⟨.hbm, 190, rfl⟩
abbrev main_call12_v1 : Ref sig .tc := ⟨.hbm, 191, rfl⟩
abbrev main_call12_cst : Ref sig .tc := ⟨.hbm, 192, rfl⟩
abbrev main_call12_v2 : Ref sig .tc := ⟨.hbm, 193, rfl⟩
abbrev main_call12_v3 : Ref sig .tc := ⟨.hbm, 194, rfl⟩
abbrev main_call12_cst_0 : Ref sig .tc := ⟨.hbm, 195, rfl⟩
abbrev main_call12_v4 : Ref sig .tc := ⟨.hbm, 196, rfl⟩
abbrev main_call12_v5 : Ref sig .tc := ⟨.hbm, 197, rfl⟩
abbrev main_v101 : Ref sig .tc := ⟨.hbm, 198, rfl⟩
abbrev main_v102 : Ref sig .tc := ⟨.hbm, 199, rfl⟩
abbrev main_v103 : Ref sig .tc := ⟨.hbm, 200, rfl⟩
abbrev main_v104 : Ref sig .tc := ⟨.hbm, 201, rfl⟩
abbrev main_cst_12 : Ref sig .tc := ⟨.hbm, 202, rfl⟩
abbrev main_call13_v0 : Ref sig .tc := ⟨.hbm, 203, rfl⟩
abbrev main_call13_v1 : Ref sig .tc := ⟨.hbm, 204, rfl⟩
abbrev main_call13_v2 : Ref sig .tc := ⟨.hbm, 205, rfl⟩
abbrev main_v105 : Ref sig .tc := ⟨.hbm, 206, rfl⟩
abbrev main_v106 : Ref sig .tc := ⟨.hbm, 207, rfl⟩
abbrev main_c_13 : Ref sig .tc := ⟨.hbm, 208, rfl⟩
abbrev main_v107 : Ref sig .tc := ⟨.hbm, 209, rfl⟩
abbrev main_v108 : Ref sig .tc := ⟨.hbm, 210, rfl⟩
abbrev main_v109 : Ref sig .tc := ⟨.hbm, 211, rfl⟩
abbrev main_v110 : Ref sig .tc := ⟨.hbm, 212, rfl⟩
abbrev main_v111 : Ref sig .tc := ⟨.hbm, 213, rfl⟩
abbrev main_v112 : Ref sig .tc := ⟨.hbm, 214, rfl⟩
abbrev main_v113 : Ref sig .tc := ⟨.hbm, 215, rfl⟩
abbrev main_v114 : Ref sig .tc := ⟨.hbm, 216, rfl⟩
abbrev main_v115 : Ref sig .tc := ⟨.hbm, 217, rfl⟩
abbrev main_call14_v0 : Ref sig .tc := ⟨.hbm, 218, rfl⟩
abbrev main_call14_v1 : Ref sig .tc := ⟨.hbm, 219, rfl⟩
abbrev main_call14_cst : Ref sig .tc := ⟨.hbm, 220, rfl⟩
abbrev main_call14_v2 : Ref sig .tc := ⟨.hbm, 221, rfl⟩
abbrev main_call14_v3 : Ref sig .tc := ⟨.hbm, 222, rfl⟩
abbrev main_call14_cst_0 : Ref sig .tc := ⟨.hbm, 223, rfl⟩
abbrev main_call14_v4 : Ref sig .tc := ⟨.hbm, 224, rfl⟩
abbrev main_call14_v5 : Ref sig .tc := ⟨.hbm, 225, rfl⟩
abbrev main_v116 : Ref sig .tc := ⟨.hbm, 226, rfl⟩
abbrev main_v117 : Ref sig .tc := ⟨.hbm, 227, rfl⟩
abbrev main_v118 : Ref sig .tc := ⟨.hbm, 228, rfl⟩
abbrev main_v119 : Ref sig .tc := ⟨.hbm, 229, rfl⟩
abbrev main_cst_14 : Ref sig .tc := ⟨.hbm, 230, rfl⟩
abbrev main_call15_v0 : Ref sig .tc := ⟨.hbm, 231, rfl⟩
abbrev main_call15_v1 : Ref sig .tc := ⟨.hbm, 232, rfl⟩
abbrev main_call15_v2 : Ref sig .tc := ⟨.hbm, 233, rfl⟩
abbrev main_v120 : Ref sig .tc := ⟨.hbm, 234, rfl⟩
abbrev main_v121 : Ref sig .tc := ⟨.hbm, 235, rfl⟩

abbrev nD : Nat := 1
abbrev τ : Topo := Topo.v7x

variable {F : FTy → Type} [FloatOps F]
-- ==== Proof.Math.lean ====
module

public import Idealize.ShloMosaic.Lib.Pointwise
public import Idealize.ShloMosaic.PureOps.Ideal.Laws
public import Mathlib.Analysis.SpecialFunctions.Pow.Real

/-! Softmax over the reals, and its two spellings at the extended reals: the two-part base-2 one of the kernel and the
    one-part base-e one of the reference. Every statement here is about finite values. -/

@[expose] public section

noncomputable section

namespace Cert.Math

open Idealize.ShloMosaic
open scoped BigOperators

/-- A finite sum of reals, seen in the extended reals, is the sum of the terms seen there. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The largest of finitely many (at least one) real numbers, taken from minus infinity up, is a real number. -/
theorem fold_max_real {n : ℕ} (hn : 0 < n) (f : Fin n → ℝ) :
    ∃ m : ℝ, (Finset.univ : Finset (Fin n)).fold max (⊥ : EReal) (fun x => (f x : EReal)) = (m : EReal) := by
  haveI : Nonempty (Fin n) := ⟨⟨0, hn⟩⟩
  obtain ⟨i, _, hi⟩ := Finset.exists_mem_eq_sup (Finset.univ : Finset (Fin n)) Finset.univ_nonempty (fun x => (f x : EReal))
  exact ⟨f i, hi⟩

/-- The pattern of single-precision minus infinity is the extended real minus infinity. -/
theorem ofBits_neg_inf : Ideal.ofBits .f32 0xFF800000#32 = (⊥ : EReal) := by simp [Ideal.ofBits, Ideal.ieee]

/-- The larger of two reals is taken the same way in the extended reals. -/
theorem coe_max (a b : ℝ) : max (a : EReal) (b : EReal) = ((max a b : ℝ) : EReal) :=
  ((EReal.coe_strictMono.monotone).map_max).symm

/-- A power of two of a real is the exponential of that real times `log 2`. -/
theorem exp2_real (x : ℝ) : Ideal.exp2 (x : EReal) = ((Real.exp (x * Real.log 2) : ℝ) : EReal) := by
  rw [Ideal.exp2_coe]
  congr 1
  show (2 : ℝ) ^ x = _
  rw [Real.rpow_def_of_pos (by norm_num), mul_comm]

/-- Division of two reals, the second not zero, is the real quotient. -/
theorem div_real (a : ℝ) {b : ℝ} (h : b ≠ 0) : Ideal.div (a : EReal) (b : EReal) = ((a / b : ℝ) : EReal) := by
  rw [Ideal.div_coe h, ← EReal.coe_mul, mul_one_div]

/-- THE KERNEL'S SOFTMAX over two lots of logits: powers of two of the logits less their joint maximum, summed against
    the values and divided by their own sum, is the plain softmax mean with base `e` and no maximum taken. -/
theorem soft_two {m n : ℕ} (hm : 0 < m) (hn : 0 < n) (s : Fin m → ℝ) (t : Fin n → ℝ) (a : Fin m → ℝ) (b : Fin n → ℝ) :
    Ideal.div
      ((∑ x, Ideal.exp2 ((s x : EReal) - max ((Finset.univ : Finset (Fin m)).fold max ⊥ fun x => (s x : EReal)) ((Finset.univ : Finset (Fin n)).fold max ⊥ fun x => (t x : EReal))) * (a x : EReal))
        + ∑ x, Ideal.exp2 ((t x : EReal) - max ((Finset.univ : Finset (Fin m)).fold max ⊥ fun x => (s x : EReal)) ((Finset.univ : Finset (Fin n)).fold max ⊥ fun x => (t x : EReal))) * (b x : EReal))
      ((∑ x, Ideal.exp2 ((s x : EReal) - max ((Finset.univ : Finset (Fin m)).fold max ⊥ fun x => (s x : EReal)) ((Finset.univ : Finset (Fin n)).fold max ⊥ fun x => (t x : EReal))))
        + ∑ x, Ideal.exp2 ((t x : EReal) - max ((Finset.univ : Finset (Fin m)).fold max ⊥ fun x => (s x : EReal)) ((Finset.univ : Finset (Fin n)).fold max ⊥ fun x => (t x : EReal))))
    = ((((∑ x, Real.exp (s x * Real.log 2) * a x) + ∑ x, Real.exp (t x * Real.log 2) * b x)
        / ((∑ x, Real.exp (s x * Real.log 2)) + ∑ x, Real.exp (t x * Real.log 2)) : ℝ) : EReal) := by
  obtain ⟨M, hM⟩ := fold_max_real hm s
  obtain ⟨N, hN⟩ := fold_max_real hn t
  rw [hM, hN, coe_max]
  generalize max M N = K
  haveI : Nonempty (Fin m) := ⟨⟨0, hm⟩⟩
  have hpos : 0 < (∑ x, Real.exp ((s x - K) * Real.log 2)) + ∑ x, Real.exp ((t x - K) * Real.log 2) :=
    add_pos_of_pos_of_nonneg (Finset.sum_pos (fun _ _ => Real.exp_pos _) Finset.univ_nonempty)
      (Finset.sum_nonneg fun _ _ => (Real.exp_pos _).le)
  simp only [← EReal.coe_sub, exp2_real, ← EReal.coe_mul, ← coe_sum, ← EReal.coe_add]
  rw [div_real _ hpos.ne']
  congr 1
  have hE : ∀ y : ℝ, Real.exp ((y - K) * Real.log 2) = Real.exp (y * Real.log 2) * Real.exp (-(K * Real.log 2)) := fun y => by
    rw [← Real.exp_add]; ring_nf
  simp only [hE]
  have h1 : ∀ (k : ℕ) (f g : Fin k → ℝ), ∑ x, Real.exp (f x * Real.log 2) * Real.exp (-(K * Real.log 2)) * g x
      = (∑ x, Real.exp (f x * Real.log 2) * g x) * Real.exp (-(K * Real.log 2)) := fun k f g => by
    rw [Finset.sum_mul]; exact Finset.sum_congr rfl fun _ _ => by ring
  rw [h1, h1, ← Finset.sum_mul, ← Finset.sum_mul, ← add_mul, ← add_mul, mul_div_mul_right _ _ (Real.exp_pos _).ne']

/-- THE REFERENCE'S SOFTMAX: weights `exp (s − max s) / Σ exp (s − max s)` against the values is the plain softmax mean. -/
theorem soft_one {n : ℕ} (hn : 0 < n) (s : Fin n → ℝ) (a : Fin n → ℝ) :
    (∑ x, (a x : EReal) * Ideal.div (Ideal.exp ((s x : EReal) - max ⊥ ((Finset.univ : Finset (Fin n)).fold max ⊥ fun x => (s x : EReal))))
        (∑ y, Ideal.exp ((s y : EReal) - max ⊥ ((Finset.univ : Finset (Fin n)).fold max ⊥ fun x => (s x : EReal)))))
    = (((∑ x, Real.exp (s x) * a x) / ∑ x, Real.exp (s x) : ℝ) : EReal) := by
  obtain ⟨K, hK⟩ := fold_max_real hn s
  rw [hK, max_eq_right bot_le]
  haveI : Nonempty (Fin n) := ⟨⟨0, hn⟩⟩
  have hpos : 0 < ∑ x, Real.exp (s x - K) := Finset.sum_pos (fun _ _ => Real.exp_pos _) Finset.univ_nonempty
  have hexp : ∀ y : ℝ, Ideal.exp (y : EReal) = ((Real.exp y : ℝ) : EReal) := fun _ => rfl
  simp only [← EReal.coe_sub, hexp, ← coe_sum, div_real _ hpos.ne', ← EReal.coe_mul]
  congr 1
  have hE : ∀ y : ℝ, Real.exp (y - K) = Real.exp y * Real.exp (-K) := fun y => by rw [← Real.exp_add, sub_eq_add_neg]
  simp only [hE, ← Finset.sum_mul]
  rw [Finset.sum_div]
  exact Finset.sum_congr rfl fun x _ => by
    rw [mul_div_mul_right _ _ (Real.exp_pos _).ne', mul_comm, div_mul_eq_mul_div]

/-- The softmax scale: one over the square root of the 192 lanes of a query. -/
abbrev scale : ℝ := (Real.sqrt 192)⁻¹

/-- The logit of one key for one query: the latent part plus the rotary part, scaled. -/
def logit (qn : Fin 128 → ℝ) (qr : Fin 64 → ℝ) (wuk : Fin 128 → Fin 512 → ℝ) (ck : Fin 512 → ℝ) (kr : Fin 64 → ℝ) : ℝ :=
  ((∑ c, (∑ d, wuk d c * qn d) * ck c) + ∑ e, qr e * kr e) * scale

/-- Latent attention of one query of one head: the softmax mean of the latents over all the keys, taken through the
    head's value weights. -/
def attend (qn : Fin 128 → ℝ) (qr : Fin 64 → ℝ) (wuk : Fin 128 → Fin 512 → ℝ) (wuv : Fin 512 → ℝ)
    (ck : Fin 1088 → Fin 512 → ℝ) (kr : Fin 1088 → Fin 64 → ℝ) : ℝ :=
  ∑ c, ((∑ j, Real.exp (logit qn qr wuk (ck j) (kr j)) * ck j c) / ∑ j, Real.exp (logit qn qr wuk (ck j) (kr j))) * wuv c

end Cert.Math
-- ==== Proof.Heads.lean ====
module

public import proofs.«01_k».proof.Proof.Gen.KernelIdeal.Value
public import proofs.«01_k».proof.Proof.Math
public import Idealize.ShloMosaic.Lib.Pipeline.ValueKit
public import Idealize.ShloMosaic.Lib.Pointwise

/-! The stacked queries of the latent attention kernel's body at one grid point: the sixteen heads' queries, one under another. -/

@[expose] public section

set_option maxRecDepth 16384

noncomputable section

namespace Cert.KernelIdeal.Attn

open Cert.KernelIdeal Cert.KernelIdeal.Gen Idealize.ShloMosaic
open scoped BigOperators

/-- The query scale as the kernel's named constant: `1 / (√192 · log 2)`. -/
abbrev qScale : EReal := ((((Real.sqrt 192)⁻¹ * (Real.log 2)⁻¹ : ℝ)) : EReal)

/-- The named constant's value. -/
theorem named_q : (Named.named (F := Ideal) (φ := .f32) κ "q_scale" 0x3DD53B95#32 : EReal) = qScale := rfl

section
variable (x0 x1 : FVec Ideal S64x2048 .bf16) (x2 : FVec Ideal S64x512 .bf16) (x3 : FVec Ideal S64x128 .bf16)
  (x4 : FVec Ideal S1x1x1024x512 .f32) (x5 : FVec Ideal S1x1x1024x64 .f32) (x6 : FVec Ideal S16x128x512 .bf16) (x7 : FVec Ideal S16x512x128 .bf16)

/-- One head's latent query: its scaled query through its key weights. -/
def lat (h : Fin 16) : FVec Ideal S64x512 .f32 := fun j =>
  ∑ d : Fin 128, x0 (ix2 (j 0 : Fin 64) (⟨h.val * 128 + d.val, by omega⟩ : Fin 2048)) * qScale * x6 (ix3 h d (j 1 : Fin 512))

/-- A head's product as the body writes it. -/
def k0_lat (v : FVec Ideal S64x128 .bf16) (w : Vec Ideal S1x128x512 .bf16) : FVec Ideal S64x512 .f32 :=
  matmul (φ₂ := .bf16) dot_S64x128_S128x512_S64x512_1_0_0_1_n_n none v (shapeCast (α := Ideal .bf16) S128x512 w shapeCasts_S1x128x512_S128x512) (constant (F := Ideal) S64x512 .f32 0x00000000#32)

/-- Head 0's product is its latent query. -/
theorem lat_0 : k0_pay4 (F := Ideal) (View.ld x0 r0_0) (View.ld x6 r0_1) = lat x0 x6 0 := by
  funext j; idx_vars j
  pointwise [k0_pay4, k0_pay2, lat]
  refine Finset.sum_congr rfl fun d _ => Ideal.mul_congr (Ideal.mul_congr ?_ rfl) ?_
  all_goals blk_ext

/-- Head 1's product is its latent query. -/
theorem lat_1 : k0_pay5 (F := Ideal) (View.ld x0 r0_0) (View.ld x6 r0_2) = lat x0 x6 1 := by
  funext j; idx_vars j
  pointwise [k0_pay5, k0_pay2, lat]
  refine Finset.sum_congr rfl fun d _ => Ideal.mul_congr (Ideal.mul_congr ?_ rfl) ?_
  all_goals blk_ext

/-- Head 2's product is its latent query. -/
theorem lat_2 : k0_pay6 (F := Ideal) (View.ld x0 r0_0) (View.ld x6 r0_3) = lat x0 x6 2 := by
  funext j; idx_vars j
  pointwise [k0_pay6, k0_pay2, lat]
  refine Finset.sum_congr rfl fun d _ => Ideal.mul_congr (Ideal.mul_congr ?_ rfl) ?_
  all_goals blk_ext

/-- Head 3's product is its latent query. -/
theorem lat_3 : k0_pay7 (F := Ideal) (View.ld x0 r0_0) (View.ld x6 r0_4) = lat x0 x6 3 := by
  funext j; idx_vars j
  pointwise [k0_pay7, k0_pay2, lat]
  refine Finset.sum_congr rfl fun d _ => Ideal.mul_congr (Ideal.mul_congr ?_ rfl) ?_
  all_goals blk_ext

/-- Head 4's product is its latent query. -/
theorem lat_4 : k0_pay8 (F := Ideal) (View.ld x0 r0_0) (View.ld x6 r0_5) = lat x0 x6 4 := by
  funext j; idx_vars j
  pointwise [k0_pay8, k0_pay2, lat]
  refine Finset.sum_congr rfl fun d _ => Ideal.mul_congr (Ideal.mul_congr ?_ rfl) ?_
  all_goals blk_ext

/-- Head 5's product is its latent query. -/
theorem lat_5 : k0_pay10 (F := Ideal) (k0_pay9 (View.ld x0 r0_0)) (View.ld x6 r0_6) = lat x0 x6 5 := by
  funext j; idx_vars j
  pointwise [k0_pay10, k0_pay9, k0_pay2, lat]
  refine Finset.sum_congr rfl fun d _ => Ideal.mul_congr (Ideal.mul_congr ?_ rfl) ?_
  all_goals blk_ext

/-- Head 6's product is its latent query. -/
theorem lat_6 : k0_pay11 (F := Ideal) (k0_pay2 (View.ld x0 r0_0)) (View.ld x6 r0_7) = lat x0 x6 6 := by
  funext j; idx_vars j
  pointwise [k0_pay11, k0_pay2, lat]
  refine Finset.sum_congr rfl fun d _ => Ideal.mul_congr (Ideal.mul_congr ?_ rfl) ?_
  all_goals blk_ext

/-- Head 7's product is its latent query. -/
theorem lat_7 : k0_pay12 (F := Ideal) (k0_pay2 (View.ld x0 r0_0)) (View.ld x6 r0_8) = lat x0 x6 7 := by
  funext j; idx_vars j
  pointwise [k0_pay12, k0_pay2, lat]
  refine Finset.sum_congr rfl fun d _ => Ideal.mul_congr (Ideal.mul_congr ?_ rfl) ?_
  all_goals blk_ext

/-- Head 8's product is its latent query. -/
theorem lat_8 : k0_pay13 (F := Ideal) (k0_pay2 (View.ld x0 r0_0)) (View.ld x6 r0_9) = lat x0 x6 8 := by
  funext j; idx_vars j
  pointwise [k0_pay13, k0_pay2, lat]
  refine Finset.sum_congr rfl fun d _ => Ideal.mul_congr (Ideal.mul_congr ?_ rfl) ?_
  all_goals blk_ext

/-- Head 9's product is its latent query. -/
theorem lat_9 : k0_pay14 (F := Ideal) (k0_pay2 (View.ld x0 r0_0)) (View.ld x6 r0_10) = lat x0 x6 9 := by
  funext j; idx_vars j
  pointwise [k0_pay14, k0_pay2, lat]
  refine Finset.sum_congr rfl fun d _ => Ideal.mul_congr (Ideal.mul_congr ?_ rfl) ?_
  all_goals blk_ext

/-- Head 10's product is its latent query. -/
theorem lat_10 : k0_pay15 (F := Ideal) (k0_pay2 (View.ld x0 r0_0)) (View.ld x6 r0_11) = lat x0 x6 10 := by
  funext j; idx_vars j
  pointwise [k0_pay15, k0_pay2, lat]
  refine Finset.sum_congr rfl fun d _ => Ideal.mul_congr (Ideal.mul_congr ?_ rfl) ?_
  all_goals blk_ext

/-- Head 11's product is its latent query. -/
theorem lat_11 : k0_pay16 (F := Ideal) (k0_pay2 (View.ld x0 r0_0)) (View.ld x6 r0_12) = lat x0 x6 11 := by
  funext j; idx_vars j
  pointwise [k0_pay16, k0_pay2, lat]
  refine Finset.sum_congr rfl fun d _ => Ideal.mul_congr (Ideal.mul_congr ?_ rfl) ?_
  all_goals blk_ext

/-- Head 12's product is its latent query. -/
theorem lat_12 : k0_lat (k0_pay17 (F := Ideal) (k0_pay2 (View.ld x0 r0_0))) (View.ld x6 r0_13) = lat x0 x6 12 := by
  funext j; idx_vars j
  pointwise [k0_lat, k0_pay17, k0_pay2, lat]
  refine Finset.sum_congr rfl fun d _ => Ideal.mul_congr (Ideal.mul_congr ?_ rfl) ?_
  all_goals blk_ext

/-- Head 13's product is its latent query. -/
theorem lat_13 : k0_lat (extractStridedSlice S64x128 ![0, 1664] (k0_pay2 (F := Ideal) (View.ld x0 r0_0)) slices_S64x2048_o0_1664_S64x128) (View.ld x6 r0_14) = lat x0 x6 13 := by
  funext j; idx_vars j
  pointwise [k0_lat, k0_pay2, lat]
  refine Finset.sum_congr rfl fun d _ => Ideal.mul_congr (Ideal.mul_congr ?_ rfl) ?_
  all_goals blk_ext

/-- Head 14's product is its latent query. -/
theorem lat_14 : k0_lat (extractStridedSlice S64x128 ![0, 1792] (k0_pay2 (F := Ideal) (View.ld x0 r0_0)) slices_S64x2048_o0_1792_S64x128) (View.ld x6 r0_15) = lat x0 x6 14 := by
  funext j; idx_vars j
  pointwise [k0_lat, k0_pay2, lat]
  refine Finset.sum_congr rfl fun d _ => Ideal.mul_congr (Ideal.mul_congr ?_ rfl) ?_
  all_goals blk_ext

/-- Head 15's product is its latent query. -/
theorem lat_15 : k0_lat (extractStridedSlice S64x128 ![0, 1920] (k0_pay2 (F := Ideal) (View.ld x0 r0_0)) slices_S64x2048_o0_1920_S64x128) (View.ld x6 r0_16) = lat x0 x6 15 := by
  funext j; idx_vars j
  pointwise [k0_lat, k0_pay2, lat]
  refine Finset.sum_congr rfl fun d _ => Ideal.mul_congr (Ideal.mul_congr ?_ rfl) ?_
  all_goals blk_ext

/-- The stack of the heads' products. -/
theorem stack_eq (v0 v1 v2 v3 v4 v5 v6 v7 v8 v9 v10 v11 : FVec Ideal S64x512 .f32) (q : FVec Ideal S64x2048 .bf16) (v60 : FVec Ideal S64x128 .bf16)
    (w12 w13 w14 w15 : Vec Ideal S1x128x512 .bf16) :
    k0_pay18 (F := Ideal) q v0 v1 v2 v3 v4 v5 v6 v7 v8 v9 v10 v11 v60 w12 w13 w14 w15
      = concatenate S1024x512 0 [⟨S64x512, v0⟩, ⟨S64x512, v1⟩, ⟨S64x512, v2⟩, ⟨S64x512, v3⟩, ⟨S64x512, v4⟩, ⟨S64x512, v5⟩, ⟨S64x512, v6⟩, ⟨S64x512, v7⟩, ⟨S64x512, v8⟩, ⟨S64x512, v9⟩, ⟨S64x512, v10⟩, ⟨S64x512, v11⟩,
          ⟨S64x512, k0_lat v60 w12⟩, ⟨S64x512, k0_lat (extractStridedSlice S64x128 ![0, 1664] q slices_S64x2048_o0_1664_S64x128) w13⟩,
          ⟨S64x512, k0_lat (extractStridedSlice S64x128 ![0, 1792] q slices_S64x2048_o0_1792_S64x128) w14⟩, ⟨S64x512, k0_lat (extractStridedSlice S64x128 ![0, 1920] q slices_S64x2048_o0_1920_S64x128) w15⟩]
          concatenates_S64x512_S64x512_S64x512_S64x512_S64x512_S64x512_S64x512_S64x512_S64x512_S64x512_S64x512_S64x512_S64x512_S64x512_S64x512_S64x512_S1024x512_d0 := rfl

/-- The stacked latent queries: row `r` is head `r / 64`, query `r % 64`; a lane is the head's query, scaled, through the
    head's key weights. -/
theorem qlat_at (r : Fin 1024) (c : Fin 512) :
    k0_pay42 (F := Ideal) x0 x1 x2 x3 x4 x5 x6 x7 (ix2 r c)
      = ∑ d : Fin 128, x0 (ix2 (⟨r.val % 64, by omega⟩ : Fin 64) (⟨r.val / 64 * 128 + d.val, by omega⟩ : Fin 2048)) * qScale
          * x6 (ix3 (⟨r.val / 64, by omega⟩ : Fin 16) d c) := by
  unfold k0_pay42 k0_pay41
  rw [stack_eq]
  simp only [lat_0, lat_1, lat_2, lat_3, lat_4, lat_5, lat_6, lat_7, lat_8, lat_9, lat_10, lat_11, lat_12, lat_13, lat_14, lat_15]
  exact concatenate_ofFn_apply (t := S1024x512) (s₁ := S64x512) 0 (lat x0 x6) _ rfl 64 rfl (ix2 r c) ⟨r.val / 64, by omega⟩ rfl
    (ix2 (⟨r.val % 64, by omega⟩ : Fin 64) c) rfl fun b hb => by
      match b with
      | ⟨0, _⟩ => exact absurd rfl hb
      | ⟨1, _⟩ => rfl

/-- One head's rotary query. -/
def rot (h : Fin 16) : FVec Ideal S64x128 .bf16 := fun j =>
  x1 (ix2 (j 0 : Fin 64) (⟨h.val * 128 + (j 1).val, by have h1 : (j 1).val < 128 := (j 1).isLt; omega⟩ : Fin 2048)) * qScale

/-- Head 0's lanes are its rotary query. -/
theorem rot_0 : extractStridedSlice S64x128 ![0, 0] (k0_pay3 (F := Ideal) (View.ld x1 r0_0)) slices_S64x2048_o0_0_S64x128 = rot x1 0 := by
  funext j; idx_vars j
  pointwise [k0_pay3, rot]
  refine Ideal.mul_congr ?_ rfl
  blk_ext

/-- Head 1's lanes are its rotary query. -/
theorem rot_1 : extractStridedSlice S64x128 ![0, 128] (k0_pay3 (F := Ideal) (View.ld x1 r0_0)) slices_S64x2048_o0_128_S64x128 = rot x1 1 := by
  funext j; idx_vars j
  pointwise [k0_pay3, rot]
  refine Ideal.mul_congr ?_ rfl
  blk_ext

/-- Head 2's lanes are its rotary query. -/
theorem rot_2 : extractStridedSlice S64x128 ![0, 256] (k0_pay3 (F := Ideal) (View.ld x1 r0_0)) slices_S64x2048_o0_256_S64x128 = rot x1 2 := by
  funext j; idx_vars j
  pointwise [k0_pay3, rot]
  refine Ideal.mul_congr ?_ rfl
  blk_ext

/-- Head 3's lanes are its rotary query. -/
theorem rot_3 : extractStridedSlice S64x128 ![0, 384] (k0_pay3 (F := Ideal) (View.ld x1 r0_0)) slices_S64x2048_o0_384_S64x128 = rot x1 3 := by
  funext j; idx_vars j
  pointwise [k0_pay3, rot]
  refine Ideal.mul_congr ?_ rfl
  blk_ext

/-- Head 4's lanes are its rotary query. -/
theorem rot_4 : extractStridedSlice S64x128 ![0, 512] (k0_pay3 (F := Ideal) (View.ld x1 r0_0)) slices_S64x2048_o0_512_S64x128 = rot x1 4 := by
  funext j; idx_vars j
  pointwise [k0_pay3, rot]
  refine Ideal.mul_congr ?_ rfl
  blk_ext

/-- Head 5's lanes are its rotary query. -/
theorem rot_5 : extractStridedSlice S64x128 ![0, 640] (k0_pay3 (F := Ideal) (View.ld x1 r0_0)) slices_S64x2048_o0_640_S64x128 = rot x1 5 := by
  funext j; idx_vars j
  pointwise [k0_pay3, rot]
  refine Ideal.mul_congr ?_ rfl
  blk_ext

/-- Head 6's lanes are its rotary query. -/
theorem rot_6 : extractStridedSlice S64x128 ![0, 768] (k0_pay3 (F := Ideal) (View.ld x1 r0_0)) slices_S64x2048_o0_768_S64x128 = rot x1 6 := by
  funext j; idx_vars j
  pointwise [k0_pay3, rot]
  refine Ideal.mul_congr ?_ rfl
  blk_ext

/-- Head 7's lanes are its rotary query. -/
theorem rot_7 : extractStridedSlice S64x128 ![0, 896] (k0_pay3 (F := Ideal) (View.ld x1 r0_0)) slices_S64x2048_o0_896_S64x128 = rot x1 7 := by
  funext j; idx_vars j
  pointwise [k0_pay3, rot]
  refine Ideal.mul_congr ?_ rfl
  blk_ext

/-- Head 8's lanes are its rotary query. -/
theorem rot_8 : extractStridedSlice S64x128 ![0, 1024] (k0_pay3 (F := Ideal) (View.ld x1 r0_0)) slices_S64x2048_o0_1024_S64x128 = rot x1 8 := by
  funext j; idx_vars j
  pointwise [k0_pay3, rot]
  refine Ideal.mul_congr ?_ rfl
  blk_ext

/-- Head 9's lanes are its rotary query. -/
theorem rot_9 : extractStridedSlice S64x128 ![0, 1152] (k0_pay3 (F := Ideal) (View.ld x1 r0_0)) slices_S64x2048_o0_1152_S64x128 = rot x1 9 := by
  funext j; idx_vars j
  pointwise [k0_pay3, rot]
  refine Ideal.mul_congr ?_ rfl
  blk_ext

/-- Head 10's lanes are its rotary query. -/
theorem rot_10 : extractStridedSlice S64x128 ![0, 1280] (k0_pay3 (F := Ideal) (View.ld x1 r0_0)) slices_S64x2048_o0_1280_S64x128 = rot x1 10 := by
  funext j; idx_vars j
  pointwise [k0_pay3, rot]
  refine Ideal.mul_congr ?_ rfl
  blk_ext

/-- Head 11's lanes are its rotary query. -/
theorem rot_11 : extractStridedSlice S64x128 ![0, 1408] (k0_pay3 (F := Ideal) (View.ld x1 r0_0)) slices_S64x2048_o0_1408_S64x128 = rot x1 11 := by
  funext j; idx_vars j
  pointwise [k0_pay3, rot]
  refine Ideal.mul_congr ?_ rfl
  blk_ext

/-- Head 12's lanes are its rotary query. -/
theorem rot_12 : extractStridedSlice S64x128 ![0, 1536] (k0_pay3 (F := Ideal) (View.ld x1 r0_0)) slices_S64x2048_o0_1536_S64x128 = rot x1 12 := by
  funext j; idx_vars j
  pointwise [k0_pay3, rot]
  refine Ideal.mul_congr ?_ rfl
  blk_ext

/-- Head 13's lanes are its rotary query. -/
theorem rot_13 : extractStridedSlice S64x128 ![0, 1664] (k0_pay3 (F := Ideal) (View.ld x1 r0_0)) slices_S64x2048_o0_1664_S64x128 = rot x1 13 := by
  funext j; idx_vars j
  pointwise [k0_pay3, rot]
  refine Ideal.mul_congr ?_ rfl
  blk_ext

/-- Head 14's lanes are its rotary query. -/
theorem rot_14 : extractStridedSlice S64x128 ![0, 1792] (k0_pay3 (F := Ideal) (View.ld x1 r0_0)) slices_S64x2048_o0_1792_S64x128 = rot x1 14 := by
  funext j; idx_vars j
  pointwise [k0_pay3, rot]
  refine Ideal.mul_congr ?_ rfl
  blk_ext

/-- Head 15's lanes are its rotary query. -/
theorem rot_15 : extractStridedSlice S64x128 ![0, 1920] (k0_pay3 (F := Ideal) (View.ld x1 r0_0)) slices_S64x2048_o0_1920_S64x128 = rot x1 15 := by
  funext j; idx_vars j
  pointwise [k0_pay3, rot]
  refine Ideal.mul_congr ?_ rfl
  blk_ext

/-- The stacked rotary queries: row `r` is head `r / 64`, query `r % 64`, scaled. -/
theorem qr_at (r : Fin 1024) (d : Fin 128) :
    k0_pay43 (F := Ideal) x0 x1 x2 x3 x4 x5 x6 x7 (ix2 r d)
      = x1 (ix2 (⟨r.val % 64, by omega⟩ : Fin 64) (⟨r.val / 64 * 128 + d.val, by omega⟩ : Fin 2048)) * qScale := by
  unfold k0_pay43 k0_pay19
  simp only [rot_0, rot_1, rot_2, rot_3, rot_4, rot_5, rot_6, rot_7, rot_8, rot_9, rot_10, rot_11, rot_12, rot_13, rot_14, rot_15]
  exact concatenate_ofFn_apply (t := S1024x128) (s₁ := S64x128) 0 (rot x1) _ rfl 64 rfl (ix2 r d) ⟨r.val / 64, by omega⟩ rfl
    (ix2 (⟨r.val % 64, by omega⟩ : Fin 64) d) rfl fun b hb => by
      match b with
      | ⟨0, _⟩ => exact absurd rfl hb
      | ⟨1, _⟩ => rfl

end

end Cert.KernelIdeal.Attn
-- ==== Proof.Block.lean ====
module

public import proofs.«01_k».proof.Proof.Heads
public import proofs.«01_k».proof.Proof.Math
public import Idealize.ShloMosaic.Lib.Pipeline.ValueKit
public import Idealize.ShloMosaic.Lib.Pointwise

/-! The latent attention kernel's body at one grid point, read at an index, over the blocks it stages. -/

@[expose] public section

set_option maxRecDepth 16384

noncomputable section

namespace Cert.KernelIdeal.Attn

open Cert.KernelIdeal Cert.KernelIdeal.Gen Idealize.ShloMosaic
open scoped BigOperators

section
variable (x0 x1 : FVec Ideal S64x2048 .bf16) (x2 : FVec Ideal S64x512 .bf16) (x3 : FVec Ideal S64x128 .bf16)
  (x4 : FVec Ideal S1x1x1024x512 .f32) (x5 : FVec Ideal S1x1x1024x64 .f32) (x6 : FVec Ideal S16x128x512 .bf16) (x7 : FVec Ideal S16x512x128 .bf16)

/-- The softmax part of the body over finite queries and keys: the softmax mean of the latents over the cached keys and
    the new ones. -/
theorem soft_at (v77 : FVec Ideal S1024x512 .bf16) (v94 : FVec Ideal S1024x128 .bf16)
    (A : Fin 1024 → Fin 512 → ℝ) (Q : Fin 1024 → Fin 128 → ℝ) (C : Fin 1024 → Fin 512 → ℝ) (R : Fin 1024 → Fin 64 → ℝ)
    (Cn : Fin 64 → Fin 512 → ℝ) (Rn : Fin 64 → Fin 128 → ℝ)
    (hA : ∀ r c, v77 (ix2 r c) = (A r c : EReal)) (hQ : ∀ r c, v94 (ix2 r c) = (Q r c : EReal))
    (hC : ∀ j c, x4 (ix4 0 0 j c) = (C j c : EReal)) (hR : ∀ j c, x5 (ix4 0 0 j c) = (R j c : EReal))
    (hCn : ∀ j c, x2 (ix2 j c) = (Cn j c : EReal)) (hRn : ∀ j c, x3 (ix2 j c) = (Rn j c : EReal))
    (r : Fin 1024) (c : Fin 512) :
    k0_pay22 (F := Ideal) v77 v94 (k0_pay44 x0 x1 x2 x3 x4 x5 x6 x7) (k0_pay45 x0 x1 x2 x3 x4 x5 x6 x7) (View.ld x2 r0_19) (View.ld x3 r0_20) (ix2 r c)
      = ((((∑ j, Real.exp (((∑ k, A r k * C j k) + ∑ e : Fin 64, Q r ⟨e.val, by omega⟩ * R j e) * Real.log 2) * C j c)
            + ∑ j, Real.exp (((∑ k, A r k * Cn j k) + ∑ e, Q r e * Rn j e) * Real.log 2) * Cn j c)
          / ((∑ j, Real.exp (((∑ k, A r k * C j k) + ∑ e : Fin 64, Q r ⟨e.val, by omega⟩ * R j e) * Real.log 2))
            + ∑ j, Real.exp (((∑ k, A r k * Cn j k) + ∑ e, Q r e * Rn j e) * Real.log 2)) : ℝ) : EReal) := by
  pointwise [k0_pay22, k0_pay44, k0_pay45, k0_pay20, k0_pay21]
  simp only [hA, hQ, hC, hR, hCn, hRn, ← EReal.coe_mul, ← Math.coe_sum, ← EReal.coe_add, Math.ofBits_neg_inf]
  exact Math.soft_two (by norm_num) (by norm_num)
    (fun j : Fin 1024 => (∑ k, A r k * C j k) + ∑ e : Fin 64, Q r ⟨e.val, by omega⟩ * R j e)
    (fun j : Fin 64 => (∑ k, A r k * Cn j k) + ∑ e, Q r e * Rn j e) (fun j => C j c) (fun j => Cn j c)

end

end Cert.KernelIdeal.Attn
-- ==== Proof.Out.lean ====
module

public import proofs.«01_k».proof.Proof.Heads
public import Idealize.ShloMosaic.Lib.Pipeline.ValueKit
public import Idealize.ShloMosaic.Lib.Pointwise

/-! The latent attention kernel's output tile at one grid point: each head's latent output through its value weights. -/

@[expose] public section

set_option maxRecDepth 16384

noncomputable section

namespace Cert.KernelIdeal.Attn

open Cert.KernelIdeal Cert.KernelIdeal.Gen Idealize.ShloMosaic
open scoped BigOperators

section
variable (x0 x1 : FVec Ideal S64x2048 .bf16) (x2 : FVec Ideal S64x512 .bf16) (x3 : FVec Ideal S64x128 .bf16)
  (x4 : FVec Ideal S1x1x1024x512 .f32) (x5 : FVec Ideal S1x1x1024x64 .f32) (x6 : FVec Ideal S16x128x512 .bf16) (x7 : FVec Ideal S16x512x128 .bf16)

/-- What the output tile holds at a position: the latent output of the position's head through the head's value weights. -/
def outAt (T : FVec Ideal S1024x512 .bf16) (w : FVec Ideal S16x512x128 .bf16) (i : Fin 64) (j : Fin 2048) : EReal :=
  ∑ c : Fin 512, T (ix2 (⟨j.val / 128 * 64 + i.val, by omega⟩ : Fin 1024) c)
    * w (ix3 (⟨j.val / 128, by omega⟩ : Fin 16) c (⟨j.val % 128, by omega⟩ : Fin 128))

/-- The output tile's sum, from any name of the position's row, head and lane. -/
theorem outAt_eq (T : FVec Ideal S1024x512 .bf16) (w : FVec Ideal S16x512x128 .bf16) (i : Fin 64) (j : Fin 2048) (r : Fin 1024) (h : Fin 16) (v : Fin 128)
    (hr : j.val / 128 * 64 + i.val = r.val) (hh : j.val / 128 = h.val) (hv : j.val % 128 = v.val) :
    (∑ c : Fin 512, T (ix2 r c) * w (ix3 h c v)) = outAt T w i j := by
  have e1 : (⟨j.val / 128 * 64 + i.val, by omega⟩ : Fin 1024) = r := Fin.ext hr
  have e2 : (⟨j.val / 128, by omega⟩ : Fin 16) = h := Fin.ext hh
  have e3 : (⟨j.val % 128, by omega⟩ : Fin 128) = v := Fin.ext hv
  simp only [outAt, e1, e2, e3]

/-- A head's tile of the output. -/
def headOut (T : FVec Ideal S1024x512 .bf16) (w : FVec Ideal S16x512x128 .bf16) (h : Fin 16) : FVec Ideal S64x128 .bf16 := fun j =>
  ∑ c : Fin 512, T (ix2 (⟨h.val * 64 + (j 0).val, by have h0 : (j 0).val < 64 := (j 0).isLt; omega⟩ : Fin 1024) c) * w (ix3 h c (j 1 : Fin 128))

/-- Head 15's stored tile. -/
theorem head_15 (T : FVec Ideal S1024x512 .bf16) : k0_pay1 (F := Ideal) T (View.ld x7 r0_51) = headOut T x7 15 := by
  funext j; idx_vars j
  pointwise [k0_pay1, headOut]

/-- Head 14's stored tile. -/
theorem head_14 (T : FVec Ideal S1024x512 .bf16) : k0_pay40 (F := Ideal) T (View.ld x7 r0_49) = headOut T x7 14 := by
  funext j; idx_vars j
  pointwise [k0_pay40, headOut]

/-- Head 13's stored tile. -/
theorem head_13 (T : FVec Ideal S1024x512 .bf16) : k0_pay39 (F := Ideal) T (View.ld x7 r0_47) = headOut T x7 13 := by
  funext j; idx_vars j
  pointwise [k0_pay39, headOut]

/-- Head 12's stored tile. -/
theorem head_12 (T : FVec Ideal S1024x512 .bf16) : k0_pay38 (F := Ideal) T (View.ld x7 r0_45) = headOut T x7 12 := by
  funext j; idx_vars j
  pointwise [k0_pay38, headOut]

/-- Head 11's stored tile. -/
theorem head_11 (T : FVec Ideal S1024x512 .bf16) : k0_pay37 (F := Ideal) T (View.ld x7 r0_43) = headOut T x7 11 := by
  funext j; idx_vars j
  pointwise [k0_pay37, headOut]

/-- Head 10's stored tile. -/
theorem head_10 (T : FVec Ideal S1024x512 .bf16) : k0_pay36 (F := Ideal) (k0_pay35 T) (View.ld x7 r0_41) = headOut T x7 10 := by
  funext j; idx_vars j
  pointwise [k0_pay36, k0_pay35, headOut]

/-- Head 9's stored tile. -/
theorem head_9 (T : FVec Ideal S1024x512 .bf16) : k0_pay34 (F := Ideal) T (View.ld x7 r0_39) = headOut T x7 9 := by
  funext j; idx_vars j
  pointwise [k0_pay34, headOut]

/-- Head 8's stored tile. -/
theorem head_8 (T : FVec Ideal S1024x512 .bf16) : k0_pay33 (F := Ideal) T (View.ld x7 r0_37) = headOut T x7 8 := by
  funext j; idx_vars j
  pointwise [k0_pay33, headOut]

/-- Head 7's stored tile. -/
theorem head_7 (T : FVec Ideal S1024x512 .bf16) : k0_pay32 (F := Ideal) T (View.ld x7 r0_35) = headOut T x7 7 := by
  funext j; idx_vars j
  pointwise [k0_pay32, headOut]

/-- Head 6's stored tile. -/
theorem head_6 (T : FVec Ideal S1024x512 .bf16) : k0_pay31 (F := Ideal) T (View.ld x7 r0_33) = headOut T x7 6 := by
  funext j; idx_vars j
  pointwise [k0_pay31, headOut]

/-- Head 5's stored tile. -/
theorem head_5 (T : FVec Ideal S1024x512 .bf16) : k0_pay30 (F := Ideal) (k0_pay28 T) (k0_pay29 (View.ld x7 r0_31)) = headOut T x7 5 := by
  funext j; idx_vars j
  pointwise [k0_pay30, k0_pay28, k0_pay29, headOut]

/-- Head 4's stored tile. -/
theorem head_4 (T : FVec Ideal S1024x512 .bf16) : k0_pay27 (F := Ideal) T (View.ld x7 r0_29) = headOut T x7 4 := by
  funext j; idx_vars j
  pointwise [k0_pay27, headOut]

/-- Head 3's stored tile. -/
theorem head_3 (T : FVec Ideal S1024x512 .bf16) : k0_pay26 (F := Ideal) T (View.ld x7 r0_27) = headOut T x7 3 := by
  funext j; idx_vars j
  pointwise [k0_pay26, headOut]

/-- Head 2's stored tile. -/
theorem head_2 (T : FVec Ideal S1024x512 .bf16) : k0_pay25 (F := Ideal) T (View.ld x7 r0_25) = headOut T x7 2 := by
  funext j; idx_vars j
  pointwise [k0_pay25, headOut]

/-- Head 1's stored tile. -/
theorem head_1 (T : FVec Ideal S1024x512 .bf16) : k0_pay24 (F := Ideal) T (View.ld x7 r0_23) = headOut T x7 1 := by
  funext j; idx_vars j
  pointwise [k0_pay24, headOut]

/-- Head 0's product, of the latent output. -/
def k0_first (T : FVec Ideal S1024x512 .bf16) (w : Vec Ideal S1x512x128 .bf16) : FVec Ideal S64x128 .bf16 :=
  truncf .bf16 (matmul (φ₂ := .bf16) dot_S64x512_S512x128_S64x128_1_0_0_1_n_n none (extractStridedSlice S64x512 ![0, 0] T slices_S1024x512_o0_0_S64x512)
    (shapeCast (α := Ideal .bf16) S512x128 w shapeCasts_S1x512x128_S512x128) (constant (F := Ideal) S64x128 .f32 0x00000000#32)) bitsLt_bf16_f32

/-- Head 0's stored tile is that product. -/
theorem first_eq : k0_pay23 (F := Ideal) (k0_pay42 x0 x1 x2 x3 x4 x5 x6 x7) (k0_pay43 x0 x1 x2 x3 x4 x5 x6 x7) (k0_pay44 x0 x1 x2 x3 x4 x5 x6 x7) (k0_pay45 x0 x1 x2 x3 x4 x5 x6 x7) (View.ld x2 r0_19) (View.ld x3 r0_20) (View.ld x7 r0_21) = k0_first (k0_pay46 x0 x1 x2 x3 x4 x5 x6 x7) (View.ld x7 r0_21) := rfl

/-- Head 0's stored tile. -/
theorem head_0 (T : FVec Ideal S1024x512 .bf16) : k0_first T (View.ld x7 r0_21) = headOut T x7 0 := by
  funext j; idx_vars j
  pointwise [k0_first, headOut]

set_option maxHeartbeats 800000 in
/-- What the body leaves in the output tile, at a position. -/
theorem out_at (y : S64x2048.Idx) :
    (out0_8 (F := Ideal) x0 x1 x2 x3 x4 x5 x6 x7 : FVec Ideal S64x2048 .bf16) y = outAt (k0_pay46 x0 x1 x2 x3 x4 x5 x6 x7) x7 (y 0 : Fin 64) (y 1 : Fin 2048) := by
  unfold out0_8
  rw [first_eq]
  generalize k0_pay46 (F := Ideal) x0 x1 x2 x3 x4 x5 x6 x7 = T
  simp only [head_15, head_14, head_13, head_12, head_11, head_10, head_9, head_8, head_7, head_6, head_5, head_4, head_3, head_2, head_1, head_0]
  canon_tiles x h
  all_goals refine outAt_eq T x7 _ _ _ _ _ ?_ ?_ ?_
  all_goals first | omega | (simp only [Fin.coe_ofNat_eq_mod]; omega)

end

end Cert.KernelIdeal.Attn
-- ==== Proof.Point.lean ====
module

public import proofs.«01_k».proof.Proof.Block
public import proofs.«01_k».proof.Proof.Out

/-! One grid point of the latent attention kernel over real blocks: its output tile is the latent attention of each
    query of each head over the cached keys and the new ones. -/

@[expose] public section

set_option maxRecDepth 16384

noncomputable section

namespace Cert.Math

open scoped BigOperators

/-- A sum over the keys is the sum over the cached ones and the sum over the new ones. -/
theorem sum_keys (f : Fin 1088 → ℝ) :
    ∑ j, f j = (∑ j : Fin 1024, f ⟨j.val, by omega⟩) + ∑ j : Fin 64, f ⟨1024 + j.val, by omega⟩ :=
  Fin.sum_univ_add (a := 1024) (b := 64) f

/-- A sum over a padded row is the sum over its first half when the second half vanishes. -/
theorem sum_pad (f : Fin 128 → ℝ) (h : ∀ e : Fin 128, 64 ≤ e.val → f e = 0) : ∑ e, f e = ∑ e : Fin 64, f ⟨e.val, by omega⟩ := by
  refine (Fin.sum_univ_add (a := 64) (b := 64) f).trans ?_
  refine (congrArg₂ (· + ·) rfl (Finset.sum_eq_zero fun e _ => h _ ?_)).trans (add_zero _)
  show 64 ≤ 64 + e.val
  omega

/-- The base-2 logit of the scaled query is the natural logit. -/
theorem logit_base (qn : Fin 128 → ℝ) (qr : Fin 64 → ℝ) (wuk : Fin 128 → Fin 512 → ℝ) (ck : Fin 512 → ℝ) (kr : Fin 64 → ℝ) :
    ((∑ c, (∑ d, qn d * ((Real.sqrt 192)⁻¹ * (Real.log 2)⁻¹) * wuk d c) * ck c)
        + ∑ e, qr e * ((Real.sqrt 192)⁻¹ * (Real.log 2)⁻¹) * kr e) * Real.log 2
      = logit qn qr wuk ck kr := by
  have hl : Real.log 2 ≠ 0 := (Real.log_pos (by norm_num)).ne'
  have e1 : ∀ c, (∑ d, qn d * ((Real.sqrt 192)⁻¹ * (Real.log 2)⁻¹) * wuk d c)
      = (∑ d, wuk d c * qn d) * ((Real.sqrt 192)⁻¹ * (Real.log 2)⁻¹) := by
    intro c
    rw [Finset.sum_mul]
    exact Finset.sum_congr rfl fun d _ => by ring
  have e2 : (∑ c, (∑ d, wuk d c * qn d) * ((Real.sqrt 192)⁻¹ * (Real.log 2)⁻¹) * ck c)
      = (∑ c, (∑ d, wuk d c * qn d) * ck c) * ((Real.sqrt 192)⁻¹ * (Real.log 2)⁻¹) := by
    rw [Finset.sum_mul]
    exact Finset.sum_congr rfl fun d _ => by ring
  have e3 : (∑ e, qr e * ((Real.sqrt 192)⁻¹ * (Real.log 2)⁻¹) * kr e)
      = (∑ e, qr e * kr e) * ((Real.sqrt 192)⁻¹ * (Real.log 2)⁻¹) := by
    rw [Finset.sum_mul]
    exact Finset.sum_congr rfl fun d _ => by ring
  simp only [e1, e2, e3, logit, scale]
  field_simp

end Cert.Math

namespace Cert.KernelIdeal.Attn

open Cert.KernelIdeal Cert.KernelIdeal.Gen Idealize.ShloMosaic
open scoped BigOperators

section
variable (x0 x1 : FVec Ideal S64x2048 .bf16) (x2 : FVec Ideal S64x512 .bf16) (x3 : FVec Ideal S64x128 .bf16)
  (x4 : FVec Ideal S1x1x1024x512 .f32) (x5 : FVec Ideal S1x1x1024x64 .f32) (x6 : FVec Ideal S16x128x512 .bf16) (x7 : FVec Ideal S16x512x128 .bf16)

/-- The output tile over real blocks. -/
theorem point
    (b0 b1 : Fin 64 → Fin 2048 → ℝ) (b2 : Fin 64 → Fin 512 → ℝ) (b3 : Fin 64 → Fin 128 → ℝ) (b4 : Fin 1024 → Fin 512 → ℝ) (b5 : Fin 1024 → Fin 64 → ℝ)
    (b6 : Fin 16 → Fin 128 → Fin 512 → ℝ) (b7 : Fin 16 → Fin 512 → Fin 128 → ℝ)
    (h0 : ∀ r k, x0 (ix2 r k) = (b0 r k : EReal)) (h1 : ∀ r k, x1 (ix2 r k) = (b1 r k : EReal))
    (h2 : ∀ r k, x2 (ix2 r k) = (b2 r k : EReal)) (h3 : ∀ r k, x3 (ix2 r k) = (b3 r k : EReal))
    (h4 : ∀ j c, x4 (ix4 0 0 j c) = (b4 j c : EReal)) (h5 : ∀ j c, x5 (ix4 0 0 j c) = (b5 j c : EReal))
    (h6 : ∀ h d c, x6 (ix3 h d c) = (b6 h d c : EReal)) (h7 : ∀ h c v, x7 (ix3 h c v) = (b7 h c v : EReal))
    (hpad : ∀ r (e : Fin 128), 64 ≤ e.val → b3 r e = 0)
    (ck : Fin 1088 → Fin 512 → ℝ) (kr : Fin 1088 → Fin 64 → ℝ)
    (hck : ∀ (j : Fin 1024) c, ck ⟨j.val, by omega⟩ c = b4 j c) (hcn : ∀ (j : Fin 64) c, ck ⟨1024 + j.val, by omega⟩ c = b2 j c)
    (hkr : ∀ (j : Fin 1024) e, kr ⟨j.val, by omega⟩ e = b5 j e)
    (hkn : ∀ (j : Fin 64) (e : Fin 64), kr ⟨1024 + j.val, by omega⟩ e = b3 j ⟨e.val, by omega⟩)
    (i : Fin 64) (j : Fin 2048) :
    outAt (k0_pay46 (F := Ideal) x0 x1 x2 x3 x4 x5 x6 x7) x7 i j
      = ((Math.attend (fun d => b0 i ⟨j.val / 128 * 128 + d.val, by omega⟩) (fun e => b1 i ⟨j.val / 128 * 128 + e.val, by omega⟩)
          (b6 ⟨j.val / 128, by omega⟩) (fun c => b7 ⟨j.val / 128, by omega⟩ c ⟨j.val % 128, by omega⟩) ck kr : ℝ) : EReal) := by
  have hA : ∀ (r : Fin 1024) (c : Fin 512), k0_pay42 (F := Ideal) x0 x1 x2 x3 x4 x5 x6 x7 (ix2 r c)
      = ((∑ d : Fin 128, b0 ⟨r.val % 64, by omega⟩ ⟨r.val / 64 * 128 + d.val, by omega⟩ * ((Real.sqrt 192)⁻¹ * (Real.log 2)⁻¹) * b6 ⟨r.val / 64, by omega⟩ d c : ℝ) : EReal) := by
    intro r c
    rw [qlat_at]
    simp only [h0, h6, qScale, ← EReal.coe_mul, ← Math.coe_sum]
  have hQ : ∀ (r : Fin 1024) (d : Fin 128), k0_pay43 (F := Ideal) x0 x1 x2 x3 x4 x5 x6 x7 (ix2 r d)
      = ((b1 ⟨r.val % 64, by omega⟩ ⟨r.val / 64 * 128 + d.val, by omega⟩ * ((Real.sqrt 192)⁻¹ * (Real.log 2)⁻¹) : ℝ) : EReal) := by
    intro r d
    rw [qr_at]
    simp only [h1, qScale, ← EReal.coe_mul]
  have hs := fun r c => soft_at x0 x1 x2 x3 x4 x5 x6 x7 _ _ _ _ b4 b5 b2 b3 hA hQ h4 h5 h2 h3 r c
  have hr1 : (j.val / 128 * 64 + i.val) % 64 = i.val := by omega
  have hr2 : (j.val / 128 * 64 + i.val) / 64 = j.val / 128 := by omega
  unfold outAt k0_pay46
  simp only [hs, h7, ← EReal.coe_mul, ← Math.coe_sum, hr1, hr2, Fin.eta]
  refine congrArg _ ?_
  unfold Math.attend
  refine Finset.sum_congr rfl fun c _ => ?_
  simp only [Math.sum_keys, hck, hcn]
  have e1 : ∀ j' : Fin 1024, kr ⟨j'.val, by omega⟩ = b5 j' := fun j' => funext (hkr j')
  have e1' : ∀ j' : Fin 1024, ck ⟨j'.val, by omega⟩ = b4 j' := fun j' => funext (hck j')
  have e2 : ∀ j' : Fin 64, kr ⟨1024 + j'.val, by omega⟩ = fun e : Fin 64 => b3 j' ⟨e.val, by omega⟩ := fun j' => funext (hkn j')
  have e2' : ∀ j' : Fin 64, ck ⟨1024 + j'.val, by omega⟩ = b2 j' := fun j' => funext (hcn j')
  have e3 : ∀ (q : Fin 128 → ℝ) (j' : Fin 64), (∑ e, q e * b3 j' e) = ∑ e : Fin 64, q ⟨e.val, by omega⟩ * b3 j' ⟨e.val, by omega⟩ :=
    fun q j' => Math.sum_pad _ fun e he => by rw [hpad _ _ he, mul_zero]
  simp only [e1, e1', e2, e2', ← Math.logit_base, e3]

end

end Cert.KernelIdeal.Attn
-- ==== Proof.Final.lean ====
module

public import proofs.«01_k».proof.Proof.Point

/-! The latent attention kernel's result array over real arguments: at every row and column, the latent attention of
    that row's query and that column's head. -/

@[expose] public section

set_option maxRecDepth 16384

noncomputable section

namespace Cert.Math

/-- The sample rows' latent attention, of the whole arrays: row `i` is token `i % 64` of sequence `i / 64`, column `j`
    is lane `j % 128` of head `j / 128`; the keys are the 1024 cached positions and the sequence's 64 new ones. -/
def attn (a0 : Fin 10240 → Fin 2048 → ℝ) (a1 : Fin 10240 → Fin 16 → Fin 64 → ℝ) (a2 : Fin 10240 → Fin 512 → ℝ) (a3 : Fin 10240 → Fin 64 → ℝ)
    (a4 : Fin 2 → Fin 32 → Fin 1024 → Fin 512 → ℝ) (a5 : Fin 2 → Fin 32 → Fin 1024 → Fin 64 → ℝ) (a6 : Fin 512 → Fin 4096 → ℝ)
    (i j : Fin 2048) : ℝ :=
  attend (fun d => a0 ⟨8192 + i.val, by omega⟩ ⟨j.val / 128 * 128 + d.val, by omega⟩) (fun e => a1 ⟨8192 + i.val, by omega⟩ ⟨j.val / 128, by omega⟩ e)
    (fun d c => a6 c ⟨j.val / 128 * 256 + d.val, by omega⟩) (fun c => a6 c ⟨j.val / 128 * 256 + (128 + j.val % 128), by omega⟩)
    (fun k c => if h : k.val < 1024 then a4 0 ⟨i.val / 64, by omega⟩ ⟨k.val, h⟩ c else a2 ⟨8192 + (i.val / 64 * 64 + (k.val - 1024)), by omega⟩ c)
    (fun k e => if h : k.val < 1024 then a5 0 ⟨i.val / 64, by omega⟩ ⟨k.val, h⟩ e else a3 ⟨8192 + (i.val / 64 * 64 + (k.val - 1024)), by omega⟩ e)

end Cert.Math

namespace Cert.KernelIdeal.Attn

open Cert.KernelIdeal Cert.KernelIdeal.Gen Idealize.ShloMosaic Idealize.ShloMosaic.TcCoe
open scoped BigOperators

variable (m : (ℓ : Loc nD τ sig) → Buf (Elt Ideal) ℓ)

/-- Every window's block index at a grid point. -/
theorem idx : ∀ t : Fin cfg0.N, win0_0.index t = ![128 + t.val, 0] ∧ win0_1.index t = ![128 + t.val, 0] ∧ win0_2.index t = ![128 + t.val, 0]
    ∧ win0_3.index t = ![128 + t.val, 0] ∧ win0_4.index t = ![0, t.val, 0, 0] ∧ win0_5.index t = ![0, t.val, 0, 0]
    ∧ win0_6.index t = ![0, 0, 0] ∧ win0_7.index t = ![0, 0, 0] ∧ win0_8.index t = ![t.val, 0] ∧ t.val < 32 :=
  (by decide +kernel : ∀ t : Fin grid0.N, _)

/-- The query block: 64 sample rows. -/
theorem blk0 (c : Dev nD) (t : Fin cfg0.N) (r : Fin 64) (k : Fin 2048) :
    (show FVec Ideal S64x2048 .bf16 from iblk m c 0 t) (ix2 r k)
      = (show FVec Ideal S10240x2048 .f32 from m ((c : Thread nD τ).loc main_arg0)) (ix2 ⟨8192 + (t.val * 64 + r.val), by have := (idx t).2.2.2.2.2.2.2.2.2; omega⟩ k) := by
  blk_simp [iblk]
  entry_read
  pointwise
  blk_ext [idx t]

/-- The rotary query block: 64 sample rows, each head's 64 lanes and then zeros. -/
theorem blk1 (c : Dev nD) (t : Fin cfg0.N) (r : Fin 64) (k : Fin 2048) :
    (show FVec Ideal S64x2048 .bf16 from iblk m c 1 t) (ix2 r k)
      = if h : k.val % 128 < 64 then (show FVec Ideal S10240x16x64 .f32 from m ((c : Thread nD τ).loc main_arg1))
          (ix3 ⟨8192 + (t.val * 64 + r.val), by have := (idx t).2.2.2.2.2.2.2.2.2; omega⟩ ⟨k.val / 128, by omega⟩ ⟨k.val % 128, h⟩) else (0 : EReal) := by
  blk_simp [iblk]
  entry_read
  pointwise
  have e : (((View.whole main_v11).slice (win0_1.rect t)).emb (ix2 r k) 1).val = k.val := by blk_simp [idx t]
  by_cases hk : k.val % 128 < 64
  · rw [dif_pos (by rw [e]; exact hk), dif_pos hk]
    blk_ext [idx t]
  · rw [dif_neg (by rw [e]; exact hk), dif_neg hk]

/-- The block of new latents. -/
theorem blk2 (c : Dev nD) (t : Fin cfg0.N) (r : Fin 64) (k : Fin 512) :
    (show FVec Ideal S64x512 .bf16 from iblk m c 2 t) (ix2 r k)
      = (show FVec Ideal S10240x512 .f32 from m ((c : Thread nD τ).loc main_arg2)) (ix2 ⟨8192 + (t.val * 64 + r.val), by have := (idx t).2.2.2.2.2.2.2.2.2; omega⟩ k) := by
  blk_simp [iblk]
  entry_read
  pointwise
  blk_ext [idx t]

/-- The block of new rotary keys: 64 lanes and then zeros. -/
theorem blk3 (c : Dev nD) (t : Fin cfg0.N) (r : Fin 64) (e : Fin 128) :
    (show FVec Ideal S64x128 .bf16 from iblk m c 3 t) (ix2 r e)
      = if h : e.val < 64 then (show FVec Ideal S10240x64 .f32 from m ((c : Thread nD τ).loc main_arg3)) (ix2 ⟨8192 + (t.val * 64 + r.val), by have := (idx t).2.2.2.2.2.2.2.2.2; omega⟩ ⟨e.val, h⟩)
        else (0 : EReal) := by
  blk_simp [iblk]
  entry_read
  pointwise
  have he : (((View.whole main_v15).slice (win0_3.rect t)).emb (ix2 r e) 1).val = e.val := by blk_simp [idx t]
  by_cases hk : e.val < 64
  · rw [dif_pos (by rw [he]; exact hk), dif_pos hk]
    blk_ext [idx t]
  · rw [dif_neg (by rw [he]; exact hk), dif_neg hk]

/-- The sequence's cached latents. -/
theorem blk4 (c : Dev nD) (t : Fin cfg0.N) (j : Fin 1024) (k : Fin 512) :
    (show FVec Ideal S1x1x1024x512 .f32 from iblk m c 4 t) (ix4 0 0 j k)
      = (show FVec Ideal S2x32x1024x512 .f32 from m ((c : Thread nD τ).loc main_arg4)) (ix4 0 ⟨t.val, (idx t).2.2.2.2.2.2.2.2.2⟩ j k) := by
  blk_ext [iblk, V, idx t]

/-- The sequence's cached rotary keys. -/
theorem blk5 (c : Dev nD) (t : Fin cfg0.N) (j : Fin 1024) (k : Fin 64) :
    (show FVec Ideal S1x1x1024x64 .f32 from iblk m c 5 t) (ix4 0 0 j k)
      = (show FVec Ideal S2x32x1024x64 .f32 from m ((c : Thread nD τ).loc main_arg5)) (ix4 0 ⟨t.val, (idx t).2.2.2.2.2.2.2.2.2⟩ j k) := by
  blk_ext [iblk, V, idx t]

/-- The key weights, head by head. -/
theorem blk6 (c : Dev nD) (t : Fin cfg0.N) (h : Fin 16) (d : Fin 128) (k : Fin 512) :
    (show FVec Ideal S16x128x512 .bf16 from iblk m c 6 t) (ix3 h d k)
      = (show FVec Ideal S512x4096 .f32 from m ((c : Thread nD τ).loc main_arg6)) (ix2 k ⟨h.val * 256 + d.val, by omega⟩) := by
  blk_simp [iblk]
  entry_read
  pointwise
  blk_ext [idx t]

/-- The value weights, head by head. -/
theorem blk7 (c : Dev nD) (t : Fin cfg0.N) (h : Fin 16) (k : Fin 512) (v : Fin 128) :
    (show FVec Ideal S16x512x128 .bf16 from iblk m c 7 t) (ix3 h k v)
      = (show FVec Ideal S512x4096 .f32 from m ((c : Thread nD τ).loc main_arg6)) (ix2 k ⟨h.val * 256 + (128 + v.val), by omega⟩) := by
  blk_simp [iblk]
  entry_read
  pointwise
  blk_ext [idx t]

/-- The latent attention at a row and a column, from the row's sequence and token. -/
theorem tile_eq (a0 : Fin 10240 → Fin 2048 → ℝ) (a1 : Fin 10240 → Fin 16 → Fin 64 → ℝ) (a2 : Fin 10240 → Fin 512 → ℝ) (a3 : Fin 10240 → Fin 64 → ℝ)
    (a4 : Fin 2 → Fin 32 → Fin 1024 → Fin 512 → ℝ) (a5 : Fin 2 → Fin 32 → Fin 1024 → Fin 64 → ℝ) (a6 : Fin 512 → Fin 4096 → ℝ)
    (t : ℕ) (ht : t < 32) (r : Fin 64) (j : Fin 2048) (p q : Fin 2048) (hp : p.val = t * 64 + r.val) (hq : q.val = j.val) :
    Math.attend (fun d => a0 ⟨8192 + (t * 64 + r.val), by omega⟩ ⟨j.val / 128 * 128 + d.val, by omega⟩)
        (fun e => if h : (j.val / 128 * 128 + e.val) % 128 < 64 then
          a1 ⟨8192 + (t * 64 + r.val), by omega⟩ ⟨(j.val / 128 * 128 + e.val) / 128, by omega⟩ ⟨(j.val / 128 * 128 + e.val) % 128, h⟩ else 0)
        (fun d k => a6 k ⟨j.val / 128 * 256 + d.val, by omega⟩) (fun k => a6 k ⟨j.val / 128 * 256 + (128 + j.val % 128), by omega⟩)
        (fun k e => if h : k.val < 1024 then a4 0 ⟨t, ht⟩ ⟨k.val, h⟩ e else a2 ⟨8192 + (t * 64 + (k.val - 1024)), by omega⟩ e)
        (fun k e => if h : k.val < 1024 then a5 0 ⟨t, ht⟩ ⟨k.val, h⟩ e else a3 ⟨8192 + (t * 64 + (k.val - 1024)), by omega⟩ e)
      = Math.attn a0 a1 a2 a3 a4 a5 a6 p q := by
  obtain ⟨p, hpl⟩ := p
  obtain ⟨q, hql⟩ := q
  obtain rfl : p = t * 64 + r.val := hp
  obtain rfl : q = j.val := hq
  have e1 : (t * 64 + r.val) / 64 = t := by omega
  have e2 : ∀ e : Fin 64, (j.val / 128 * 128 + e.val) % 128 = e.val := fun e => by omega
  have e3 : ∀ e : Fin 64, (j.val / 128 * 128 + e.val) / 128 = j.val / 128 := fun e => by omega
  unfold Math.attn
  simp only [e1, e2, e3, Fin.is_lt, dite_true, Fin.eta]

/-- The result array over real arguments. -/
theorem final (c : Dev nD) (a0 : Fin 10240 → Fin 2048 → ℝ) (a1 : Fin 10240 → Fin 16 → Fin 64 → ℝ) (a2 : Fin 10240 → Fin 512 → ℝ) (a3 : Fin 10240 → Fin 64 → ℝ)
    (a4 : Fin 2 → Fin 32 → Fin 1024 → Fin 512 → ℝ) (a5 : Fin 2 → Fin 32 → Fin 1024 → Fin 64 → ℝ) (a6 : Fin 512 → Fin 4096 → ℝ)
    (h0 : ∀ i k, (show FVec Ideal S10240x2048 .f32 from m ((c : Thread nD τ).loc main_arg0)) (ix2 i k) = (a0 i k : EReal))
    (h1 : ∀ i h e, (show FVec Ideal S10240x16x64 .f32 from m ((c : Thread nD τ).loc main_arg1)) (ix3 i h e) = (a1 i h e : EReal))
    (h2 : ∀ i k, (show FVec Ideal S10240x512 .f32 from m ((c : Thread nD τ).loc main_arg2)) (ix2 i k) = (a2 i k : EReal))
    (h3 : ∀ i k, (show FVec Ideal S10240x64 .f32 from m ((c : Thread nD τ).loc main_arg3)) (ix2 i k) = (a3 i k : EReal))
    (h4 : ∀ l b j k, (show FVec Ideal S2x32x1024x512 .f32 from m ((c : Thread nD τ).loc main_arg4)) (ix4 l b j k) = (a4 l b j k : EReal))
    (h5 : ∀ l b j k, (show FVec Ideal S2x32x1024x64 .f32 from m ((c : Thread nD τ).loc main_arg5)) (ix4 l b j k) = (a5 l b j k : EReal))
    (h6 : ∀ i k, (show FVec Ideal S512x4096 .f32 from m ((c : Thread nD τ).loc main_arg6)) (ix2 i k) = (a6 i k : EReal)) :
    (dats m 0 c).arrAt 8 cfg0.N = fun i : S2048x2048.Idx => ((Math.attn a0 a1 a2 a3 a4 a5 a6 (i 0) (i 1) : ℝ) : EReal) := by
  refine (dats m 0 c).arrAt_eq_of_covers 8 _ (by decide +kernel) fun t _ y => ?_
  have ht := (idx t).2.2.2.2.2.2.2.2.2
  blk_simp
  rw [after0_8]
  refine (out_at _ _ _ _ _ _ _ _ y).trans ((point _ _ _ _ _ _ _ _
    (fun r k => a0 ⟨8192 + (t.val * 64 + r.val), by omega⟩ k)
    (fun r k => if h : k.val % 128 < 64 then a1 ⟨8192 + (t.val * 64 + r.val), by omega⟩ ⟨k.val / 128, by omega⟩ ⟨k.val % 128, h⟩ else 0)
    (fun r k => a2 ⟨8192 + (t.val * 64 + r.val), by omega⟩ k)
    (fun r e => if h : e.val < 64 then a3 ⟨8192 + (t.val * 64 + r.val), by omega⟩ ⟨e.val, h⟩ else 0)
    (fun j k => a4 0 ⟨t.val, ht⟩ j k) (fun j k => a5 0 ⟨t.val, ht⟩ j k)
    (fun h d k => a6 k ⟨h.val * 256 + d.val, by omega⟩) (fun h k v => a6 k ⟨h.val * 256 + (128 + v.val), by omega⟩)
    (fun r k => (blk0 m c t r k).trans (h0 _ _)) (fun r k => (blk1 m c t r k).trans ?_) (fun r k => (blk2 m c t r k).trans (h2 _ _))
    (fun r k => (blk3 m c t r k).trans ?_) (fun j k => (blk4 m c t j k).trans (h4 _ _ _ _)) (fun j k => (blk5 m c t j k).trans (h5 _ _ _ _))
    (fun h d k => (blk6 m c t h d k).trans (h6 _ _)) (fun h k v => (blk7 m c t h k v).trans (h6 _ _))
    (fun r e he => dif_neg (by omega))
    (fun k e => if h : k.val < 1024 then a4 0 ⟨t.val, ht⟩ ⟨k.val, h⟩ e else a2 ⟨8192 + (t.val * 64 + (k.val - 1024)), by omega⟩ e)
    (fun k e => if h : k.val < 1024 then a5 0 ⟨t.val, ht⟩ ⟨k.val, h⟩ e else a3 ⟨8192 + (t.val * 64 + (k.val - 1024)), by omega⟩ e)
    ?_ ?_ ?_ ?_ (y 0 : Fin 64) (y 1 : Fin 2048)).trans ?_)
  · by_cases h : k.val % 128 < 64
    · rw [dif_pos h, dif_pos h]
      exact h1 _ _ _
    · rw [dif_neg h, dif_neg h]
      rfl
  · by_cases h : k.val < 64
    · rw [dif_pos h, dif_pos h]
      exact h3 _ _
    · rw [dif_neg h, dif_neg h]
      rfl
  · exact fun k e => dif_pos k.isLt
  · intro k e
    simp only [Nat.not_lt.2 (Nat.le_add_right 1024 k.val), dite_false, Nat.add_sub_cancel_left]
  · exact fun k e => dif_pos k.isLt
  · intro k e
    simp only [Nat.not_lt.2 (Nat.le_add_right 1024 k.val), dite_false, Nat.add_sub_cancel_left, e.isLt, dite_true]
  · exact congrArg _ (tile_eq a0 a1 a2 a3 a4 a5 a6 t.val ht (y 0) (y 1) _ _ (by blk_simp [idx t]) (by blk_simp [idx t]))

end Cert.KernelIdeal.Attn
-- ==== Proof.Ref.lean ====
module

public import proofs.«01_k».proof.Proof.Final
public import proofs.«01_k».proof.Proof.Gen.ReferenceIdeal.Run
public import proofs.«01_k».proof.Proof.Gen.ReferenceIdeal.Read

/-! The reference's result over real arguments: the same latent attention. -/

@[expose] public section

set_option maxRecDepth 16384

noncomputable section

namespace Cert.ReferenceIdeal.Attn

open Cert.ReferenceIdeal Cert.ReferenceIdeal.Facts Cert.ReferenceIdeal.Read Cert.ReferenceIdeal.Gen Idealize.ShloMosaic
open scoped BigOperators

variable (x0 : FVec Ideal S10240x2048 .f32) (x1 : FVec Ideal S10240x16x64 .f32) (x2 : FVec Ideal S10240x512 .f32) (x3 : FVec Ideal S10240x64 .f32)
  (x4 : FVec Ideal S2x32x1024x512 .f32) (x5 : FVec Ideal S2x32x1024x64 .f32) (x6 : FVec Ideal S512x4096 .f32)

/-- The latents the reference attends to: the cached ones, then the new ones. -/
theorem keys_at (b : Fin 32) (k : Fin 1088) (c : Fin 512) :
    (val_main_v16 (F := Ideal) x2 x4 : FVec Ideal S32x1088x512 .f32) (ix3 b k c)
      = if h : k.val < 1024 then x4 (ix4 0 b ⟨k.val, h⟩ c) else x2 (ix2 ⟨8192 + (b.val * 64 + (k.val - 1024)), by omega⟩ c) := by
  pointwise [val_main_v16, val_main_v15, val_main_v14, val_main_v5, val_main_v4]

/-- The rotary keys: the cached ones, then the new ones. -/
theorem rkeys_at (b : Fin 32) (k : Fin 1088) (c : Fin 64) :
    (val_main_v19 (F := Ideal) x3 x5 : FVec Ideal S32x1088x64 .f32) (ix3 b k c)
      = if h : k.val < 1024 then x5 (ix4 0 b ⟨k.val, h⟩ c) else x3 (ix2 ⟨8192 + (b.val * 64 + (k.val - 1024)), by omega⟩ c) := by
  pointwise [val_main_v19, val_main_v18, val_main_v17, val_main_v7, val_main_v6]

/-- The latent queries. -/
theorem qlat_at (b : Fin 32) (q : Fin 64) (h : Fin 16) (c : Fin 512) :
    (val_main_v22 (F := Ideal) x0 x6 : FVec Ideal S32x64x16x512 .f32) (ix4 b q h c)
      = ∑ d : Fin 128, x6 (ix2 c ⟨h.val * 256 + d.val, by omega⟩) * x0 (ix2 ⟨8192 + (b.val * 64 + q.val), by omega⟩ ⟨h.val * 128 + d.val, by omega⟩) := by
  pointwise [val_main_v22, val_main_v21, val_main_v20, val_main_v13, val_main_v1, val_main_v0]

/-- A key's chunk. -/
theorem v31_at (k : Fin 1088) : (val_main_v31 (F := Ideal) : IVec S1x1088 32) (ix2 0 k) = BitVec.ofNat 32 (k.val / 64) := by
  pointwise [val_main_v31, val_main_call0_v0, val_main_call0_v1, val_main_call0_v2, val_main_call0_v3, val_main_call0_v4, val_main_call0_v5, val_main_call0_v6, val_main_call0_v7, val_main_call0_v8, val_main_call0_v9, val_main_call0_v10, val_main_call0_v11, val_main_call0_v12, val_main_call0_v13, val_main_call0_c, val_main_call0_c_0, val_main_v30, val_main_v25, val_main_c_1]
  revert k
  decide +kernel

/-- A query's chunk: every one of them is chunk 16. -/
theorem v33_at (k : Fin 64) : (val_main_v33 (F := Ideal) : IVec S64x1 32) (ix2 k 0) = 16#32 := by
  pointwise [val_main_v33, val_main_call1_v0, val_main_call1_v1, val_main_call1_v2, val_main_call1_v3, val_main_call1_v4, val_main_call1_v5, val_main_call1_v6, val_main_call1_v7, val_main_call1_v8, val_main_call1_v9, val_main_call1_v10, val_main_call1_v11, val_main_call1_v12, val_main_call1_v13, val_main_call1_c, val_main_call1_c_0, val_main_v32, val_main_v10, val_main_v9, val_main_v8, val_main_c, val_main_c_2]
  revert k
  decide +kernel

/-- Every key is visible. -/
theorem mask_at (q : Fin 64) (k : Fin 1088) : (val_main_v36 (F := Ideal) : IVec S64x1088 1) (ix2 q k) = 1#1 := by
  pointwise [val_main_v36, val_main_v35, val_main_v34]
  rw [v31_at, v33_at]
  revert k
  decide +kernel

/-- The masked logits are the logits. -/
theorem masked_at (b : Fin 32) (h : Fin 16) (q : Fin 64) (k : Fin 1088) :
    (val_main_v38 (F := Ideal) x0 x1 x2 x3 x4 x5 x6 : FVec Ideal S32x16x64x1088 .f32) (ix4 b h q k)
      = (val_main_v29 (F := Ideal) x0 x1 x2 x3 x4 x5 x6 : FVec Ideal S32x16x64x1088 .f32) (ix4 b h q k) := by
  pointwise [val_main_v38, val_main_call2_v1, val_main_v37]
  rw [mask_at]
  rfl

/-- The output, from the latent output of its head. -/
theorem tail_at (i j : Fin 2048) :
    (val_main_v56 (F := Ideal) x0 x1 x2 x3 x4 x5 x6 : FVec Ideal S2048x2048 .bf16) (ix2 i j)
      = ∑ c : Fin 512, x6 (ix2 c ⟨j.val / 128 * 256 + (128 + j.val % 128), by omega⟩)
          * (val_main_v50 (F := Ideal) x0 x1 x2 x3 x4 x5 x6 : FVec Ideal S32x512x16x64 .f32) (ix4 ⟨i.val / 64, by omega⟩ c ⟨j.val / 128, by omega⟩ ⟨i.val % 64, by omega⟩) := by
  pointwise [val_main_v56, val_main_v55, val_main_v54, val_main_v53, val_main_v52, val_main_v13, val_main_v51]

/-- A maximum over the keys. -/
theorem fold_at (v : FVec Ideal S32x16x64x1088 .f32) (c : FVec Ideal S_ .f32) (b : Fin 32) (h : Fin 16) (q : Fin 64) :
    Host.reduce FloatOps.maximumf v c reducesTo_S32x16x64x1088_S32x16x64_d3 h_S_ (ix3 b h q)
      = (Finset.univ : Finset (Fin 1088)).fold max (c (Shape.Idx.first h_S_)) fun k => v (ix4 b h q k) := by
  simp only [pointwise]

/-- The larger of two arrays at an index. -/
theorem max_apply (w u : FVec Ideal S32x16x64 .f32) (i : S32x16x64.Idx) : maximumf w u i = max (w i) (u i) := rfl

/-- A maximum over the keys, from −∞. -/
theorem fold_max (v : FVec Ideal S32x16x64x1088 .f32) (c : FVec Ideal S_ .f32) (w : FVec Ideal S32x16x64 .f32) (b : Fin 32) (h : Fin 16) (q : Fin 64)
    (hc : c (Shape.Idx.first h_S_) = ⊥) (hw : w (ix3 b h q) = ⊥) :
    maximumf w (Host.reduce FloatOps.maximumf v c reducesTo_S32x16x64x1088_S32x16x64_d3 h_S_) (ix3 b h q)
      = max ⊥ ((Finset.univ : Finset (Fin 1088)).fold max ⊥ fun k => v (ix4 b h q k)) := by
  have e := fold_at v c b h q
  rw [hc] at e
  rw [max_apply, hw, e]

/-- The row maximum, read off the logits. -/
theorem max_at (b : Fin 32) (h : Fin 16) (q : Fin 64) :
    (val_main_v41 (F := Ideal) x0 x1 x2 x3 x4 x5 x6 : FVec Ideal S32x16x64 .f32) (ix3 b h q)
      = max ⊥ ((Finset.univ : Finset (Fin 1088)).fold max ⊥ fun k => (val_main_v38 (F := Ideal) x0 x1 x2 x3 x4 x5 x6 : FVec Ideal S32x16x64x1088 .f32) (ix4 b h q k)) := by
  have e2 : (val_main_v40 (F := Ideal) : FVec Ideal S32x16x64 .f32) (ix3 b h q) = ⊥ := by
    pointwise [val_main_v40, val_main_cst_5]
    exact Math.ofBits_neg_inf
  have e1 : (val_main_cst_4 (F := Ideal) : FVec Ideal S_ .f32) (Shape.Idx.first h_S_) = ⊥ := by
    pointwise [val_main_cst_4]
    exact Math.ofBits_neg_inf
  unfold val_main_v41 val_main_v39
  exact fold_max _ _ _ b h q e1 e2

/-- The exponentials. -/
theorem exp_at (b : Fin 32) (h : Fin 16) (q : Fin 64) (k : Fin 1088) :
    (val_main_v45 (F := Ideal) x0 x1 x2 x3 x4 x5 x6 : FVec Ideal S32x16x64x1088 .f32) (ix4 b h q k)
      = Ideal.exp ((val_main_v38 (F := Ideal) x0 x1 x2 x3 x4 x5 x6 : FVec Ideal S32x16x64x1088 .f32) (ix4 b h q k)
          - (val_main_v41 (F := Ideal) x0 x1 x2 x3 x4 x5 x6 : FVec Ideal S32x16x64 .f32) (ix3 b h q)) := by
  pointwise [val_main_v45, val_main_v44, val_main_v43, val_main_v42]

/-- The latent output. -/
theorem mean_at (b : Fin 32) (h : Fin 16) (q : Fin 64) (c : Fin 512) :
    (val_main_v50 (F := Ideal) x0 x1 x2 x3 x4 x5 x6 : FVec Ideal S32x512x16x64 .f32) (ix4 b c h q)
      = ∑ k : Fin 1088, (val_main_v16 (F := Ideal) x2 x4 : FVec Ideal S32x1088x512 .f32) (ix3 b k c)
          * Ideal.div ((val_main_v45 (F := Ideal) x0 x1 x2 x3 x4 x5 x6 : FVec Ideal S32x16x64x1088 .f32) (ix4 b h q k))
              (∑ y : Fin 1088, (val_main_v45 (F := Ideal) x0 x1 x2 x3 x4 x5 x6 : FVec Ideal S32x16x64x1088 .f32) (ix4 b h q y)) := by
  pointwise [val_main_v50, val_main_v49, val_main_v48, val_main_v47, val_main_v46, val_main_cst_6]

/-- The reference's logits: the latent part and the rotary part over the keys, scaled. -/
theorem logits_at (b : Fin 32) (h : Fin 16) (q : Fin 64) (k : Fin 1088) :
    (val_main_v29 (F := Ideal) x0 x1 x2 x3 x4 x5 x6 : FVec Ideal S32x16x64x1088 .f32) (ix4 b h q k)
      = ((∑ c : Fin 512, (val_main_v16 (F := Ideal) x2 x4 : FVec Ideal S32x1088x512 .f32) (ix3 b k c) * (val_main_v22 (F := Ideal) x0 x6 : FVec Ideal S32x64x16x512 .f32) (ix4 b q h c))
          + ∑ e : Fin 64, (val_main_v19 (F := Ideal) x3 x5 : FVec Ideal S32x1088x64 .f32) (ix3 b k e) * x1 (ix3 ⟨8192 + (b.val * 64 + q.val), by omega⟩ h e))
        * Ideal.div 1 (Ideal.sqrt (Ideal.ofBits .f32 0x43400000#32)) := by
  pointwise [val_main_v29, val_main_v28, val_main_v27, val_main_v26, val_main_v24, val_main_v23, val_main_v12, val_main_v11, val_main_cst, val_main_cst_0, val_main_v3, val_main_v2]

/-- The reference's scale is 1/√192. -/
theorem scale_eq : Ideal.div 1 (Ideal.sqrt (Ideal.ofBits .f32 0x43400000#32)) = ((Math.scale : ℝ) : EReal) := by
  have e : Ideal.ofBits .f32 0x43400000#32 = ((192 : ℝ) : EReal) := by
    simp [Ideal.ofBits, Ideal.ieee]
    rw [← EReal.coe_mul]
    norm_num
  rw [e]
  have h : (0:ℝ) < Real.sqrt 192 := Real.sqrt_pos.2 (by norm_num)
  rw [Ideal.sqrt_coe, if_neg (by norm_num), ← EReal.coe_one, Math.div_real _ h.ne', one_div]

section
variable (a0 : Fin 10240 → Fin 2048 → ℝ) (a1 : Fin 10240 → Fin 16 → Fin 64 → ℝ) (a2 : Fin 10240 → Fin 512 → ℝ) (a3 : Fin 10240 → Fin 64 → ℝ)
  (a4 : Fin 2 → Fin 32 → Fin 1024 → Fin 512 → ℝ) (a5 : Fin 2 → Fin 32 → Fin 1024 → Fin 64 → ℝ) (a6 : Fin 512 → Fin 4096 → ℝ)

/-- The reference's result over real arguments. -/
theorem final
    (h0 : ∀ i k, x0 (ix2 i k) = (a0 i k : EReal)) (h1 : ∀ i h e, x1 (ix3 i h e) = (a1 i h e : EReal))
    (h2 : ∀ i k, x2 (ix2 i k) = (a2 i k : EReal)) (h3 : ∀ i k, x3 (ix2 i k) = (a3 i k : EReal))
    (h4 : ∀ l b j k, x4 (ix4 l b j k) = (a4 l b j k : EReal)) (h5 : ∀ l b j k, x5 (ix4 l b j k) = (a5 l b j k : EReal))
    (h6 : ∀ i k, x6 (ix2 i k) = (a6 i k : EReal)) (i j : Fin 2048) :
    (val_main_v56 (F := Ideal) x0 x1 x2 x3 x4 x5 x6 : FVec Ideal S2048x2048 .bf16) (ix2 i j) = ((Math.attn a0 a1 a2 a3 a4 a5 a6 i j : ℝ) : EReal) := by
  have hk : ∀ (b : Fin 32) (k : Fin 1088) (c : Fin 512), (val_main_v16 (F := Ideal) x2 x4 : FVec Ideal S32x1088x512 .f32) (ix3 b k c)
      = ((if h : k.val < 1024 then a4 0 b ⟨k.val, h⟩ c else a2 ⟨8192 + (b.val * 64 + (k.val - 1024)), by omega⟩ c : ℝ) : EReal) := by
    intro b k c
    rw [keys_at]
    by_cases h : k.val < 1024
    · rw [dif_pos h, dif_pos h, h4]
    · rw [dif_neg h, dif_neg h, h2]
  have hr : ∀ (b : Fin 32) (k : Fin 1088) (e : Fin 64), (val_main_v19 (F := Ideal) x3 x5 : FVec Ideal S32x1088x64 .f32) (ix3 b k e)
      = ((if h : k.val < 1024 then a5 0 b ⟨k.val, h⟩ e else a3 ⟨8192 + (b.val * 64 + (k.val - 1024)), by omega⟩ e : ℝ) : EReal) := by
    intro b k e
    rw [rkeys_at]
    by_cases h : k.val < 1024
    · rw [dif_pos h, dif_pos h, h5]
    · rw [dif_neg h, dif_neg h, h3]
  have hl : ∀ (b : Fin 32) (h : Fin 16) (q : Fin 64) (k : Fin 1088),
      (val_main_v38 (F := Ideal) x0 x1 x2 x3 x4 x5 x6 : FVec Ideal S32x16x64x1088 .f32) (ix4 b h q k)
        = ((Math.logit (fun d => a0 ⟨8192 + (b.val * 64 + q.val), by omega⟩ ⟨h.val * 128 + d.val, by omega⟩) (fun e => a1 ⟨8192 + (b.val * 64 + q.val), by omega⟩ h e)
            (fun d c => a6 c ⟨h.val * 256 + d.val, by omega⟩)
            (fun c => if h : k.val < 1024 then a4 0 b ⟨k.val, h⟩ c else a2 ⟨8192 + (b.val * 64 + (k.val - 1024)), by omega⟩ c)
            (fun e => if h : k.val < 1024 then a5 0 b ⟨k.val, h⟩ e else a3 ⟨8192 + (b.val * 64 + (k.val - 1024)), by omega⟩ e) : ℝ) : EReal) := by
    intro b h q k
    rw [masked_at, logits_at, scale_eq]
    simp only [hk, hr, h1, qlat_at, h6, h0, ← EReal.coe_mul, ← Math.coe_sum, ← EReal.coe_add]
    refine congrArg _ ?_
    unfold Math.logit
    refine congrArg (· * Math.scale) (congrArg₂ (· + ·) ?_ ?_)
    · exact Finset.sum_congr rfl fun c _ => mul_comm _ _
    · exact Finset.sum_congr rfl fun e _ => mul_comm _ _
  rw [tail_at]
  simp only [mean_at, exp_at, max_at, hl, hk, h6, Math.soft_one (n := 1088) (by norm_num), ← EReal.coe_mul, ← Math.coe_sum]
  refine congrArg _ ?_
  have e1 : i.val / 64 * 64 + i.val % 64 = i.val := by omega
  simp only [e1, Math.attn, Math.attend]
  exact Finset.sum_congr rfl fun c _ => mul_comm _ _

end

end Cert.ReferenceIdeal.Attn
-- ==== Proof.Pre.lean ====
module

public import proofs.«01_k».proof.Defs
public import proofs.«01_k».proof.Proof.Gen.Pre_finite
public import Idealize.ShloMosaic.Lib.Pointwise
public import Idealize.ShloMosaic.Lib.ReduceAll

/-! What the precondition says: every element of every argument is a real number. -/

@[expose] public section

set_option maxRecDepth 16384

noncomputable section

namespace Cert.Pre

open Cert.Pre_finite Cert.Pre_finite.Gen Idealize.ShloMosaic

/-- The bound of the comparison is +∞. -/
theorem ofBits_inf : Ideal.ofBits .f32 0x7F800000#32 = (⊤ : EReal) := by simp [Ideal.ofBits, Ideal.ieee]

/-- A value smaller than +∞ in size is real. -/
theorem real_of_abs (x : EReal) (h : max x (-x) < ⊤) : ∃ r : ℝ, x = (r : EReal) := by
  induction x with
  | bot => simp at h
  | coe r => exact ⟨r, rfl⟩
  | top => simp at h

instance : Subsingleton S_.Idx := ⟨fun a b => funext fun k => k.elim0⟩

/-- An array whose elements are all smaller than +∞ in size is real. -/
theorem real_of_all {s : Shape} {axes : List (Fin s.rank)} (x : FVec Ideal s .f32) (hb : S_.BroadcastsInDim s (![] : Fin 0 → Fin s.rank)) (hr : s.ReducesTo axes S_) (hu : 0 < S_.numel) (j : S_.Idx)
    (h : Host.reduce IntOp.andi (cmpf .olt (Host.absf x) (broadcastInDim s ![] hb (constant (F := Ideal) S_ .f32 0x7F800000#32))) (constantI S_ 1 1#1) hr hu j = 1#1) (i : s.Idx) :
    ∃ r : ℝ, x i = (r : EReal) := by
  have h := Host.reduce_andi_all _ _ hr hu j h i
  pointwise at h
  rw [ofBits_inf] at h
  refine real_of_abs _ ?_
  by_contra hn
  have h' : BitVec.ofBool (decide (max (x i) (-(x i)) < (⊤ : EReal))) = 1#1 := h
  rw [decide_eq_false hn] at h'
  exact absurd h' (by decide)

attribute [local instance] Cert.Pre_finite.Gen.facts

/-- Under the precondition every element of every argument is real. -/
theorem reals {x0 : FVec Ideal S10240x2048 .f32} {x1 : FVec Ideal S10240x16x64 .f32} {x2 : FVec Ideal S10240x512 .f32} {x3 : FVec Ideal S10240x64 .f32}
    {x4 : FVec Ideal S2x32x1024x512 .f32} {x5 : FVec Ideal S2x32x1024x64 .f32} {x6 : FVec Ideal S512x4096 .f32}
    (h : Cert.Pre_finite.fn (F := Ideal) x0 x1 x2 x3 x4 x5 x6 = fun _ => 1#1) :
    (∀ i, ∃ r : ℝ, x0 i = (r : EReal)) ∧ (∀ i, ∃ r : ℝ, x1 i = (r : EReal)) ∧ (∀ i, ∃ r : ℝ, x2 i = (r : EReal)) ∧ (∀ i, ∃ r : ℝ, x3 i = (r : EReal))
      ∧ (∀ i, ∃ r : ℝ, x4 i = (r : EReal)) ∧ (∀ i, ∃ r : ℝ, x5 i = (r : EReal)) ∧ (∀ i, ∃ r : ℝ, x6 i = (r : EReal)) := by
  have j : S_.Idx := fun k => k.elim0
  have h := congrFun h j
  dsimp only [Cert.Pre_finite.fn, Cert.Pre_finite.fn_part1] at h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨real_of_all x0 _ _ _ j h0, real_of_all x1 _ _ _ j h1, real_of_all x2 _ _ _ j h2, real_of_all x3 _ _ _ j h3,
    real_of_all x4 _ _ _ j h4, real_of_all x5 _ _ _ j h5, real_of_all x6 _ _ _ j h6⟩

end Cert.Pre

end
-- ==== Proof.Same.lean ====
module

public import proofs.«01_k».proof.Proof.Final
public import proofs.«01_k».proof.Proof.Ref
public import proofs.«01_k».proof.Proof.Pre

/-! The two programs compute one array: under the precondition the latent attention kernel's result is the reference's. -/

@[expose] public section

set_option maxRecDepth 16384

noncomputable section

namespace Cert.Attn

open Idealize.ShloMosaic

/-- From memories that agree on the arguments, the kernel's result array is the reference's result. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) = fun _ => 1#1)
    (e : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Value.res_main_v56 m' c = (Cert.KernelIdeal.Gen.dats m 0 c).arrAt 8 Cert.KernelIdeal.cfg0.N := by
  obtain ⟨h0, h1, h2, h3, h4, h5, h6⟩ := Cert.Pre.reals h
  choose a0 h0 using h0
  choose a1 h1 using h1
  choose a2 h2 using h2
  choose a3 h3 using h3
  choose a4 h4 using h4
  choose a5 h5 using h5
  choose a6 h6 using h6
  obtain ⟨e0, e1, e2, e3, e4, e5, e6⟩ := e
  rw [Cert.KernelIdeal.Attn.final m c (fun i k => a0 (ix2 i k)) (fun i h e => a1 (ix3 i h e)) (fun i k => a2 (ix2 i k)) (fun i k => a3 (ix2 i k))
    (fun l b j k => a4 (ix4 l b j k)) (fun l b j k => a5 (ix4 l b j k)) (fun i k => a6 (ix2 i k))
    (fun i k => h0 (ix2 i k)) (fun i h e => h1 (ix3 i h e)) (fun i k => h2 (ix2 i k)) (fun i k => h3 (ix2 i k))
    (fun l b j k => h4 (ix4 l b j k)) (fun l b j k => h5 (ix4 l b j k)) (fun i k => h6 (ix2 i k)),
    Cert.ReferenceIdeal.Read.val_main_v56_eq, e0, e1, e2, e3, e4, e5, e6]
  funext i
  have hi : i = ix2 (i 0) (i 1) := by funext k; fin_cases k <;> rfl
  conv_lhs => rw [hi]
  exact Cert.ReferenceIdeal.Attn.final _ _ _ _ _ _ _ _ _ _ _ _ _ _
    (fun i k => h0 (ix2 i k)) (fun i h e => h1 (ix3 i h e)) (fun i k => h2 (ix2 i k)) (fun i k => h3 (ix2 i k))
    (fun l b j k => h4 (ix4 l b j k)) (fun l b j k => h5 (ix4 l b j k)) (fun i k => h6 (ix2 i k)) (i 0) (i 1)

end Cert.Attn

end
-- ==== Proof.Rows.lean ====
module

public import Idealize.ShloMosaic.Lib.Pointwise

/-! The row arithmetic of the layer over the extended reals: the root mean square norm, the gated unit, and the dense
    feed-forward block. -/

@[expose] public section

set_option maxRecDepth 16384

noncomputable section

namespace Cert.Rows

open Idealize.ShloMosaic
open scoped BigOperators

/-- Element `k` of a row of 2048 after the root mean square norm with gain `g`. -/
def rms (x g : Fin 2048 → EReal) (k : Fin 2048) : EReal :=
  x k * Ideal.rsqrt (Ideal.div (∑ l, x l * x l) (Ideal.ofBits FTy.f32 1157627904#32) + Ideal.ofBits FTy.f32 897988541#32) * g k

/-- The gated unit of a row: the product with `u`, weighted by the logistic of the product with `w`. -/
def gated (h w u : Fin 2048 → EReal) : EReal :=
  (∑ k, h k * w k) * Ideal.logistic (∑ k, h k * w k) * ∑ k, h k * u k

/-- One element of the feed-forward block: the row itself plus its 5632 gated units' product with a column. -/
def ffn (x g : Fin 2048 → EReal) (w : Fin 2048 → Fin 11264 → EReal) (d : Fin 5632 → EReal) (v : EReal) : EReal :=
  v + ∑ l : Fin 5632, gated (rms x g) (fun k => w k ⟨l.val, by omega⟩) (fun k => w k ⟨5632 + l.val, by omega⟩) * d l

/-- The prompt's 2 × 4096 rows followed by the samples' 32 × 64. -/
def stack (x : Fin 2 → Fin 4096 → Fin 2048 → EReal) (y : Fin 32 → Fin 64 → Fin 2048 → EReal) (p : Fin 10240) (k : Fin 2048) : EReal :=
  if h : p.val < 8192 then x ⟨p.val / 4096, by omega⟩ ⟨p.val % 4096, by omega⟩ k
  else y ⟨(p.val - 8192) / 64, by have := p.isLt; omega⟩ ⟨(p.val - 8192) % 64, by omega⟩ k

end Cert.Rows

end
-- ==== Proof.Ffn.lean ====
module

public import proofs.«01_k».proof.Proof.Gen.Kernel2Ideal.Value
public import proofs.«01_k».proof.Proof.Rows
public import Idealize.ShloMosaic.Lib.Pointwise
public import Idealize.ShloMosaic.Lib.Pipeline.ValueKit

/-! The dense feed-forward kernel's array. -/

@[expose] public section

set_option maxRecDepth 16384

noncomputable section

namespace Cert.Kernel2Ideal.Ffn

open Cert.Kernel2Ideal Cert.Kernel2Ideal.Gen Idealize.ShloMosaic Idealize.ShloMosaic.TcCoe
open scoped BigOperators

/-- The first payload: the normed block. -/
theorem pay1_at (x : FVec Ideal S1024x2048 .f32) (g : FVec Ideal S1x2048 .f32) (r : Fin 1024) (k : Fin 2048) :
    (k0_pay1 (F := Ideal) x g : FVec Ideal S1024x2048 .bf16) (ix2 r k) = Rows.rms (fun k => x (ix2 r k)) (fun k => g (ix2 0 k)) k := by
  pointwise [k0_pay1]
  rfl

/-- The second payload: the running block plus 256 gated units' products. -/
theorem pay2_at (acc : FVec Ideal S1024x2048 .f32) (xb : FVec Ideal S1024x2048 .bf16) (wg wu : FVec Ideal S1x2048x256 .f32) (wd : FVec Ideal S1x256x2048 .f32) (r : Fin 1024) (j : Fin 2048) :
    (k0_pay2 (F := Ideal) acc xb wg wu wd : FVec Ideal S1024x2048 .f32) (ix2 r j)
      = acc (ix2 r j) + ∑ l : Fin 256, Rows.gated (fun k => xb (ix2 r k)) (fun k => wg (ix3 0 k l)) (fun k => wu (ix3 0 k l)) * wd (ix3 0 l j) := by
  pointwise [k0_pay2]
  rfl

variable (m : (ℓ : Loc nD τ sig) → Buf (Elt Ideal) ℓ)

/-- Which block each window holds at a grid point. -/
theorem idx : ∀ t : Fin cfg0.N, win0_0.index t = ![t.val / 22, 0] ∧ win0_1.index t = ![0, 0] ∧ win0_2.index t = ![0, 0, t.val % 22]
    ∧ win0_3.index t = ![0, 0, t.val % 22 + 22] ∧ win0_4.index t = ![0, t.val % 22, 0] ∧ win0_5.index t = ![t.val / 22, 0] ∧ t.val < 220 :=
  (by decide +kernel : ∀ t : Fin grid0.N, _)

/-- The rows of the block at a point. -/
theorem blk0 (c : Dev nD) (t : Fin cfg0.N) (r : Fin 1024) (k : Fin 2048) : (show FVec Ideal S1024x2048 .f32 from iblk m c 0 t) (ix2 r k)
    = (show FVec Ideal S10240x2048 .f32 from m ((c : Thread nD τ).loc main_arg0)) (ix2 ⟨t.val / 22 * 1024 + r.val, by have := (idx t).2.2.2.2.2.2; omega⟩ k) := by
  have := (idx t).2.2.2.2.2.2
  blk_simp [iblk]; entry_read; blk_ext [idx t]

/-- The gain of the norm. -/
theorem blk1 (c : Dev nD) (t : Fin cfg0.N) (k : Fin 2048) : (show FVec Ideal S1x2048 .f32 from iblk m c 1 t) (ix2 0 k)
    = (show FVec Ideal S2048 .f32 from m ((c : Thread nD τ).loc main_arg1)) (ix1 k) := by
  blk_simp [iblk]; entry_read; pointwise; blk_ext [idx t]

/-- The gate weights' columns at a point. -/
theorem blk2 (c : Dev nD) (t : Fin cfg0.N) (k : Fin 2048) (l : Fin 256) : (show FVec Ideal S1x2048x256 .f32 from iblk m c 2 t) (ix3 0 k l)
    = (show FVec Ideal S2x2048x11264 .f32 from m ((c : Thread nD τ).loc main_arg2)) (ix3 0 k ⟨t.val % 22 * 256 + l.val, by omega⟩) := by
  blk_simp [iblk]; entry_read; blk_ext [idx t]

/-- The up weights' columns at a point. -/
theorem blk3 (c : Dev nD) (t : Fin cfg0.N) (k : Fin 2048) (l : Fin 256) : (show FVec Ideal S1x2048x256 .f32 from iblk m c 3 t) (ix3 0 k l)
    = (show FVec Ideal S2x2048x11264 .f32 from m ((c : Thread nD τ).loc main_arg2)) (ix3 0 k ⟨5632 + (t.val % 22 * 256 + l.val), by omega⟩) := by
  blk_simp [iblk]; entry_read; blk_ext [idx t]

/-- The down weights' rows at a point. -/
theorem blk4 (c : Dev nD) (t : Fin cfg0.N) (l : Fin 256) (j : Fin 2048) : (show FVec Ideal S1x256x2048 .f32 from iblk m c 4 t) (ix3 0 l j)
    = (show FVec Ideal S2x5632x2048 .f32 from m ((c : Thread nD τ).loc main_arg3)) (ix3 0 ⟨t.val % 22 * 256 + l.val, by omega⟩ j) := by
  blk_simp [iblk]; entry_read; blk_ext [idx t]

/-- The scratch holds the normed rows of the point's block at every point of a run. -/
theorem scr (c : Dev nD) : ∀ (n : ℕ) (h : n < cfg0.N) (r : Fin 1024) (k : Fin 2048), (show FVec Ideal S1024x2048 .bf16 from (outsAt0 m c n h).2) (ix2 r k)
    = Rows.rms (fun k => (show FVec Ideal S10240x2048 .f32 from m ((c : Thread nD τ).loc main_arg0)) (ix2 ⟨n / 22 * 1024 + r.val, by have : n < 220 := (idx ⟨n, h⟩).2.2.2.2.2.2; omega⟩ k))
      (fun k => (show FVec Ideal S2048 .f32 from m ((c : Thread nD τ).loc main_arg1)) (ix1 k)) k := by
  intro n h r k
  have hA : ∀ (n : ℕ) (h : n < cfg0.N), n % 22 = 0 → (outsAt0 m c n h).2 = k0_pay1 (F := Ideal) (iblk m c 0 ⟨n, h⟩) (iblk m c 1 ⟨n, h⟩) := by
    intro n h h0
    rw [show outsAt0 m c n h = _ from outsAt0_A m c ⟨n, h⟩ h0]
    frame_out
  induction n with
  | zero =>
    rw [hA 0 h rfl]
    refine (pay1_at _ _ r k).trans ?_
    simp only [blk0, blk1]
  | succ n ih =>
    by_cases h0 : (n + 1) % 22 = 0
    · rw [hA _ h h0]
      refine (pay1_at _ _ r k).trans ?_
      simp only [blk0, blk1]
    · have hs : (outsAt0 m c (n + 1) h).2 = (outsAt0 m c n (Nat.lt_of_succ_lt h)).2 := by
        rw [show outsAt0 m c (n + 1) h = _ from outsAt0_B m c ⟨n + 1, h⟩ h0]
        rfl
      rw [hs, ih (Nat.lt_of_succ_lt h)]
      have : (n + 1) / 22 = n / 22 := by omega
      simp only [this]

/-- What a point adds to its block: 256 gated units' products. -/
def part (c : Dev nD) (t : Fin cfg0.N) (r : Fin 1024) (j : Fin 2048) : EReal :=
  ∑ l : Fin 256, Rows.gated
    (Rows.rms (fun k => (show FVec Ideal S10240x2048 .f32 from m ((c : Thread nD τ).loc main_arg0)) (ix2 ⟨t.val / 22 * 1024 + r.val, by have := (idx t).2.2.2.2.2.2; omega⟩ k))
      (fun k => (show FVec Ideal S2048 .f32 from m ((c : Thread nD τ).loc main_arg1)) (ix1 k)))
    (fun k => (show FVec Ideal S2x2048x11264 .f32 from m ((c : Thread nD τ).loc main_arg2)) (ix3 0 k ⟨t.val % 22 * 256 + l.val, by omega⟩))
    (fun k => (show FVec Ideal S2x2048x11264 .f32 from m ((c : Thread nD τ).loc main_arg2)) (ix3 0 k ⟨5632 + (t.val % 22 * 256 + l.val), by omega⟩))
    * (show FVec Ideal S2x5632x2048 .f32 from m ((c : Thread nD τ).loc main_arg3)) (ix3 0 ⟨t.val % 22 * 256 + l.val, by omega⟩ j)

/-- At the first point of a run the block is the rows themselves plus the point's part. -/
theorem out_first (c : Dev nD) (t : Fin cfg0.N) (h0 : t.val % 22 = 0) (r : Fin 1024) (j : Fin 2048) :
    (show FVec Ideal S1024x2048 .f32 from (outsAt0 m c t.val t.isLt).1) (ix2 r j)
      = (show FVec Ideal S10240x2048 .f32 from m ((c : Thread nD τ).loc main_arg0)) (ix2 ⟨t.val / 22 * 1024 + r.val, by have := (idx t).2.2.2.2.2.2; omega⟩ j) + part m c t r j := by
  have e : (outsAt0 m c t.val t.isLt).1 = k0_pay2 (F := Ideal) (iblk m c 0 t) (k0_pay1 (F := Ideal) (iblk m c 0 t) (iblk m c 1 t)) (iblk m c 2 t) (iblk m c 3 t) (iblk m c 4 t) := by
    rw [outsAt0_A m c t h0]
    frame_out
  rw [e]
  refine (pay2_at _ _ _ _ _ r j).trans ?_
  simp only [pay1_at, blk0, blk1, blk2, blk3, blk4]
  rfl

/-- At a later point of a run the block is what it was plus the point's part. -/
theorem out_next (c : Dev nD) (t : Fin cfg0.N) (h0 : ¬t.val % 22 = 0) (r : Fin 1024) (j : Fin 2048) :
    (show FVec Ideal S1024x2048 .f32 from (outsAt0 m c t.val t.isLt).1) (ix2 r j)
      = (show FVec Ideal S1024x2048 .f32 from (outsAt0 m c (t.val - 1) (Nat.lt_of_le_of_lt (Nat.sub_le _ _) t.isLt)).1) (ix2 r j) + part m c t r j := by
  have e : (outsAt0 m c t.val t.isLt).1 = k0_pay2 (F := Ideal) (outsAt0 m c (t.val - 1) (Nat.lt_of_le_of_lt (Nat.sub_le _ _) t.isLt)).1
      (outsAt0 m c (t.val - 1) (Nat.lt_of_le_of_lt (Nat.sub_le _ _) t.isLt)).2 (iblk m c 2 t) (iblk m c 3 t) (iblk m c 4 t) := by
    rw [outsAt0_B m c t h0]
    frame_out
    rw [show View.read (Elt Ideal) (View.whole cc0_scratch0) ((Memref.isWhole_whole cc0_scratch0).unread (outsAt0 m c (t.val - 1) (Nat.lt_of_le_of_lt (Nat.sub_le _ _) t.isLt)).2) = _ from (Memref.isWhole_whole cc0_scratch0).read_unread _]
  rw [e]
  refine (pay2_at _ _ _ _ _ r j).trans ?_
  have h1 : (t.val - 1) / 22 = t.val / 22 := by omega
  simp only [scr, h1, blk2, blk3, blk4]
  rfl

/-- At the last point of a run the block is the rows plus all the run's parts. -/
theorem run_end (c : Dev nD) (t : Fin cfg0.N) (hm : t.val % 22 = 22 - 1) (r : Fin 1024) (j : Fin 2048) :
    (show FVec Ideal S1024x2048 .f32 from (outsAt0 m c t.val t.isLt).1) (ix2 r j)
      = (show FVec Ideal S10240x2048 .f32 from m ((c : Thread nD τ).loc main_arg0)) (ix2 ⟨t.val / 22 * 1024 + r.val, by have := (idx t).2.2.2.2.2.2; omega⟩ j)
        + ∑ s : Fin 22, part m c ⟨22 * (t.val / 22) + s.val, Pipeline.run_point_lt_of_flush t hm s⟩ r j := by
  have key := Pipeline.eq_sum_fin_of_reset_step_apply_of_flush (M := EReal) (ι := Fin 1024 × Fin 2048)
    (fun n h i => (show FVec Ideal S1024x2048 .f32 from (outsAt0 m c n h).1) (ix2 i.1 i.2)) 22 (fun _ => 0)
    (fun t i => (if t.val % 22 = 0 then (show FVec Ideal S10240x2048 .f32 from m ((c : Thread nD τ).loc main_arg0)) (ix2 ⟨t.val / 22 * 1024 + i.1.val, by have := (idx t).2.2.2.2.2.2; omega⟩ i.2) else 0)
      + part m c t i.1 i.2)
    (fun t h i => by rw [if_pos h, zero_add]; exact out_first m c t h i.1 i.2)
    (fun t h i => by rw [if_neg h, zero_add]; exact out_next m c t h i.1 i.2) t hm (r, j)
  refine key.trans ?_
  rw [zero_add, Finset.sum_add_distrib]
  congr 1
  rw [Finset.sum_eq_single (0 : Fin 22)]
  · have h0 : (22 * (t.val / 22) + (0 : Fin 22).val) % 22 = 0 := by simp
    rw [if_pos h0]
    have h1 : (22 * (t.val / 22) + (0 : Fin 22).val) / 22 = t.val / 22 := by simp
    simp only [h1]
  · intro s _ hs
    rw [if_neg]
    have : s.val ≠ 0 := fun h => hs (Fin.ext h)
    have := s.isLt
    show ¬ (22 * (t.val / 22) + s.val) % 22 = 0
    omega
  · intro h; exact absurd (Finset.mem_univ _) h

/-- The rows plus a run's parts are the feed-forward block of the run's rows. -/
theorem tile_eq (c : Dev nD) (t : Fin cfg0.N) (hm : t.val % 22 = 22 - 1) (r : Fin 1024) (j : Fin 2048) (p : Fin 10240) (q : Fin 2048)
    (hp : p.val = t.val / 22 * 1024 + r.val) (hq : q.val = j.val) :
    (show FVec Ideal S10240x2048 .f32 from m ((c : Thread nD τ).loc main_arg0)) (ix2 ⟨t.val / 22 * 1024 + r.val, by have := (idx t).2.2.2.2.2.2; omega⟩ j)
        + ∑ s : Fin 22, part m c ⟨22 * (t.val / 22) + s.val, Pipeline.run_point_lt_of_flush t hm s⟩ r j
      = Rows.ffn
        (fun k => (show FVec Ideal S10240x2048 .f32 from m ((c : Thread nD τ).loc main_arg0)) (ix2 p k))
        (fun k => (show FVec Ideal S2048 .f32 from m ((c : Thread nD τ).loc main_arg1)) (ix1 k))
        (fun k l => (show FVec Ideal S2x2048x11264 .f32 from m ((c : Thread nD τ).loc main_arg2)) (ix3 0 k l))
        (fun l => (show FVec Ideal S2x5632x2048 .f32 from m ((c : Thread nD τ).loc main_arg3)) (ix3 0 l q))
        ((show FVec Ideal S10240x2048 .f32 from m ((c : Thread nD τ).loc main_arg0)) (ix2 p q)) := by
  obtain rfl : q = j := Fin.ext hq
  obtain ⟨p, hpl⟩ := p
  obtain rfl : p = t.val / 22 * 1024 + r.val := hp
  unfold Rows.ffn
  refine congrArg _ ?_
  refine Fin.sum_mul_add_congr fun s l hl => ?_
  have d : (22 * (t.val / 22) + s.val) / 22 = t.val / 22 := by omega
  have e : (22 * (t.val / 22) + s.val) % 22 = s.val := by omega
  simp only [d, e]

/-- The kernel's array: every row plus its feed-forward block. -/
theorem final (c : Dev nD) : (dats m 0 c).arrAt 5 cfg0.N = fun i : S10240x2048.Idx => Rows.ffn
    (fun k => (show FVec Ideal S10240x2048 .f32 from m ((c : Thread nD τ).loc main_arg0)) (ix2 (i 0) k))
    (fun k => (show FVec Ideal S2048 .f32 from m ((c : Thread nD τ).loc main_arg1)) (ix1 k))
    (fun k l => (show FVec Ideal S2x2048x11264 .f32 from m ((c : Thread nD τ).loc main_arg2)) (ix3 0 k l))
    (fun l => (show FVec Ideal S2x5632x2048 .f32 from m ((c : Thread nD τ).loc main_arg3)) (ix3 0 l (i 1)))
    ((show FVec Ideal S10240x2048 .f32 from m ((c : Thread nD τ).loc main_arg0)) (ix2 (i 0) (i 1))) := by
  refine (dats m 0 c).arrAt_eq_of_covers 5 _ (by decide +kernel) fun t hf y => ?_
  have hm : t.val % 22 = 22 - 1 := (flush0_5 t).mp hf
  have ht := (idx t).2.2.2.2.2.2
  blk_simp
  rw [after0_5]
  have hy : y = ix2 (y 0 : Fin 1024) (y 1 : Fin 2048) := by funext k; fin_cases k <;> rfl
  refine ((congrArg (outsAt0 m c t.val t.isLt).1 hy).trans (run_end m c t hm (y 0) (y 1))).trans ?_
  exact tile_eq m c t hm (y 0) (y 1) _ _ (by blk_simp [idx t]) (by blk_simp [idx t])

end Cert.Kernel2Ideal.Ffn

end
-- ==== Proof.FfnRef.lean ====
module

public import proofs.«01_k».proof.Proof.Rows
public import proofs.«01_k».proof.Proof.Gen.Reference2Ideal.Run
public import proofs.«01_k».proof.Proof.Gen.Reference2Ideal.Read

/-! The feed-forward reference's result, element by element. -/

@[expose] public section

set_option maxRecDepth 16384

noncomputable section

namespace Cert.Reference2Ideal.Ffn

open Cert.Reference2Ideal Cert.Reference2Ideal.Facts Cert.Reference2Ideal.Read Cert.Reference2Ideal.Gen Idealize.ShloMosaic
open scoped BigOperators

variable (x0 : FVec Ideal S10240x2048 .f32) (x1 : FVec Ideal S2048 .f32) (x2 : FVec Ideal S2x2048x11264 .f32) (x3 : FVec Ideal S2x5632x2048 .f32)

/-- The normed rows. -/
theorem norm_at (i : Fin 10240) (k : Fin 2048) : (val_main_v12 (F := Ideal) x0 x1 : FVec Ideal S10240x2048 .f32) (ix2 i k)
    = Rows.rms (fun k => x0 (ix2 i k)) (fun k => x1 (ix1 k)) k := by
  pointwise [val_main_v12, val_main_v11, val_main_v10, val_main_v9, val_main_v8, val_main_v7, val_main_v6, val_main_v5, val_main_cst_1, val_main_v4, val_main_v3, val_main_cst_0,
    val_main_v2, val_main_v1, val_main_cst, val_main_v0]
  rfl

/-- The product with the gate and up weights. -/
theorem gu_at (i : Fin 10240) (j : Fin 11264) : (val_main_v17 (F := Ideal) x0 x1 x2 : FVec Ideal S10240x11264 .f32) (ix2 i j)
    = ∑ k : Fin 2048, Rows.rms (fun k => x0 (ix2 i k)) (fun k => x1 (ix1 k)) k * x2 (ix3 0 k j) := by
  pointwise [val_main_v17, val_main_v14, val_main_v13]
  simp only [norm_at]

/-- A gated unit. -/
theorem unit_at (i : Fin 10240) (l : Fin 5632) : (val_main_v21 (F := Ideal) x0 x1 x2 : FVec Ideal S10240x5632 .f32) (ix2 i l)
    = Rows.gated (Rows.rms (fun k => x0 (ix2 i k)) (fun k => x1 (ix1 k))) (fun k => x2 (ix3 0 k ⟨l.val, by omega⟩)) (fun k => x2 (ix3 0 k ⟨5632 + l.val, by omega⟩)) := by
  pointwise [val_main_v21, val_main_v20, val_main_v19, val_main_call0_v5, val_main_call0_v4, val_main_call0_cst_0, val_main_call0_v3, val_main_call0_v2, val_main_call0_cst, val_main_call0_v1,
    val_main_call0_v0, val_main_v18]
  simp only [gu_at, Ideal.ofBits_one_f32]
  rfl

/-- The reference's result. -/
theorem final (i : Fin 10240) (j : Fin 2048) : (val_main_v23 (F := Ideal) x0 x1 x2 x3 : FVec Ideal S10240x2048 .f32) (ix2 i j)
    = Rows.ffn (fun k => x0 (ix2 i k)) (fun k => x1 (ix1 k)) (fun k l => x2 (ix3 0 k l)) (fun l => x3 (ix3 0 l j)) (x0 (ix2 i j)) := by
  pointwise [val_main_v23, val_main_v22, val_main_v16, val_main_v15]
  simp only [unit_at]
  rfl

end Cert.Reference2Ideal.Ffn

end
-- ==== Proof.FfnSame.lean ====
module

public import proofs.«01_k».proof.Proof.Ffn
public import proofs.«01_k».proof.Proof.FfnRef

/-! The two feed-forward programs compute one array. -/

@[expose] public section

set_option maxRecDepth 16384

noncomputable section

namespace Cert.Ffn

open Idealize.ShloMosaic

/-- From memories that agree on the arguments, the feed-forward kernel's array is the reference's. -/
theorem same (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ)
    (c : Dev Cert.Kernel2Ideal.nD)
    (e : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) :
    Cert.Reference2Ideal.Read.val_main_v23 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) = (Cert.Kernel2Ideal.Gen.dats m 0 c).arrAt 5 Cert.Kernel2Ideal.cfg0.N := by
  obtain ⟨e0, e1, e2, e3⟩ := e
  rw [Cert.Kernel2Ideal.Ffn.final m c, e0, e1, e2, e3]
  funext i
  have hi : i = ix2 (i 0) (i 1) := by funext k; fin_cases k <;> rfl
  conv_lhs => rw [hi]
  exact Cert.Reference2Ideal.Ffn.final _ _ _ _ (i 0) (i 1)

end Cert.Ffn

end
-- ==== Proof.Kv.lean ====
module

public import proofs.«01_k».proof.Proof.Gen.Kernel3Ideal.Value
public import proofs.«01_k».proof.Proof.Rows
public import Idealize.ShloMosaic.Lib.Pointwise
public import Idealize.ShloMosaic.Lib.Pipeline.ValueKit

/-! The keys' and values' projection kernel's arrays. -/

@[expose] public section

set_option maxRecDepth 16384

noncomputable section

namespace Cert.Kernel3Ideal.Kv

open Cert.Kernel3Ideal Cert.Kernel3Ideal.Gen Cert.Kernel3Ideal.Facts Idealize.ShloMosaic Idealize.ShloMosaic.TcCoe
open scoped BigOperators

/-- The first payload: the normed block. -/
theorem pay1_at (x : FVec Ideal S1024x2048 .f32) (g : FVec Ideal S1x2048 .f32) (r : Fin 1024) (k : Fin 2048) :
    (k0_pay1 (F := Ideal) x g : FVec Ideal S1024x2048 .bf16) (ix2 r k) = Rows.rms (fun k => x (ix2 r k)) (fun k => g (ix2 0 k)) k := by
  pointwise [k0_pay1]
  rfl

/-- The second payload: the block's product with the weights' columns. -/
theorem pay2_at (xb : FVec Ideal S1024x2048 .bf16) (w : FVec Ideal S1x2048x1024 .f32) (r : Fin 1024) (j : Fin 1024) :
    (k0_pay2 (F := Ideal) xb w : FVec Ideal S1024x1024 .f32) (ix2 r j) = ∑ k : Fin 2048, xb (ix2 r k) * w (ix3 0 k j) := by
  pointwise [k0_pay2]

/-- The third payload is the second, rounded. -/
theorem pay3_at (xb : FVec Ideal S1024x2048 .bf16) (w : FVec Ideal S1x2048x1024 .f32) (r : Fin 1024) (j : Fin 1024) :
    (k0_pay3 (F := Ideal) xb w : FVec Ideal S1024x1024 .bf16) (ix2 r j) = ∑ k : Fin 2048, xb (ix2 r k) * w (ix3 0 k j) := by
  pointwise [k0_pay3]
  exact pay2_at xb w r j

/-- The stacked rows the host hands to the kernel. -/
theorem stack_at (x0 : FVec Ideal S2x4096x2048 .f32) (x1 : FVec Ideal S32x64x2048 .f32) (p : Fin 10240) (k : Fin 2048) :
    (concatenate S10240x2048 0 [⟨S8192x2048, shapeCast _ x0 shapeCasts_S2x4096x2048_S8192x2048⟩, ⟨S2048x2048, shapeCast _ x1 shapeCasts_S32x64x2048_S2048x2048⟩] concatenates_S8192x2048_S2048x2048_S10240x2048_d0 : FVec Ideal S10240x2048 .f32) (ix2 p k)
      = Rows.stack (fun b i k => x0 (ix3 b i k)) (fun b i k => x1 (ix3 b i k)) p k := by
  pointwise [Rows.stack]

variable (m : (ℓ : Loc nD τ sig) → Buf (Elt Ideal) ℓ)

/-- Which block each window holds at a grid point. -/
theorem idx : ∀ t : Fin cfg0.N, win0_0.index t = ![t.val / 4, 0] ∧ win0_1.index t = ![0, 0] ∧ win0_2.index t = ![0, 0, t.val % 4 + 2]
    ∧ win0_3.index t = ![t.val / 4, t.val % 4] ∧ win0_4.index t = ![t.val / 4, t.val % 4] ∧ t.val < 40 :=
  (by decide +kernel : ∀ t : Fin grid0.N, _)

/-- A row of the kernel's input, from the arguments. -/
def row (c : Dev nD) (p : Fin 10240) (k : Fin 2048) : EReal :=
  Rows.stack (fun b i k => (show FVec Ideal S2x4096x2048 .f32 from m ((c : Thread nD τ).loc main_arg0)) (ix3 b i k))
    (fun b i k => (show FVec Ideal S32x64x2048 .f32 from m ((c : Thread nD τ).loc main_arg1)) (ix3 b i k)) p k

/-- The rows of the block at a point. -/
theorem blk0 (c : Dev nD) (t : Fin cfg0.N) (r : Fin 1024) (k : Fin 2048) : (show FVec Ideal S1024x2048 .f32 from iblk m c 0 t) (ix2 r k)
    = row m c ⟨t.val / 4 * 1024 + r.val, by have := (idx t).2.2.2.2.2; omega⟩ k := by
  have := (idx t).2.2.2.2.2
  refine Eq.trans ?_ (stack_at _ _ _ _)
  blk_simp [iblk]; entry_read
  blk_ext [idx t]

/-- The gain of the norm. -/
theorem blk1 (c : Dev nD) (t : Fin cfg0.N) (k : Fin 2048) : (show FVec Ideal S1x2048 .f32 from iblk m c 1 t) (ix2 0 k)
    = (show FVec Ideal S4x2048 .f32 from m ((c : Thread nD τ).loc main_arg2)) (ix2 0 k) := by
  blk_simp [iblk]; entry_read; pointwise; blk_ext [idx t]

/-- The weights' columns at a point. -/
theorem blk2 (c : Dev nD) (t : Fin cfg0.N) (k : Fin 2048) (l : Fin 1024) : (show FVec Ideal S1x2048x1024 .f32 from X0_2 m c t) (ix3 0 k l)
    = (show FVec Ideal S2x2048x6160 .f32 from m ((c : Thread nD τ).loc main_arg3)) (ix3 0 k ⟨2048 + (t.val % 4 * 1024 + l.val), by omega⟩) := by
  show X0_2 m c t (ix3 0 k l) = _
  unfold X0_2 Pipeline.Window.fill
  rw [dif_pos (moved0_2 t _)]
  blk_simp [iblk]; entry_read
  blk_ext [idx t]

/-- The scratch holds the normed rows of the point's block at every point of a run. -/
theorem scr (c : Dev nD) : ∀ (n : ℕ) (h : n < cfg0.N) (r : Fin 1024) (k : Fin 2048), (show FVec Ideal S1024x2048 .bf16 from (outsAt0 m c n h).2.2) (ix2 r k)
    = Rows.rms (fun k => row m c ⟨n / 4 * 1024 + r.val, by have : n < 40 := (idx ⟨n, h⟩).2.2.2.2.2; omega⟩ k)
      (fun k => (show FVec Ideal S4x2048 .f32 from m ((c : Thread nD τ).loc main_arg2)) (ix2 0 k)) k := by
  intro n h r k
  have hA : ∀ (n : ℕ) (h : n < cfg0.N), n % 4 = 0 → (outsAt0 m c n h).2.2 = k0_pay1 (F := Ideal) (iblk m c 0 ⟨n, h⟩) (iblk m c 1 ⟨n, h⟩) := by
    intro n h h0
    rw [show outsAt0 m c n h = _ from outsAt0_A m c ⟨n, h⟩ h0]
    frame_out
  induction n with
  | zero =>
    rw [hA 0 h rfl]
    refine (pay1_at _ _ r k).trans ?_
    simp only [blk0, blk1]
  | succ n ih =>
    by_cases h0 : (n + 1) % 4 = 0
    · rw [hA _ h h0]
      refine (pay1_at _ _ r k).trans ?_
      simp only [blk0, blk1]
    · have hs : (outsAt0 m c (n + 1) h).2.2 = (outsAt0 m c n (Nat.lt_of_succ_lt h)).2.2 := by
        rw [show outsAt0 m c (n + 1) h = _ from outsAt0_B m c ⟨n + 1, h⟩ h0]
        rfl
      rw [hs, ih (Nat.lt_of_succ_lt h)]
      have : (n + 1) / 4 = n / 4 := by omega
      simp only [this]

/-- An entry of the projection: a normed row times a column of the weights. -/
def entry (c : Dev nD) (p : Fin 10240) (q : Fin 4096) : EReal :=
  ∑ k : Fin 2048, Rows.rms (fun k => row m c p k) (fun k => (show FVec Ideal S4x2048 .f32 from m ((c : Thread nD τ).loc main_arg2)) (ix2 0 k)) k
    * (show FVec Ideal S2x2048x6160 .f32 from m ((c : Thread nD τ).loc main_arg3)) (ix3 0 k ⟨2048 + q.val, by omega⟩)

/-- The two blocks a point writes, as payloads over the scratch and the weights. -/
theorem outs (c : Dev nD) (t : Fin cfg0.N) : (outsAt0 m c t.val t.isLt).1 = k0_pay2 (F := Ideal) (outsAt0 m c t.val t.isLt).2.2 (X0_2 m c t)
    ∧ (outsAt0 m c t.val t.isLt).2.1 = k0_pay3 (F := Ideal) (outsAt0 m c t.val t.isLt).2.2 (X0_2 m c t) := by
  by_cases h0 : t.val % 4 = 0
  · rw [outsAt0_A m c t h0]
    constructor
    · frame_out
    · frame_out
  · rw [outsAt0_B m c t h0]
    constructor
    · frame_out
      rw [show View.read (Elt Ideal) (View.whole cc0_scratch0) ((Memref.isWhole_whole cc0_scratch0).unread (outsAt0 m c (t.val - 1) (Nat.lt_of_le_of_lt (Nat.sub_le _ _) t.isLt)).2.2) = _ from (Memref.isWhole_whole cc0_scratch0).read_unread _]
      rfl
    · frame_out
      rw [show View.read (Elt Ideal) (View.whole cc0_scratch0) ((Memref.isWhole_whole cc0_scratch0).unread (outsAt0 m c (t.val - 1) (Nat.lt_of_le_of_lt (Nat.sub_le _ _) t.isLt)).2.2) = _ from (Memref.isWhole_whole cc0_scratch0).read_unread _]
      rfl

/-- A point's first block holds the projection's entries. -/
theorem out3 (c : Dev nD) (t : Fin cfg0.N) (r : Fin 1024) (j : Fin 1024) (p : Fin 10240) (q : Fin 4096)
    (hp : p.val = t.val / 4 * 1024 + r.val) (hq : q.val = t.val % 4 * 1024 + j.val) :
    (show FVec Ideal S1024x1024 .f32 from (outsAt0 m c t.val t.isLt).1) (ix2 r j) = entry m c p q := by
  obtain ⟨p, hpl⟩ := p
  obtain ⟨q, hql⟩ := q
  obtain rfl : p = t.val / 4 * 1024 + r.val := hp
  obtain rfl : q = t.val % 4 * 1024 + j.val := hq
  rw [(outs m c t).1]
  refine (pay2_at _ _ r j).trans ?_
  simp only [scr, blk2]
  rfl

/-- A point's second block holds the projection's entries too. -/
theorem out4 (c : Dev nD) (t : Fin cfg0.N) (r : Fin 1024) (j : Fin 1024) (p : Fin 10240) (q : Fin 4096)
    (hp : p.val = t.val / 4 * 1024 + r.val) (hq : q.val = t.val % 4 * 1024 + j.val) :
    (show FVec Ideal S1024x1024 .bf16 from (outsAt0 m c t.val t.isLt).2.1) (ix2 r j) = entry m c p q := by
  obtain ⟨p, hpl⟩ := p
  obtain ⟨q, hql⟩ := q
  obtain rfl : p = t.val / 4 * 1024 + r.val := hp
  obtain rfl : q = t.val % 4 * 1024 + j.val := hq
  rw [(outs m c t).2]
  refine (pay3_at _ _ r j).trans ?_
  simp only [scr, blk2]
  rfl

/-- The kernel's first array is the projection. -/
theorem final3 (c : Dev nD) : (dats m 0 c).arrAt 3 cfg0.N = fun i : S10240x4096.Idx => entry m c (i 0) (i 1) := by
  refine (dats m 0 c).arrAt_eq_of_covers 3 _ (by decide +kernel) fun t hf y => ?_
  have ht := (idx t).2.2.2.2.2
  blk_simp
  rw [after0_3]
  have hy : y = ix2 (y 0 : Fin 1024) (y 1 : Fin 1024) := by funext k; fin_cases k <;> rfl
  refine (congrArg (outsAt0 m c t.val t.isLt).1 hy).trans ?_
  exact out3 m c t (y 0) (y 1) _ _ (by blk_simp [idx t]) (by blk_simp [idx t])

/-- The kernel's second array is the projection as well. -/
theorem final4 (c : Dev nD) : (dats m 0 c).arrAt 4 cfg0.N = fun i : S10240x4096.Idx => entry m c (i 0) (i 1) := by
  refine (dats m 0 c).arrAt_eq_of_covers 4 _ (by decide +kernel) fun t hf y => ?_
  have ht := (idx t).2.2.2.2.2
  blk_simp
  rw [after0_4]
  have hy : y = ix2 (y 0 : Fin 1024) (y 1 : Fin 1024) := by funext k; fin_cases k <;> rfl
  refine (congrArg (outsAt0 m c t.val t.isLt).2.1 hy).trans ?_
  exact out4 m c t (y 0) (y 1) _ _ (by blk_simp [idx t]) (by blk_simp [idx t])

end Cert.Kernel3Ideal.Kv

end
-- ==== Proof.KvRef.lean ====
module

public import proofs.«01_k».proof.Proof.Rows
public import proofs.«01_k».proof.Proof.Gen.Reference3Ideal.Run
public import proofs.«01_k».proof.Proof.Gen.Reference3Ideal.Read

/-! The projection reference's results, element by element. -/

@[expose] public section

set_option maxRecDepth 16384

noncomputable section

namespace Cert.Reference3Ideal.Kv

open Cert.Reference3Ideal Cert.Reference3Ideal.Facts Cert.Reference3Ideal.Read Cert.Reference3Ideal.Gen Idealize.ShloMosaic
open scoped BigOperators

variable (x0 : FVec Ideal S2x4096x2048 .f32) (x1 : FVec Ideal S32x64x2048 .f32) (x2 : FVec Ideal S4x2048 .f32) (x3 : FVec Ideal S2x2048x6160 .f32)

/-- The normed rows of the prompt. -/
theorem norm_p (b : Fin 2) (i : Fin 4096) (k : Fin 2048) : (val_main_v14 (F := Ideal) x0 x2 : FVec Ideal S2x4096x2048 .f32) (ix3 b i k)
    = Rows.rms (fun k => x0 (ix3 b i k)) (fun k => x2 (ix2 0 k)) k := by
  pointwise [val_main_v14, val_main_v13, val_main_v12, val_main_v11, val_main_v10, val_main_v9, val_main_v8, val_main_v7, val_main_cst_1, val_main_v6, val_main_v5, val_main_cst_0,
    val_main_v4, val_main_v3, val_main_cst, val_main_v2, val_main_v1, val_main_v0]
  rfl

/-- The normed rows of the samples. -/
theorem norm_s (b : Fin 32) (i : Fin 64) (k : Fin 2048) : (val_main_v34 (F := Ideal) x1 x2 : FVec Ideal S32x64x2048 .f32) (ix3 b i k)
    = Rows.rms (fun k => x1 (ix3 b i k)) (fun k => x2 (ix2 0 k)) k := by
  pointwise [val_main_v34, val_main_v33, val_main_v32, val_main_v31, val_main_v30, val_main_v29, val_main_v28, val_main_v27, val_main_cst_4, val_main_v26, val_main_v25, val_main_cst_3,
    val_main_v24, val_main_v23, val_main_cst_2, val_main_v22, val_main_v21, val_main_v20]
  rfl

/-- The prompt's projection. -/
theorem proj_p (b : Fin 2) (i : Fin 4096) (j : Fin 4096) : (val_main_v18 (F := Ideal) x0 x2 x3 : FVec Ideal S2x4096x4096 .f32) (ix3 b i j)
    = ∑ k : Fin 2048, Rows.rms (fun k => x0 (ix3 b i k)) (fun k => x2 (ix2 0 k)) k * x3 (ix3 0 k ⟨2048 + j.val, by omega⟩) := by
  pointwise [val_main_v18, val_main_v17, val_main_v16, val_main_v15]
  simp only [norm_p]

/-- The samples' projection. -/
theorem proj_s (b : Fin 32) (i : Fin 64) (j : Fin 4096) : (val_main_v38 (F := Ideal) x1 x2 x3 : FVec Ideal S32x64x4096 .f32) (ix3 b i j)
    = ∑ k : Fin 2048, Rows.rms (fun k => x1 (ix3 b i k)) (fun k => x2 (ix2 0 k)) k * x3 (ix3 0 k ⟨2048 + j.val, by omega⟩) := by
  pointwise [val_main_v38, val_main_v37, val_main_v36, val_main_v35]
  simp only [norm_s]

/-- The stacked projection: the prompt's rows, then the samples'. -/
theorem stacked (p : Fin 10240) (q : Fin 4096) : (val_main_v40 (F := Ideal) x0 x1 x2 x3 : FVec Ideal S10240x4096 .f32) (ix2 p q)
    = if h : p.val < 8192 then (val_main_v18 (F := Ideal) x0 x2 x3 : FVec Ideal S2x4096x4096 .f32) (ix3 ⟨p.val / 4096, by omega⟩ ⟨p.val % 4096, by omega⟩ q)
      else (val_main_v38 (F := Ideal) x1 x2 x3 : FVec Ideal S32x64x4096 .f32) (ix3 ⟨(p.val - 8192) / 64, by have := p.isLt; omega⟩ ⟨(p.val - 8192) % 64, by omega⟩ q) := by
  pointwise [val_main_v40, val_main_v39, val_main_v19]

/-- The stacked projection, as normed rows times columns. -/
theorem final (p : Fin 10240) (q : Fin 4096) : (val_main_v40 (F := Ideal) x0 x1 x2 x3 : FVec Ideal S10240x4096 .f32) (ix2 p q)
    = ∑ k : Fin 2048, Rows.rms (fun k => Rows.stack (fun b i k => x0 (ix3 b i k)) (fun b i k => x1 (ix3 b i k)) p k) (fun k => x2 (ix2 0 k)) k * x3 (ix3 0 k ⟨2048 + q.val, by omega⟩) := by
  rw [stacked]
  unfold Rows.stack
  by_cases h : p.val < 8192
  · simp only [dif_pos h]
    exact proj_p x0 x2 x3 _ _ q
  · simp only [dif_neg h]
    exact proj_s x1 x2 x3 _ _ q

end Cert.Reference3Ideal.Kv

end
-- ==== Proof.KvSame.lean ====
module

public import proofs.«01_k».proof.Proof.Kv
public import proofs.«01_k».proof.Proof.KvRef

/-! The two projection programs compute one array, and its rounded copy. -/

@[expose] public section

set_option maxRecDepth 16384

noncomputable section

namespace Cert.Kv

open Idealize.ShloMosaic

/-- From memories that agree on the arguments, the projection kernel's first array is the reference's. -/
theorem same (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ)
    (c : Dev Cert.Kernel3Ideal.nD)
    (e : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) :
    Cert.Reference3Ideal.Read.val_main_v40 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) = (Cert.Kernel3Ideal.Gen.dats m 0 c).arrAt 3 Cert.Kernel3Ideal.cfg0.N := by
  obtain ⟨e0, e1, e2, e3⟩ := e
  rw [Cert.Kernel3Ideal.Kv.final3 m c, e0, e1, e2, e3]
  funext i
  have hi : i = ix2 (i 0) (i 1) := by funext k; fin_cases k <;> rfl
  conv_lhs => rw [hi]
  exact Cert.Reference3Ideal.Kv.final _ _ _ _ (i 0) (i 1)

/-- From memories that agree on the arguments, the projection kernel's second array is the reference's. -/
theorem same_rounded (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ)
    (c : Dev Cert.Kernel3Ideal.nD)
    (e : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) :
    Cert.Reference3Ideal.Read.val_main_v41 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) = (Cert.Kernel3Ideal.Gen.dats m 0 c).arrAt 4 Cert.Kernel3Ideal.cfg0.N := by
  obtain ⟨e0, e1, e2, e3⟩ := e
  rw [Cert.Kernel3Ideal.Kv.final4 m c, e0, e1, e2, e3]
  funext i
  have hi : i = ix2 (i 0) (i 1) := by funext k; fin_cases k <;> rfl
  conv_lhs => rw [hi]
  exact Cert.Reference3Ideal.Kv.final _ _ _ _ (i 0) (i 1)

end Cert.Kv

end
-- ==== Proof.Mem.lean ====
module

public import proofs.«01_k».proof.Proof.Gen.Kernel4Ideal.Value
public import proofs.«01_k».proof.Proof.Gen.Reference4Ideal.Run
public import proofs.«01_k».proof.Proof.Gen.Reference4Ideal.Read
public import Idealize.ShloMosaic.Lib.Pointwise
public import Idealize.ShloMosaic.Lib.Pipeline.ValueKit

/-! The memory's projection: the kernel's array, the reference's, and that they are one. -/

@[expose] public section

set_option maxRecDepth 16384

noncomputable section

namespace Cert.Kernel4Ideal.Mem

open Cert.Kernel4Ideal Cert.Kernel4Ideal.Gen Cert.Kernel4Ideal.Facts Idealize.ShloMosaic Idealize.ShloMosaic.TcCoe
open scoped BigOperators

/-- The first payload is its block. -/
theorem pay1_at (x : FVec Ideal S512x2048 .f32) (r : Fin 512) (k : Fin 2048) : (k0_pay1 (F := Ideal) x : FVec Ideal S512x2048 .bf16) (ix2 r k) = x (ix2 r k) := by
  pointwise [k0_pay1]

/-- The second payload: the block's product with the weights. -/
theorem pay2_at (xb : FVec Ideal S512x2048 .bf16) (w : FVec Ideal S1x2048x1024 .f32) (r : Fin 512) (j : Fin 1024) :
    (k0_pay2 (F := Ideal) xb w : FVec Ideal S512x1024 .f32) (ix2 r j) = ∑ k : Fin 2048, xb (ix2 r k) * w (ix3 0 k j) := by
  pointwise [k0_pay2]

variable (m : (ℓ : Loc nD τ sig) → Buf (Elt Ideal) ℓ)

/-- Which block each window holds at the grid point. -/
theorem idx : ∀ t : Fin cfg0.N, win0_0.index t = ![0, 0] ∧ win0_1.index t = ![0, 0, 0] ∧ win0_2.index t = ![0, 0] ∧ t.val < 1 :=
  (by decide +kernel : ∀ t : Fin grid0.N, _)

/-- The rows of the block. -/
theorem blk0 (c : Dev nD) (t : Fin cfg0.N) (r : Fin 512) (k : Fin 2048) : (show FVec Ideal S512x2048 .f32 from iblk m c 0 t) (ix2 r k)
    = (show FVec Ideal S2x256x2048 .f32 from m ((c : Thread nD τ).loc main_arg0)) (ix3 ⟨r.val / 256, by omega⟩ ⟨r.val % 256, by omega⟩ k) := by
  blk_simp [iblk]; entry_read; pointwise; blk_ext [idx t]

/-- The weights. -/
theorem blk1 (c : Dev nD) (t : Fin cfg0.N) (k : Fin 2048) (l : Fin 1024) : (show FVec Ideal S1x2048x1024 .f32 from iblk m c 1 t) (ix3 0 k l)
    = (show FVec Ideal S4x2048x1024 .f32 from m ((c : Thread nD τ).loc main_arg1)) (ix3 0 k l) := by
  blk_simp [iblk]; entry_read; blk_ext [idx t]

/-- An entry of the projection: a row of the memory times a column of the weights. -/
def entry (c : Dev nD) (p : Fin 512) (q : Fin 1024) : EReal :=
  ∑ k : Fin 2048, (show FVec Ideal S2x256x2048 .f32 from m ((c : Thread nD τ).loc main_arg0)) (ix3 ⟨p.val / 256, by omega⟩ ⟨p.val % 256, by omega⟩ k)
    * (show FVec Ideal S4x2048x1024 .f32 from m ((c : Thread nD τ).loc main_arg1)) (ix3 0 k q)

/-- The block the point writes, as a payload. -/
theorem outs (c : Dev nD) (t : Fin cfg0.N) : outsAt0 m c t = k0_pay2 (F := Ideal) (k0_pay1 (F := Ideal) (iblk m c 0 t)) (iblk m c 1 t) := by
  unfold outsAt0
  frame_out

/-- The block holds the projection's entries. -/
theorem out2 (c : Dev nD) (t : Fin cfg0.N) (r : Fin 512) (j : Fin 1024) (p : Fin 512) (q : Fin 1024) (hp : p.val = r.val) (hq : q.val = j.val) :
    (show FVec Ideal S512x1024 .f32 from outsAt0 m c t) (ix2 r j) = entry m c p q := by
  obtain rfl : p = r := Fin.ext hp
  obtain rfl : q = j := Fin.ext hq
  rw [outs m c t]
  refine (pay2_at _ _ p q).trans ?_
  simp only [pay1_at, blk0, blk1]
  rfl

/-- The kernel's array is the projection. -/
theorem final2 (c : Dev nD) : (dats m 0 c).arrAt 2 cfg0.N = fun i : S512x1024.Idx => entry m c (i 0) (i 1) := by
  refine (dats m 0 c).arrAt_eq_of_covers 2 _ (by decide +kernel) fun t hf y => ?_
  blk_simp
  rw [after0_2]
  have hy : y = ix2 (y 0 : Fin 512) (y 1 : Fin 1024) := by funext k; fin_cases k <;> rfl
  refine (congrArg (outsAt0 m c t) hy).trans ?_
  exact out2 m c t (y 0) (y 1) _ _ (by blk_simp [idx t]) (by blk_simp [idx t])

end Cert.Kernel4Ideal.Mem

namespace Cert.Reference4Ideal.Mem

open Cert.Reference4Ideal Cert.Reference4Ideal.Facts Cert.Reference4Ideal.Read Cert.Reference4Ideal.Gen Idealize.ShloMosaic
open scoped BigOperators

/-- The reference's array, element by element. -/
theorem final (x0 : FVec Ideal S2x256x2048 .f32) (x1 : FVec Ideal S4x2048x1024 .f32) (p : Fin 512) (q : Fin 1024) : (val_main_v3 (F := Ideal) x0 x1 : FVec Ideal S512x1024 .f32) (ix2 p q)
    = ∑ k : Fin 2048, x0 (ix3 ⟨p.val / 256, by omega⟩ ⟨p.val % 256, by omega⟩ k) * x1 (ix3 0 k q) := by
  pointwise [val_main_v3, val_main_v2, val_main_v1, val_main_v0]

end Cert.Reference4Ideal.Mem

namespace Cert.Mem

open Idealize.ShloMosaic

/-- From memories that agree on the arguments, the kernel's array is the reference's. -/
theorem same (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ)
    (c : Dev Cert.Kernel4Ideal.nD)
    (e : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) :
    Cert.Reference4Ideal.Read.val_main_v3 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) = (Cert.Kernel4Ideal.Gen.dats m 0 c).arrAt 2 Cert.Kernel4Ideal.cfg0.N := by
  obtain ⟨e0, e1⟩ := e
  rw [Cert.Kernel4Ideal.Mem.final2 m c, e0, e1]
  funext i
  have hi : i = ix2 (i 0) (i 1) := by funext k; fin_cases k <;> rfl
  conv_lhs => rw [hi]
  exact Cert.Reference4Ideal.Mem.final _ _ (i 0) (i 1)

end Cert.Mem

end
-- ==== Proof.Gate.lean ====
module

public import proofs.«01_k».proof.Proof.Gen.Kernel5Ideal.Value
public import proofs.«01_k».proof.Proof.Gen.Reference5Ideal.Run
public import proofs.«01_k».proof.Proof.Gen.Reference5Ideal.Read
public import proofs.«01_k».proof.Proof.Rows
public import Idealize.ShloMosaic.Lib.Pointwise
public import Idealize.ShloMosaic.Lib.Pipeline.ValueKit

/-! The forget gates: the kernel's array, the reference's, and that they are one. -/

@[expose] public section

set_option maxRecDepth 16384

noncomputable section

namespace Cert.Gate

open Idealize.ShloMosaic
open scoped BigOperators

/-- The 16 gates' entries, zero in the padded lanes. -/
def lane (w : Fin 16 → EReal) (q : Fin 128) : EReal := if h : q.val < 16 then w ⟨q.val, h⟩ else 0

/-- The log-sigmoid, as the smaller of the logit and zero less a logarithm. -/
def ls (z : EReal) : EReal := min z 0 - Ideal.log1p (Ideal.exp (0 - max z (-z)))

/-- A gate's logit from a row, the gates' weights and their biases; zero in the padded lanes. -/
def logit (h : Fin 2048 → EReal) (w : Fin 2048 → Fin 16 → EReal) (b : Fin 16 → EReal) (q : Fin 128) : EReal :=
  lane (fun l => (∑ k, h k * w k l) + b l) q

/-- The product with the padded weights plus the padded biases is the logit. -/
theorem logit_eq (h : Fin 2048 → EReal) (w : Fin 2048 → Fin 16 → EReal) (b : Fin 16 → EReal) (q : Fin 128) :
    (∑ k, h k * lane (w k) q) + lane b q = logit h w b q := by
  unfold logit lane
  by_cases hq : q.val < 16
  · simp only [dif_pos hq]
  · simp only [dif_neg hq, mul_zero, Finset.sum_const_zero, add_zero]

/-- The logarithm of one plus an exponential is never minus infinity. -/
theorem log1p_exp_ne_bot (a : EReal) : Ideal.log1p (Ideal.exp a) ≠ ⊥ := by
  unfold Ideal.log1p
  induction a using EReal.rec with
  | bot =>
    rw [show (1 : EReal) + Ideal.exp ⊥ = ((1 : ℝ) : EReal) from by show (1 : EReal) + 0 = _; rw [add_zero]; rfl]
    show (if (1 : ℝ) ≤ 0 then (⊥ : EReal) else (Real.log 1 : EReal)) ≠ ⊥
    rw [if_neg (by norm_num)]
    exact EReal.coe_ne_bot _
  | top =>
    rw [show (1 : EReal) + Ideal.exp ⊤ = ⊤ from EReal.coe_add_top 1]
    show (⊤ : EReal) ≠ ⊥
    exact bot_ne_top.symm
  | coe r =>
    rw [show (1 : EReal) + Ideal.exp (r : EReal) = ((1 + Real.exp r : ℝ) : EReal) from (EReal.coe_add 1 (Real.exp r)).symm]
    show (if 1 + Real.exp r ≤ 0 then (⊥ : EReal) else (Real.log (1 + Real.exp r) : EReal)) ≠ ⊥
    rw [if_neg (by have := Real.exp_pos r; linarith)]
    exact EReal.coe_ne_bot _

/-- The negated softplus of the negated logit is the log-sigmoid. -/
theorem ls_eq (z : EReal) : -(max (-z) 0 + Ideal.log1p (Ideal.exp (-max (-z) (- -z)))) = ls z := by
  unfold ls
  have hA : max (-z) 0 ≠ ⊥ := ne_of_gt (lt_of_lt_of_le (EReal.bot_lt_zero) (le_max_right _ _))
  rw [EReal.neg_add (Or.inl hA) (Or.inr (log1p_exp_ne_bot _)), neg_neg, zero_sub, max_comm z (-z)]
  congr 1
  rcases le_total z 0 with hz | hz
  · rw [min_eq_left hz, max_eq_left (by rw [← neg_zero]; exact EReal.neg_le_neg_iff.2 hz), neg_neg]
  · rw [min_eq_right hz, max_eq_right (by rw [← neg_zero]; exact EReal.neg_le_neg_iff.2 hz), neg_zero]

end Cert.Gate

namespace Cert.Kernel5Ideal.Gate

open Cert.Kernel5Ideal Cert.Kernel5Ideal.Gen Cert.Kernel5Ideal.Facts Idealize.ShloMosaic Idealize.ShloMosaic.TcCoe
open scoped BigOperators

/-- The first payload: the normed block. -/
theorem pay1_at (x : FVec Ideal S1024x2048 .f32) (g : FVec Ideal S1x2048 .f32) (r : Fin 1024) (k : Fin 2048) :
    (k0_pay1 (F := Ideal) x g : FVec Ideal S1024x2048 .bf16) (ix2 r k) = Rows.rms (fun k => x (ix2 r k)) (fun k => g (ix2 0 k)) k := by
  pointwise [k0_pay1]
  rfl

/-- The second payload: the log-sigmoid of the block's product with the weights plus the bias. -/
theorem pay2_at (xb : FVec Ideal S1024x2048 .bf16) (w : FVec Ideal S2048x128 .f32) (b : FVec Ideal S1x128 .f32) (r : Fin 1024) (j : Fin 128) :
    (k0_pay2 (F := Ideal) xb w b : FVec Ideal S1024x128 .f32) (ix2 r j) = Gate.ls ((∑ k : Fin 2048, xb (ix2 r k) * w (ix2 k j)) + b (ix2 0 j)) := by
  pointwise [k0_pay2]
  rfl

/-- The stacked rows the host hands to the kernel. -/
theorem stack_at (x0 : FVec Ideal S2x4096x2048 .f32) (x1 : FVec Ideal S32x64x2048 .f32) (p : Fin 10240) (k : Fin 2048) :
    (concatenate S10240x2048 0 [⟨S8192x2048, shapeCast _ x0 shapeCasts_S2x4096x2048_S8192x2048⟩, ⟨S2048x2048, shapeCast _ x1 shapeCasts_S32x64x2048_S2048x2048⟩] concatenates_S8192x2048_S2048x2048_S10240x2048_d0 : FVec Ideal S10240x2048 .f32) (ix2 p k)
      = Rows.stack (fun b i k => x0 (ix3 b i k)) (fun b i k => x1 (ix3 b i k)) p k := by
  pointwise [Rows.stack]

/-- The padded weights the host hands to the kernel. -/
theorem weights_at (x3 : FVec Ideal S2x2048x6160 .f32) (k : Fin 2048) (q : Fin 128) :
    (concatenate S2048x128 1 [⟨S2048x16, shapeCast _ (extractStridedSlice S1x2048x16 ![0, 0, 6144] x3 slices_S2x2048x6160_S1x2048x16_0_0_6144) shapeCasts_S1x2048x16_S2048x16⟩, ⟨S2048x112, broadcastInDim S2048x112 ![] bcast_S_S2048x112 (constant (F := Ideal) S_ .f32 0x00000000#32)⟩] concatenates_S2048x16_S2048x112_S2048x128_d1 : FVec Ideal S2048x128 .f32) (ix2 k q)
      = Gate.lane (fun l => x3 (ix3 0 k ⟨6144 + l.val, by omega⟩)) q := by
  pointwise [Gate.lane]

/-- The padded biases the host hands to the kernel. -/
theorem biases_at (x4 : FVec Ideal S2x16 .f32) (q : Fin 128) :
    (shapeCast S1x128 (concatenate S128 0 [⟨S16, shapeCast _ (extractStridedSlice S1x16 ![0, 0] x4 slices_S2x16_S1x16_0_0) shapeCasts_S1x16_S16⟩, ⟨S112, broadcastInDim S112 ![] bcast_S_S112 (constant (F := Ideal) S_ .f32 0x00000000#32)⟩] concatenates_S16_S112_S128_d0) shapeCasts_S128_S1x128 : FVec Ideal S1x128 .f32) (ix2 0 q)
      = Gate.lane (fun l => x4 (ix2 0 l)) q := by
  pointwise [Gate.lane]

variable (m : (ℓ : Loc nD τ sig) → Buf (Elt Ideal) ℓ)

/-- Which block each window holds at a grid point. -/
theorem idx : ∀ t : Fin cfg0.N, win0_0.index t = ![t.val, 0] ∧ win0_1.index t = ![0, 0] ∧ win0_2.index t = ![0, 0] ∧ win0_3.index t = ![0, 0]
    ∧ win0_4.index t = ![t.val, 0] ∧ t.val < 10 :=
  (by decide +kernel : ∀ t : Fin grid0.N, _)

/-- A row of the kernel's input, from the arguments. -/
def row (c : Dev nD) (p : Fin 10240) (k : Fin 2048) : EReal :=
  Rows.stack (fun b i k => (show FVec Ideal S2x4096x2048 .f32 from m ((c : Thread nD τ).loc main_arg0)) (ix3 b i k))
    (fun b i k => (show FVec Ideal S32x64x2048 .f32 from m ((c : Thread nD τ).loc main_arg1)) (ix3 b i k)) p k

/-- The rows of the block at a point. -/
theorem blk0 (c : Dev nD) (t : Fin cfg0.N) (r : Fin 1024) (k : Fin 2048) : (show FVec Ideal S1024x2048 .f32 from iblk m c 0 t) (ix2 r k)
    = row m c ⟨t.val * 1024 + r.val, by have := (idx t).2.2.2.2.2; omega⟩ k := by
  have := (idx t).2.2.2.2.2
  refine Eq.trans ?_ (stack_at _ _ _ _)
  blk_simp [iblk]; entry_read
  blk_ext [idx t]

/-- The gain of the norm. -/
theorem blk1 (c : Dev nD) (t : Fin cfg0.N) (k : Fin 2048) : (show FVec Ideal S1x2048 .f32 from iblk m c 1 t) (ix2 0 k)
    = (show FVec Ideal S4x2048 .f32 from m ((c : Thread nD τ).loc main_arg2)) (ix2 0 k) := by
  blk_simp [iblk]; entry_read; pointwise; blk_ext [idx t]

/-- The padded weights. -/
theorem blk2 (c : Dev nD) (t : Fin cfg0.N) (k : Fin 2048) (l : Fin 128) : (show FVec Ideal S2048x128 .f32 from iblk m c 2 t) (ix2 k l)
    = Gate.lane (fun l => (show FVec Ideal S2x2048x6160 .f32 from m ((c : Thread nD τ).loc main_arg3)) (ix3 0 k ⟨6144 + l.val, by omega⟩)) l := by
  refine Eq.trans ?_ (weights_at _ _ _)
  blk_simp [iblk]; entry_read
  blk_ext [idx t]

/-- The padded biases. -/
theorem blk3 (c : Dev nD) (t : Fin cfg0.N) (l : Fin 128) : (show FVec Ideal S1x128 .f32 from iblk m c 3 t) (ix2 0 l)
    = Gate.lane (fun l => (show FVec Ideal S2x16 .f32 from m ((c : Thread nD τ).loc main_arg4)) (ix2 0 l)) l := by
  refine Eq.trans ?_ (biases_at _ _)
  blk_simp [iblk]; entry_read
  blk_ext [idx t]

/-- An entry of the gates: the log-sigmoid of a normed row's logit. -/
def entry (c : Dev nD) (p : Fin 10240) (q : Fin 128) : EReal :=
  Gate.ls (Gate.logit (Rows.rms (fun k => row m c p k) (fun k => (show FVec Ideal S4x2048 .f32 from m ((c : Thread nD τ).loc main_arg2)) (ix2 0 k)))
    (fun k l => (show FVec Ideal S2x2048x6160 .f32 from m ((c : Thread nD τ).loc main_arg3)) (ix3 0 k ⟨6144 + l.val, by omega⟩))
    (fun l => (show FVec Ideal S2x16 .f32 from m ((c : Thread nD τ).loc main_arg4)) (ix2 0 l)) q)

/-- The block a point writes, as payloads. -/
theorem outs (c : Dev nD) (t : Fin cfg0.N) : outsAt0 m c t = k0_pay2 (F := Ideal) (k0_pay1 (F := Ideal) (iblk m c 0 t) (iblk m c 1 t)) (iblk m c 2 t) (iblk m c 3 t) := by
  unfold outsAt0
  frame_out

/-- A point's block holds the gates' entries. -/
theorem out4 (c : Dev nD) (t : Fin cfg0.N) (r : Fin 1024) (j : Fin 128) (p : Fin 10240) (q : Fin 128) (hp : p.val = t.val * 1024 + r.val) (hq : q.val = j.val) :
    (show FVec Ideal S1024x128 .f32 from outsAt0 m c t) (ix2 r j) = entry m c p q := by
  obtain ⟨p, hpl⟩ := p
  obtain rfl : p = t.val * 1024 + r.val := hp
  obtain rfl : q = j := Fin.ext hq
  rw [outs m c t]
  refine (pay2_at _ _ _ r q).trans ?_
  simp only [pay1_at, blk0, blk1, blk2, blk3]
  exact congrArg Gate.ls (Gate.logit_eq _ _ _ q)

/-- The kernel's array holds the gates. -/
theorem final4 (c : Dev nD) : (dats m 0 c).arrAt 4 cfg0.N = fun i : S10240x128.Idx => entry m c (i 0) (i 1) := by
  refine (dats m 0 c).arrAt_eq_of_covers 4 _ (by decide +kernel) fun t hf y => ?_
  have ht := (idx t).2.2.2.2.2
  blk_simp
  rw [after0_4]
  have hy : y = ix2 (y 0 : Fin 1024) (y 1 : Fin 128) := by funext k; fin_cases k <;> rfl
  refine (congrArg (outsAt0 m c t) hy).trans ?_
  exact out4 m c t (y 0) (y 1) _ _ (by blk_simp [idx t]) (by blk_simp [idx t])

end Cert.Kernel5Ideal.Gate

namespace Cert.Reference5Ideal.Gate

open Cert.Reference5Ideal Cert.Reference5Ideal.Facts Cert.Reference5Ideal.Read Cert.Reference5Ideal.Gen Idealize.ShloMosaic
open scoped BigOperators

variable (x0 : FVec Ideal S2x4096x2048 .f32) (x1 : FVec Ideal S32x64x2048 .f32) (x2 : FVec Ideal S4x2048 .f32) (x3 : FVec Ideal S2x2048x6160 .f32) (x4 : FVec Ideal S2x16 .f32)

/-- The normed rows of the prompt. -/
theorem norm_p (b : Fin 2) (i : Fin 4096) (k : Fin 2048) : (val_main_v14 (F := Ideal) x0 x2 : FVec Ideal S2x4096x2048 .f32) (ix3 b i k)
    = Rows.rms (fun k => x0 (ix3 b i k)) (fun k => x2 (ix2 0 k)) k := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The prompt' logits. -/
theorem raw_p (b : Fin 2) (i : Fin 4096) (j : Fin 16) : (val_main_v23 (F := Ideal) x0 x2 x3 x4 : FVec Ideal S2x4096x16 .f32) (ix3 b i j)
    = (∑ k : Fin 2048, Rows.rms (fun k => x0 (ix3 b i k)) (fun k => x2 (ix2 0 k)) k * x3 (ix3 0 k ⟨6144 + j.val, by omega⟩)) + x4 (ix2 0 j) := by
  pointwise [val_main_v23, val_main_v22, val_main_v21, val_main_v20, val_main_v19, val_main_v18, val_main_v17, val_main_v16, val_main_v15]
  simp only [norm_p]

/-- The prompt' logits, with the padded lanes. -/
theorem logit_p (b : Fin 2) (i : Fin 4096) (j : Fin 128) : (val_main_v24 (F := Ideal) x0 x2 x3 x4 : FVec Ideal S2x4096x128 .f32) (ix3 b i j)
    = Gate.logit (Rows.rms (fun k => x0 (ix3 b i k)) (fun k => x2 (ix2 0 k))) (fun k l => x3 (ix3 0 k ⟨6144 + l.val, by omega⟩)) (fun l => x4 (ix2 0 l)) j := by
  pointwise [val_main_v24, val_main_call0_v0, val_main_c]
  unfold Gate.logit Gate.lane
  by_cases h : j.val < 16
  · simp only [dif_pos h]
    exact raw_p x0 x2 x3 x4 b i _
  · simp only [dif_neg h]
    show (((0#32 : BitVec 32).toInt : ℝ) : EReal) = 0
    simp

/-- The prompt' gates. -/
theorem gate_p (b : Fin 2) (i : Fin 4096) (j : Fin 128) : (val_main_v25 (F := Ideal) x0 x2 x3 x4 : FVec Ideal S2x4096x128 .f32) (ix3 b i j)
    = Gate.ls (Gate.logit (Rows.rms (fun k => x0 (ix3 b i k)) (fun k => x2 (ix2 0 k))) (fun k l => x3 (ix3 0 k ⟨6144 + l.val, by omega⟩)) (fun l => x4 (ix2 0 l)) j) := by
  pointwise [val_main_v25, val_main_call1_v1, val_main_call1_call0_v11, val_main_call1_call0_v10, val_main_call1_call0_v9, val_main_call1_call0_v8, val_main_call1_call0_v7, val_main_call1_call0_v6, val_main_call1_call0_v5, val_main_call1_call0_v4, val_main_call1_call0_v3, val_main_call1_call0_v2, val_main_call1_call0_v1, val_main_call1_call0_v0, val_main_call1_call0_cst, val_main_call1_v0]
  rw [logit_p]
  rw [if_neg (fun h => h rfl)]
  exact Gate.ls_eq _

/-- The normed rows of the samples. -/
theorem norm_s (b : Fin 32) (i : Fin 64) (k : Fin 2048) : (val_main_v41 (F := Ideal) x1 x2 : FVec Ideal S32x64x2048 .f32) (ix3 b i k)
    = Rows.rms (fun k => x1 (ix3 b i k)) (fun k => x2 (ix2 0 k)) k := by
  pointwise [val_main_v41, val_main_v40, val_main_v39, val_main_v38, val_main_v37, val_main_v36, val_main_v35, val_main_v34, val_main_v33, val_main_v32, val_main_v31, val_main_v30, val_main_v29, val_main_v28, val_main_v27, val_main_cst_2, val_main_cst_3, val_main_cst_4]
  rfl

/-- The samples' logits. -/
theorem raw_s (b : Fin 32) (i : Fin 64) (j : Fin 16) : (val_main_v50 (F := Ideal) x1 x2 x3 x4 : FVec Ideal S32x64x16 .f32) (ix3 b i j)
    = (∑ k : Fin 2048, Rows.rms (fun k => x1 (ix3 b i k)) (fun k => x2 (ix2 0 k)) k * x3 (ix3 0 k ⟨6144 + j.val, by omega⟩)) + x4 (ix2 0 j) := by
  pointwise [val_main_v50, val_main_v49, val_main_v48, val_main_v47, val_main_v46, val_main_v45, val_main_v44, val_main_v43, val_main_v42]
  simp only [norm_s]

/-- The samples' logits, with the padded lanes. -/
theorem logit_s (b : Fin 32) (i : Fin 64) (j : Fin 128) : (val_main_v51 (F := Ideal) x1 x2 x3 x4 : FVec Ideal S32x64x128 .f32) (ix3 b i j)
    = Gate.logit (Rows.rms (fun k => x1 (ix3 b i k)) (fun k => x2 (ix2 0 k))) (fun k l => x3 (ix3 0 k ⟨6144 + l.val, by omega⟩)) (fun l => x4 (ix2 0 l)) j := by
  pointwise [val_main_v51, val_main_call2_v0, val_main_c_5]
  unfold Gate.logit Gate.lane
  by_cases h : j.val < 16
  · simp only [dif_pos h]
    exact raw_s x1 x2 x3 x4 b i _
  · simp only [dif_neg h]
    show (((0#32 : BitVec 32).toInt : ℝ) : EReal) = 0
    simp

/-- The samples' gates. -/
theorem gate_s (b : Fin 32) (i : Fin 64) (j : Fin 128) : (val_main_v52 (F := Ideal) x1 x2 x3 x4 : FVec Ideal S32x64x128 .f32) (ix3 b i j)
    = Gate.ls (Gate.logit (Rows.rms (fun k => x1 (ix3 b i k)) (fun k => x2 (ix2 0 k))) (fun k l => x3 (ix3 0 k ⟨6144 + l.val, by omega⟩)) (fun l => x4 (ix2 0 l)) j) := by
  pointwise [val_main_v52, val_main_call3_v1, val_main_call3_call0_v11, val_main_call3_call0_v10, val_main_call3_call0_v9, val_main_call3_call0_v8, val_main_call3_call0_v7, val_main_call3_call0_v6, val_main_call3_call0_v5, val_main_call3_call0_v4, val_main_call3_call0_v3, val_main_call3_call0_v2, val_main_call3_call0_v1, val_main_call3_call0_v0, val_main_call3_call0_cst, val_main_call3_v0]
  rw [logit_s]
  rw [if_neg (fun h => h rfl)]
  exact Gate.ls_eq _

/-- The stacked gates: the prompt's rows, then the samples'. -/
theorem stacked (p : Fin 10240) (q : Fin 128) : (val_main_v54 (F := Ideal) x0 x1 x2 x3 x4 : FVec Ideal S10240x128 .f32) (ix2 p q)
    = if h : p.val < 8192 then (val_main_v25 (F := Ideal) x0 x2 x3 x4 : FVec Ideal S2x4096x128 .f32) (ix3 ⟨p.val / 4096, by omega⟩ ⟨p.val % 4096, by omega⟩ q)
      else (val_main_v52 (F := Ideal) x1 x2 x3 x4 : FVec Ideal S32x64x128 .f32) (ix3 ⟨(p.val - 8192) / 64, by have := p.isLt; omega⟩ ⟨(p.val - 8192) % 64, by omega⟩ q) := by
  pointwise [val_main_v54, val_main_v53, val_main_v26]

/-- The stacked gates, as log-sigmoids of normed rows' logits. -/
theorem final (p : Fin 10240) (q : Fin 128) : (val_main_v54 (F := Ideal) x0 x1 x2 x3 x4 : FVec Ideal S10240x128 .f32) (ix2 p q)
    = Gate.ls (Gate.logit (Rows.rms (fun k => Rows.stack (fun b i k => x0 (ix3 b i k)) (fun b i k => x1 (ix3 b i k)) p k) (fun k => x2 (ix2 0 k)))
      (fun k l => x3 (ix3 0 k ⟨6144 + l.val, by omega⟩)) (fun l => x4 (ix2 0 l)) q) := by
  rw [stacked]
  unfold Rows.stack
  by_cases h : p.val < 8192
  · simp only [dif_pos h]
    exact gate_p x0 x2 x3 x4 _ _ q
  · simp only [dif_neg h]
    exact gate_s x1 x2 x3 x4 _ _ q

end Cert.Reference5Ideal.Gate

namespace Cert.Gate

open Idealize.ShloMosaic

/-- From memories that agree on the arguments, the kernel's array is the reference's. -/
theorem same (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ)
    (c : Dev Cert.Kernel5Ideal.nD)
    (e : m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) :
    Cert.Reference5Ideal.Value.res_main_v54 (F := Ideal) m' c = (Cert.Kernel5Ideal.Gen.dats m 0 c).arrAt 4 Cert.Kernel5Ideal.cfg0.N := by
  obtain ⟨e0, e1, e2, e3, e4⟩ := e
  rw [Cert.Reference5Ideal.Read.val_main_v54_eq m' c]
  rw [Cert.Kernel5Ideal.Gate.final4 m c, e0, e1, e2, e3, e4]
  funext i
  have hi : i = ix2 (i 0) (i 1) := by funext k; fin_cases k <;> rfl
  conv_lhs => rw [hi]
  exact Cert.Reference5Ideal.Gate.final _ _ _ _ _ (i 0) (i 1)

end Cert.Gate

end
-- ==== Proof.Last.lean ====
module

public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Rows
public import Idealize.ShloMosaic.Lib.Pointwise
public import Idealize.ShloMosaic.Lib.Pipeline.ValueKit

/-! The last norm of the prompt's rows and of the samples': the kernels' arrays, the references', and that they agree. -/

@[expose] public section

set_option maxRecDepth 16384

noncomputable section

namespace Cert.Kernel6Ideal.LastP

open Cert.Kernel6Ideal Cert.Kernel6Ideal.Gen Cert.Kernel6Ideal.Facts Idealize.ShloMosaic Idealize.ShloMosaic.TcCoe
open scoped BigOperators

/-- The payload: the normed block. -/
theorem pay1_at (x : FVec Ideal S1024x2048 .f32) (g : FVec Ideal S1x2048 .f32) (r : Fin 1024) (k : Fin 2048) :
    (k0_pay1 (F := Ideal) x g : FVec Ideal S1024x2048 .f32) (ix2 r k) = Rows.rms (fun k => x (ix2 r k)) (fun k => g (ix2 0 k)) k := by
  pointwise [k0_pay1]
  rfl

variable (m : (ℓ : Loc nD τ sig) → Buf (Elt Ideal) ℓ)

/-- Which block each window holds at a grid point. -/
theorem idx : ∀ t : Fin cfg0.N, win0_0.index t = ![t.val, 0] ∧ win0_1.index t = ![0, 0] ∧ win0_2.index t = ![t.val, 0] ∧ t.val < 8 :=
  (by decide +kernel : ∀ t : Fin grid0.N, _)

/-- The rows of the block at a point. -/
theorem blk0 (c : Dev nD) (t : Fin cfg0.N) (r : Fin 1024) (k : Fin 2048) : (show FVec Ideal S1024x2048 .f32 from iblk m c 0 t) (ix2 r k)
    = (show FVec Ideal S10240x2048 .f32 from m ((c : Thread nD τ).loc main_arg0)) (ix2 ⟨t.val * 1024 + r.val, by have := (idx t).2.2.2; omega⟩ k) := by
  have := (idx t).2.2.2
  blk_simp [iblk]; entry_read; blk_ext [idx t]

/-- The gain of the norm. -/
theorem blk1 (c : Dev nD) (t : Fin cfg0.N) (k : Fin 2048) : (show FVec Ideal S1x2048 .f32 from iblk m c 1 t) (ix2 0 k)
    = (show FVec Ideal S2048 .f32 from m ((c : Thread nD τ).loc main_arg1)) (ix1 k) := by
  blk_simp [iblk]; entry_read; pointwise; blk_ext [idx t]

/-- An entry of the normed rows. -/
def entry (c : Dev nD) (p : Fin 8192) (q : Fin 2048) : EReal :=
  Rows.rms (fun k => (show FVec Ideal S10240x2048 .f32 from m ((c : Thread nD τ).loc main_arg0)) (ix2 ⟨p.val, by omega⟩ k))
    (fun k => (show FVec Ideal S2048 .f32 from m ((c : Thread nD τ).loc main_arg1)) (ix1 k)) q

/-- A point's block holds the normed rows. -/
theorem out2 (c : Dev nD) (t : Fin cfg0.N) (r : Fin 1024) (j : Fin 2048) (p : Fin 8192) (q : Fin 2048) (hp : p.val = t.val * 1024 + r.val) (hq : q.val = j.val) :
    (show FVec Ideal S1024x2048 .f32 from out0_2 (iblk m c 0 t) (iblk m c 1 t)) (ix2 r j) = entry m c p q := by
  obtain ⟨p, hpl⟩ := p
  obtain rfl : p = t.val * 1024 + r.val := hp
  obtain rfl : q = j := Fin.ext hq
  rw [show out0_2 (F := Ideal) (iblk m c 0 t) (iblk m c 1 t) = k0_pay1 (F := Ideal) (iblk m c 0 t) (iblk m c 1 t) from by frame_out]
  refine (pay1_at _ _ r q).trans ?_
  simp only [blk0, blk1]
  rfl

/-- The kernel's array holds the normed rows. -/
theorem final2 (c : Dev nD) : (dats m 0 c).arrAt 2 cfg0.N = fun i : S8192x2048.Idx => entry m c (i 0) (i 1) := by
  refine (dats m 0 c).arrAt_eq_of_covers 2 _ (by decide +kernel) fun t hf y => ?_
  have ht := (idx t).2.2.2
  blk_simp
  rw [after0_2]
  have hy : y = ix2 (y 0 : Fin 1024) (y 1 : Fin 2048) := by funext k; fin_cases k <;> rfl
  refine (congrArg (out0_2 (F := Ideal) (iblk m c 0 t) (iblk m c 1 t)) hy).trans ?_
  exact out2 m c t (y 0) (y 1) _ _ (by blk_simp [idx t]) (by blk_simp [idx t])

end Cert.Kernel6Ideal.LastP

namespace Cert.Reference6Ideal.LastP

open Cert.Reference6Ideal Cert.Reference6Ideal.Facts Cert.Reference6Ideal.Read Cert.Reference6Ideal.Gen Idealize.ShloMosaic
open scoped BigOperators

/-- The reference's array, element by element. -/
theorem final (x0 : FVec Ideal S10240x2048 .f32) (x1 : FVec Ideal S2048 .f32) (p : Fin 8192) (q : Fin 2048) : (val_main_v13 (F := Ideal) x0 x1 : FVec Ideal S8192x2048 .f32) (ix2 p q)
    = Rows.rms (fun k => x0 (ix2 ⟨p.val, by omega⟩ k)) (fun k => x1 (ix1 k)) q := by
  pointwise [val_main_v13, val_main_v12, val_main_v11, val_main_v10, val_main_v9, val_main_v8, val_main_v7, val_main_cst_1, val_main_v6, val_main_v5, val_main_v4, val_main_cst_0,
    val_main_v3, val_main_v2, val_main_cst, val_main_v1, val_main_v0]
  rfl

end Cert.Reference6Ideal.LastP

namespace Cert.LastP

open Idealize.ShloMosaic

/-- From memories that agree on the arguments, the kernel's array is the reference's. -/
theorem same (m : (ℓ : Loc Cert.Kernel6Ideal.nD Cert.Kernel6Ideal.τ Cert.Kernel6Ideal.sig) → Buf (Elt Ideal) ℓ)
    (m' : (ℓ : Loc Cert.Reference6Ideal.nD Cert.Reference6Ideal.τ Cert.Reference6Ideal.sig) → Buf (Elt Ideal) ℓ)
    (c : Dev Cert.Kernel6Ideal.nD)
    (e : m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) :
    Cert.Reference6Ideal.Read.val_main_v13 (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) = (Cert.Kernel6Ideal.Gen.dats m 0 c).arrAt 2 Cert.Kernel6Ideal.cfg0.N := by
  obtain ⟨e0, e1⟩ := e
  rw [Cert.Kernel6Ideal.LastP.final2 m c, e0, e1]
  funext i
  have hi : i = ix2 (i 0) (i 1) := by funext k; fin_cases k <;> rfl
  conv_lhs => rw [hi]
  exact Cert.Reference6Ideal.LastP.final _ _ (i 0) (i 1)

end Cert.LastP

namespace Cert.Kernel7Ideal.LastS

open Cert.Kernel7Ideal Cert.Kernel7Ideal.Gen Cert.Kernel7Ideal.Facts Idealize.ShloMosaic Idealize.ShloMosaic.TcCoe
open scoped BigOperators

/-- The payload: the normed block. -/
theorem pay1_at (x : FVec Ideal S1024x2048 .f32) (g : FVec Ideal S1x2048 .f32) (r : Fin 1024) (k : Fin 2048) :
    (k0_pay1 (F := Ideal) x g : FVec Ideal S1024x2048 .f32) (ix2 r k) = Rows.rms (fun k => x (ix2 r k)) (fun k => g (ix2 0 k)) k := by
  pointwise [k0_pay1]
  rfl

variable (m : (ℓ : Loc nD τ sig) → Buf (Elt Ideal) ℓ)

/-- Which block each window holds at a grid point. -/
theorem idx : ∀ t : Fin cfg0.N, win0_0.index t = ![8 + t.val, 0] ∧ win0_1.index t = ![0, 0] ∧ win0_2.index t = ![t.val, 0] ∧ t.val < 2 :=
  (by decide +kernel : ∀ t : Fin grid0.N, _)

/-- The rows of the block at a point. -/
theorem blk0 (c : Dev nD) (t : Fin cfg0.N) (r : Fin 1024) (k : Fin 2048) : (show FVec Ideal S1024x2048 .f32 from iblk m c 0 t) (ix2 r k)
    = (show FVec Ideal S10240x2048 .f32 from m ((c : Thread nD τ).loc main_arg0)) (ix2 ⟨8192 + (t.val * 1024 + r.val), by have := (idx t).2.2.2; omega⟩ k) := by
  have := (idx t).2.2.2
  blk_simp [iblk]; entry_read; blk_ext [idx t]

/-- The gain of the norm. -/
theorem blk1 (c : Dev nD) (t : Fin cfg0.N) (k : Fin 2048) : (show FVec Ideal S1x2048 .f32 from iblk m c 1 t) (ix2 0 k)
    = (show FVec Ideal S2048 .f32 from m ((c : Thread nD τ).loc main_arg1)) (ix1 k) := by
  blk_simp [iblk]; entry_read; pointwise; blk_ext [idx t]

/-- An entry of the normed rows. -/
def entry (c : Dev nD) (p : Fin 2048) (q : Fin 2048) : EReal :=
  Rows.rms (fun k => (show FVec Ideal S10240x2048 .f32 from m ((c : Thread nD τ).loc main_arg0)) (ix2 ⟨8192 + p.val, by omega⟩ k))
    (fun k => (show FVec Ideal S2048 .f32 from m ((c : Thread nD τ).loc main_arg1)) (ix1 k)) q

/-- A point's block holds the normed rows. -/
theorem out2 (c : Dev nD) (t : Fin cfg0.N) (r : Fin 1024) (j : Fin 2048) (p : Fin 2048) (q : Fin 2048) (hp : p.val = t.val * 1024 + r.val) (hq : q.val = j.val) :
    (show FVec Ideal S1024x2048 .f32 from out0_2 (iblk m c 0 t) (iblk m c 1 t)) (ix2 r j) = entry m c p q := by
  obtain ⟨p, hpl⟩ := p
  obtain rfl : p = t.val * 1024 + r.val := hp
  obtain rfl : q = j := Fin.ext hq
  rw [show out0_2 (F := Ideal) (iblk m c 0 t) (iblk m c 1 t) = k0_pay1 (F := Ideal) (iblk m c 0 t) (iblk m c 1 t) from by frame_out]
  refine (pay1_at _ _ r q).trans ?_
  simp only [blk0, blk1]
  rfl

/-- The kernel's array holds the normed rows. -/
theorem final2 (c : Dev nD) : (dats m 0 c).arrAt 2 cfg0.N = fun i : S2048x2048.Idx => entry m c (i 0) (i 1) := by
  refine (dats m 0 c).arrAt_eq_of_covers 2 _ (by decide +kernel) fun t hf y => ?_
  have ht := (idx t).2.2.2
  blk_simp
  rw [after0_2]
  have hy : y = ix2 (y 0 : Fin 1024) (y 1 : Fin 2048) := by funext k; fin_cases k <;> rfl
  refine (congrArg (out0_2 (F := Ideal) (iblk m c 0 t) (iblk m c 1 t)) hy).trans ?_
  exact out2 m c t (y 0) (y 1) _ _ (by blk_simp [idx t]) (by blk_simp [idx t])

end Cert.Kernel7Ideal.LastS

namespace Cert.Reference7Ideal.LastS

open Cert.Reference7Ideal Cert.Reference7Ideal.Facts Cert.Reference7Ideal.Read Cert.Reference7Ideal.Gen Idealize.ShloMosaic
open scoped BigOperators

/-- The reference's array, element by element. -/
theorem final (x0 : FVec Ideal S10240x2048 .f32) (x1 : FVec Ideal S2048 .f32) (p : Fin 2048) (q : Fin 2048) : (val_main_v13 (F := Ideal) x0 x1 : FVec Ideal S2048x2048 .f32) (ix2 p q)
    = Rows.rms (fun k => x0 (ix2 ⟨8192 + p.val, by omega⟩ k)) (fun k => x1 (ix1 k)) q := by
  pointwise [val_main_v13, val_main_v12, val_main_v11, val_main_v10, val_main_v9, val_main_v8, val_main_v7, val_main_cst_1, val_main_v6, val_main_v5, val_main_v4, val_main_cst_0,
    val_main_v3, val_main_v2, val_main_cst, val_main_v1, val_main_v0]
  rfl

end Cert.Reference7Ideal.LastS

namespace Cert.LastS

open Idealize.ShloMosaic

/-- From memories that agree on the arguments, the kernel's array is the reference's. -/
theorem same (m : (ℓ : Loc Cert.Kernel7Ideal.nD Cert.Kernel7Ideal.τ Cert.Kernel7Ideal.sig) → Buf (Elt Ideal) ℓ)
    (m' : (ℓ : Loc Cert.Reference7Ideal.nD Cert.Reference7Ideal.τ Cert.Reference7Ideal.sig) → Buf (Elt Ideal) ℓ)
    (c : Dev Cert.Kernel7Ideal.nD)
    (e : m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) :
    Cert.Reference7Ideal.Read.val_main_v13 (F := Ideal) (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) = (Cert.Kernel7Ideal.Gen.dats m 0 c).arrAt 2 Cert.Kernel7Ideal.cfg0.N := by
  obtain ⟨e0, e1⟩ := e
  rw [Cert.Kernel7Ideal.LastS.final2 m c, e0, e1]
  funext i
  have hi : i = ix2 (i 0) (i 1) := by funext k; fin_cases k <;> rfl
  conv_lhs => rw [hi]
  exact Cert.Reference7Ideal.LastS.final _ _ (i 0) (i 1)

end Cert.LastS

end
-- ==== Proof.Latent.lean ====
module

public import proofs.«01_k».proof.Proof.Gen.Kernel8Ideal.Value
public import proofs.«01_k».proof.Proof.Gen.Reference8Ideal.Run
public import proofs.«01_k».proof.Proof.Gen.Reference8Ideal.Read
public import Idealize.ShloMosaic.Lib.Pointwise
public import Idealize.ShloMosaic.Lib.Pipeline.ValueKit

/-! The norm of the latent's columns: the kernel's arrays, the reference's, and that they agree. -/

@[expose] public section

set_option maxRecDepth 16384

noncomputable section

namespace Cert.Latent

open Idealize.ShloMosaic
open scoped BigOperators

/-- Element `k` of a row of 512 after the root mean square norm with gain `g`. -/
def rms (x g : Fin 512 → EReal) (k : Fin 512) : EReal :=
  x k * Ideal.rsqrt (Ideal.div (∑ l, x l * x l) (Ideal.ofBits FTy.f32 1140850688#32) + Ideal.ofBits FTy.f32 897988541#32) * g k

end Cert.Latent

namespace Cert.Kernel8Ideal.Latent

open Cert.Kernel8Ideal Cert.Kernel8Ideal.Gen Cert.Kernel8Ideal.Facts Idealize.ShloMosaic Idealize.ShloMosaic.TcCoe
open scoped BigOperators

/-- The first payload: the normed block. -/
theorem pay1_at (x : FVec Ideal S1024x512 .f32) (g : FVec Ideal S1x512 .f32) (r : Fin 1024) (k : Fin 512) :
    (k0_pay1 (F := Ideal) x g : FVec Ideal S1024x512 .f32) (ix2 r k) = Latent.rms (fun k => x (ix2 r k)) (fun k => g (ix2 0 k)) k := by
  pointwise [k0_pay1]
  rfl

/-- The second payload is the first, rounded. -/
theorem pay2_at (x : FVec Ideal S1024x512 .f32) (g : FVec Ideal S1x512 .f32) (r : Fin 1024) (k : Fin 512) :
    (k0_pay2 (F := Ideal) x g : FVec Ideal S1024x512 .bf16) (ix2 r k) = Latent.rms (fun k => x (ix2 r k)) (fun k => g (ix2 0 k)) k := by
  pointwise [k0_pay2]
  exact pay1_at x g r k

variable (m : (ℓ : Loc nD τ sig) → Buf (Elt Ideal) ℓ)

/-- Which block each window holds at a grid point. -/
theorem idx : ∀ t : Fin cfg0.N, win0_0.index t = ![t.val, 1] ∧ win0_1.index t = ![0, 0] ∧ win0_2.index t = ![t.val, 0] ∧ win0_3.index t = ![t.val, 0] ∧ t.val < 10 :=
  (by decide +kernel : ∀ t : Fin grid0.N, _)

/-- The rows of the block at a point. -/
theorem blk0 (c : Dev nD) (t : Fin cfg0.N) (r : Fin 1024) (k : Fin 512) : (show FVec Ideal S1024x512 .f32 from X0_0 m c t) (ix2 r k)
    = (show FVec Ideal S10240x1280 .f32 from m ((c : Thread nD τ).loc main_arg0)) (ix2 ⟨t.val * 1024 + r.val, by have := (idx t).2.2.2.2; omega⟩ ⟨512 + k.val, by omega⟩) := by
  have := (idx t).2.2.2.2
  show X0_0 m c t (ix2 r k) = _
  unfold X0_0 Pipeline.Window.fill
  rw [dif_pos (moved0_0 t _)]
  blk_simp [iblk]; entry_read
  blk_ext [idx t]

/-- The gain of the norm. -/
theorem blk1 (c : Dev nD) (t : Fin cfg0.N) (k : Fin 512) : (show FVec Ideal S1x512 .f32 from iblk m c 1 t) (ix2 0 k)
    = (show FVec Ideal S512 .f32 from m ((c : Thread nD τ).loc main_arg1)) (ix1 k) := by
  blk_simp [iblk]; entry_read; pointwise; blk_ext [idx t]

/-- An entry of the normed latent. -/
def entry (c : Dev nD) (p : Fin 10240) (q : Fin 512) : EReal :=
  Latent.rms (fun k => (show FVec Ideal S10240x1280 .f32 from m ((c : Thread nD τ).loc main_arg0)) (ix2 p ⟨512 + k.val, by omega⟩))
    (fun k => (show FVec Ideal S512 .f32 from m ((c : Thread nD τ).loc main_arg1)) (ix1 k)) q

/-- The two blocks a point writes, as payloads. -/
theorem outs (c : Dev nD) (t : Fin cfg0.N) : (outsAt0 m c t).1 = k0_pay1 (F := Ideal) (X0_0 m c t) (iblk m c 1 t)
    ∧ (outsAt0 m c t).2 = k0_pay2 (F := Ideal) (X0_0 m c t) (iblk m c 1 t) := by
  unfold outsAt0
  constructor
  · frame_out
  · frame_out

/-- A point's first block holds the normed latent. -/
theorem out2 (c : Dev nD) (t : Fin cfg0.N) (r : Fin 1024) (j : Fin 512) (p : Fin 10240) (q : Fin 512) (hp : p.val = t.val * 1024 + r.val) (hq : q.val = j.val) :
    (show FVec Ideal S1024x512 .f32 from (outsAt0 m c t).1) (ix2 r j) = entry m c p q := by
  obtain ⟨p, hpl⟩ := p
  obtain rfl : p = t.val * 1024 + r.val := hp
  obtain rfl : q = j := Fin.ext hq
  rw [(outs m c t).1]
  refine (pay1_at _ _ r q).trans ?_
  simp only [blk0, blk1]
  rfl

/-- A point's second block holds the normed latent too. -/
theorem out3 (c : Dev nD) (t : Fin cfg0.N) (r : Fin 1024) (j : Fin 512) (p : Fin 10240) (q : Fin 512) (hp : p.val = t.val * 1024 + r.val) (hq : q.val = j.val) :
    (show FVec Ideal S1024x512 .bf16 from (outsAt0 m c t).2) (ix2 r j) = entry m c p q := by
  obtain ⟨p, hpl⟩ := p
  obtain rfl : p = t.val * 1024 + r.val := hp
  obtain rfl : q = j := Fin.ext hq
  rw [(outs m c t).2]
  refine (pay2_at _ _ r q).trans ?_
  simp only [blk0, blk1]
  rfl

/-- The kernel's first array holds the normed latent. -/
theorem final2 (c : Dev nD) : (dats m 0 c).arrAt 2 cfg0.N = fun i : S10240x512.Idx => entry m c (i 0) (i 1) := by
  refine (dats m 0 c).arrAt_eq_of_covers 2 _ (by decide +kernel) fun t hf y => ?_
  have ht := (idx t).2.2.2.2
  blk_simp
  rw [after0_2]
  have hy : y = ix2 (y 0 : Fin 1024) (y 1 : Fin 512) := by funext k; fin_cases k <;> rfl
  refine (congrArg (outsAt0 m c t).1 hy).trans ?_
  exact out2 m c t (y 0) (y 1) _ _ (by blk_simp [idx t]) (by blk_simp [idx t])

/-- The kernel's second array holds the normed latent. -/
theorem final3 (c : Dev nD) : (dats m 0 c).arrAt 3 cfg0.N = fun i : S10240x512.Idx => entry m c (i 0) (i 1) := by
  refine (dats m 0 c).arrAt_eq_of_covers 3 _ (by decide +kernel) fun t hf y => ?_
  have ht := (idx t).2.2.2.2
  blk_simp
  rw [after0_3]
  have hy : y = ix2 (y 0 : Fin 1024) (y 1 : Fin 512) := by funext k; fin_cases k <;> rfl
  refine (congrArg (outsAt0 m c t).2 hy).trans ?_
  exact out3 m c t (y 0) (y 1) _ _ (by blk_simp [idx t]) (by blk_simp [idx t])

end Cert.Kernel8Ideal.Latent

namespace Cert.Reference8Ideal.Latent

open Cert.Reference8Ideal Cert.Reference8Ideal.Facts Cert.Reference8Ideal.Read Cert.Reference8Ideal.Gen Idealize.ShloMosaic
open scoped BigOperators

/-- The reference's array, element by element. -/
theorem final (x0 : FVec Ideal S10240x1280 .f32) (x1 : FVec Ideal S512 .f32) (p : Fin 10240) (q : Fin 512) : (val_main_v13 (F := Ideal) x0 x1 : FVec Ideal S10240x512 .f32) (ix2 p q)
    = Latent.rms (fun k => x0 (ix2 p ⟨512 + k.val, by omega⟩)) (fun k => x1 (ix1 k)) q := by
  pointwise [val_main_v13, val_main_v12, val_main_v11, val_main_v10, val_main_v9, val_main_v8, val_main_v7, val_main_cst_1, val_main_v6, val_main_v5, val_main_v4, val_main_cst_0,
    val_main_v3, val_main_v2, val_main_cst, val_main_v1, val_main_v0]
  rfl

end Cert.Reference8Ideal.Latent

namespace Cert.Latent

open Idealize.ShloMosaic

/-- From memories that agree on the arguments, the kernel's first array is the reference's. -/
theorem same (m : (ℓ : Loc Cert.Kernel8Ideal.nD Cert.Kernel8Ideal.τ Cert.Kernel8Ideal.sig) → Buf (Elt Ideal) ℓ)
    (m' : (ℓ : Loc Cert.Reference8Ideal.nD Cert.Reference8Ideal.τ Cert.Reference8Ideal.sig) → Buf (Elt Ideal) ℓ)
    (c : Dev Cert.Kernel8Ideal.nD)
    (e : m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) :
    Cert.Reference8Ideal.Read.val_main_v13 (F := Ideal) (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) = (Cert.Kernel8Ideal.Gen.dats m 0 c).arrAt 2 Cert.Kernel8Ideal.cfg0.N := by
  obtain ⟨e0, e1⟩ := e
  rw [Cert.Kernel8Ideal.Latent.final2 m c, e0, e1]
  funext i
  have hi : i = ix2 (i 0) (i 1) := by funext k; fin_cases k <;> rfl
  conv_lhs => rw [hi]
  exact Cert.Reference8Ideal.Latent.final _ _ (i 0) (i 1)

/-- From memories that agree on the arguments, the kernel's second array is the reference's. -/
theorem same_rounded (m : (ℓ : Loc Cert.Kernel8Ideal.nD Cert.Kernel8Ideal.τ Cert.Kernel8Ideal.sig) → Buf (Elt Ideal) ℓ)
    (m' : (ℓ : Loc Cert.Reference8Ideal.nD Cert.Reference8Ideal.τ Cert.Reference8Ideal.sig) → Buf (Elt Ideal) ℓ)
    (c : Dev Cert.Kernel8Ideal.nD)
    (e : m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) :
    Cert.Reference8Ideal.Read.val_main_v14 (F := Ideal) (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) = (Cert.Kernel8Ideal.Gen.dats m 0 c).arrAt 3 Cert.Kernel8Ideal.cfg0.N := by
  obtain ⟨e0, e1⟩ := e
  rw [Cert.Kernel8Ideal.Latent.final3 m c, e0, e1]
  funext i
  have hi : i = ix2 (i 0) (i 1) := by funext k; fin_cases k <;> rfl
  conv_lhs => rw [hi]
  exact Cert.Reference8Ideal.Latent.final _ _ (i 0) (i 1)

end Cert.Latent

end
-- ==== Proof.Outp.lean ====
module

public import proofs.«01_k».proof.Proof.Gen.Kernel9Ideal.Value
public import proofs.«01_k».proof.Proof.Gen.Reference9Ideal.Run
public import proofs.«01_k».proof.Proof.Gen.Reference9Ideal.Read
public import Idealize.ShloMosaic.Lib.Pointwise
public import Idealize.ShloMosaic.Lib.Pipeline.ValueKit

/-! The output projection with its residual: the kernel's array, the reference's, and that they are one. -/

@[expose] public section

set_option maxRecDepth 16384

noncomputable section

namespace Cert.Outp

open Idealize.ShloMosaic

/-- The prompt's 8192 rows followed by the samples' 2048. -/
def rows (x : Fin 8192 → Fin 2048 → EReal) (y : Fin 2048 → Fin 2048 → EReal) (p : Fin 10240) (k : Fin 2048) : EReal :=
  if h : p.val < 8192 then x ⟨p.val, h⟩ k else y ⟨p.val - 8192, by have := p.isLt; omega⟩ k

end Cert.Outp

namespace Cert.Kernel9Ideal.Outp

open Cert.Kernel9Ideal Cert.Kernel9Ideal.Gen Cert.Kernel9Ideal.Facts Idealize.ShloMosaic Idealize.ShloMosaic.TcCoe
open scoped BigOperators

/-- The first payload is its block. -/
theorem pay1_at (x : FVec Ideal S1024x2048 .bf16) (r : Fin 1024) (k : Fin 2048) : (k0_pay1 (F := Ideal) x : FVec Ideal S1024x2048 .bf16) (ix2 r k) = x (ix2 r k) := by
  pointwise [k0_pay1]

/-- The second payload is its block too. -/
theorem pay2_at (x : FVec Ideal S1024x2048 .bf16) (r : Fin 1024) (k : Fin 2048) : (k0_pay2 (F := Ideal) x : FVec Ideal S1024x2048 .bf16) (ix2 r k) = x (ix2 r k) := by
  pointwise [k0_pay2]

/-- The third payload: the block's product with the weights' columns, plus the residual. -/
theorem pay3_at (xb : FVec Ideal S1024x2048 .bf16) (w : FVec Ideal S1x2048x1024 .f32) (v : FVec Ideal S1024x1024 .f32) (r : Fin 1024) (j : Fin 1024) :
    (k0_pay3 (F := Ideal) xb w v : FVec Ideal S1024x1024 .f32) (ix2 r j) = (∑ k : Fin 2048, xb (ix2 r k) * w (ix3 0 k j)) + v (ix2 r j) := by
  pointwise [k0_pay3]

variable (m : (ℓ : Loc nD τ sig) → Buf (Elt Ideal) ℓ)

/-- Which block each window holds at a grid point. -/
theorem idx : ∀ t : Fin cfg0.N, win0_0.index t = ![min (t.val / 2) 7, 0] ∧ win0_1.index t = ![t.val / 2 - 8, 0] ∧ win0_2.index t = ![0, 0, t.val % 2]
    ∧ win0_3.index t = ![t.val / 2, t.val % 2] ∧ win0_4.index t = ![t.val / 2, t.val % 2] ∧ t.val < 20 :=
  (by decide +kernel : ∀ t : Fin grid0.N, _)

/-- A row of the attention's output, from the arguments. -/
def row (c : Dev nD) (p : Fin 10240) (k : Fin 2048) : EReal :=
  Cert.Outp.rows (fun i k => (show FVec Ideal S8192x2048 .f32 from m ((c : Thread nD τ).loc main_arg0)) (ix2 i k))
    (fun i k => (show FVec Ideal S2048x2048 .f32 from m ((c : Thread nD τ).loc main_arg1)) (ix2 i k)) p k

/-- The prompt's rows of the block at a point. -/
theorem blk0 (c : Dev nD) (t : Fin cfg0.N) (h : t.val / 2 < 8) (r : Fin 1024) (k : Fin 2048) : (show FVec Ideal S1024x2048 .bf16 from iblk m c 0 t) (ix2 r k)
    = (show FVec Ideal S8192x2048 .f32 from m ((c : Thread nD τ).loc main_arg0)) (ix2 ⟨t.val / 2 * 1024 + r.val, by omega⟩ k) := by
  have e : min (t.val / 2) 7 = t.val / 2 := by omega
  have i0 := (idx t).1
  rw [e] at i0
  blk_simp [iblk]; entry_read; pointwise; blk_ext [i0]

/-- The samples' rows of the block at a point. -/
theorem blk1 (c : Dev nD) (t : Fin cfg0.N) (h : 8 ≤ t.val / 2) (r : Fin 1024) (k : Fin 2048) : (show FVec Ideal S1024x2048 .bf16 from iblk m c 1 t) (ix2 r k)
    = (show FVec Ideal S2048x2048 .f32 from m ((c : Thread nD τ).loc main_arg1)) (ix2 ⟨(t.val / 2 - 8) * 1024 + r.val, by have := (idx t).2.2.2.2.2; omega⟩ k) := by
  blk_simp [iblk]; entry_read; pointwise; blk_ext [idx t]

/-- The weights' columns at a point. -/
theorem blk2 (c : Dev nD) (t : Fin cfg0.N) (k : Fin 2048) (l : Fin 1024) : (show FVec Ideal S1x2048x1024 .f32 from iblk m c 2 t) (ix3 0 k l)
    = (show FVec Ideal S2x2048x2048 .f32 from m ((c : Thread nD τ).loc main_arg2)) (ix3 0 k ⟨t.val % 2 * 1024 + l.val, by omega⟩) := by
  blk_simp [iblk]; entry_read; blk_ext [idx t]

/-- The residual's block at a point. -/
theorem blk3 (c : Dev nD) (t : Fin cfg0.N) (r : Fin 1024) (l : Fin 1024) : (show FVec Ideal S1024x1024 .f32 from iblk m c 3 t) (ix2 r l)
    = (show FVec Ideal S10240x2048 .f32 from m ((c : Thread nD τ).loc main_arg3)) (ix2 ⟨t.val / 2 * 1024 + r.val, by have := (idx t).2.2.2.2.2; omega⟩ ⟨t.val % 2 * 1024 + l.val, by omega⟩) := by
  have := (idx t).2.2.2.2.2
  blk_simp [iblk]; entry_read; blk_ext [idx t]

/-- At the first point of a run over the prompt the scratch holds the rows of the point's block. -/
theorem scrA (c : Dev nD) (t : Fin cfg0.N) (h0 : t.val / 2 % 10 + 8 * (t.val % 2) ≤ 7) (h1 : ¬2 * (t.val % 2) + 8 ≤ t.val / 2 % 10) (r : Fin 1024) (k : Fin 2048) :
    (show FVec Ideal S1024x2048 .bf16 from (outsAt0 m c t.val t.isLt).2) (ix2 r k) = row m c ⟨t.val / 2 * 1024 + r.val, by have := (idx t).2.2.2.2.2; omega⟩ k := by
  have ht := (idx t).2.2.2.2.2
  have e10 : t.val / 2 % 10 = t.val / 2 := Nat.mod_eq_of_lt (by omega)
  have h8 : t.val / 2 < 8 := by omega
  have e : (outsAt0 m c t.val t.isLt).2 = k0_pay1 (F := Ideal) (iblk m c 0 t) := by
    rw [outsAt0_A m c t h0 h1]
    frame_out
  rw [e]
  refine (pay1_at _ r k).trans ((blk0 m c t h8 r k).trans ?_)
  unfold row Cert.Outp.rows
  rw [dif_pos (show t.val / 2 * 1024 + r.val < 8192 by omega)]

/-- At the first point of a run over the samples the scratch holds the rows of the point's block. -/
theorem scrC (c : Dev nD) (t : Fin cfg0.N) (h0 : ¬t.val / 2 % 10 + 8 * (t.val % 2) ≤ 7) (h1 : 2 * (t.val % 2) + 8 ≤ t.val / 2 % 10) (r : Fin 1024) (k : Fin 2048) :
    (show FVec Ideal S1024x2048 .bf16 from (outsAt0 m c t.val t.isLt).2) (ix2 r k) = row m c ⟨t.val / 2 * 1024 + r.val, by have := (idx t).2.2.2.2.2; omega⟩ k := by
  have ht := (idx t).2.2.2.2.2
  have e10 : t.val / 2 % 10 = t.val / 2 := Nat.mod_eq_of_lt (by omega)
  have h8 : 8 ≤ t.val / 2 := by omega
  have e : (outsAt0 m c t.val t.isLt).2 = k0_pay2 (F := Ideal) (iblk m c 1 t) := by
    rw [outsAt0_C m c t h0 h1]
    frame_out
  rw [e]
  refine (pay2_at _ r k).trans ((blk1 m c t h8 r k).trans ?_)
  unfold row Cert.Outp.rows
  rw [dif_neg (show ¬t.val / 2 * 1024 + r.val < 8192 by omega)]
  refine congrArg (fun i => (show FVec Ideal S2048x2048 .f32 from m ((c : Thread nD τ).loc main_arg1)) (ix2 i k)) (Fin.ext ?_)
  show (t.val / 2 - 8) * 1024 + r.val = t.val / 2 * 1024 + r.val - 8192
  omega

/-- The scratch holds the rows of the point's block at every point. -/
theorem scr (c : Dev nD) (t : Fin cfg0.N) (r : Fin 1024) (k : Fin 2048) :
    (show FVec Ideal S1024x2048 .bf16 from (outsAt0 m c t.val t.isLt).2) (ix2 r k) = row m c ⟨t.val / 2 * 1024 + r.val, by have := (idx t).2.2.2.2.2; omega⟩ k := by
  have ht := (idx t).2.2.2.2.2
  by_cases h0 : t.val / 2 % 10 + 8 * (t.val % 2) ≤ 7
  · exact scrA m c t h0 (by omega) r k
  · by_cases h1 : 2 * (t.val % 2) + 8 ≤ t.val / 2 % 10
    · exact scrC m c t h0 h1 r k
    · have hs : (outsAt0 m c t.val t.isLt).2 = (outsAt0 m c (t.val - 1) (Nat.lt_of_le_of_lt (Nat.sub_le _ _) t.isLt)).2 := by
        rw [outsAt0_B m c t h0 h1]
        rfl
      have hd : (t.val - 1) / 2 = t.val / 2 := by omega
      rw [hs]
      have step : ∀ u : Fin cfg0.N, u.val = t.val - 1 → (show FVec Ideal S1024x2048 .bf16 from (outsAt0 m c u.val u.isLt).2) (ix2 r k)
          = row m c ⟨u.val / 2 * 1024 + r.val, by have := (idx u).2.2.2.2.2; omega⟩ k := by
        intro u hu
        by_cases g0 : u.val / 2 % 10 + 8 * (u.val % 2) ≤ 7
        · exact scrA m c u g0 (by omega) r k
        · exact scrC m c u g0 (by omega) r k
      refine (step ⟨t.val - 1, Nat.lt_of_le_of_lt (Nat.sub_le _ _) t.isLt⟩ rfl).trans ?_
      simp only [hd]

/-- An entry of the output: a row times a column of the weights, plus the residual. -/
def entry (c : Dev nD) (p : Fin 10240) (q : Fin 2048) : EReal :=
  (show FVec Ideal S10240x2048 .f32 from m ((c : Thread nD τ).loc main_arg3)) (ix2 p q)
    + ∑ k : Fin 2048, row m c p k * (show FVec Ideal S2x2048x2048 .f32 from m ((c : Thread nD τ).loc main_arg2)) (ix3 0 k q)

/-- The block a point writes, as a payload over the scratch, the weights and the residual. -/
theorem outs (c : Dev nD) (t : Fin cfg0.N) : (outsAt0 m c t.val t.isLt).1 = k0_pay3 (F := Ideal) (outsAt0 m c t.val t.isLt).2 (iblk m c 2 t) (iblk m c 3 t) := by
  have ht := (idx t).2.2.2.2.2
  by_cases h0 : t.val / 2 % 10 + 8 * (t.val % 2) ≤ 7
  · rw [outsAt0_A m c t h0 (by omega)]
    frame_out
  · by_cases h1 : 2 * (t.val % 2) + 8 ≤ t.val / 2 % 10
    · rw [outsAt0_C m c t h0 h1]
      frame_out
    · rw [outsAt0_B m c t h0 h1]
      frame_out
      rw [show View.read (Elt Ideal) (View.whole cc0_scratch0) ((Memref.isWhole_whole cc0_scratch0).unread (outsAt0 m c (t.val - 1) (Nat.lt_of_le_of_lt (Nat.sub_le _ _) t.isLt)).2) = _ from (Memref.isWhole_whole cc0_scratch0).read_unread _]
      rfl

/-- A point's block holds the output's entries. -/
theorem out4 (c : Dev nD) (t : Fin cfg0.N) (r : Fin 1024) (j : Fin 1024) (p : Fin 10240) (q : Fin 2048)
    (hp : p.val = t.val / 2 * 1024 + r.val) (hq : q.val = t.val % 2 * 1024 + j.val) :
    (show FVec Ideal S1024x1024 .f32 from (outsAt0 m c t.val t.isLt).1) (ix2 r j) = entry m c p q := by
  obtain ⟨p, hpl⟩ := p
  obtain ⟨q, hql⟩ := q
  obtain rfl : p = t.val / 2 * 1024 + r.val := hp
  obtain rfl : q = t.val % 2 * 1024 + j.val := hq
  rw [outs m c t]
  refine (pay3_at _ _ _ r j).trans ?_
  simp only [scr, blk2, blk3]
  exact add_comm _ _

/-- The kernel's array is the output. -/
theorem final4 (c : Dev nD) : (dats m 0 c).arrAt 4 cfg0.N = fun i : S10240x2048.Idx => entry m c (i 0) (i 1) := by
  refine (dats m 0 c).arrAt_eq_of_covers 4 _ (by decide +kernel) fun t hf y => ?_
  have ht := (idx t).2.2.2.2.2
  blk_simp
  rw [after0_4]
  have hy : y = ix2 (y 0 : Fin 1024) (y 1 : Fin 1024) := by funext k; fin_cases k <;> rfl
  refine (congrArg (outsAt0 m c t.val t.isLt).1 hy).trans ?_
  exact out4 m c t (y 0) (y 1) _ _ (by blk_simp [idx t]) (by blk_simp [idx t])

end Cert.Kernel9Ideal.Outp

namespace Cert.Reference9Ideal.Outp

open Cert.Reference9Ideal Cert.Reference9Ideal.Facts Cert.Reference9Ideal.Read Cert.Reference9Ideal.Gen Idealize.ShloMosaic
open scoped BigOperators

/-- The stacked rows of the attention's output. -/
theorem stacked (x0 : FVec Ideal S8192x2048 .f32) (x1 : FVec Ideal S2048x2048 .f32) (p : Fin 10240) (k : Fin 2048) : (val_main_v0 (F := Ideal) x0 x1 : FVec Ideal S10240x2048 .f32) (ix2 p k)
    = Cert.Outp.rows (fun i k => x0 (ix2 i k)) (fun i k => x1 (ix2 i k)) p k := by
  pointwise [val_main_v0, Cert.Outp.rows]

/-- The reference's array, element by element. -/
theorem final (x0 : FVec Ideal S8192x2048 .f32) (x1 : FVec Ideal S2048x2048 .f32) (x2 : FVec Ideal S2x2048x2048 .f32) (x3 : FVec Ideal S10240x2048 .f32) (p : Fin 10240) (q : Fin 2048) :
    (val_main_v4 (F := Ideal) x0 x1 x2 x3 : FVec Ideal S10240x2048 .f32) (ix2 p q)
    = x3 (ix2 p q) + ∑ k : Fin 2048, Cert.Outp.rows (fun i k => x0 (ix2 i k)) (fun i k => x1 (ix2 i k)) p k * x2 (ix3 0 k q) := by
  pointwise [val_main_v4, val_main_v3, val_main_v2, val_main_v1]
  simp only [stacked]

end Cert.Reference9Ideal.Outp

namespace Cert.Outp

open Idealize.ShloMosaic

/-- From memories that agree on the arguments, the kernel's array is the reference's. -/
theorem same (m : (ℓ : Loc Cert.Kernel9Ideal.nD Cert.Kernel9Ideal.τ Cert.Kernel9Ideal.sig) → Buf (Elt Ideal) ℓ)
    (m' : (ℓ : Loc Cert.Reference9Ideal.nD Cert.Reference9Ideal.τ Cert.Reference9Ideal.sig) → Buf (Elt Ideal) ℓ)
    (c : Dev Cert.Kernel9Ideal.nD)
    (e : m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) :
    Cert.Reference9Ideal.Read.val_main_v4 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3)) = (Cert.Kernel9Ideal.Gen.dats m 0 c).arrAt 4 Cert.Kernel9Ideal.cfg0.N := by
  obtain ⟨e0, e1, e2, e3⟩ := e
  rw [Cert.Kernel9Ideal.Outp.final4 m c, e0, e1, e2, e3]
  funext i
  have hi : i = ix2 (i 0) (i 1) := by funext k; fin_cases k <;> rfl
  conv_lhs => rw [hi]
  exact Cert.Reference9Ideal.Outp.final _ _ _ _ (i 0) (i 1)

end Cert.Outp

end
-- ==== Proof.MoeIdeal.Kit.lean ====
module

public import proofs.«01_k».proof.Proof.Gen.Kernel10Ideal.Launch
public import proofs.«01_k».proof.Proof.Gen.Kernel10Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.WritesUnit
public import Idealize.ShloMosaic.Lib.WholeRead
public import Idealize.ShloMosaic.Lib.Pipeline.Value

@[expose] public section

set_option maxRecDepth 16384

noncomputable section

namespace Cert.Kernel10Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev Mt (F : FTy → Type) [FloatOps F] := MT nD τ sig Unit (Elt F) ℕ (UR sig nD τ) ℕ

/-- The body's buffers held: the four inputs' blocks, the output tile's contents, and whatever else. -/
abbrev St (c : Dev nD) (arg7 : Memref sig .tc .vmem S1024x2048 .bf16) (arg8 : Memref sig .tc .vmem S1x1x2048x512 .f32) (arg9 : Memref sig .tc .vmem S1x1x2048x512 .f32) (arg10 : Memref sig .tc .vmem S1x1x512x2048 .f32) (arg11 : Memref sig .tc .vmem S1024x2048 .f32)
    (x0 : Vec F S1024x2048 .bf16) (x1 : Vec F S1x1x2048x512 .f32) (x2 : Vec F S1x1x2048x512 .f32) (x3 : Vec F S1x1x512x2048 .f32) (X : Vec F S1024x2048 .f32) (R : sProp (Mt F)) : sProp (Mt F) :=
  iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare X ∗ R)

/-- Table 0 as the body is handed it: its whole buffer. -/
abbrev tbM0_0 : Memref sig .tc .smem S29 .i32 := Memref.whole main_arg4
abbrev htbM0_0 : tbM0_0.IsWhole := Memref.isWhole_whole _
/-- Table 1 as the body is handed it: its whole buffer. -/
abbrev tbM0_1 : Memref sig .tc .smem S29 .i32 := Memref.whole main_arg5
abbrev htbM0_1 : tbM0_1.IsWhole := Memref.isWhole_whole _
/-- Table 2 as the body is handed it: its whole buffer. -/
abbrev tbM0_2 : Memref sig .tc .smem S29 .i32 := Memref.whole main_arg6
abbrev htbM0_2 : tbM0_2.IsWhole := Memref.isWhole_whole _
/-- Table 3 as the body is handed it: its whole buffer. -/
abbrev tbM0_3 : Memref sig .tc .smem S29 .i32 := Memref.whole main_arg7
abbrev htbM0_3 : tbM0_3.IsWhole := Memref.isWhole_whole _
/-- Table 4 as the body is handed it: its whole buffer. -/
abbrev tbM0_4 : Memref sig .tc .smem S29 .i32 := Memref.whole main_arg8
abbrev htbM0_4 : tbM0_4.IsWhole := Memref.isWhole_whole _

abbrev TbBuf0 (c : Dev nD) {S : Shape} {e : EltTy} (M : Memref sig .tc .smem S e) : Type := Buf (Elt F) (M.view.loc (c : Thread nD τ))
/-- A table held at half the full share, for reading; the pipeline keeps the other half. -/
abbrev tbPt0 (c : Dev nD) {S : Shape} {e : EltTy} (M : Memref sig .tc .smem S e) (f : TbBuf0 (F := F) c M) : sProp (Mt F) :=
  M.view.loc (c : Thread nD τ) ↦{fullShare.right} f

/-- The five tables held, and whatever else. -/
abbrev Tb (c : Dev nD) (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4) (R : sProp (Mt F)) : sProp (Mt F) :=
  iprop(tbPt0 c tbM0_0 xt0 ∗ tbPt0 c tbM0_1 xt1 ∗ tbPt0 c tbM0_2 xt2 ∗ tbPt0 c tbM0_3 xt3 ∗ tbPt0 c tbM0_4 xt4 ∗ R)

/-- The word a table holds for a grid point's item. -/
def word1 (c : Dev nD) (M : Memref sig .tc .smem S29 .i32) (i : grid0.Coords) (f : TbBuf0 (F := F) c M) : Elt F .i32 :=
  M.view.readAt (Elt F) (Rect.unit (s := S29) (k0_off1 i) S1.size (k0_off1_inb i)).toLoadRect f (Shape.Idx.first (numel1_S1.symm ▸ Nat.one_pos))
def word2 (c : Dev nD) (M : Memref sig .tc .smem S29 .i32) (i : grid0.Coords) (f : TbBuf0 (F := F) c M) : Elt F .i32 :=
  M.view.readAt (Elt F) (Rect.unit (s := S29) (k0_off2 i) S1.size (k0_off2_inb i)).toLoadRect f (Shape.Idx.first (numel1_S1.symm ▸ Nat.one_pos))

set_option maxHeartbeats 1000000 in
/-- A word of table 4 read, whatever follows. -/
theorem smem4 {α : Type} (c : Dev nD) (i : grid0.Coords) (arg7 : Memref sig .tc .vmem S1024x2048 .bf16) (harg7 : arg7.IsWhole) (arg8 : Memref sig .tc .vmem S1x1x2048x512 .f32) (harg8 : arg8.IsWhole) (arg9 : Memref sig .tc .vmem S1x1x2048x512 .f32) (harg9 : arg9.IsWhole) (arg10 : Memref sig .tc .vmem S1x1x512x2048 .f32) (harg10 : arg10.IsWhole) (arg11 : Memref sig .tc .vmem S1024x2048 .f32) (harg11 : arg11.IsWhole)
    (x0 : Vec F S1024x2048 .bf16) (x1 : Vec F S1x1x2048x512 .f32) (x2 : Vec F S1x1x2048x512 .f32) (x3 : Vec F S1x1x512x2048 .f32) (X : Vec F S1024x2048 .f32) (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4) (R : sProp (Mt F)) (E : Set ℕ)
    (k : Elt F .i32 → Prog (TpuEff nD τ sig (Elt F) Λ₀ .tc) α) (K : α → sProp (Mt F))
    (h : St c arg7 arg8 arg9 arg10 arg11 x0 x1 x2 x3 X (Tb c xt0 xt1 xt2 xt3 xt4 R)
      ⊢ wp frame (wpE (defs₀ (F := F)) Variants.none c none) E (k (word1 c tbM0_4 i xt4)) K) :
    St c arg7 arg8 arg9 arg10 arg11 x0 x1 x2 x3 X (Tb c xt0 xt1 xt2 xt3 xt4 R)
      ⊢ wp frame (wpE (defs₀ (F := F)) Variants.none c none) E
        (smemLoad tbM0_4 (Rect.unit (s := S29) (k0_off1 i) S1.size (k0_off1_inb i)) numel1_S1 rfl >>= k) K := by
  unfold word1 at h
  iintro ⟨H0, H1, H2, H3, H4, HT0, HT1, HT2, HT3, HT4, HR⟩
  sl_exec
  iapply h
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HT2]; · iexact HT2
  isplitl [HT3]; · iexact HT3
  isplitl [HT4]; · iexact HT4
  iexact HR

set_option maxHeartbeats 1000000 in
/-- A word of table 2 read, whatever follows. -/
theorem smem2 {α : Type} (c : Dev nD) (i : grid0.Coords) (arg7 : Memref sig .tc .vmem S1024x2048 .bf16) (harg7 : arg7.IsWhole) (arg8 : Memref sig .tc .vmem S1x1x2048x512 .f32) (harg8 : arg8.IsWhole) (arg9 : Memref sig .tc .vmem S1x1x2048x512 .f32) (harg9 : arg9.IsWhole) (arg10 : Memref sig .tc .vmem S1x1x512x2048 .f32) (harg10 : arg10.IsWhole) (arg11 : Memref sig .tc .vmem S1024x2048 .f32) (harg11 : arg11.IsWhole)
    (x0 : Vec F S1024x2048 .bf16) (x1 : Vec F S1x1x2048x512 .f32) (x2 : Vec F S1x1x2048x512 .f32) (x3 : Vec F S1x1x512x2048 .f32) (X : Vec F S1024x2048 .f32) (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4) (R : sProp (Mt F)) (E : Set ℕ)
    (k : Elt F .i32 → Prog (TpuEff nD τ sig (Elt F) Λ₀ .tc) α) (K : α → sProp (Mt F))
    (h : St c arg7 arg8 arg9 arg10 arg11 x0 x1 x2 x3 X (Tb c xt0 xt1 xt2 xt3 xt4 R)
      ⊢ wp frame (wpE (defs₀ (F := F)) Variants.none c none) E (k (word2 c tbM0_2 i xt2)) K) :
    St c arg7 arg8 arg9 arg10 arg11 x0 x1 x2 x3 X (Tb c xt0 xt1 xt2 xt3 xt4 R)
      ⊢ wp frame (wpE (defs₀ (F := F)) Variants.none c none) E
        (smemLoad tbM0_2 (Rect.unit (s := S29) (k0_off2 i) S1.size (k0_off2_inb i)) numel1_S1 rfl >>= k) K := by
  unfold word2 at h
  iintro ⟨H0, H1, H2, H3, H4, HT0, HT1, HT2, HT3, HT4, HR⟩
  sl_exec
  iapply h
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HT2]; · iexact HT2
  isplitl [HT3]; · iexact HT3
  isplitl [HT4]; · iexact HT4
  iexact HR

set_option maxHeartbeats 1000000 in
/-- A word of table 3 read, whatever follows. -/
theorem smem3 {α : Type} (c : Dev nD) (i : grid0.Coords) (arg7 : Memref sig .tc .vmem S1024x2048 .bf16) (harg7 : arg7.IsWhole) (arg8 : Memref sig .tc .vmem S1x1x2048x512 .f32) (harg8 : arg8.IsWhole) (arg9 : Memref sig .tc .vmem S1x1x2048x512 .f32) (harg9 : arg9.IsWhole) (arg10 : Memref sig .tc .vmem S1x1x512x2048 .f32) (harg10 : arg10.IsWhole) (arg11 : Memref sig .tc .vmem S1024x2048 .f32) (harg11 : arg11.IsWhole)
    (x0 : Vec F S1024x2048 .bf16) (x1 : Vec F S1x1x2048x512 .f32) (x2 : Vec F S1x1x2048x512 .f32) (x3 : Vec F S1x1x512x2048 .f32) (X : Vec F S1024x2048 .f32) (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4) (R : sProp (Mt F)) (E : Set ℕ)
    (k : Elt F .i32 → Prog (TpuEff nD τ sig (Elt F) Λ₀ .tc) α) (K : α → sProp (Mt F))
    (h : St c arg7 arg8 arg9 arg10 arg11 x0 x1 x2 x3 X (Tb c xt0 xt1 xt2 xt3 xt4 R)
      ⊢ wp frame (wpE (defs₀ (F := F)) Variants.none c none) E (k (word2 c tbM0_3 i xt3)) K) :
    St c arg7 arg8 arg9 arg10 arg11 x0 x1 x2 x3 X (Tb c xt0 xt1 xt2 xt3 xt4 R)
      ⊢ wp frame (wpE (defs₀ (F := F)) Variants.none c none) E
        (smemLoad tbM0_3 (Rect.unit (s := S29) (k0_off2 i) S1.size (k0_off2_inb i)) numel1_S1 rfl >>= k) K := by
  unfold word2 at h
  iintro ⟨H0, H1, H2, H3, H4, HT0, HT1, HT2, HT3, HT4, HR⟩
  sl_exec
  iapply h
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HT2]; · iexact HT2
  isplitl [HT3]; · iexact HT3
  isplitl [HT4]; · iexact HT4
  iexact HR

/-- The tile as the clearing step leaves it. -/
def sel1 (w : BitVec 1) (X : Vec F S1024x2048 .f32) : Vec F S1024x2048 .f32 := if w = 1#1 then k0_pay7 (F := F) else X

set_option maxHeartbeats 1000000 in
/-- The clearing step run, whatever follows it. -/
theorem blk1 {α : Type} (c : Dev nD) (arg7 : Memref sig .tc .vmem S1024x2048 .bf16) (harg7 : arg7.IsWhole) (arg8 : Memref sig .tc .vmem S1x1x2048x512 .f32) (harg8 : arg8.IsWhole) (arg9 : Memref sig .tc .vmem S1x1x2048x512 .f32) (harg9 : arg9.IsWhole) (arg10 : Memref sig .tc .vmem S1x1x512x2048 .f32) (harg10 : arg10.IsWhole) (arg11 : Memref sig .tc .vmem S1024x2048 .f32) (harg11 : arg11.IsWhole)
    (x0 : Vec F S1024x2048 .bf16) (x1 : Vec F S1x1x2048x512 .f32) (x2 : Vec F S1x1x2048x512 .f32) (x3 : Vec F S1x1x512x2048 .f32) (X : Vec F S1024x2048 .f32) (R : sProp (Mt F)) (w : BitVec 1) (E : Set ℕ)
    (rest : Prog (TpuEff nD τ sig (Elt F) Λ₀ .tc) α) (K : α → sProp (Mt F))
    (h : St c arg7 arg8 arg9 arg10 arg11 x0 x1 x2 x3 (sel1 w X) R
      ⊢ wp frame (wpE (defs₀ (F := F)) Variants.none c none) E rest K) :
    St c arg7 arg8 arg9 arg10 arg11 x0 x1 x2 x3 X R
      ⊢ wp frame (wpE (defs₀ (F := F)) Variants.none c none) E (if hw : w = 1#1 then do
          let v62 : Vec F S1024x2048 .f32 ← Prog.lift (.load arg11 (Rect.unit (s := S1024x2048) ![0, 0] S1024x2048.size inb_S1024x2048_S1024x2048_0_0).toLoadRect (View.loadsAt_vmem h_S1024x2048))
          Prog.lift (.store arg11 (Rect.unit (s := S1024x2048) ![0, 0] S1024x2048.size inb_S1024x2048_S1024x2048_0_0) (k0_pay7 (F := F)) Finset.univ (View.stores_vmem_bits_univ h_S1024x2048 rfl) (.inl rfl))
          rest
        else rest) K := by
  unfold sel1 at h
  by_cases hw : w = 1#1
  · rw [dif_pos hw]
    rw [if_pos hw] at h
    unfold St owns at h ⊢
    iintro ⟨⟨%f0, %hf0, H0⟩, ⟨%f1, %hf1, H1⟩, ⟨%f2, %hf2, H2⟩, ⟨%f3, %hf3, H3⟩, ⟨%f4, %hf4, H4⟩, HR⟩
    obtain rfl := harg7.eq_unread hf0; obtain rfl := harg8.eq_unread hf1; obtain rfl := harg9.eq_unread hf2; obtain rfl := harg10.eq_unread hf3; obtain rfl := harg11.eq_unread hf4
    sl_exec
    iapply h
    isplitl [H0]
    · iexists _; isplitr; · ipureintro; exact harg7.read_unread _
      iexact H0
    isplitl [H1]
    · iexists _; isplitr; · ipureintro; exact harg8.read_unread _
      iexact H1
    isplitl [H2]
    · iexists _; isplitr; · ipureintro; exact harg9.read_unread _
      iexact H2
    isplitl [H3]
    · iexists _; isplitr; · ipureintro; exact harg10.read_unread _
      iexact H3
    isplitl [H4]
    · iexists _; isplitr; swap; · iexact H4
      ipureintro
      funext y
      rw [View.read_writes_cons_unit (heq := rfl)]
      rw [dif_pos (show ∀ a, (![0, 0] : Fin S1024x2048.rank → ℕ) a ≤ (y a).val ∧ (y a).val < (![0, 0] : Fin S1024x2048.rank → ℕ) a + S1024x2048.size a from
        Fin.forall_fin_two.mpr ⟨⟨Nat.zero_le _, by have h0 := (y (0 : Fin 2)).isLt; exact h0.trans_eq (Nat.zero_add _).symm⟩, ⟨Nat.zero_le _, by have h0 := (y (1 : Fin 2)).isLt; exact h0.trans_eq (Nat.zero_add _).symm⟩⟩)]
      rfl
    iexact HR
  · rw [dif_neg hw]
    rw [if_neg hw] at h
    exact h

end Cert.Kernel10Ideal.Gen

end
-- ==== Proof.MoeIdeal.Parts.lean ====
module

public import proofs.«01_k».proof.Proof.MoeIdeal.Kit

@[expose] public section

set_option maxRecDepth 16384

noncomputable section

namespace Cert.Kernel10Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The part of the body for 1 blocks of 256 rows from row 0: what the whole output tile then holds. -/
def upd2 (x0 : Vec F S1024x2048 .bf16) (x1 : Vec F S1x1x2048x512 .f32) (x2 : Vec F S1x1x2048x512 .f32) (x3 : Vec F S1x1x512x2048 .f32) (X : Vec F S1024x2048 .f32) : Vec F S1024x2048 .f32 := fun y =>
  if h : ∀ a, (![0, 0] : Fin S1024x2048.rank → ℕ) a ≤ (y a).val ∧ (y a).val < (![0, 0] : Fin S1024x2048.rank → ℕ) a + S256x2048.size a then
    k0_pay8 (View.ld X (Rect.unit (s := S1024x2048) ![0, 0] S256x2048.size inb_S1024x2048_S256x2048_0_0)) (View.ld x0 (Rect.unit (s := S1024x2048) ![0, 0] S256x2048.size inb_S1024x2048_S256x2048_0_0)) (View.ld x1 (Rect.unit (s := S1x1x2048x512) ![0, 0, 0, 0] S1x1x2048x512.size inb_S1x1x2048x512_S1x1x2048x512_0_0_0_0)) (View.ld x2 (Rect.unit (s := S1x1x2048x512) ![0, 0, 0, 0] S1x1x2048x512.size inb_S1x1x2048x512_S1x1x2048x512_0_0_0_0)) (View.ld x3 (Rect.unit (s := S1x1x512x2048) ![0, 0, 0, 0] S1x1x512x2048.size inb_S1x1x512x2048_S1x1x512x2048_0_0_0_0))
      (Rect.unitLocal (s := S1024x2048) (off := ![0, 0]) (size := S256x2048.size) y h)
  else X y

def sel2 (w : BitVec 1) (x0 : Vec F S1024x2048 .bf16) (x1 : Vec F S1x1x2048x512 .f32) (x2 : Vec F S1x1x2048x512 .f32) (x3 : Vec F S1x1x512x2048 .f32) (X : Vec F S1024x2048 .f32) : Vec F S1024x2048 .f32 := if w = 1#1 then upd2 x0 x1 x2 x3 X else X

set_option maxHeartbeats 1000000 in
/-- That part of the body run, whatever follows it. -/
theorem blk2 {α : Type} (c : Dev nD) (arg7 : Memref sig .tc .vmem S1024x2048 .bf16) (harg7 : arg7.IsWhole) (arg8 : Memref sig .tc .vmem S1x1x2048x512 .f32) (harg8 : arg8.IsWhole) (arg9 : Memref sig .tc .vmem S1x1x2048x512 .f32) (harg9 : arg9.IsWhole) (arg10 : Memref sig .tc .vmem S1x1x512x2048 .f32) (harg10 : arg10.IsWhole) (arg11 : Memref sig .tc .vmem S1024x2048 .f32) (harg11 : arg11.IsWhole)
    (x0 : Vec F S1024x2048 .bf16) (x1 : Vec F S1x1x2048x512 .f32) (x2 : Vec F S1x1x2048x512 .f32) (x3 : Vec F S1x1x512x2048 .f32) (X : Vec F S1024x2048 .f32) (R : sProp (Mt F)) (w : BitVec 1) (E : Set ℕ)
    (rest : Prog (TpuEff nD τ sig (Elt F) Λ₀ .tc) α) (K : α → sProp (Mt F))
    (h : St c arg7 arg8 arg9 arg10 arg11 x0 x1 x2 x3 (sel2 w x0 x1 x2 x3 X) R
      ⊢ wp frame (wpE (defs₀ (F := F)) Variants.none c none) E rest K) :
    St c arg7 arg8 arg9 arg10 arg11 x0 x1 x2 x3 X R
      ⊢ wp frame (wpE (defs₀ (F := F)) Variants.none c none) E (if hw : w = 1#1 then do
          let v61 : Vec F S256x2048 .f32 ← Prog.lift (.load arg11 (Rect.unit (s := S1024x2048) ![0, 0] S256x2048.size inb_S1024x2048_S256x2048_0_0).toLoadRect (View.loadsAt_vmem h_S256x2048))
          let v63 : Vec F S256x2048 .bf16 ← Prog.lift (.load arg7 (Rect.unit (s := S1024x2048) ![0, 0] S256x2048.size inb_S1024x2048_S256x2048_0_0).toLoadRect (View.loadsAt_vmem h_S256x2048))
          let v64 : Vec F S1x1x2048x512 .f32 ← Prog.lift (.load arg8 (Rect.unit (s := S1x1x2048x512) ![0, 0, 0, 0] S1x1x2048x512.size inb_S1x1x2048x512_S1x1x2048x512_0_0_0_0).toLoadRect (View.loadsAt_vmem h_S1x1x2048x512))
          let v66 : Vec F S1x1x2048x512 .f32 ← Prog.lift (.load arg9 (Rect.unit (s := S1x1x2048x512) ![0, 0, 0, 0] S1x1x2048x512.size inb_S1x1x2048x512_S1x1x2048x512_0_0_0_0).toLoadRect (View.loadsAt_vmem h_S1x1x2048x512))
          let v68 : Vec F S1x1x512x2048 .f32 ← Prog.lift (.load arg10 (Rect.unit (s := S1x1x512x2048) ![0, 0, 0, 0] S1x1x512x2048.size inb_S1x1x512x2048_S1x1x512x2048_0_0_0_0).toLoadRect (View.loadsAt_vmem h_S1x1x512x2048))
          let v81 : Vec F S256x2048 .f32 ← Prog.lift (.load arg11 (Rect.unit (s := S1024x2048) ![0, 0] S256x2048.size inb_S1024x2048_S256x2048_0_0).toLoadRect (View.loadsAt_vmem h_S256x2048))
          Prog.lift (.store arg11 (Rect.unit (s := S1024x2048) ![0, 0] S256x2048.size inb_S1024x2048_S256x2048_0_0) (k0_pay8 v61 v63 v64 v66 v68) Finset.univ (View.stores_vmem_bits_univ h_S256x2048 rfl) (.inl rfl))
          rest
        else rest) K := by
  unfold sel2 at h
  by_cases hw : w = 1#1
  · rw [dif_pos hw]
    rw [if_pos hw] at h
    unfold St owns at h ⊢
    iintro ⟨⟨%f0, %hf0, H0⟩, ⟨%f1, %hf1, H1⟩, ⟨%f2, %hf2, H2⟩, ⟨%f3, %hf3, H3⟩, ⟨%f4, %hf4, H4⟩, HR⟩
    obtain rfl := harg7.eq_unread hf0; obtain rfl := harg8.eq_unread hf1; obtain rfl := harg9.eq_unread hf2; obtain rfl := harg10.eq_unread hf3; obtain rfl := harg11.eq_unread hf4
    sl_exec
    iapply h
    isplitl [H0]
    · iexists _; isplitr; · ipureintro; exact harg7.read_unread _
      iexact H0
    isplitl [H1]
    · iexists _; isplitr; · ipureintro; exact harg8.read_unread _
      iexact H1
    isplitl [H2]
    · iexists _; isplitr; · ipureintro; exact harg9.read_unread _
      iexact H2
    isplitl [H3]
    · iexists _; isplitr; · ipureintro; exact harg10.read_unread _
      iexact H3
    isplitl [H4]
    · iexists _; isplitr; swap; · iexact H4
      ipureintro
      funext y
      rw [View.read_writes_cons_unit (heq := rfl)]
      unfold upd2
      split
      · rw [show View.readAt (Elt F) arg11.view (Rect.unit (s := S1024x2048) ![0, 0] S256x2048.size inb_S1024x2048_S256x2048_0_0).toLoadRect (harg11.unread X) = View.ld X (Rect.unit (s := S1024x2048) ![0, 0] S256x2048.size inb_S1024x2048_S256x2048_0_0) from funext fun _ => harg11.readAt_unread X _ _,
          show View.readAt (Elt F) arg7.view (Rect.unit (s := S1024x2048) ![0, 0] S256x2048.size inb_S1024x2048_S256x2048_0_0).toLoadRect (harg7.unread x0) = View.ld x0 (Rect.unit (s := S1024x2048) ![0, 0] S256x2048.size inb_S1024x2048_S256x2048_0_0) from funext fun _ => harg7.readAt_unread x0 _ _,
          show View.readAt (Elt F) arg8.view (Rect.unit (s := S1x1x2048x512) ![0, 0, 0, 0] S1x1x2048x512.size inb_S1x1x2048x512_S1x1x2048x512_0_0_0_0).toLoadRect (harg8.unread x1) = View.ld x1 (Rect.unit (s := S1x1x2048x512) ![0, 0, 0, 0] S1x1x2048x512.size inb_S1x1x2048x512_S1x1x2048x512_0_0_0_0) from funext fun _ => harg8.readAt_unread x1 _ _,
          show View.readAt (Elt F) arg9.view (Rect.unit (s := S1x1x2048x512) ![0, 0, 0, 0] S1x1x2048x512.size inb_S1x1x2048x512_S1x1x2048x512_0_0_0_0).toLoadRect (harg9.unread x2) = View.ld x2 (Rect.unit (s := S1x1x2048x512) ![0, 0, 0, 0] S1x1x2048x512.size inb_S1x1x2048x512_S1x1x2048x512_0_0_0_0) from funext fun _ => harg9.readAt_unread x2 _ _,
          show View.readAt (Elt F) arg10.view (Rect.unit (s := S1x1x512x2048) ![0, 0, 0, 0] S1x1x512x2048.size inb_S1x1x512x2048_S1x1x512x2048_0_0_0_0).toLoadRect (harg10.unread x3) = View.ld x3 (Rect.unit (s := S1x1x512x2048) ![0, 0, 0, 0] S1x1x512x2048.size inb_S1x1x512x2048_S1x1x512x2048_0_0_0_0) from funext fun _ => harg10.readAt_unread x3 _ _]
      · rw [View.writes_nil, harg11.read_unread]
    iexact HR
  · rw [dif_neg hw]
    rw [if_neg hw] at h
    exact h

/-- The part of the body for 2 blocks of 256 rows from row 0: what the whole output tile then holds. -/
def upd3 (x0 : Vec F S1024x2048 .bf16) (x1 : Vec F S1x1x2048x512 .f32) (x2 : Vec F S1x1x2048x512 .f32) (x3 : Vec F S1x1x512x2048 .f32) (X : Vec F S1024x2048 .f32) : Vec F S1024x2048 .f32 := fun y =>
  if h : ∀ a, (![0, 0] : Fin S1024x2048.rank → ℕ) a ≤ (y a).val ∧ (y a).val < (![0, 0] : Fin S1024x2048.rank → ℕ) a + S512x2048.size a then
    k0_pay9 (View.ld X (Rect.unit (s := S1024x2048) ![0, 0] S512x2048.size inb_S1024x2048_S512x2048_0_0)) (View.ld x0 (Rect.unit (s := S1024x2048) ![0, 0] S512x2048.size inb_S1024x2048_S512x2048_0_0)) (View.ld x1 (Rect.unit (s := S1x1x2048x512) ![0, 0, 0, 0] S1x1x2048x512.size inb_S1x1x2048x512_S1x1x2048x512_0_0_0_0)) (View.ld x2 (Rect.unit (s := S1x1x2048x512) ![0, 0, 0, 0] S1x1x2048x512.size inb_S1x1x2048x512_S1x1x2048x512_0_0_0_0)) (View.ld x3 (Rect.unit (s := S1x1x512x2048) ![0, 0, 0, 0] S1x1x512x2048.size inb_S1x1x512x2048_S1x1x512x2048_0_0_0_0))
      (Rect.unitLocal (s := S1024x2048) (off := ![0, 0]) (size := S512x2048.size) y h)
  else X y

def sel3 (w : BitVec 1) (x0 : Vec F S1024x2048 .bf16) (x1 : Vec F S1x1x2048x512 .f32) (x2 : Vec F S1x1x2048x512 .f32) (x3 : Vec F S1x1x512x2048 .f32) (X : Vec F S1024x2048 .f32) : Vec F S1024x2048 .f32 := if w = 1#1 then upd3 x0 x1 x2 x3 X else X

set_option maxHeartbeats 1000000 in
/-- That part of the body run, whatever follows it. -/
theorem blk3 {α : Type} (c : Dev nD) (arg7 : Memref sig .tc .vmem S1024x2048 .bf16) (harg7 : arg7.IsWhole) (arg8 : Memref sig .tc .vmem S1x1x2048x512 .f32) (harg8 : arg8.IsWhole) (arg9 : Memref sig .tc .vmem S1x1x2048x512 .f32) (harg9 : arg9.IsWhole) (arg10 : Memref sig .tc .vmem S1x1x512x2048 .f32) (harg10 : arg10.IsWhole) (arg11 : Memref sig .tc .vmem S1024x2048 .f32) (harg11 : arg11.IsWhole)
    (x0 : Vec F S1024x2048 .bf16) (x1 : Vec F S1x1x2048x512 .f32) (x2 : Vec F S1x1x2048x512 .f32) (x3 : Vec F S1x1x512x2048 .f32) (X : Vec F S1024x2048 .f32) (R : sProp (Mt F)) (w : BitVec 1) (E : Set ℕ)
    (rest : Prog (TpuEff nD τ sig (Elt F) Λ₀ .tc) α) (K : α → sProp (Mt F))
    (h : St c arg7 arg8 arg9 arg10 arg11 x0 x1 x2 x3 (sel3 w x0 x1 x2 x3 X) R
      ⊢ wp frame (wpE (defs₀ (F := F)) Variants.none c none) E rest K) :
    St c arg7 arg8 arg9 arg10 arg11 x0 x1 x2 x3 X R
      ⊢ wp frame (wpE (defs₀ (F := F)) Variants.none c none) E (if hw : w = 1#1 then do
          let v61 : Vec F S512x2048 .f32 ← Prog.lift (.load arg11 (Rect.unit (s := S1024x2048) ![0, 0] S512x2048.size inb_S1024x2048_S512x2048_0_0).toLoadRect (View.loadsAt_vmem h_S512x2048))
          let v63 : Vec F S512x2048 .bf16 ← Prog.lift (.load arg7 (Rect.unit (s := S1024x2048) ![0, 0] S512x2048.size inb_S1024x2048_S512x2048_0_0).toLoadRect (View.loadsAt_vmem h_S512x2048))
          let v64 : Vec F S1x1x2048x512 .f32 ← Prog.lift (.load arg8 (Rect.unit (s := S1x1x2048x512) ![0, 0, 0, 0] S1x1x2048x512.size inb_S1x1x2048x512_S1x1x2048x512_0_0_0_0).toLoadRect (View.loadsAt_vmem h_S1x1x2048x512))
          let v66 : Vec F S1x1x2048x512 .f32 ← Prog.lift (.load arg9 (Rect.unit (s := S1x1x2048x512) ![0, 0, 0, 0] S1x1x2048x512.size inb_S1x1x2048x512_S1x1x2048x512_0_0_0_0).toLoadRect (View.loadsAt_vmem h_S1x1x2048x512))
          let v68 : Vec F S1x1x512x2048 .f32 ← Prog.lift (.load arg10 (Rect.unit (s := S1x1x512x2048) ![0, 0, 0, 0] S1x1x512x2048.size inb_S1x1x512x2048_S1x1x512x2048_0_0_0_0).toLoadRect (View.loadsAt_vmem h_S1x1x512x2048))
          let v81 : Vec F S512x2048 .f32 ← Prog.lift (.load arg11 (Rect.unit (s := S1024x2048) ![0, 0] S512x2048.size inb_S1024x2048_S512x2048_0_0).toLoadRect (View.loadsAt_vmem h_S512x2048))
          Prog.lift (.store arg11 (Rect.unit (s := S1024x2048) ![0, 0] S512x2048.size inb_S1024x2048_S512x2048_0_0) (k0_pay9 v61 v63 v64 v66 v68) Finset.univ (View.stores_vmem_bits_univ h_S512x2048 rfl) (.inl rfl))
          rest
        else rest) K := by
  unfold sel3 at h
  by_cases hw : w = 1#1
  · rw [dif_pos hw]
    rw [if_pos hw] at h
    unfold St owns at h ⊢
    iintro ⟨⟨%f0, %hf0, H0⟩, ⟨%f1, %hf1, H1⟩, ⟨%f2, %hf2, H2⟩, ⟨%f3, %hf3, H3⟩, ⟨%f4, %hf4, H4⟩, HR⟩
    obtain rfl := harg7.eq_unread hf0; obtain rfl := harg8.eq_unread hf1; obtain rfl := harg9.eq_unread hf2; obtain rfl := harg10.eq_unread hf3; obtain rfl := harg11.eq_unread hf4
    sl_exec
    iapply h
    isplitl [H0]
    · iexists _; isplitr; · ipureintro; exact harg7.read_unread _
      iexact H0
    isplitl [H1]
    · iexists _; isplitr; · ipureintro; exact harg8.read_unread _
      iexact H1
    isplitl [H2]
    · iexists _; isplitr; · ipureintro; exact harg9.read_unread _
      iexact H2
    isplitl [H3]
    · iexists _; isplitr; · ipureintro; exact harg10.read_unread _
      iexact H3
    isplitl [H4]
    · iexists _; isplitr; swap; · iexact H4
      ipureintro
      funext y
      rw [View.read_writes_cons_unit (heq := rfl)]
      unfold upd3
      split
      · rw [show View.readAt (Elt F) arg11.view (Rect.unit (s := S1024x2048) ![0, 0] S512x2048.size inb_S1024x2048_S512x2048_0_0).toLoadRect (harg11.unread X) = View.ld X (Rect.unit (s := S1024x2048) ![0, 0] S512x2048.size inb_S1024x2048_S512x2048_0_0) from funext fun _ => harg11.readAt_unread X _ _,
          show View.readAt (Elt F) arg7.view (Rect.unit (s := S1024x2048) ![0, 0] S512x2048.size inb_S1024x2048_S512x2048_0_0).toLoadRect (harg7.unread x0) = View.ld x0 (Rect.unit (s := S1024x2048) ![0, 0] S512x2048.size inb_S1024x2048_S512x2048_0_0) from funext fun _ => harg7.readAt_unread x0 _ _,
          show View.readAt (Elt F) arg8.view (Rect.unit (s := S1x1x2048x512) ![0, 0, 0, 0] S1x1x2048x512.size inb_S1x1x2048x512_S1x1x2048x512_0_0_0_0).toLoadRect (harg8.unread x1) = View.ld x1 (Rect.unit (s := S1x1x2048x512) ![0, 0, 0, 0] S1x1x2048x512.size inb_S1x1x2048x512_S1x1x2048x512_0_0_0_0) from funext fun _ => harg8.readAt_unread x1 _ _,
          show View.readAt (Elt F) arg9.view (Rect.unit (s := S1x1x2048x512) ![0, 0, 0, 0] S1x1x2048x512.size inb_S1x1x2048x512_S1x1x2048x512_0_0_0_0).toLoadRect (harg9.unread x2) = View.ld x2 (Rect.unit (s := S1x1x2048x512) ![0, 0, 0, 0] S1x1x2048x512.size inb_S1x1x2048x512_S1x1x2048x512_0_0_0_0) from funext fun _ => harg9.readAt_unread x2 _ _,
          show View.readAt (Elt F) arg10.view (Rect.unit (s := S1x1x512x2048) ![0, 0, 0, 0] S1x1x512x2048.size inb_S1x1x512x2048_S1x1x512x2048_0_0_0_0).toLoadRect (harg10.unread x3) = View.ld x3 (Rect.unit (s := S1x1x512x2048) ![0, 0, 0, 0] S1x1x512x2048.size inb_S1x1x512x2048_S1x1x512x2048_0_0_0_0) from funext fun _ => harg10.readAt_unread x3 _ _]
      · rw [View.writes_nil, harg11.read_unread]
    iexact HR
  · rw [dif_neg hw]
    rw [if_neg hw] at h
    exact h

/-- The part of the body for 3 blocks of 256 rows from row 0: what the whole output tile then holds. -/
def upd4 (x0 : Vec F S1024x2048 .bf16) (x1 : Vec F S1x1x2048x512 .f32) (x2 : Vec F S1x1x2048x512 .f32) (x3 : Vec F S1x1x512x2048 .f32) (X : Vec F S1024x2048 .f32) : Vec F S1024x2048 .f32 := fun y =>
  if h : ∀ a, (![0, 0] : Fin S1024x2048.rank → ℕ) a ≤ (y a).val ∧ (y a).val < (![0, 0] : Fin S1024x2048.rank → ℕ) a + S768x2048.size a then
    k0_pay10 (View.ld X (Rect.unit (s := S1024x2048) ![0, 0] S768x2048.size inb_S1024x2048_S768x2048_0_0)) (View.ld x0 (Rect.unit (s := S1024x2048) ![0, 0] S768x2048.size inb_S1024x2048_S768x2048_0_0)) (View.ld x1 (Rect.unit (s := S1x1x2048x512) ![0, 0, 0, 0] S1x1x2048x512.size inb_S1x1x2048x512_S1x1x2048x512_0_0_0_0)) (View.ld x2 (Rect.unit (s := S1x1x2048x512) ![0, 0, 0, 0] S1x1x2048x512.size inb_S1x1x2048x512_S1x1x2048x512_0_0_0_0)) (View.ld x3 (Rect.unit (s := S1x1x512x2048) ![0, 0, 0, 0] S1x1x512x2048.size inb_S1x1x512x2048_S1x1x512x2048_0_0_0_0))
      (Rect.unitLocal (s := S1024x2048) (off := ![0, 0]) (size := S768x2048.size) y h)
  else X y

def sel4 (w : BitVec 1) (x0 : Vec F S1024x2048 .bf16) (x1 : Vec F S1x1x2048x512 .f32) (x2 : Vec F S1x1x2048x512 .f32) (x3 : Vec F S1x1x512x2048 .f32) (X : Vec F S1024x2048 .f32) : Vec F S1024x2048 .f32 := if w = 1#1 then upd4 x0 x1 x2 x3 X else X

set_option maxHeartbeats 1000000 in
/-- That part of the body run, whatever follows it. -/
theorem blk4 {α : Type} (c : Dev nD) (arg7 : Memref sig .tc .vmem S1024x2048 .bf16) (harg7 : arg7.IsWhole) (arg8 : Memref sig .tc .vmem S1x1x2048x512 .f32) (harg8 : arg8.IsWhole) (arg9 : Memref sig .tc .vmem S1x1x2048x512 .f32) (harg9 : arg9.IsWhole) (arg10 : Memref sig .tc .vmem S1x1x512x2048 .f32) (harg10 : arg10.IsWhole) (arg11 : Memref sig .tc .vmem S1024x2048 .f32) (harg11 : arg11.IsWhole)
    (x0 : Vec F S1024x2048 .bf16) (x1 : Vec F S1x1x2048x512 .f32) (x2 : Vec F S1x1x2048x512 .f32) (x3 : Vec F S1x1x512x2048 .f32) (X : Vec F S1024x2048 .f32) (R : sProp (Mt F)) (w : BitVec 1) (E : Set ℕ)
    (rest : Prog (TpuEff nD τ sig (Elt F) Λ₀ .tc) α) (K : α → sProp (Mt F))
    (h : St c arg7 arg8 arg9 arg10 arg11 x0 x1 x2 x3 (sel4 w x0 x1 x2 x3 X) R
      ⊢ wp frame (wpE (defs₀ (F := F)) Variants.none c none) E rest K) :
    St c arg7 arg8 arg9 arg10 arg11 x0 x1 x2 x3 X R
      ⊢ wp frame (wpE (defs₀ (F := F)) Variants.none c none) E (if hw : w = 1#1 then do
          let v61 : Vec F S768x2048 .f32 ← Prog.lift (.load arg11 (Rect.unit (s := S1024x2048) ![0, 0] S768x2048.size inb_S1024x2048_S768x2048_0_0).toLoadRect (View.loadsAt_vmem h_S768x2048))
          let v63 : Vec F S768x2048 .bf16 ← Prog.lift (.load arg7 (Rect.unit (s := S1024x2048) ![0, 0] S768x2048.size inb_S1024x2048_S768x2048_0_0).toLoadRect (View.loadsAt_vmem h_S768x2048))
          let v64 : Vec F S1x1x2048x512 .f32 ← Prog.lift (.load arg8 (Rect.unit (s := S1x1x2048x512) ![0, 0, 0, 0] S1x1x2048x512.size inb_S1x1x2048x512_S1x1x2048x512_0_0_0_0).toLoadRect (View.loadsAt_vmem h_S1x1x2048x512))
          let v66 : Vec F S1x1x2048x512 .f32 ← Prog.lift (.load arg9 (Rect.unit (s := S1x1x2048x512) ![0, 0, 0, 0] S1x1x2048x512.size inb_S1x1x2048x512_S1x1x2048x512_0_0_0_0).toLoadRect (View.loadsAt_vmem h_S1x1x2048x512))
          let v68 : Vec F S1x1x512x2048 .f32 ← Prog.lift (.load arg10 (Rect.unit (s := S1x1x512x2048) ![0, 0, 0, 0] S1x1x512x2048.size inb_S1x1x512x2048_S1x1x512x2048_0_0_0_0).toLoadRect (View.loadsAt_vmem h_S1x1x512x2048))
          let v81 : Vec F S768x2048 .f32 ← Prog.lift (.load arg11 (Rect.unit (s := S1024x2048) ![0, 0] S768x2048.size inb_S1024x2048_S768x2048_0_0).toLoadRect (View.loadsAt_vmem h_S768x2048))
          Prog.lift (.store arg11 (Rect.unit (s := S1024x2048) ![0, 0] S768x2048.size inb_S1024x2048_S768x2048_0_0) (k0_pay10 v61 v63 v64 v66 v68) Finset.univ (View.stores_vmem_bits_univ h_S768x2048 rfl) (.inl rfl))
          rest
        else rest) K := by
  unfold sel4 at h
  by_cases hw : w = 1#1
  · rw [dif_pos hw]
    rw [if_pos hw] at h
    unfold St owns at h ⊢
    iintro ⟨⟨%f0, %hf0, H0⟩, ⟨%f1, %hf1, H1⟩, ⟨%f2, %hf2, H2⟩, ⟨%f3, %hf3, H3⟩, ⟨%f4, %hf4, H4⟩, HR⟩
    obtain rfl := harg7.eq_unread hf0; obtain rfl := harg8.eq_unread hf1; obtain rfl := harg9.eq_unread hf2; obtain rfl := harg10.eq_unread hf3; obtain rfl := harg11.eq_unread hf4
    sl_exec
    iapply h
    isplitl [H0]
    · iexists _; isplitr; · ipureintro; exact harg7.read_unread _
      iexact H0
    isplitl [H1]
    · iexists _; isplitr; · ipureintro; exact harg8.read_unread _
      iexact H1
    isplitl [H2]
    · iexists _; isplitr; · ipureintro; exact harg9.read_unread _
      iexact H2
    isplitl [H3]
    · iexists _; isplitr; · ipureintro; exact harg10.read_unread _
      iexact H3
    isplitl [H4]
    · iexists _; isplitr; swap; · iexact H4
      ipureintro
      funext y
      rw [View.read_writes_cons_unit (heq := rfl)]
      unfold upd4
      split
      · rw [show View.readAt (Elt F) arg11.view (Rect.unit (s := S1024x2048) ![0, 0] S768x2048.size inb_S1024x2048_S768x2048_0_0).toLoadRect (harg11.unread X) = View.ld X (Rect.unit (s := S1024x2048) ![0, 0] S768x2048.size inb_S1024x2048_S768x2048_0_0) from funext fun _ => harg11.readAt_unread X _ _,
          show View.readAt (Elt F) arg7.view (Rect.unit (s := S1024x2048) ![0, 0] S768x2048.size inb_S1024x2048_S768x2048_0_0).toLoadRect (harg7.unread x0) = View.ld x0 (Rect.unit (s := S1024x2048) ![0, 0] S768x2048.size inb_S1024x2048_S768x2048_0_0) from funext fun _ => harg7.readAt_unread x0 _ _,
          show View.readAt (Elt F) arg8.view (Rect.unit (s := S1x1x2048x512) ![0, 0, 0, 0] S1x1x2048x512.size inb_S1x1x2048x512_S1x1x2048x512_0_0_0_0).toLoadRect (harg8.unread x1) = View.ld x1 (Rect.unit (s := S1x1x2048x512) ![0, 0, 0, 0] S1x1x2048x512.size inb_S1x1x2048x512_S1x1x2048x512_0_0_0_0) from funext fun _ => harg8.readAt_unread x1 _ _,
          show View.readAt (Elt F) arg9.view (Rect.unit (s := S1x1x2048x512) ![0, 0, 0, 0] S1x1x2048x512.size inb_S1x1x2048x512_S1x1x2048x512_0_0_0_0).toLoadRect (harg9.unread x2) = View.ld x2 (Rect.unit (s := S1x1x2048x512) ![0, 0, 0, 0] S1x1x2048x512.size inb_S1x1x2048x512_S1x1x2048x512_0_0_0_0) from funext fun _ => harg9.readAt_unread x2 _ _,
          show View.readAt (Elt F) arg10.view (Rect.unit (s := S1x1x512x2048) ![0, 0, 0, 0] S1x1x512x2048.size inb_S1x1x512x2048_S1x1x512x2048_0_0_0_0).toLoadRect (harg10.unread x3) = View.ld x3 (Rect.unit (s := S1x1x512x2048) ![0, 0, 0, 0] S1x1x512x2048.size inb_S1x1x512x2048_S1x1x512x2048_0_0_0_0) from funext fun _ => harg10.readAt_unread x3 _ _]
      · rw [View.writes_nil, harg11.read_unread]
    iexact HR
  · rw [dif_neg hw]
    rw [if_neg hw] at h
    exact h

/-- The part of the body for 4 blocks of 256 rows from row 0: what the whole output tile then holds. -/
def upd5 (x0 : Vec F S1024x2048 .bf16) (x1 : Vec F S1x1x2048x512 .f32) (x2 : Vec F S1x1x2048x512 .f32) (x3 : Vec F S1x1x512x2048 .f32) (X : Vec F S1024x2048 .f32) : Vec F S1024x2048 .f32 := fun y =>
  if h : ∀ a, (![0, 0] : Fin S1024x2048.rank → ℕ) a ≤ (y a).val ∧ (y a).val < (![0, 0] : Fin S1024x2048.rank → ℕ) a + S1024x2048.size a then
    k0_pay11 (View.ld X (Rect.unit (s := S1024x2048) ![0, 0] S1024x2048.size inb_S1024x2048_S1024x2048_0_0)) (View.ld x0 (Rect.unit (s := S1024x2048) ![0, 0] S1024x2048.size inb_S1024x2048_S1024x2048_0_0)) (View.ld x1 (Rect.unit (s := S1x1x2048x512) ![0, 0, 0, 0] S1x1x2048x512.size inb_S1x1x2048x512_S1x1x2048x512_0_0_0_0)) (View.ld x2 (Rect.unit (s := S1x1x2048x512) ![0, 0, 0, 0] S1x1x2048x512.size inb_S1x1x2048x512_S1x1x2048x512_0_0_0_0)) (View.ld x3 (Rect.unit (s := S1x1x512x2048) ![0, 0, 0, 0] S1x1x512x2048.size inb_S1x1x512x2048_S1x1x512x2048_0_0_0_0))
      (Rect.unitLocal (s := S1024x2048) (off := ![0, 0]) (size := S1024x2048.size) y h)
  else X y

def sel5 (w : BitVec 1) (x0 : Vec F S1024x2048 .bf16) (x1 : Vec F S1x1x2048x512 .f32) (x2 : Vec F S1x1x2048x512 .f32) (x3 : Vec F S1x1x512x2048 .f32) (X : Vec F S1024x2048 .f32) : Vec F S1024x2048 .f32 := if w = 1#1 then upd5 x0 x1 x2 x3 X else X

set_option maxHeartbeats 1000000 in
/-- That part of the body run, whatever follows it. -/
theorem blk5 {α : Type} (c : Dev nD) (arg7 : Memref sig .tc .vmem S1024x2048 .bf16) (harg7 : arg7.IsWhole) (arg8 : Memref sig .tc .vmem S1x1x2048x512 .f32) (harg8 : arg8.IsWhole) (arg9 : Memref sig .tc .vmem S1x1x2048x512 .f32) (harg9 : arg9.IsWhole) (arg10 : Memref sig .tc .vmem S1x1x512x2048 .f32) (harg10 : arg10.IsWhole) (arg11 : Memref sig .tc .vmem S1024x2048 .f32) (harg11 : arg11.IsWhole)
    (x0 : Vec F S1024x2048 .bf16) (x1 : Vec F S1x1x2048x512 .f32) (x2 : Vec F S1x1x2048x512 .f32) (x3 : Vec F S1x1x512x2048 .f32) (X : Vec F S1024x2048 .f32) (R : sProp (Mt F)) (w : BitVec 1) (E : Set ℕ)
    (rest : Prog (TpuEff nD τ sig (Elt F) Λ₀ .tc) α) (K : α → sProp (Mt F))
    (h : St c arg7 arg8 arg9 arg10 arg11 x0 x1 x2 x3 (sel5 w x0 x1 x2 x3 X) R
      ⊢ wp frame (wpE (defs₀ (F := F)) Variants.none c none) E rest K) :
    St c arg7 arg8 arg9 arg10 arg11 x0 x1 x2 x3 X R
      ⊢ wp frame (wpE (defs₀ (F := F)) Variants.none c none) E (if hw : w = 1#1 then do
          let v61 : Vec F S1024x2048 .f32 ← Prog.lift (.load arg11 (Rect.unit (s := S1024x2048) ![0, 0] S1024x2048.size inb_S1024x2048_S1024x2048_0_0).toLoadRect (View.loadsAt_vmem h_S1024x2048))
          let v63 : Vec F S1024x2048 .bf16 ← Prog.lift (.load arg7 (Rect.unit (s := S1024x2048) ![0, 0] S1024x2048.size inb_S1024x2048_S1024x2048_0_0).toLoadRect (View.loadsAt_vmem h_S1024x2048))
          let v64 : Vec F S1x1x2048x512 .f32 ← Prog.lift (.load arg8 (Rect.unit (s := S1x1x2048x512) ![0, 0, 0, 0] S1x1x2048x512.size inb_S1x1x2048x512_S1x1x2048x512_0_0_0_0).toLoadRect (View.loadsAt_vmem h_S1x1x2048x512))
          let v66 : Vec F S1x1x2048x512 .f32 ← Prog.lift (.load arg9 (Rect.unit (s := S1x1x2048x512) ![0, 0, 0, 0] S1x1x2048x512.size inb_S1x1x2048x512_S1x1x2048x512_0_0_0_0).toLoadRect (View.loadsAt_vmem h_S1x1x2048x512))
          let v68 : Vec F S1x1x512x2048 .f32 ← Prog.lift (.load arg10 (Rect.unit (s := S1x1x512x2048) ![0, 0, 0, 0] S1x1x512x2048.size inb_S1x1x512x2048_S1x1x512x2048_0_0_0_0).toLoadRect (View.loadsAt_vmem h_S1x1x512x2048))
          let v81 : Vec F S1024x2048 .f32 ← Prog.lift (.load arg11 (Rect.unit (s := S1024x2048) ![0, 0] S1024x2048.size inb_S1024x2048_S1024x2048_0_0).toLoadRect (View.loadsAt_vmem h_S1024x2048))
          Prog.lift (.store arg11 (Rect.unit (s := S1024x2048) ![0, 0] S1024x2048.size inb_S1024x2048_S1024x2048_0_0) (k0_pay11 v61 v63 v64 v66 v68) Finset.univ (View.stores_vmem_bits_univ h_S1024x2048 rfl) (.inl rfl))
          rest
        else rest) K := by
  unfold sel5 at h
  by_cases hw : w = 1#1
  · rw [dif_pos hw]
    rw [if_pos hw] at h
    unfold St owns at h ⊢
    iintro ⟨⟨%f0, %hf0, H0⟩, ⟨%f1, %hf1, H1⟩, ⟨%f2, %hf2, H2⟩, ⟨%f3, %hf3, H3⟩, ⟨%f4, %hf4, H4⟩, HR⟩
    obtain rfl := harg7.eq_unread hf0; obtain rfl := harg8.eq_unread hf1; obtain rfl := harg9.eq_unread hf2; obtain rfl := harg10.eq_unread hf3; obtain rfl := harg11.eq_unread hf4
    sl_exec
    iapply h
    isplitl [H0]
    · iexists _; isplitr; · ipureintro; exact harg7.read_unread _
      iexact H0
    isplitl [H1]
    · iexists _; isplitr; · ipureintro; exact harg8.read_unread _
      iexact H1
    isplitl [H2]
    · iexists _; isplitr; · ipureintro; exact harg9.read_unread _
      iexact H2
    isplitl [H3]
    · iexists _; isplitr; · ipureintro; exact harg10.read_unread _
      iexact H3
    isplitl [H4]
    · iexists _; isplitr; swap; · iexact H4
      ipureintro
      funext y
      rw [View.read_writes_cons_unit (heq := rfl)]
      unfold upd5
      split
      · rw [show View.readAt (Elt F) arg11.view (Rect.unit (s := S1024x2048) ![0, 0] S1024x2048.size inb_S1024x2048_S1024x2048_0_0).toLoadRect (harg11.unread X) = View.ld X (Rect.unit (s := S1024x2048) ![0, 0] S1024x2048.size inb_S1024x2048_S1024x2048_0_0) from funext fun _ => harg11.readAt_unread X _ _,
          show View.readAt (Elt F) arg7.view (Rect.unit (s := S1024x2048) ![0, 0] S1024x2048.size inb_S1024x2048_S1024x2048_0_0).toLoadRect (harg7.unread x0) = View.ld x0 (Rect.unit (s := S1024x2048) ![0, 0] S1024x2048.size inb_S1024x2048_S1024x2048_0_0) from funext fun _ => harg7.readAt_unread x0 _ _,
          show View.readAt (Elt F) arg8.view (Rect.unit (s := S1x1x2048x512) ![0, 0, 0, 0] S1x1x2048x512.size inb_S1x1x2048x512_S1x1x2048x512_0_0_0_0).toLoadRect (harg8.unread x1) = View.ld x1 (Rect.unit (s := S1x1x2048x512) ![0, 0, 0, 0] S1x1x2048x512.size inb_S1x1x2048x512_S1x1x2048x512_0_0_0_0) from funext fun _ => harg8.readAt_unread x1 _ _,
          show View.readAt (Elt F) arg9.view (Rect.unit (s := S1x1x2048x512) ![0, 0, 0, 0] S1x1x2048x512.size inb_S1x1x2048x512_S1x1x2048x512_0_0_0_0).toLoadRect (harg9.unread x2) = View.ld x2 (Rect.unit (s := S1x1x2048x512) ![0, 0, 0, 0] S1x1x2048x512.size inb_S1x1x2048x512_S1x1x2048x512_0_0_0_0) from funext fun _ => harg9.readAt_unread x2 _ _,
          show View.readAt (Elt F) arg10.view (Rect.unit (s := S1x1x512x2048) ![0, 0, 0, 0] S1x1x512x2048.size inb_S1x1x512x2048_S1x1x512x2048_0_0_0_0).toLoadRect (harg10.unread x3) = View.ld x3 (Rect.unit (s := S1x1x512x2048) ![0, 0, 0, 0] S1x1x512x2048.size inb_S1x1x512x2048_S1x1x512x2048_0_0_0_0) from funext fun _ => harg10.readAt_unread x3 _ _]
      · rw [View.writes_nil, harg11.read_unread]
    iexact HR
  · rw [dif_neg hw]
    rw [if_neg hw] at h
    exact h

/-- The part of the body for 1 blocks of 256 rows from row 256: what the whole output tile then holds. -/
def upd6 (x0 : Vec F S1024x2048 .bf16) (x1 : Vec F S1x1x2048x512 .f32) (x2 : Vec F S1x1x2048x512 .f32) (x3 : Vec F S1x1x512x2048 .f32) (X : Vec F S1024x2048 .f32) : Vec F S1024x2048 .f32 := fun y =>
  if h : ∀ a, (![256, 0] : Fin S1024x2048.rank → ℕ) a ≤ (y a).val ∧ (y a).val < (![256, 0] : Fin S1024x2048.rank → ℕ) a + S256x2048.size a then
    k0_pay1 (View.ld X (Rect.unit (s := S1024x2048) ![256, 0] S256x2048.size inb_S1024x2048_S256x2048_256_0)) (View.ld x0 (Rect.unit (s := S1024x2048) ![256, 0] S256x2048.size inb_S1024x2048_S256x2048_256_0)) (View.ld x1 (Rect.unit (s := S1x1x2048x512) ![0, 0, 0, 0] S1x1x2048x512.size inb_S1x1x2048x512_S1x1x2048x512_0_0_0_0)) (View.ld x2 (Rect.unit (s := S1x1x2048x512) ![0, 0, 0, 0] S1x1x2048x512.size inb_S1x1x2048x512_S1x1x2048x512_0_0_0_0)) (View.ld x3 (Rect.unit (s := S1x1x512x2048) ![0, 0, 0, 0] S1x1x512x2048.size inb_S1x1x512x2048_S1x1x512x2048_0_0_0_0))
      (Rect.unitLocal (s := S1024x2048) (off := ![256, 0]) (size := S256x2048.size) y h)
  else X y

def sel6 (w : BitVec 1) (x0 : Vec F S1024x2048 .bf16) (x1 : Vec F S1x1x2048x512 .f32) (x2 : Vec F S1x1x2048x512 .f32) (x3 : Vec F S1x1x512x2048 .f32) (X : Vec F S1024x2048 .f32) : Vec F S1024x2048 .f32 := if w = 1#1 then upd6 x0 x1 x2 x3 X else X

set_option maxHeartbeats 1000000 in
/-- That part of the body run, whatever follows it. -/
theorem blk6 {α : Type} (c : Dev nD) (arg7 : Memref sig .tc .vmem S1024x2048 .bf16) (harg7 : arg7.IsWhole) (arg8 : Memref sig .tc .vmem S1x1x2048x512 .f32) (harg8 : arg8.IsWhole) (arg9 : Memref sig .tc .vmem S1x1x2048x512 .f32) (harg9 : arg9.IsWhole) (arg10 : Memref sig .tc .vmem S1x1x512x2048 .f32) (harg10 : arg10.IsWhole) (arg11 : Memref sig .tc .vmem S1024x2048 .f32) (harg11 : arg11.IsWhole)
    (x0 : Vec F S1024x2048 .bf16) (x1 : Vec F S1x1x2048x512 .f32) (x2 : Vec F S1x1x2048x512 .f32) (x3 : Vec F S1x1x512x2048 .f32) (X : Vec F S1024x2048 .f32) (R : sProp (Mt F)) (w : BitVec 1) (E : Set ℕ)
    (rest : Prog (TpuEff nD τ sig (Elt F) Λ₀ .tc) α) (K : α → sProp (Mt F))
    (h : St c arg7 arg8 arg9 arg10 arg11 x0 x1 x2 x3 (sel6 w x0 x1 x2 x3 X) R
      ⊢ wp frame (wpE (defs₀ (F := F)) Variants.none c none) E rest K) :
    St c arg7 arg8 arg9 arg10 arg11 x0 x1 x2 x3 X R
      ⊢ wp frame (wpE (defs₀ (F := F)) Variants.none c none) E (if hw : w = 1#1 then do
          let v61 : Vec F S256x2048 .f32 ← Prog.lift (.load arg11 (Rect.unit (s := S1024x2048) ![256, 0] S256x2048.size inb_S1024x2048_S256x2048_256_0).toLoadRect (View.loadsAt_vmem h_S256x2048))
          let v63 : Vec F S256x2048 .bf16 ← Prog.lift (.load arg7 (Rect.unit (s := S1024x2048) ![256, 0] S256x2048.size inb_S1024x2048_S256x2048_256_0).toLoadRect (View.loadsAt_vmem h_S256x2048))
          let v64 : Vec F S1x1x2048x512 .f32 ← Prog.lift (.load arg8 (Rect.unit (s := S1x1x2048x512) ![0, 0, 0, 0] S1x1x2048x512.size inb_S1x1x2048x512_S1x1x2048x512_0_0_0_0).toLoadRect (View.loadsAt_vmem h_S1x1x2048x512))
          let v66 : Vec F S1x1x2048x512 .f32 ← Prog.lift (.load arg9 (Rect.unit (s := S1x1x2048x512) ![0, 0, 0, 0] S1x1x2048x512.size inb_S1x1x2048x512_S1x1x2048x512_0_0_0_0).toLoadRect (View.loadsAt_vmem h_S1x1x2048x512))
          let v68 : Vec F S1x1x512x2048 .f32 ← Prog.lift (.load arg10 (Rect.unit (s := S1x1x512x2048) ![0, 0, 0, 0] S1x1x512x2048.size inb_S1x1x512x2048_S1x1x512x2048_0_0_0_0).toLoadRect (View.loadsAt_vmem h_S1x1x512x2048))
          let v81 : Vec F S256x2048 .f32 ← Prog.lift (.load arg11 (Rect.unit (s := S1024x2048) ![256, 0] S256x2048.size inb_S1024x2048_S256x2048_256_0).toLoadRect (View.loadsAt_vmem h_S256x2048))
          Prog.lift (.store arg11 (Rect.unit (s := S1024x2048) ![256, 0] S256x2048.size inb_S1024x2048_S256x2048_256_0) (k0_pay1 v61 v63 v64 v66 v68) Finset.univ (View.stores_vmem_bits_univ h_S256x2048 rfl) (.inl rfl))
          rest
        else rest) K := by
  unfold sel6 at h
  by_cases hw : w = 1#1
  · rw [dif_pos hw]
    rw [if_pos hw] at h
    unfold St owns at h ⊢
    iintro ⟨⟨%f0, %hf0, H0⟩, ⟨%f1, %hf1, H1⟩, ⟨%f2, %hf2, H2⟩, ⟨%f3, %hf3, H3⟩, ⟨%f4, %hf4, H4⟩, HR⟩
    obtain rfl := harg7.eq_unread hf0; obtain rfl := harg8.eq_unread hf1; obtain rfl := harg9.eq_unread hf2; obtain rfl := harg10.eq_unread hf3; obtain rfl := harg11.eq_unread hf4
    sl_exec
    iapply h
    isplitl [H0]
    · iexists _; isplitr; · ipureintro; exact harg7.read_unread _
      iexact H0
    isplitl [H1]
    · iexists _; isplitr; · ipureintro; exact harg8.read_unread _
      iexact H1
    isplitl [H2]
    · iexists _; isplitr; · ipureintro; exact harg9.read_unread _
      iexact H2
    isplitl [H3]
    · iexists _; isplitr; · ipureintro; exact harg10.read_unread _
      iexact H3
    isplitl [H4]
    · iexists _; isplitr; swap; · iexact H4
      ipureintro
      funext y
      rw [View.read_writes_cons_unit (heq := rfl)]
      unfold upd6
      split
      · rw [show View.readAt (Elt F) arg11.view (Rect.unit (s := S1024x2048) ![256, 0] S256x2048.size inb_S1024x2048_S256x2048_256_0).toLoadRect (harg11.unread X) = View.ld X (Rect.unit (s := S1024x2048) ![256, 0] S256x2048.size inb_S1024x2048_S256x2048_256_0) from funext fun _ => harg11.readAt_unread X _ _,
          show View.readAt (Elt F) arg7.view (Rect.unit (s := S1024x2048) ![256, 0] S256x2048.size inb_S1024x2048_S256x2048_256_0).toLoadRect (harg7.unread x0) = View.ld x0 (Rect.unit (s := S1024x2048) ![256, 0] S256x2048.size inb_S1024x2048_S256x2048_256_0) from funext fun _ => harg7.readAt_unread x0 _ _,
          show View.readAt (Elt F) arg8.view (Rect.unit (s := S1x1x2048x512) ![0, 0, 0, 0] S1x1x2048x512.size inb_S1x1x2048x512_S1x1x2048x512_0_0_0_0).toLoadRect (harg8.unread x1) = View.ld x1 (Rect.unit (s := S1x1x2048x512) ![0, 0, 0, 0] S1x1x2048x512.size inb_S1x1x2048x512_S1x1x2048x512_0_0_0_0) from funext fun _ => harg8.readAt_unread x1 _ _,
          show View.readAt (Elt F) arg9.view (Rect.unit (s := S1x1x2048x512) ![0, 0, 0, 0] S1x1x2048x512.size inb_S1x1x2048x512_S1x1x2048x512_0_0_0_0).toLoadRect (harg9.unread x2) = View.ld x2 (Rect.unit (s := S1x1x2048x512) ![0, 0, 0, 0] S1x1x2048x512.size inb_S1x1x2048x512_S1x1x2048x512_0_0_0_0) from funext fun _ => harg9.readAt_unread x2 _ _,
          show View.readAt (Elt F) arg10.view (Rect.unit (s := S1x1x512x2048) ![0, 0, 0, 0] S1x1x512x2048.size inb_S1x1x512x2048_S1x1x512x2048_0_0_0_0).toLoadRect (harg10.unread x3) = View.ld x3 (Rect.unit (s := S1x1x512x2048) ![0, 0, 0, 0] S1x1x512x2048.size inb_S1x1x512x2048_S1x1x512x2048_0_0_0_0) from funext fun _ => harg10.readAt_unread x3 _ _]
      · rw [View.writes_nil, harg11.read_unread]
    iexact HR
  · rw [dif_neg hw]
    rw [if_neg hw] at h
    exact h

end Cert.Kernel10Ideal.Gen

end
-- ==== Proof.MoeIdeal.PartsB.lean ====
module

public import proofs.«01_k».proof.Proof.MoeIdeal.Parts

@[expose] public section

set_option maxRecDepth 16384

noncomputable section

namespace Cert.Kernel10Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The part of the body for 2 blocks of 256 rows from row 256: what the whole output tile then holds. -/
def upd7 (x0 : Vec F S1024x2048 .bf16) (x1 : Vec F S1x1x2048x512 .f32) (x2 : Vec F S1x1x2048x512 .f32) (x3 : Vec F S1x1x512x2048 .f32) (X : Vec F S1024x2048 .f32) : Vec F S1024x2048 .f32 := fun y =>
  if h : ∀ a, (![256, 0] : Fin S1024x2048.rank → ℕ) a ≤ (y a).val ∧ (y a).val < (![256, 0] : Fin S1024x2048.rank → ℕ) a + S512x2048.size a then
    k0_pay2 (View.ld X (Rect.unit (s := S1024x2048) ![256, 0] S512x2048.size inb_S1024x2048_S512x2048_256_0)) (View.ld x0 (Rect.unit (s := S1024x2048) ![256, 0] S512x2048.size inb_S1024x2048_S512x2048_256_0)) (View.ld x1 (Rect.unit (s := S1x1x2048x512) ![0, 0, 0, 0] S1x1x2048x512.size inb_S1x1x2048x512_S1x1x2048x512_0_0_0_0)) (View.ld x2 (Rect.unit (s := S1x1x2048x512) ![0, 0, 0, 0] S1x1x2048x512.size inb_S1x1x2048x512_S1x1x2048x512_0_0_0_0)) (View.ld x3 (Rect.unit (s := S1x1x512x2048) ![0, 0, 0, 0] S1x1x512x2048.size inb_S1x1x512x2048_S1x1x512x2048_0_0_0_0))
      (Rect.unitLocal (s := S1024x2048) (off := ![256, 0]) (size := S512x2048.size) y h)
  else X y

def sel7 (w : BitVec 1) (x0 : Vec F S1024x2048 .bf16) (x1 : Vec F S1x1x2048x512 .f32) (x2 : Vec F S1x1x2048x512 .f32) (x3 : Vec F S1x1x512x2048 .f32) (X : Vec F S1024x2048 .f32) : Vec F S1024x2048 .f32 := if w = 1#1 then upd7 x0 x1 x2 x3 X else X

set_option maxHeartbeats 1000000 in
/-- That part of the body run, whatever follows it. -/
theorem blk7 {α : Type} (c : Dev nD) (arg7 : Memref sig .tc .vmem S1024x2048 .bf16) (harg7 : arg7.IsWhole) (arg8 : Memref sig .tc .vmem S1x1x2048x512 .f32) (harg8 : arg8.IsWhole) (arg9 : Memref sig .tc .vmem S1x1x2048x512 .f32) (harg9 : arg9.IsWhole) (arg10 : Memref sig .tc .vmem S1x1x512x2048 .f32) (harg10 : arg10.IsWhole) (arg11 : Memref sig .tc .vmem S1024x2048 .f32) (harg11 : arg11.IsWhole)
    (x0 : Vec F S1024x2048 .bf16) (x1 : Vec F S1x1x2048x512 .f32) (x2 : Vec F S1x1x2048x512 .f32) (x3 : Vec F S1x1x512x2048 .f32) (X : Vec F S1024x2048 .f32) (R : sProp (Mt F)) (w : BitVec 1) (E : Set ℕ)
    (rest : Prog (TpuEff nD τ sig (Elt F) Λ₀ .tc) α) (K : α → sProp (Mt F))
    (h : St c arg7 arg8 arg9 arg10 arg11 x0 x1 x2 x3 (sel7 w x0 x1 x2 x3 X) R
      ⊢ wp frame (wpE (defs₀ (F := F)) Variants.none c none) E rest K) :
    St c arg7 arg8 arg9 arg10 arg11 x0 x1 x2 x3 X R
      ⊢ wp frame (wpE (defs₀ (F := F)) Variants.none c none) E (if hw : w = 1#1 then do
          let v61 : Vec F S512x2048 .f32 ← Prog.lift (.load arg11 (Rect.unit (s := S1024x2048) ![256, 0] S512x2048.size inb_S1024x2048_S512x2048_256_0).toLoadRect (View.loadsAt_vmem h_S512x2048))
          let v63 : Vec F S512x2048 .bf16 ← Prog.lift (.load arg7 (Rect.unit (s := S1024x2048) ![256, 0] S512x2048.size inb_S1024x2048_S512x2048_256_0).toLoadRect (View.loadsAt_vmem h_S512x2048))
          let v64 : Vec F S1x1x2048x512 .f32 ← Prog.lift (.load arg8 (Rect.unit (s := S1x1x2048x512) ![0, 0, 0, 0] S1x1x2048x512.size inb_S1x1x2048x512_S1x1x2048x512_0_0_0_0).toLoadRect (View.loadsAt_vmem h_S1x1x2048x512))
          let v66 : Vec F S1x1x2048x512 .f32 ← Prog.lift (.load arg9 (Rect.unit (s := S1x1x2048x512) ![0, 0, 0, 0] S1x1x2048x512.size inb_S1x1x2048x512_S1x1x2048x512_0_0_0_0).toLoadRect (View.loadsAt_vmem h_S1x1x2048x512))
          let v68 : Vec F S1x1x512x2048 .f32 ← Prog.lift (.load arg10 (Rect.unit (s := S1x1x512x2048) ![0, 0, 0, 0] S1x1x512x2048.size inb_S1x1x512x2048_S1x1x512x2048_0_0_0_0).toLoadRect (View.loadsAt_vmem h_S1x1x512x2048))
          let v81 : Vec F S512x2048 .f32 ← Prog.lift (.load arg11 (Rect.unit (s := S1024x2048) ![256, 0] S512x2048.size inb_S1024x2048_S512x2048_256_0).toLoadRect (View.loadsAt_vmem h_S512x2048))
          Prog.lift (.store arg11 (Rect.unit (s := S1024x2048) ![256, 0] S512x2048.size inb_S1024x2048_S512x2048_256_0) (k0_pay2 v61 v63 v64 v66 v68) Finset.univ (View.stores_vmem_bits_univ h_S512x2048 rfl) (.inl rfl))
          rest
        else rest) K := by
  unfold sel7 at h
  by_cases hw : w = 1#1
  · rw [dif_pos hw]
    rw [if_pos hw] at h
    unfold St owns at h ⊢
    iintro ⟨⟨%f0, %hf0, H0⟩, ⟨%f1, %hf1, H1⟩, ⟨%f2, %hf2, H2⟩, ⟨%f3, %hf3, H3⟩, ⟨%f4, %hf4, H4⟩, HR⟩
    obtain rfl := harg7.eq_unread hf0; obtain rfl := harg8.eq_unread hf1; obtain rfl := harg9.eq_unread hf2; obtain rfl := harg10.eq_unread hf3; obtain rfl := harg11.eq_unread hf4
    sl_exec
    iapply h
    isplitl [H0]
    · iexists _; isplitr; · ipureintro; exact harg7.read_unread _
      iexact H0
    isplitl [H1]
    · iexists _; isplitr; · ipureintro; exact harg8.read_unread _
      iexact H1
    isplitl [H2]
    · iexists _; isplitr; · ipureintro; exact harg9.read_unread _
      iexact H2
    isplitl [H3]
    · iexists _; isplitr; · ipureintro; exact harg10.read_unread _
      iexact H3
    isplitl [H4]
    · iexists _; isplitr; swap; · iexact H4
      ipureintro
      funext y
      rw [View.read_writes_cons_unit (heq := rfl)]
      unfold upd7
      split
      · rw [show View.readAt (Elt F) arg11.view (Rect.unit (s := S1024x2048) ![256, 0] S512x2048.size inb_S1024x2048_S512x2048_256_0).toLoadRect (harg11.unread X) = View.ld X (Rect.unit (s := S1024x2048) ![256, 0] S512x2048.size inb_S1024x2048_S512x2048_256_0) from funext fun _ => harg11.readAt_unread X _ _,
          show View.readAt (Elt F) arg7.view (Rect.unit (s := S1024x2048) ![256, 0] S512x2048.size inb_S1024x2048_S512x2048_256_0).toLoadRect (harg7.unread x0) = View.ld x0 (Rect.unit (s := S1024x2048) ![256, 0] S512x2048.size inb_S1024x2048_S512x2048_256_0) from funext fun _ => harg7.readAt_unread x0 _ _,
          show View.readAt (Elt F) arg8.view (Rect.unit (s := S1x1x2048x512) ![0, 0, 0, 0] S1x1x2048x512.size inb_S1x1x2048x512_S1x1x2048x512_0_0_0_0).toLoadRect (harg8.unread x1) = View.ld x1 (Rect.unit (s := S1x1x2048x512) ![0, 0, 0, 0] S1x1x2048x512.size inb_S1x1x2048x512_S1x1x2048x512_0_0_0_0) from funext fun _ => harg8.readAt_unread x1 _ _,
          show View.readAt (Elt F) arg9.view (Rect.unit (s := S1x1x2048x512) ![0, 0, 0, 0] S1x1x2048x512.size inb_S1x1x2048x512_S1x1x2048x512_0_0_0_0).toLoadRect (harg9.unread x2) = View.ld x2 (Rect.unit (s := S1x1x2048x512) ![0, 0, 0, 0] S1x1x2048x512.size inb_S1x1x2048x512_S1x1x2048x512_0_0_0_0) from funext fun _ => harg9.readAt_unread x2 _ _,
          show View.readAt (Elt F) arg10.view (Rect.unit (s := S1x1x512x2048) ![0, 0, 0, 0] S1x1x512x2048.size inb_S1x1x512x2048_S1x1x512x2048_0_0_0_0).toLoadRect (harg10.unread x3) = View.ld x3 (Rect.unit (s := S1x1x512x2048) ![0, 0, 0, 0] S1x1x512x2048.size inb_S1x1x512x2048_S1x1x512x2048_0_0_0_0) from funext fun _ => harg10.readAt_unread x3 _ _]
      · rw [View.writes_nil, harg11.read_unread]
    iexact HR
  · rw [dif_neg hw]
    rw [if_neg hw] at h
    exact h

/-- The part of the body for 3 blocks of 256 rows from row 256: what the whole output tile then holds. -/
def upd8 (x0 : Vec F S1024x2048 .bf16) (x1 : Vec F S1x1x2048x512 .f32) (x2 : Vec F S1x1x2048x512 .f32) (x3 : Vec F S1x1x512x2048 .f32) (X : Vec F S1024x2048 .f32) : Vec F S1024x2048 .f32 := fun y =>
  if h : ∀ a, (![256, 0] : Fin S1024x2048.rank → ℕ) a ≤ (y a).val ∧ (y a).val < (![256, 0] : Fin S1024x2048.rank → ℕ) a + S768x2048.size a then
    k0_pay3 (View.ld X (Rect.unit (s := S1024x2048) ![256, 0] S768x2048.size inb_S1024x2048_S768x2048_256_0)) (View.ld x0 (Rect.unit (s := S1024x2048) ![256, 0] S768x2048.size inb_S1024x2048_S768x2048_256_0)) (View.ld x1 (Rect.unit (s := S1x1x2048x512) ![0, 0, 0, 0] S1x1x2048x512.size inb_S1x1x2048x512_S1x1x2048x512_0_0_0_0)) (View.ld x2 (Rect.unit (s := S1x1x2048x512) ![0, 0, 0, 0] S1x1x2048x512.size inb_S1x1x2048x512_S1x1x2048x512_0_0_0_0)) (View.ld x3 (Rect.unit (s := S1x1x512x2048) ![0, 0, 0, 0] S1x1x512x2048.size inb_S1x1x512x2048_S1x1x512x2048_0_0_0_0))
      (Rect.unitLocal (s := S1024x2048) (off := ![256, 0]) (size := S768x2048.size) y h)
  else X y

def sel8 (w : BitVec 1) (x0 : Vec F S1024x2048 .bf16) (x1 : Vec F S1x1x2048x512 .f32) (x2 : Vec F S1x1x2048x512 .f32) (x3 : Vec F S1x1x512x2048 .f32) (X : Vec F S1024x2048 .f32) : Vec F S1024x2048 .f32 := if w = 1#1 then upd8 x0 x1 x2 x3 X else X

set_option maxHeartbeats 1000000 in
/-- That part of the body run, whatever follows it. -/
theorem blk8 {α : Type} (c : Dev nD) (arg7 : Memref sig .tc .vmem S1024x2048 .bf16) (harg7 : arg7.IsWhole) (arg8 : Memref sig .tc .vmem S1x1x2048x512 .f32) (harg8 : arg8.IsWhole) (arg9 : Memref sig .tc .vmem S1x1x2048x512 .f32) (harg9 : arg9.IsWhole) (arg10 : Memref sig .tc .vmem S1x1x512x2048 .f32) (harg10 : arg10.IsWhole) (arg11 : Memref sig .tc .vmem S1024x2048 .f32) (harg11 : arg11.IsWhole)
    (x0 : Vec F S1024x2048 .bf16) (x1 : Vec F S1x1x2048x512 .f32) (x2 : Vec F S1x1x2048x512 .f32) (x3 : Vec F S1x1x512x2048 .f32) (X : Vec F S1024x2048 .f32) (R : sProp (Mt F)) (w : BitVec 1) (E : Set ℕ)
    (rest : Prog (TpuEff nD τ sig (Elt F) Λ₀ .tc) α) (K : α → sProp (Mt F))
    (h : St c arg7 arg8 arg9 arg10 arg11 x0 x1 x2 x3 (sel8 w x0 x1 x2 x3 X) R
      ⊢ wp frame (wpE (defs₀ (F := F)) Variants.none c none) E rest K) :
    St c arg7 arg8 arg9 arg10 arg11 x0 x1 x2 x3 X R
      ⊢ wp frame (wpE (defs₀ (F := F)) Variants.none c none) E (if hw : w = 1#1 then do
          let v61 : Vec F S768x2048 .f32 ← Prog.lift (.load arg11 (Rect.unit (s := S1024x2048) ![256, 0] S768x2048.size inb_S1024x2048_S768x2048_256_0).toLoadRect (View.loadsAt_vmem h_S768x2048))
          let v63 : Vec F S768x2048 .bf16 ← Prog.lift (.load arg7 (Rect.unit (s := S1024x2048) ![256, 0] S768x2048.size inb_S1024x2048_S768x2048_256_0).toLoadRect (View.loadsAt_vmem h_S768x2048))
          let v64 : Vec F S1x1x2048x512 .f32 ← Prog.lift (.load arg8 (Rect.unit (s := S1x1x2048x512) ![0, 0, 0, 0] S1x1x2048x512.size inb_S1x1x2048x512_S1x1x2048x512_0_0_0_0).toLoadRect (View.loadsAt_vmem h_S1x1x2048x512))
          let v66 : Vec F S1x1x2048x512 .f32 ← Prog.lift (.load arg9 (Rect.unit (s := S1x1x2048x512) ![0, 0, 0, 0] S1x1x2048x512.size inb_S1x1x2048x512_S1x1x2048x512_0_0_0_0).toLoadRect (View.loadsAt_vmem h_S1x1x2048x512))
          let v68 : Vec F S1x1x512x2048 .f32 ← Prog.lift (.load arg10 (Rect.unit (s := S1x1x512x2048) ![0, 0, 0, 0] S1x1x512x2048.size inb_S1x1x512x2048_S1x1x512x2048_0_0_0_0).toLoadRect (View.loadsAt_vmem h_S1x1x512x2048))
          let v81 : Vec F S768x2048 .f32 ← Prog.lift (.load arg11 (Rect.unit (s := S1024x2048) ![256, 0] S768x2048.size inb_S1024x2048_S768x2048_256_0).toLoadRect (View.loadsAt_vmem h_S768x2048))
          Prog.lift (.store arg11 (Rect.unit (s := S1024x2048) ![256, 0] S768x2048.size inb_S1024x2048_S768x2048_256_0) (k0_pay3 v61 v63 v64 v66 v68) Finset.univ (View.stores_vmem_bits_univ h_S768x2048 rfl) (.inl rfl))
          rest
        else rest) K := by
  unfold sel8 at h
  by_cases hw : w = 1#1
  · rw [dif_pos hw]
    rw [if_pos hw] at h
    unfold St owns at h ⊢
    iintro ⟨⟨%f0, %hf0, H0⟩, ⟨%f1, %hf1, H1⟩, ⟨%f2, %hf2, H2⟩, ⟨%f3, %hf3, H3⟩, ⟨%f4, %hf4, H4⟩, HR⟩
    obtain rfl := harg7.eq_unread hf0; obtain rfl := harg8.eq_unread hf1; obtain rfl := harg9.eq_unread hf2; obtain rfl := harg10.eq_unread hf3; obtain rfl := harg11.eq_unread hf4
    sl_exec
    iapply h
    isplitl [H0]
    · iexists _; isplitr; · ipureintro; exact harg7.read_unread _
      iexact H0
    isplitl [H1]
    · iexists _; isplitr; · ipureintro; exact harg8.read_unread _
      iexact H1
    isplitl [H2]
    · iexists _; isplitr; · ipureintro; exact harg9.read_unread _
      iexact H2
    isplitl [H3]
    · iexists _; isplitr; · ipureintro; exact harg10.read_unread _
      iexact H3
    isplitl [H4]
    · iexists _; isplitr; swap; · iexact H4
      ipureintro
      funext y
      rw [View.read_writes_cons_unit (heq := rfl)]
      unfold upd8
      split
      · rw [show View.readAt (Elt F) arg11.view (Rect.unit (s := S1024x2048) ![256, 0] S768x2048.size inb_S1024x2048_S768x2048_256_0).toLoadRect (harg11.unread X) = View.ld X (Rect.unit (s := S1024x2048) ![256, 0] S768x2048.size inb_S1024x2048_S768x2048_256_0) from funext fun _ => harg11.readAt_unread X _ _,
          show View.readAt (Elt F) arg7.view (Rect.unit (s := S1024x2048) ![256, 0] S768x2048.size inb_S1024x2048_S768x2048_256_0).toLoadRect (harg7.unread x0) = View.ld x0 (Rect.unit (s := S1024x2048) ![256, 0] S768x2048.size inb_S1024x2048_S768x2048_256_0) from funext fun _ => harg7.readAt_unread x0 _ _,
          show View.readAt (Elt F) arg8.view (Rect.unit (s := S1x1x2048x512) ![0, 0, 0, 0] S1x1x2048x512.size inb_S1x1x2048x512_S1x1x2048x512_0_0_0_0).toLoadRect (harg8.unread x1) = View.ld x1 (Rect.unit (s := S1x1x2048x512) ![0, 0, 0, 0] S1x1x2048x512.size inb_S1x1x2048x512_S1x1x2048x512_0_0_0_0) from funext fun _ => harg8.readAt_unread x1 _ _,
          show View.readAt (Elt F) arg9.view (Rect.unit (s := S1x1x2048x512) ![0, 0, 0, 0] S1x1x2048x512.size inb_S1x1x2048x512_S1x1x2048x512_0_0_0_0).toLoadRect (harg9.unread x2) = View.ld x2 (Rect.unit (s := S1x1x2048x512) ![0, 0, 0, 0] S1x1x2048x512.size inb_S1x1x2048x512_S1x1x2048x512_0_0_0_0) from funext fun _ => harg9.readAt_unread x2 _ _,
          show View.readAt (Elt F) arg10.view (Rect.unit (s := S1x1x512x2048) ![0, 0, 0, 0] S1x1x512x2048.size inb_S1x1x512x2048_S1x1x512x2048_0_0_0_0).toLoadRect (harg10.unread x3) = View.ld x3 (Rect.unit (s := S1x1x512x2048) ![0, 0, 0, 0] S1x1x512x2048.size inb_S1x1x512x2048_S1x1x512x2048_0_0_0_0) from funext fun _ => harg10.readAt_unread x3 _ _]
      · rw [View.writes_nil, harg11.read_unread]
    iexact HR
  · rw [dif_neg hw]
    rw [if_neg hw] at h
    exact h

/-- The part of the body for 1 blocks of 256 rows from row 512: what the whole output tile then holds. -/
def upd9 (x0 : Vec F S1024x2048 .bf16) (x1 : Vec F S1x1x2048x512 .f32) (x2 : Vec F S1x1x2048x512 .f32) (x3 : Vec F S1x1x512x2048 .f32) (X : Vec F S1024x2048 .f32) : Vec F S1024x2048 .f32 := fun y =>
  if h : ∀ a, (![512, 0] : Fin S1024x2048.rank → ℕ) a ≤ (y a).val ∧ (y a).val < (![512, 0] : Fin S1024x2048.rank → ℕ) a + S256x2048.size a then
    k0_pay4 (View.ld X (Rect.unit (s := S1024x2048) ![512, 0] S256x2048.size inb_S1024x2048_S256x2048_512_0)) (View.ld x0 (Rect.unit (s := S1024x2048) ![512, 0] S256x2048.size inb_S1024x2048_S256x2048_512_0)) (View.ld x1 (Rect.unit (s := S1x1x2048x512) ![0, 0, 0, 0] S1x1x2048x512.size inb_S1x1x2048x512_S1x1x2048x512_0_0_0_0)) (View.ld x2 (Rect.unit (s := S1x1x2048x512) ![0, 0, 0, 0] S1x1x2048x512.size inb_S1x1x2048x512_S1x1x2048x512_0_0_0_0)) (View.ld x3 (Rect.unit (s := S1x1x512x2048) ![0, 0, 0, 0] S1x1x512x2048.size inb_S1x1x512x2048_S1x1x512x2048_0_0_0_0))
      (Rect.unitLocal (s := S1024x2048) (off := ![512, 0]) (size := S256x2048.size) y h)
  else X y

def sel9 (w : BitVec 1) (x0 : Vec F S1024x2048 .bf16) (x1 : Vec F S1x1x2048x512 .f32) (x2 : Vec F S1x1x2048x512 .f32) (x3 : Vec F S1x1x512x2048 .f32) (X : Vec F S1024x2048 .f32) : Vec F S1024x2048 .f32 := if w = 1#1 then upd9 x0 x1 x2 x3 X else X

set_option maxHeartbeats 1000000 in
/-- That part of the body run, whatever follows it. -/
theorem blk9 {α : Type} (c : Dev nD) (arg7 : Memref sig .tc .vmem S1024x2048 .bf16) (harg7 : arg7.IsWhole) (arg8 : Memref sig .tc .vmem S1x1x2048x512 .f32) (harg8 : arg8.IsWhole) (arg9 : Memref sig .tc .vmem S1x1x2048x512 .f32) (harg9 : arg9.IsWhole) (arg10 : Memref sig .tc .vmem S1x1x512x2048 .f32) (harg10 : arg10.IsWhole) (arg11 : Memref sig .tc .vmem S1024x2048 .f32) (harg11 : arg11.IsWhole)
    (x0 : Vec F S1024x2048 .bf16) (x1 : Vec F S1x1x2048x512 .f32) (x2 : Vec F S1x1x2048x512 .f32) (x3 : Vec F S1x1x512x2048 .f32) (X : Vec F S1024x2048 .f32) (R : sProp (Mt F)) (w : BitVec 1) (E : Set ℕ)
    (rest : Prog (TpuEff nD τ sig (Elt F) Λ₀ .tc) α) (K : α → sProp (Mt F))
    (h : St c arg7 arg8 arg9 arg10 arg11 x0 x1 x2 x3 (sel9 w x0 x1 x2 x3 X) R
      ⊢ wp frame (wpE (defs₀ (F := F)) Variants.none c none) E rest K) :
    St c arg7 arg8 arg9 arg10 arg11 x0 x1 x2 x3 X R
      ⊢ wp frame (wpE (defs₀ (F := F)) Variants.none c none) E (if hw : w = 1#1 then do
          let v61 : Vec F S256x2048 .f32 ← Prog.lift (.load arg11 (Rect.unit (s := S1024x2048) ![512, 0] S256x2048.size inb_S1024x2048_S256x2048_512_0).toLoadRect (View.loadsAt_vmem h_S256x2048))
          let v63 : Vec F S256x2048 .bf16 ← Prog.lift (.load arg7 (Rect.unit (s := S1024x2048) ![512, 0] S256x2048.size inb_S1024x2048_S256x2048_512_0).toLoadRect (View.loadsAt_vmem h_S256x2048))
          let v64 : Vec F S1x1x2048x512 .f32 ← Prog.lift (.load arg8 (Rect.unit (s := S1x1x2048x512) ![0, 0, 0, 0] S1x1x2048x512.size inb_S1x1x2048x512_S1x1x2048x512_0_0_0_0).toLoadRect (View.loadsAt_vmem h_S1x1x2048x512))
          let v66 : Vec F S1x1x2048x512 .f32 ← Prog.lift (.load arg9 (Rect.unit (s := S1x1x2048x512) ![0, 0, 0, 0] S1x1x2048x512.size inb_S1x1x2048x512_S1x1x2048x512_0_0_0_0).toLoadRect (View.loadsAt_vmem h_S1x1x2048x512))
          let v68 : Vec F S1x1x512x2048 .f32 ← Prog.lift (.load arg10 (Rect.unit (s := S1x1x512x2048) ![0, 0, 0, 0] S1x1x512x2048.size inb_S1x1x512x2048_S1x1x512x2048_0_0_0_0).toLoadRect (View.loadsAt_vmem h_S1x1x512x2048))
          let v81 : Vec F S256x2048 .f32 ← Prog.lift (.load arg11 (Rect.unit (s := S1024x2048) ![512, 0] S256x2048.size inb_S1024x2048_S256x2048_512_0).toLoadRect (View.loadsAt_vmem h_S256x2048))
          Prog.lift (.store arg11 (Rect.unit (s := S1024x2048) ![512, 0] S256x2048.size inb_S1024x2048_S256x2048_512_0) (k0_pay4 v61 v63 v64 v66 v68) Finset.univ (View.stores_vmem_bits_univ h_S256x2048 rfl) (.inl rfl))
          rest
        else rest) K := by
  unfold sel9 at h
  by_cases hw : w = 1#1
  · rw [dif_pos hw]
    rw [if_pos hw] at h
    unfold St owns at h ⊢
    iintro ⟨⟨%f0, %hf0, H0⟩, ⟨%f1, %hf1, H1⟩, ⟨%f2, %hf2, H2⟩, ⟨%f3, %hf3, H3⟩, ⟨%f4, %hf4, H4⟩, HR⟩
    obtain rfl := harg7.eq_unread hf0; obtain rfl := harg8.eq_unread hf1; obtain rfl := harg9.eq_unread hf2; obtain rfl := harg10.eq_unread hf3; obtain rfl := harg11.eq_unread hf4
    sl_exec
    iapply h
    isplitl [H0]
    · iexists _; isplitr; · ipureintro; exact harg7.read_unread _
      iexact H0
    isplitl [H1]
    · iexists _; isplitr; · ipureintro; exact harg8.read_unread _
      iexact H1
    isplitl [H2]
    · iexists _; isplitr; · ipureintro; exact harg9.read_unread _
      iexact H2
    isplitl [H3]
    · iexists _; isplitr; · ipureintro; exact harg10.read_unread _
      iexact H3
    isplitl [H4]
    · iexists _; isplitr; swap; · iexact H4
      ipureintro
      funext y
      rw [View.read_writes_cons_unit (heq := rfl)]
      unfold upd9
      split
      · rw [show View.readAt (Elt F) arg11.view (Rect.unit (s := S1024x2048) ![512, 0] S256x2048.size inb_S1024x2048_S256x2048_512_0).toLoadRect (harg11.unread X) = View.ld X (Rect.unit (s := S1024x2048) ![512, 0] S256x2048.size inb_S1024x2048_S256x2048_512_0) from funext fun _ => harg11.readAt_unread X _ _,
          show View.readAt (Elt F) arg7.view (Rect.unit (s := S1024x2048) ![512, 0] S256x2048.size inb_S1024x2048_S256x2048_512_0).toLoadRect (harg7.unread x0) = View.ld x0 (Rect.unit (s := S1024x2048) ![512, 0] S256x2048.size inb_S1024x2048_S256x2048_512_0) from funext fun _ => harg7.readAt_unread x0 _ _,
          show View.readAt (Elt F) arg8.view (Rect.unit (s := S1x1x2048x512) ![0, 0, 0, 0] S1x1x2048x512.size inb_S1x1x2048x512_S1x1x2048x512_0_0_0_0).toLoadRect (harg8.unread x1) = View.ld x1 (Rect.unit (s := S1x1x2048x512) ![0, 0, 0, 0] S1x1x2048x512.size inb_S1x1x2048x512_S1x1x2048x512_0_0_0_0) from funext fun _ => harg8.readAt_unread x1 _ _,
          show View.readAt (Elt F) arg9.view (Rect.unit (s := S1x1x2048x512) ![0, 0, 0, 0] S1x1x2048x512.size inb_S1x1x2048x512_S1x1x2048x512_0_0_0_0).toLoadRect (harg9.unread x2) = View.ld x2 (Rect.unit (s := S1x1x2048x512) ![0, 0, 0, 0] S1x1x2048x512.size inb_S1x1x2048x512_S1x1x2048x512_0_0_0_0) from funext fun _ => harg9.readAt_unread x2 _ _,
          show View.readAt (Elt F) arg10.view (Rect.unit (s := S1x1x512x2048) ![0, 0, 0, 0] S1x1x512x2048.size inb_S1x1x512x2048_S1x1x512x2048_0_0_0_0).toLoadRect (harg10.unread x3) = View.ld x3 (Rect.unit (s := S1x1x512x2048) ![0, 0, 0, 0] S1x1x512x2048.size inb_S1x1x512x2048_S1x1x512x2048_0_0_0_0) from funext fun _ => harg10.readAt_unread x3 _ _]
      · rw [View.writes_nil, harg11.read_unread]
    iexact HR
  · rw [dif_neg hw]
    rw [if_neg hw] at h
    exact h

/-- The part of the body for 2 blocks of 256 rows from row 512: what the whole output tile then holds. -/
def upd10 (x0 : Vec F S1024x2048 .bf16) (x1 : Vec F S1x1x2048x512 .f32) (x2 : Vec F S1x1x2048x512 .f32) (x3 : Vec F S1x1x512x2048 .f32) (X : Vec F S1024x2048 .f32) : Vec F S1024x2048 .f32 := fun y =>
  if h : ∀ a, (![512, 0] : Fin S1024x2048.rank → ℕ) a ≤ (y a).val ∧ (y a).val < (![512, 0] : Fin S1024x2048.rank → ℕ) a + S512x2048.size a then
    k0_pay5 (View.ld X (Rect.unit (s := S1024x2048) ![512, 0] S512x2048.size inb_S1024x2048_S512x2048_512_0)) (View.ld x0 (Rect.unit (s := S1024x2048) ![512, 0] S512x2048.size inb_S1024x2048_S512x2048_512_0)) (View.ld x1 (Rect.unit (s := S1x1x2048x512) ![0, 0, 0, 0] S1x1x2048x512.size inb_S1x1x2048x512_S1x1x2048x512_0_0_0_0)) (View.ld x2 (Rect.unit (s := S1x1x2048x512) ![0, 0, 0, 0] S1x1x2048x512.size inb_S1x1x2048x512_S1x1x2048x512_0_0_0_0)) (View.ld x3 (Rect.unit (s := S1x1x512x2048) ![0, 0, 0, 0] S1x1x512x2048.size inb_S1x1x512x2048_S1x1x512x2048_0_0_0_0))
      (Rect.unitLocal (s := S1024x2048) (off := ![512, 0]) (size := S512x2048.size) y h)
  else X y

def sel10 (w : BitVec 1) (x0 : Vec F S1024x2048 .bf16) (x1 : Vec F S1x1x2048x512 .f32) (x2 : Vec F S1x1x2048x512 .f32) (x3 : Vec F S1x1x512x2048 .f32) (X : Vec F S1024x2048 .f32) : Vec F S1024x2048 .f32 := if w = 1#1 then upd10 x0 x1 x2 x3 X else X

set_option maxHeartbeats 1000000 in
/-- That part of the body run, whatever follows it. -/
theorem blk10 {α : Type} (c : Dev nD) (arg7 : Memref sig .tc .vmem S1024x2048 .bf16) (harg7 : arg7.IsWhole) (arg8 : Memref sig .tc .vmem S1x1x2048x512 .f32) (harg8 : arg8.IsWhole) (arg9 : Memref sig .tc .vmem S1x1x2048x512 .f32) (harg9 : arg9.IsWhole) (arg10 : Memref sig .tc .vmem S1x1x512x2048 .f32) (harg10 : arg10.IsWhole) (arg11 : Memref sig .tc .vmem S1024x2048 .f32) (harg11 : arg11.IsWhole)
    (x0 : Vec F S1024x2048 .bf16) (x1 : Vec F S1x1x2048x512 .f32) (x2 : Vec F S1x1x2048x512 .f32) (x3 : Vec F S1x1x512x2048 .f32) (X : Vec F S1024x2048 .f32) (R : sProp (Mt F)) (w : BitVec 1) (E : Set ℕ)
    (rest : Prog (TpuEff nD τ sig (Elt F) Λ₀ .tc) α) (K : α → sProp (Mt F))
    (h : St c arg7 arg8 arg9 arg10 arg11 x0 x1 x2 x3 (sel10 w x0 x1 x2 x3 X) R
      ⊢ wp frame (wpE (defs₀ (F := F)) Variants.none c none) E rest K) :
    St c arg7 arg8 arg9 arg10 arg11 x0 x1 x2 x3 X R
      ⊢ wp frame (wpE (defs₀ (F := F)) Variants.none c none) E (if hw : w = 1#1 then do
          let v61 : Vec F S512x2048 .f32 ← Prog.lift (.load arg11 (Rect.unit (s := S1024x2048) ![512, 0] S512x2048.size inb_S1024x2048_S512x2048_512_0).toLoadRect (View.loadsAt_vmem h_S512x2048))
          let v63 : Vec F S512x2048 .bf16 ← Prog.lift (.load arg7 (Rect.unit (s := S1024x2048) ![512, 0] S512x2048.size inb_S1024x2048_S512x2048_512_0).toLoadRect (View.loadsAt_vmem h_S512x2048))
          let v64 : Vec F S1x1x2048x512 .f32 ← Prog.lift (.load arg8 (Rect.unit (s := S1x1x2048x512) ![0, 0, 0, 0] S1x1x2048x512.size inb_S1x1x2048x512_S1x1x2048x512_0_0_0_0).toLoadRect (View.loadsAt_vmem h_S1x1x2048x512))
          let v66 : Vec F S1x1x2048x512 .f32 ← Prog.lift (.load arg9 (Rect.unit (s := S1x1x2048x512) ![0, 0, 0, 0] S1x1x2048x512.size inb_S1x1x2048x512_S1x1x2048x512_0_0_0_0).toLoadRect (View.loadsAt_vmem h_S1x1x2048x512))
          let v68 : Vec F S1x1x512x2048 .f32 ← Prog.lift (.load arg10 (Rect.unit (s := S1x1x512x2048) ![0, 0, 0, 0] S1x1x512x2048.size inb_S1x1x512x2048_S1x1x512x2048_0_0_0_0).toLoadRect (View.loadsAt_vmem h_S1x1x512x2048))
          let v81 : Vec F S512x2048 .f32 ← Prog.lift (.load arg11 (Rect.unit (s := S1024x2048) ![512, 0] S512x2048.size inb_S1024x2048_S512x2048_512_0).toLoadRect (View.loadsAt_vmem h_S512x2048))
          Prog.lift (.store arg11 (Rect.unit (s := S1024x2048) ![512, 0] S512x2048.size inb_S1024x2048_S512x2048_512_0) (k0_pay5 v61 v63 v64 v66 v68) Finset.univ (View.stores_vmem_bits_univ h_S512x2048 rfl) (.inl rfl))
          rest
        else rest) K := by
  unfold sel10 at h
  by_cases hw : w = 1#1
  · rw [dif_pos hw]
    rw [if_pos hw] at h
    unfold St owns at h ⊢
    iintro ⟨⟨%f0, %hf0, H0⟩, ⟨%f1, %hf1, H1⟩, ⟨%f2, %hf2, H2⟩, ⟨%f3, %hf3, H3⟩, ⟨%f4, %hf4, H4⟩, HR⟩
    obtain rfl := harg7.eq_unread hf0; obtain rfl := harg8.eq_unread hf1; obtain rfl := harg9.eq_unread hf2; obtain rfl := harg10.eq_unread hf3; obtain rfl := harg11.eq_unread hf4
    sl_exec
    iapply h
    isplitl [H0]
    · iexists _; isplitr; · ipureintro; exact harg7.read_unread _
      iexact H0
    isplitl [H1]
    · iexists _; isplitr; · ipureintro; exact harg8.read_unread _
      iexact H1
    isplitl [H2]
    · iexists _; isplitr; · ipureintro; exact harg9.read_unread _
      iexact H2
    isplitl [H3]
    · iexists _; isplitr; · ipureintro; exact harg10.read_unread _
      iexact H3
    isplitl [H4]
    · iexists _; isplitr; swap; · iexact H4
      ipureintro
      funext y
      rw [View.read_writes_cons_unit (heq := rfl)]
      unfold upd10
      split
      · rw [show View.readAt (Elt F) arg11.view (Rect.unit (s := S1024x2048) ![512, 0] S512x2048.size inb_S1024x2048_S512x2048_512_0).toLoadRect (harg11.unread X) = View.ld X (Rect.unit (s := S1024x2048) ![512, 0] S512x2048.size inb_S1024x2048_S512x2048_512_0) from funext fun _ => harg11.readAt_unread X _ _,
          show View.readAt (Elt F) arg7.view (Rect.unit (s := S1024x2048) ![512, 0] S512x2048.size inb_S1024x2048_S512x2048_512_0).toLoadRect (harg7.unread x0) = View.ld x0 (Rect.unit (s := S1024x2048) ![512, 0] S512x2048.size inb_S1024x2048_S512x2048_512_0) from funext fun _ => harg7.readAt_unread x0 _ _,
          show View.readAt (Elt F) arg8.view (Rect.unit (s := S1x1x2048x512) ![0, 0, 0, 0] S1x1x2048x512.size inb_S1x1x2048x512_S1x1x2048x512_0_0_0_0).toLoadRect (harg8.unread x1) = View.ld x1 (Rect.unit (s := S1x1x2048x512) ![0, 0, 0, 0] S1x1x2048x512.size inb_S1x1x2048x512_S1x1x2048x512_0_0_0_0) from funext fun _ => harg8.readAt_unread x1 _ _,
          show View.readAt (Elt F) arg9.view (Rect.unit (s := S1x1x2048x512) ![0, 0, 0, 0] S1x1x2048x512.size inb_S1x1x2048x512_S1x1x2048x512_0_0_0_0).toLoadRect (harg9.unread x2) = View.ld x2 (Rect.unit (s := S1x1x2048x512) ![0, 0, 0, 0] S1x1x2048x512.size inb_S1x1x2048x512_S1x1x2048x512_0_0_0_0) from funext fun _ => harg9.readAt_unread x2 _ _,
          show View.readAt (Elt F) arg10.view (Rect.unit (s := S1x1x512x2048) ![0, 0, 0, 0] S1x1x512x2048.size inb_S1x1x512x2048_S1x1x512x2048_0_0_0_0).toLoadRect (harg10.unread x3) = View.ld x3 (Rect.unit (s := S1x1x512x2048) ![0, 0, 0, 0] S1x1x512x2048.size inb_S1x1x512x2048_S1x1x512x2048_0_0_0_0) from funext fun _ => harg10.readAt_unread x3 _ _]
      · rw [View.writes_nil, harg11.read_unread]
    iexact HR
  · rw [dif_neg hw]
    rw [if_neg hw] at h
    exact h

/-- The part of the body for 1 blocks of 256 rows from row 768: what the whole output tile then holds. -/
def upd11 (x0 : Vec F S1024x2048 .bf16) (x1 : Vec F S1x1x2048x512 .f32) (x2 : Vec F S1x1x2048x512 .f32) (x3 : Vec F S1x1x512x2048 .f32) (X : Vec F S1024x2048 .f32) : Vec F S1024x2048 .f32 := fun y =>
  if h : ∀ a, (![768, 0] : Fin S1024x2048.rank → ℕ) a ≤ (y a).val ∧ (y a).val < (![768, 0] : Fin S1024x2048.rank → ℕ) a + S256x2048.size a then
    k0_pay6 (View.ld X (Rect.unit (s := S1024x2048) ![768, 0] S256x2048.size inb_S1024x2048_S256x2048_768_0)) (View.ld x0 (Rect.unit (s := S1024x2048) ![768, 0] S256x2048.size inb_S1024x2048_S256x2048_768_0)) (View.ld x1 (Rect.unit (s := S1x1x2048x512) ![0, 0, 0, 0] S1x1x2048x512.size inb_S1x1x2048x512_S1x1x2048x512_0_0_0_0)) (View.ld x2 (Rect.unit (s := S1x1x2048x512) ![0, 0, 0, 0] S1x1x2048x512.size inb_S1x1x2048x512_S1x1x2048x512_0_0_0_0)) (View.ld x3 (Rect.unit (s := S1x1x512x2048) ![0, 0, 0, 0] S1x1x512x2048.size inb_S1x1x512x2048_S1x1x512x2048_0_0_0_0))
      (Rect.unitLocal (s := S1024x2048) (off := ![768, 0]) (size := S256x2048.size) y h)
  else X y

def sel11 (w : BitVec 1) (x0 : Vec F S1024x2048 .bf16) (x1 : Vec F S1x1x2048x512 .f32) (x2 : Vec F S1x1x2048x512 .f32) (x3 : Vec F S1x1x512x2048 .f32) (X : Vec F S1024x2048 .f32) : Vec F S1024x2048 .f32 := if w = 1#1 then upd11 x0 x1 x2 x3 X else X

set_option maxHeartbeats 1000000 in
/-- That part of the body run, whatever follows it. -/
theorem blk11 {α : Type} (c : Dev nD) (arg7 : Memref sig .tc .vmem S1024x2048 .bf16) (harg7 : arg7.IsWhole) (arg8 : Memref sig .tc .vmem S1x1x2048x512 .f32) (harg8 : arg8.IsWhole) (arg9 : Memref sig .tc .vmem S1x1x2048x512 .f32) (harg9 : arg9.IsWhole) (arg10 : Memref sig .tc .vmem S1x1x512x2048 .f32) (harg10 : arg10.IsWhole) (arg11 : Memref sig .tc .vmem S1024x2048 .f32) (harg11 : arg11.IsWhole)
    (x0 : Vec F S1024x2048 .bf16) (x1 : Vec F S1x1x2048x512 .f32) (x2 : Vec F S1x1x2048x512 .f32) (x3 : Vec F S1x1x512x2048 .f32) (X : Vec F S1024x2048 .f32) (R : sProp (Mt F)) (w : BitVec 1) (E : Set ℕ)
    (rest : Prog (TpuEff nD τ sig (Elt F) Λ₀ .tc) α) (K : α → sProp (Mt F))
    (h : St c arg7 arg8 arg9 arg10 arg11 x0 x1 x2 x3 (sel11 w x0 x1 x2 x3 X) R
      ⊢ wp frame (wpE (defs₀ (F := F)) Variants.none c none) E rest K) :
    St c arg7 arg8 arg9 arg10 arg11 x0 x1 x2 x3 X R
      ⊢ wp frame (wpE (defs₀ (F := F)) Variants.none c none) E (if hw : w = 1#1 then do
          let v61 : Vec F S256x2048 .f32 ← Prog.lift (.load arg11 (Rect.unit (s := S1024x2048) ![768, 0] S256x2048.size inb_S1024x2048_S256x2048_768_0).toLoadRect (View.loadsAt_vmem h_S256x2048))
          let v63 : Vec F S256x2048 .bf16 ← Prog.lift (.load arg7 (Rect.unit (s := S1024x2048) ![768, 0] S256x2048.size inb_S1024x2048_S256x2048_768_0).toLoadRect (View.loadsAt_vmem h_S256x2048))
          let v64 : Vec F S1x1x2048x512 .f32 ← Prog.lift (.load arg8 (Rect.unit (s := S1x1x2048x512) ![0, 0, 0, 0] S1x1x2048x512.size inb_S1x1x2048x512_S1x1x2048x512_0_0_0_0).toLoadRect (View.loadsAt_vmem h_S1x1x2048x512))
          let v66 : Vec F S1x1x2048x512 .f32 ← Prog.lift (.load arg9 (Rect.unit (s := S1x1x2048x512) ![0, 0, 0, 0] S1x1x2048x512.size inb_S1x1x2048x512_S1x1x2048x512_0_0_0_0).toLoadRect (View.loadsAt_vmem h_S1x1x2048x512))
          let v68 : Vec F S1x1x512x2048 .f32 ← Prog.lift (.load arg10 (Rect.unit (s := S1x1x512x2048) ![0, 0, 0, 0] S1x1x512x2048.size inb_S1x1x512x2048_S1x1x512x2048_0_0_0_0).toLoadRect (View.loadsAt_vmem h_S1x1x512x2048))
          let v81 : Vec F S256x2048 .f32 ← Prog.lift (.load arg11 (Rect.unit (s := S1024x2048) ![768, 0] S256x2048.size inb_S1024x2048_S256x2048_768_0).toLoadRect (View.loadsAt_vmem h_S256x2048))
          Prog.lift (.store arg11 (Rect.unit (s := S1024x2048) ![768, 0] S256x2048.size inb_S1024x2048_S256x2048_768_0) (k0_pay6 v61 v63 v64 v66 v68) Finset.univ (View.stores_vmem_bits_univ h_S256x2048 rfl) (.inl rfl))
          rest
        else rest) K := by
  unfold sel11 at h
  by_cases hw : w = 1#1
  · rw [dif_pos hw]
    rw [if_pos hw] at h
    unfold St owns at h ⊢
    iintro ⟨⟨%f0, %hf0, H0⟩, ⟨%f1, %hf1, H1⟩, ⟨%f2, %hf2, H2⟩, ⟨%f3, %hf3, H3⟩, ⟨%f4, %hf4, H4⟩, HR⟩
    obtain rfl := harg7.eq_unread hf0; obtain rfl := harg8.eq_unread hf1; obtain rfl := harg9.eq_unread hf2; obtain rfl := harg10.eq_unread hf3; obtain rfl := harg11.eq_unread hf4
    sl_exec
    iapply h
    isplitl [H0]
    · iexists _; isplitr; · ipureintro; exact harg7.read_unread _
      iexact H0
    isplitl [H1]
    · iexists _; isplitr; · ipureintro; exact harg8.read_unread _
      iexact H1
    isplitl [H2]
    · iexists _; isplitr; · ipureintro; exact harg9.read_unread _
      iexact H2
    isplitl [H3]
    · iexists _; isplitr; · ipureintro; exact harg10.read_unread _
      iexact H3
    isplitl [H4]
    · iexists _; isplitr; swap; · iexact H4
      ipureintro
      funext y
      rw [View.read_writes_cons_unit (heq := rfl)]
      unfold upd11
      split
      · rw [show View.readAt (Elt F) arg11.view (Rect.unit (s := S1024x2048) ![768, 0] S256x2048.size inb_S1024x2048_S256x2048_768_0).toLoadRect (harg11.unread X) = View.ld X (Rect.unit (s := S1024x2048) ![768, 0] S256x2048.size inb_S1024x2048_S256x2048_768_0) from funext fun _ => harg11.readAt_unread X _ _,
          show View.readAt (Elt F) arg7.view (Rect.unit (s := S1024x2048) ![768, 0] S256x2048.size inb_S1024x2048_S256x2048_768_0).toLoadRect (harg7.unread x0) = View.ld x0 (Rect.unit (s := S1024x2048) ![768, 0] S256x2048.size inb_S1024x2048_S256x2048_768_0) from funext fun _ => harg7.readAt_unread x0 _ _,
          show View.readAt (Elt F) arg8.view (Rect.unit (s := S1x1x2048x512) ![0, 0, 0, 0] S1x1x2048x512.size inb_S1x1x2048x512_S1x1x2048x512_0_0_0_0).toLoadRect (harg8.unread x1) = View.ld x1 (Rect.unit (s := S1x1x2048x512) ![0, 0, 0, 0] S1x1x2048x512.size inb_S1x1x2048x512_S1x1x2048x512_0_0_0_0) from funext fun _ => harg8.readAt_unread x1 _ _,
          show View.readAt (Elt F) arg9.view (Rect.unit (s := S1x1x2048x512) ![0, 0, 0, 0] S1x1x2048x512.size inb_S1x1x2048x512_S1x1x2048x512_0_0_0_0).toLoadRect (harg9.unread x2) = View.ld x2 (Rect.unit (s := S1x1x2048x512) ![0, 0, 0, 0] S1x1x2048x512.size inb_S1x1x2048x512_S1x1x2048x512_0_0_0_0) from funext fun _ => harg9.readAt_unread x2 _ _,
          show View.readAt (Elt F) arg10.view (Rect.unit (s := S1x1x512x2048) ![0, 0, 0, 0] S1x1x512x2048.size inb_S1x1x512x2048_S1x1x512x2048_0_0_0_0).toLoadRect (harg10.unread x3) = View.ld x3 (Rect.unit (s := S1x1x512x2048) ![0, 0, 0, 0] S1x1x512x2048.size inb_S1x1x512x2048_S1x1x512x2048_0_0_0_0) from funext fun _ => harg10.readAt_unread x3 _ _]
      · rw [View.writes_nil, harg11.read_unread]
    iexact HR
  · rw [dif_neg hw]
    rw [if_neg hw] at h
    exact h

end Cert.Kernel10Ideal.Gen

end
-- ==== Proof.MoeIdeal.Run.lean ====
module

public import proofs.«01_k».proof.Proof.MoeIdeal.PartsB

@[expose] public section

set_option maxRecDepth 16384

noncomputable section

namespace Cert.Kernel10Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- What one grid point makes of the output tile, given the words of its item. -/
def stepW (i : grid0.Coords) (v2 v8 v10 : BitVec 32) (x0 : Vec F S1024x2048 .bf16) (x1 : Vec F S1x1x2048x512 .f32) (x2 : Vec F S1x1x2048x512 .f32) (x3 : Vec F S1x1x512x2048 .f32) (X : Vec F S1024x2048 .f32) : Vec F S1024x2048 .f32 :=
  (sel11 (k0_cond11 v8 v10) x0 x1 x2 x3 (sel10 (k0_cond10 v8 v10) x0 x1 x2 x3 (sel9 (k0_cond9 v8 v10) x0 x1 x2 x3 (sel8 (k0_cond8 v8 v10) x0 x1 x2 x3 (sel7 (k0_cond7 v8 v10) x0 x1 x2 x3 (sel6 (k0_cond6 v8 v10) x0 x1 x2 x3 (sel5 (k0_cond5 v8 v10) x0 x1 x2 x3 (sel4 (k0_cond4 v8 v10) x0 x1 x2 x3 (sel3 (k0_cond3 v8 v10) x0 x1 x2 x3 (sel2 (k0_cond2 v8 v10) x0 x1 x2 x3 (sel1 (k0_cond1 i v2) X)))))))))))

set_option maxHeartbeats 2000000 in
/-- The body run: the inputs and the tables stay, the output tile is as `stepW` says. -/
theorem body_run (c : Dev nD) (i : grid0.Coords) (arg7 : Memref sig .tc .vmem S1024x2048 .bf16) (harg7 : arg7.IsWhole) (arg8 : Memref sig .tc .vmem S1x1x2048x512 .f32) (harg8 : arg8.IsWhole) (arg9 : Memref sig .tc .vmem S1x1x2048x512 .f32) (harg9 : arg9.IsWhole) (arg10 : Memref sig .tc .vmem S1x1x512x2048 .f32) (harg10 : arg10.IsWhole) (arg11 : Memref sig .tc .vmem S1024x2048 .f32) (harg11 : arg11.IsWhole)
    (x0 : Vec F S1024x2048 .bf16) (x1 : Vec F S1x1x2048x512 .f32) (x2 : Vec F S1x1x2048x512 .f32) (x3 : Vec F S1x1x512x2048 .f32) (X : Vec F S1024x2048 .f32) (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4) (R : sProp (Mt F)) (E : Set ℕ) :
    St c arg7 arg8 arg9 arg10 arg11 x0 x1 x2 x3 X (Tb c xt0 xt1 xt2 xt3 xt4 R)
      ⊢ wp frame (wpE (defs₀ (F := F)) Variants.none c none) E (cc0_moe_ffn i tbM0_0 htbM0_0 tbM0_1 htbM0_1 tbM0_2 htbM0_2 tbM0_3 htbM0_3 tbM0_4 htbM0_4 arg7 harg7 arg8 harg8 arg9 harg9 arg10 harg10 arg11 harg11)
        fun _ => St c arg7 arg8 arg9 arg10 arg11 x0 x1 x2 x3 (stepW i (word1 c tbM0_4 i xt4) (word2 c tbM0_2 i xt2) (word2 c tbM0_3 i xt3) x0 x1 x2 x3 X) (Tb c xt0 xt1 xt2 xt3 xt4 R) := by
  rw [cc0_moe_ffn_eq_skeleton]; unfold cc0_moe_ffn_skel
  rw [wp_bind, k0_part1_eq_skeleton]; unfold k0_part1_skel
  refine smem4 c i arg7 harg7 arg8 harg8 arg9 harg9 arg10 harg10 arg11 harg11 x0 x1 x2 x3 X xt0 xt1 xt2 xt3 xt4 R E _ _ ?_
  refine blk1 c arg7 harg7 arg8 harg8 arg9 harg9 arg10 harg10 arg11 harg11 x0 x1 x2 x3 _ _ _ E _ _ ?_
  refine smem2 c i arg7 harg7 arg8 harg8 arg9 harg9 arg10 harg10 arg11 harg11 x0 x1 x2 x3 _ xt0 xt1 xt2 xt3 xt4 R E _ _ ?_
  refine smem3 c i arg7 harg7 arg8 harg8 arg9 harg9 arg10 harg10 arg11 harg11 x0 x1 x2 x3 _ xt0 xt1 xt2 xt3 xt4 R E _ _ ?_
  refine blk2 c arg7 harg7 arg8 harg8 arg9 harg9 arg10 harg10 arg11 harg11 x0 x1 x2 x3 _ _ _ E _ _ ?_
  refine blk3 c arg7 harg7 arg8 harg8 arg9 harg9 arg10 harg10 arg11 harg11 x0 x1 x2 x3 _ _ _ E _ _ ?_
  refine blk4 c arg7 harg7 arg8 harg8 arg9 harg9 arg10 harg10 arg11 harg11 x0 x1 x2 x3 _ _ _ E _ _ ?_
  refine blk5 c arg7 harg7 arg8 harg8 arg9 harg9 arg10 harg10 arg11 harg11 x0 x1 x2 x3 _ _ _ E _ _ ?_
  rw [wp_pure]
  refine Entails.trans ?_ fupd_intro
  refine blk6 c arg7 harg7 arg8 harg8 arg9 harg9 arg10 harg10 arg11 harg11 x0 x1 x2 x3 _ _ _ E _ _ ?_
  refine blk7 c arg7 harg7 arg8 harg8 arg9 harg9 arg10 harg10 arg11 harg11 x0 x1 x2 x3 _ _ _ E _ _ ?_
  refine blk8 c arg7 harg7 arg8 harg8 arg9 harg9 arg10 harg10 arg11 harg11 x0 x1 x2 x3 _ _ _ E _ _ ?_
  refine blk9 c arg7 harg7 arg8 harg8 arg9 harg9 arg10 harg10 arg11 harg11 x0 x1 x2 x3 _ _ _ E _ _ ?_
  refine blk10 c arg7 harg7 arg8 harg8 arg9 harg9 arg10 harg10 arg11 harg11 x0 x1 x2 x3 _ _ _ E _ _ ?_
  refine blk11 c arg7 harg7 arg8 harg8 arg9 harg9 arg10 harg10 arg11 harg11 x0 x1 x2 x3 _ _ _ E _ _ ?_
  rw [wp_pure]
  exact fupd_intro

end Cert.Kernel10Ideal.Gen

end
-- ==== Proof.MoeIdeal.Frame.lean ====
module

public import proofs.«01_k».proof.Proof.MoeIdeal.Run
public import Idealize.ShloMosaic.Lib.Pointwise
public import Idealize.ShloMosaic.Lib.Claim
public import Idealize.ShloMosaic.Lib.Pipeline.TableIdle

@[expose] public section

set_option maxRecDepth 16384

noncomputable section

namespace Cert.Kernel10Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The arrays and the tables -/

/-- Core `c`'s buffers when the call is entered: as launched. -/
abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The tables' contents. -/
def tbl : pre0.Contents (Elt F) := fun j => V m (0 : Dev nD) (pre0.ref j)
theorem V_pre (c : Dev nD) (j : Fin 5) : V m c (pre0.ref j) = tbl m j := by
  obtain rfl : c = 0 := Subsingleton.elim _ _; rfl
/-- Every window's block lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem PhiT0_eq (c : Dev nD) : (Pipeline.ΦT pre0 (tbl m) c : sProp (Mt F)) = iprop(tbPt0 c tbM0_0 (tbl m 0) ∗ tbPt0 c tbM0_1 (tbl m 1) ∗ tbPt0 c tbM0_2 (tbl m 2) ∗ tbPt0 c tbM0_3 (tbl m 3) ∗ tbPt0 c tbM0_4 (tbl m 4)) := by
  unfold Pipeline.ΦT Pipeline.prefHeld
  rw [show (Finset.univ : Finset (Fin 5)) = insert (0 : Fin 5) (insert (1 : Fin 5) (insert (2 : Fin 5) (insert (3 : Fin 5) {(4 : Fin 5)}))) from by decide,
    bigSep_insert (by decide), bigSep_insert (by decide), bigSep_insert (by decide), bigSep_insert (by decide), bigSep_singleton]
  rfl

/-! ## The windows' blocks -/

/-- Window `w`'s block at point `t`, read off its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

abbrev ms0_0 (hO : Ok m) (t : Fin (cfgM m hO).N) : Memref sig .tc .vmem S1024x2048 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x2048x512 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x2048x512 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x512x2048 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1024x2048 .f32 := spec0_4.stage ((cfgM m hO).slots t 4)
abbrev hs0_4 (hO : Ok m) (t : Fin (cfgM m hO).N) : (ms0_4 m hO t).IsWhole := hstage0_4 (((cfgM m hO).slots t 4).cast nbuf0_4)

abbrev bodyAt0 (a : (pcfg0 (F := F)).Adm) (t : Fin (cfg0 a).N) : Prog (TpuEff nD τ sig (Elt F) Λ₀ .tc) PUnit :=
  cc0_moe_ffn (grid0.coords t) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

/-- The item of a grid point. -/
def item (i : grid0.Coords) : S29.Idx := ix1 (i 0)

theorem off1_eq (i : grid0.Coords) : k0_off1 i 0 = (i 0).val := by
  have h : (i 0).val < 29 := (i 0).isLt
  show (Scalar.indexCast (BitVec.ofNat 32 (i 0).val)).toNat = (i 0).val
  generalize (i 0).val = n at h
  revert n; decide
theorem off2_eq (i : grid0.Coords) : k0_off2 i 0 = (i 0).val := off1_eq i

/-- A word of a table, read at the grid point's item. -/
theorem emb_item (i : grid0.Coords) {off : Fin 1 → Nat} (ho : off 0 = (i 0).val) (inb : ∀ a, off a + S1.size a ≤ S29.size a) (z : (Rect.unit (s := S29) off S1.size inb).shape.Idx) :
    (Rect.unit (s := S29) off S1.size inb).emb z = item i := by
  funext a
  obtain rfl : a = 0 := Subsingleton.elim _ _
  refine Fin.ext ?_
  show off 0 + 1 * (z 0).val = (i 0).val
  have hz : (z 0).val < 1 := (z 0).isLt
  omega
theorem word1_eq (i : grid0.Coords) : word1 0 tbM0_4 i (tbl m 4) = m ((0 : Dev nD).tc.loc main_arg8) (item i) :=
  congrArg (m ((0 : Dev nD).tc.loc main_arg8)) (emb_item i (off1_eq i) _ _)
theorem word2_eq (i : grid0.Coords) : word2 0 tbM0_2 i (tbl m 2) = m ((0 : Dev nD).tc.loc main_arg6) (item i) :=
  congrArg (m ((0 : Dev nD).tc.loc main_arg6)) (emb_item i (off2_eq i) _ _)
theorem word3_eq (i : grid0.Coords) : word2 0 tbM0_3 i (tbl m 3) = m ((0 : Dev nD).tc.loc main_arg7) (item i) :=
  congrArg (m ((0 : Dev nD).tc.loc main_arg7)) (emb_item i (off2_eq i) _ _)
theorem at_item {off : Fin 1 → Nat} (i : grid0.Coords) (ho : off 0 = (i 0).val) (h : ∀ a, off a + 1 ≤ S29.size a) : (fun a => ⟨off a, h a⟩ : S29.Idx) = item i := by
  funext a
  obtain rfl : a = 0 := Subsingleton.elim _ _
  exact Fin.ext ho
theorem inb_item {off : Fin 1 → Nat} (i : grid0.Coords) (ho : off 0 = (i 0).val) : ∀ a, off a + 1 ≤ S29.size a := fun a => by
  obtain rfl : a = 0 := Subsingleton.elim _ _
  have h : (i 0).val < 29 := (i 0).isLt
  show off 0 + 1 ≤ 29
  omega
theorem atD_word1 (i : grid0.Coords) : (tbl m).atD 4 (k0_off1 i) = word1 0 tbM0_4 i (tbl m 4) :=
  (dif_pos (inb_item i (off1_eq i))).trans ((congrArg (m ((0 : Dev nD).tc.loc main_arg8)) (at_item i (off1_eq i) _)).trans (word1_eq m i).symm)
theorem atD_word2 (i : grid0.Coords) : (tbl m).atD 2 (k0_off2 i) = word2 0 tbM0_2 i (tbl m 2) :=
  (dif_pos (inb_item i (off2_eq i))).trans ((congrArg (m ((0 : Dev nD).tc.loc main_arg6)) (at_item i (off2_eq i) _)).trans (word2_eq m i).symm)
theorem atD_word3 (i : grid0.Coords) : (tbl m).atD 3 (k0_off2 i) = word2 0 tbM0_3 i (tbl m 3) :=
  (dif_pos (inb_item i (off2_eq i))).trans ((congrArg (m ((0 : Dev nD).tc.loc main_arg7)) (at_item i (off2_eq i) _)).trans (word3_eq m i).symm)

/-! ## The output tile, point by point -/

/-- What point `t` makes of the output tile. -/
def stepAt (hO : Ok m) (c : Dev nD) (t : Fin (cfgM m hO).N) (X : Vec F S1024x2048 .f32) : Vec F S1024x2048 .f32 :=
  stepW (grid0.coords t) (word1 c tbM0_4 (grid0.coords t) (tbl m 4)) (word2 c tbM0_2 (grid0.coords t) (tbl m 2)) (word2 c tbM0_3 (grid0.coords t) (tbl m 3))
    (iblk m hO c 0 t) (iblk m hO c 1 t) (iblk m hO c 2 t) (iblk m hO c 3 t) X

/-- The output tile before point `n`, the points before it having run from a cleared one. -/
def traj (hO : Ok m) (c : Dev nD) : ℕ → Vec F S1024x2048 .f32
  | 0 => k0_pay7 (F := F)
  | n + 1 => if h : n < (cfgM m hO).N then stepAt m hO c ⟨n, h⟩ (traj hO c n) else traj hO c n

theorem traj_succ (hO : Ok m) (c : Dev nD) (t : Fin (cfgM m hO).N) : traj m hO c (t.val + 1) = stepAt m hO c t (traj m hO c t.val) := by
  rw [traj, dif_pos t.isLt]

/-- The proof data: the inputs' blocks stay, the output's tile is as `traj` says. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => traj m hO c (t.val + 1)
  Φ _ := iprop(Pipeline.ΦA spec0 c ∗ Pipeline.ΦT pre0 (tbl m) c)
  q w := Pipeline.shareOf spec0 w
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem after0_1 (hO : Ok m) (c : Dev nD) (t : Fin (cfgM m hO).N) : (dats m hO 0 c).after 1 t = iblk m hO c 1 t := by dsimp only [dats]; try rfl
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem after0_2 (hO : Ok m) (c : Dev nD) (t : Fin (cfgM m hO).N) : (dats m hO 0 c).after 2 t = iblk m hO c 2 t := by dsimp only [dats]; try rfl
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem after0_3 (hO : Ok m) (c : Dev nD) (t : Fin (cfgM m hO).N) : (dats m hO 0 c).after 3 t = iblk m hO c 3 t := by dsimp only [dats]; try rfl
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem after0_4 (hO : Ok m) (c : Dev nD) (t : Fin (cfgM m hO).N) : (dats m hO 0 c).after 4 t = traj m hO c (t.val + 1) := by dsimp only [dats]; try rfl

/-- Where a tile's buffer is entered afresh, the body clears it. -/
abbrev Clears (hO : Ok m) : Prop := ∀ (c : Dev nD) (t : Fin (cfgM m hO).N), (cfgM m hO).fresh 4 t.val = true →
  k0_cond1 (grid0.coords t) (word1 c tbM0_4 (grid0.coords t) (tbl m 4)) = 1#1

/-- An idle point leaves the tile. -/
theorem stepAt_idle (hO : Ok m) (c : Dev nD) (t : Fin (cfgM m hO).N) (hi : (cfgM m hO).idle 4 ((cfgM m hO).grid.coords t) = true) (X) :
    stepAt m hO c t X = X := by
  have hi' : idle0 (tbl m) 4 (grid0.coords t) = true := hi
  obtain rfl : c = 0 := Subsingleton.elim _ _
  have e1 : (tbl m).atD 4 (k0_off1 (grid0.coords t)) = word1 0 tbM0_4 (grid0.coords t) (tbl m 4) := atD_word1 m _
  have e2 : (tbl m).atD 2 (k0_off2 (grid0.coords t)) = word2 0 tbM0_2 (grid0.coords t) (tbl m 2) := atD_word2 m _
  have e3 : (tbl m).atD 3 (k0_off2 (grid0.coords t)) = word2 0 tbM0_3 (grid0.coords t) (tbl m 3) := atD_word3 m _
  simp only [idle0, e1, e2, e3, Bool.and_eq_true, Bool.not_eq_true', beq_eq_false_iff_ne, ne_eq] at hi'
  obtain ⟨⟨⟨⟨⟨⟨⟨⟨⟨⟨h1, h2⟩, h3⟩, h4⟩, h5⟩, h6⟩, h7⟩, h8⟩, h9⟩, h10⟩, h11⟩ := hi'
  unfold stepAt stepW sel1 sel2 sel3 sel4 sel5 sel6 sel7 sel8 sel9 sel10 sel11
  rw [if_neg h11, if_neg h10, if_neg h9, if_neg h8, if_neg h7, if_neg h6, if_neg h5, if_neg h4, if_neg h3, if_neg h2, if_neg h1]

/-- A clearing point forgets the tile. -/
theorem stepAt_clear (hO : Ok m) (c : Dev nD) (t : Fin (cfgM m hO).N) (h : k0_cond1 (grid0.coords t) (word1 c tbM0_4 (grid0.coords t) (tbl m 4)) = 1#1) (X Y) :
    stepAt m hO c t X = stepAt m hO c t Y := by
  unfold stepAt stepW sel1
  rw [if_pos h, if_pos h]

theorem before0_4 (hO : Ok m) (hC : Clears m hO) (c : Dev nD) (t : Fin (cfgM m hO).N) (d) :
    stepAt m hO c t ((dats m hO 0 c).before 4 t d) = traj m hO c (t.val + 1) := by
  rw [(dats m hO 0 c).before_out_traj 4 rfl (fun _ _ => rfl) (fun t ht hi _ => by
    rw [after0_4, after0_4, traj_succ, stepAt_idle m hO c t hi]
    exact congrArg (traj m hO c) (show t.val = t.val - 1 + 1 by omega)) t.val t rfl d, traj_succ]
  by_cases hf : (cfgM m hO).fresh 4 t.val = true
  · rw [if_pos hf]; exact stepAt_clear m hO c t (hC c t hf) _ _
  · rw [if_neg hf, after0_4]
    have h0 : t.val ≠ 0 := fun h0 => hf (by rw [h0]; rfl)
    exact congrArg (fun n => stepAt m hO c t (traj m hO c n)) (show t.val - 1 + 1 = t.val by omega)

/-! ## The body obligation -/

/-- What the body returns the output tile as. -/
def leaves4 (hO : Ok m) (c : Dev nD) (t : Fin (cfgM m hO).N) : sProp (Mt F) :=
  match (cfgM m hO).idle 4 ((cfgM m hO).grid.coords t) with
  | true =>
    match ((cfgM m hO).win 4).flush t with
    | false => iprop(∃ d, owns (c : Thread nD τ) (ms0_4 m hO t) fullShare ((dats m hO 0 c).before 4 t d))
    | true => owns (c : Thread nD τ) (ms0_4 m hO t) fullShare ((dats m hO 0 c).after 4 t)
  | false => owns (c : Thread nD τ) (ms0_4 m hO t) fullShare ((dats m hO 0 c).after 4 t)

theorem leaves4_of (hO : Ok m) (hC : Clears m hO) (c : Dev nD) (t : Fin (cfgM m hO).N) :
    (owns (c : Thread nD τ) (ms0_4 m hO t) fullShare (traj m hO c (t.val + 1)) : sProp (Mt F)) ⊢ leaves4 m hO c t := by
  unfold leaves4
  rw [after0_4]
  cases hi : (cfgM m hO).idle 4 ((cfgM m hO).grid.coords t)
  · exact .rfl
  · cases hf : ((cfgM m hO).win 4).flush t
    · iintro H
      iexists (k0_pay7 (F := F))
      rw [show (dats m hO 0 c).before 4 t (k0_pay7 (F := F)) = traj m hO c (t.val + 1) from
        (stepAt_idle m hO c t hi _).symm.trans (before0_4 m hO hC c t _)]
      iexact H
    · exact .rfl

def bodyPre (hO : Ok m) (c : Dev nD) (t : Fin (cfgM m hO).N) : sProp (Mt F) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

def bodyPost (hO : Ok m) (c : Dev nD) (t : Fin (cfgM m hO).N) : sProp (Mt F) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ leaves4 m hO c t)

/-- The run's post at a point, the output tile renamed. -/
theorem body_post (hO : Ok m) (hC : Clears m hO) (c : Dev nD) (t : Fin (cfgM m hO).N) (d) (R : sProp (Mt F)) :
    iprop(owns (c : Thread nD τ) (ms0_4 m hO t) fullShare (stepAt m hO c t ((dats m hO 0 c).before 4 t d)) ∗ R)
      ⊢ iprop(leaves4 m hO c t ∗ R) := by
  rw [before0_4 m hO hC c t d]
  exact sep_mono (leaves4_of m hO hC c t) .rfl

set_option maxHeartbeats 800000 in
theorem sound_body (hO : Ok m) (hC : Clears m hO) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl,
    after0_0, after0_1, after0_2, after0_3]
  rw [show (dats m hO 0 c).Φ t.castSucc = iprop(Pipeline.ΦA spec0 c ∗ Pipeline.ΦT pre0 (tbl m) c) from rfl, PhiT0_eq]
  iintro ⟨⟨HΦ, ⟨HT0, HT1, HT2, HT3, HT4⟩⟩, Ho, ⟨%d0, H0⟩, ⟨%d1, H1⟩, ⟨%d2, H2⟩, ⟨%d3, H3⟩, ⟨%d4, H4⟩⟩
  have hrun := (body_run c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t)
    (iblk m hO c 0 t) (iblk m hO c 1 t) (iblk m hO c 2 t) (iblk m hO c 3 t) ((dats m hO 0 c).before 4 t d4) (tbl m 0) (tbl m 1) (tbl m 2) (tbl m 3) (tbl m 4)
    iprop(Pipeline.ΦA spec0 c ∗ (dats m hO 0 c).owesAt () t.castSucc) Set.univ).trans
    (wp_mono _ _ _ fun _ => (show _ ⊢ bodyPost m hO c t from by
      unfold bodyPost
      rw [show (dats m hO 0 c).Φ t.succ = iprop(Pipeline.ΦA spec0 c ∗ Pipeline.ΦT pre0 (tbl m) c) from rfl, PhiT0_eq,
        show (dats m hO 0 c).owesAt () t.succ = (dats m hO 0 c).owesAt () t.castSucc from rfl,
        after0_0, after0_1, after0_2, after0_3]
      iintro ⟨H0, H1, H2, H3, H4, HT0, HT1, HT2, HT3, HT4, HΦ, Ho⟩
      isplitl [HΦ HT0 HT1 HT2 HT3 HT4]
      · isplitl [HΦ]; · iexact HΦ
        isplitl [HT0]; · iexact HT0
        isplitl [HT1]; · iexact HT1
        isplitl [HT2]; · iexact HT2
        isplitl [HT3]; · iexact HT3
        iexact HT4
      isplitl [Ho]; · iexact Ho
      isplitl [H0]; · iexact H0
      isplitl [H1]; · iexact H1
      isplitl [H2]; · iexact H2
      isplitl [H3]; · iexact H3
      iapply (leaves4_of m hO hC c t)
      rw [← before0_4 m hO hC c t d4]
      iexact H4))
  unfold bodyPost at hrun
  rw [show (dats m hO 0 c).Φ t.succ = iprop(Pipeline.ΦA spec0 c ∗ Pipeline.ΦT pre0 (tbl m) c) from rfl, PhiT0_eq,
        show (dats m hO 0 c).owesAt () t.succ = (dats m hO 0 c).owesAt () t.castSucc from rfl,
        after0_0, after0_1, after0_2, after0_3] at hrun
  iapply hrun
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HT2]; · iexact HT2
  isplitl [HT3]; · iexact HT3
  isplitl [HT4]; · iexact HT4
  isplitl [HΦ]; · iexact HΦ
  iexact Ho

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (hC : Clears m hO) (c : Dev nD) : BodyObligation (dats (F := F) m hO 0 c) (defs₀ (F := F)) Variants.none () Set.univ := fun t => by
  rw [bigSep_W0, bigSep_W0, defs₀_row m hO]
  exact triple_restated (sound_body m hO hC c t) rfl .rfl fun _ => .rfl

/-! ## The run -/

set_option backward.isDefEq.respectTransparency.types false in
/-- The launch: it ends with every array as the proof data say and every semaphore at zero. -/
theorem run_main (hO : Ok m) (hC : Clears m hO) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO hC c).loose) (hq := fun _ _ _ => rfl)
    (howed := fun _ _ => rfl) (V := V m) (hmain := hmain m Variants.none) (hA := A_eq m hO) (hpf := V_pre m) (hΦ := fun _ _ => rfl)

/-- The launch, read at the arrays: the arguments as they were, the result as written back, every semaphore at zero. -/
theorem run (hO : Ok m) (hC : Clears m hO) : θ_run defs (onTc (τ := τ) (main (F := F))) ⟨m, fun _ => 0, ρ⟩ (fun r => (∀ c : Dev nD,
      r.2.mem ((c.tc : Thread nD τ).loc main_v0) = (dats m hO 0 c).arrAt 4 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun r h => ⟨fun c => ⟨(h.1 c).1 4,
      ((h.1 c).1 0).trans (((dats m hO 0 c).arrAt_in 0 rfl _).trans (A_eq m hO c 0)),
      ((h.1 c).1 1).trans (((dats m hO 0 c).arrAt_in 1 rfl _).trans (A_eq m hO c 1)),
      ((h.1 c).1 3).trans (((dats m hO 0 c).arrAt_in 3 rfl _).trans (A_eq m hO c 3)),
      (h.1 c).2 main_arg3 (by decide : main_arg3 ∈ Pipeline.restRefs sig spec0),
      (h.1 c).2 main_arg4 (by decide : main_arg4 ∈ Pipeline.restRefs sig spec0),
      (h.1 c).2 main_arg5 (by decide : main_arg5 ∈ Pipeline.restRefs sig spec0),
      (h.1 c).2 main_arg6 (by decide : main_arg6 ∈ Pipeline.restRefs sig spec0),
      (h.1 c).2 main_arg7 (by decide : main_arg7 ∈ Pipeline.restRefs sig spec0),
      (h.1 c).2 main_arg8 (by decide : main_arg8 ∈ Pipeline.restRefs sig spec0)⟩, h.2⟩) (run_main m ρ hO hC)

/-- The frame. -/
theorem frame (hO : Ok m) (hC : Clears m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun r h => ⟨fun c => (h.1 c).2, h.2⟩) (run m ρ hO hC)

end Cert.Kernel10Ideal.Gen

end
-- ==== Proof.Plan.lean ====
module

public import proofs.«01_k».proof.Defs
public import proofs.«01_k».proof.Proof.Gen.Pre_plan
public import Idealize.ShloMosaic.Lib.Pointwise
public import Idealize.ShloMosaic.Lib.ReduceAll

/-! What the precondition `plan` says of the item tables, as statements about natural numbers. -/

@[expose] public section

set_option maxRecDepth 16384

noncomputable section

namespace Cert.Plan

open Cert.Pre_plan Cert.Pre_plan.Gen Idealize.ShloMosaic

/-- `jnp.any`: if the fold by `or` is 1, one of the elements is 1. -/
theorem fold_ori_eq_one {ι : Type} [DecidableEq ι] (f : ι → BitVec 1) (S : Finset ι) (h : Finset.fold IntOp.ori (0#1) f S = 1#1) : ∃ x, f x = 1#1 := by
  induction S using Finset.induction_on with
  | empty => exact absurd h (by rw [Finset.fold_empty]; decide)
  | insert a S ha ih =>
    rw [Finset.fold_insert ha] at h
    rcases IntOp.ori_eq_one.1 h with h | h
    · exact ⟨a, h⟩
    · exact ih h

instance : Subsingleton S_.Idx := ⟨fun a b => funext fun k => k.elim0⟩

/-- Item `i` starts at this row. -/
def start (wt ws : S29.Idx → BitVec 32) (i : S29.Idx) : Nat := (wt i).toNat * 1024 + (ws i).toNat * 256

/-- Item `i` stops before this row. -/
def stop (wt ws wc : S29.Idx → BitVec 32) (i : S29.Idx) : Nat := start wt ws i + (wc i).toNat * 256

/-- The start of item `i` as the precondition computes it, in words. -/
def startW (wt ws : S29.Idx → BitVec 32) (i : S29.Idx) : BitVec 32 := IntOp.addi (IntOp.muli (wt i) 1024#32) (IntOp.muli (ws i) 256#32)

/-- The stop of item `i` as the precondition computes it, in words. -/
def stopW (wt ws wc : S29.Idx → BitVec 32) (i : S29.Idx) : BitVec 32 := IntOp.addi (startW wt ws i) (IntOp.muli (wc i) 256#32)

theorem ix1_self {n : Nat} (i : (⟨1, ![n]⟩ : Shape).Idx) : ix1 (n0 := n) (i 0) = i := by
  funext a; obtain rfl : a = 0 := Subsingleton.elim _ _
  rfl

/-- The precondition, said of natural numbers. -/
structure Told (row : S22528.Idx → BitVec 32) (wt we ws wc wf : S29.Idx → BitVec 32) : Prop where
  wt_lt : ∀ i, (wt i).toNat < 22
  we_lt : ∀ i, (we i).toNat < 8
  ws_lt : ∀ i, (ws i).toNat < 4
  le_four : ∀ i, (ws i).toNat + (wc i).toNat ≤ 4
  first : ∀ i, (i 0).val = 0 → (wt i).toNat = 0 ∧ wf i = 1#32
  last : ∀ i, (i 0).val = 28 → (wt i).toNat = 21
  steps : ∀ i j, (j 0).val = (i 0).val + 1 → ((wt j).toNat = (wt i).toNat ∧ wf j ≠ 1#32) ∨ ((wt j).toNat = (wt i).toNat + 1 ∧ wf j = 1#32)
  apart : ∀ i j : S29.Idx, i ≠ j → (wc i).toNat = 0 ∨ stop wt ws wc i ≤ start wt ws j ∨ stop wt ws wc j ≤ start wt ws i
  right : ∀ i (r : S22528.Idx), start wt ws i ≤ (r 0).val → (r 0).val < stop wt ws wc i → we i = row r
  taken : ∀ r : S22528.Idx, (row r).toNat < 8 → ∃ i, start wt ws i ≤ (r 0).val ∧ (r 0).val < stop wt ws wc i

attribute [local instance] Cert.Pre_plan.Gen.facts

/-- A word between zero and a small number, as signed words compare. -/
theorem toNat_lt {x y : BitVec 32} {k : Nat} (h0 : IntOp.cmpi .sge x 0#32 = 1#1) (h1 : IntOp.cmpi .slt x y = 1#1) (hy : y.toInt = k) : x.toNat < k := by
  have h0 := IntOp.cmpi_sge.1 h0
  have h1 := IntOp.cmpi_slt.1 h1
  have e0 : (0#32 : BitVec 32).toInt = 0 := by decide
  have h2 := BitVec.toInt_eq_toNat_cond x
  have := x.isLt
  split at h2 <;> omega

theorem toNat_le {x y : BitVec 32} {k : Nat} (h0 : IntOp.cmpi .sge x 0#32 = 1#1) (h1 : IntOp.cmpi .sle x y = 1#1) (hy : y.toInt = k) : x.toNat ≤ k := by
  have h0 := IntOp.cmpi_sge.1 h0
  have h1 := IntOp.cmpi_sle.1 h1
  have e0 : (0#32 : BitVec 32).toInt = 0 := by decide
  have h2 := BitVec.toInt_eq_toNat_cond x
  have := x.isLt
  split at h2 <;> omega

theorem toInt_small {x : BitVec 32} (h : x.toNat < 2 ^ 31) : x.toInt = x.toNat := by
  have h2 := BitVec.toInt_eq_toNat_cond x
  rw [if_pos (by omega)] at h2; exact h2

variable {F : FTy → Type} [FloatOps F]

set_option maxHeartbeats 4000000 in
theorem told {x0 : FVec F S22528x2048 .bf16} {x1 : FVec F S2x8x2048x11264 .f32} {x2 : FVec F S2x8x5632x2048 .f32} {row : IVec S22528 32} {wt we ws wc wf : IVec S29 32}
    (h : Cert.Pre_plan.fn (F := F) x0 x1 x2 row wt we ws wc wf = fun _ => 1#1) : Told row wt we ws wc wf := by
  have j : S_.Idx := fun k => k.elim0
  have h := congrFun h j
  dsimp only [Cert.Pre_plan.fn, Cert.Pre_plan.fn_part1, Cert.Pre_plan.fn_part2, Cert.Pre_plan.fn_part3, Cert.Pre_plan.fn_part4, Cert.Pre_plan.fn_part5, Cert.Pre_plan.fn_part6] at h
  obtain ⟨h, taken⟩ := IntOp.andi_eq_one.1 h
  obtain ⟨h, right⟩ := IntOp.andi_eq_one.1 h
  obtain ⟨h, apart⟩ := IntOp.andi_eq_one.1 h
  obtain ⟨h, steps⟩ := IntOp.andi_eq_one.1 h
  obtain ⟨ranges, ends⟩ := IntOp.andi_eq_one.1 h
  have ranges := fun i => Host.reduce_andi_all _ _ _ _ j ranges i
  have ends := fun i => Host.reduce_andi_all _ _ _ _ j ends i
  have steps := fun i => Host.reduce_andi_all _ _ _ _ j steps i
  have apart := fun i => Host.reduce_andi_all _ _ _ _ j apart i
  have right := fun i => Host.reduce_andi_all _ _ _ _ j right i
  have taken := fun i => Host.reduce_andi_all _ _ _ _ j taken i
  pointwise at ranges ends steps apart right taken
  have wt_lt : ∀ i, (wt i).toNat < 22 := fun i => by
    have h := ranges i
    simp only [IntOp.andi_eq_one] at h
    exact toNat_lt h.1.1.1.1.1.1.1.1 h.1.1.1.1.1.1.1.2 (by decide)
  have we_lt : ∀ i, (we i).toNat < 8 := fun i => by
    have h := ranges i
    simp only [IntOp.andi_eq_one] at h
    exact toNat_lt h.1.1.1.1.1.1.2 h.1.1.1.1.1.2 (by decide)
  have ws_lt : ∀ i, (ws i).toNat < 4 := fun i => by
    have h := ranges i
    simp only [IntOp.andi_eq_one] at h
    exact toNat_lt h.1.1.1.1.2 h.1.1.1.2 (by decide)
  have wc_le : ∀ i, (wc i).toNat ≤ 4 := fun i => by
    have h := ranges i
    simp only [IntOp.andi_eq_one] at h
    exact toNat_le h.1.1.2 h.1.2 (by decide)
  have e4 : (4#32 : BitVec 32).toInt = 4 := by decide
  have le_four : ∀ i, (ws i).toNat + (wc i).toNat ≤ 4 := fun i => by
    have h := ranges i
    simp only [IntOp.andi_eq_one] at h
    have h := IntOp.cmpi_sle.1 h.2
    have h1 := ws_lt i
    have h2 := wc_le i
    have e : (IntOp.addi (ws i) (wc i)).toNat = (ws i).toNat + (wc i).toNat := by
      unfold IntOp.addi; rw [BitVec.toNat_add]; omega
    rw [toInt_small (by omega), e, e4] at h
    omega
  have es : ∀ i, (startW wt ws i).toNat = start wt ws i := fun i => by
    have h1 := wt_lt i
    have h2 := ws_lt i
    unfold startW IntOp.addi IntOp.muli start
    rw [BitVec.toNat_add, BitVec.toNat_mul, BitVec.toNat_mul]
    have a1 : (1024#32 : BitVec 32).toNat = 1024 := by decide
    have a2 : (256#32 : BitVec 32).toNat = 256 := by decide
    rw [a1, a2]; omega
  have ls : ∀ i, stop wt ws wc i ≤ 22528 := fun i => by
    have h1 := wt_lt i
    have h2 := le_four i
    unfold stop start; omega
  have ee : ∀ i, (stopW wt ws wc i).toNat = stop wt ws wc i := fun i => by
    have h1 := ls i
    have h2 := wc_le i
    unfold stop at h1 ⊢
    rw [← es i] at h1 ⊢
    unfold stopW
    generalize startW wt ws i = a at h1 ⊢
    unfold IntOp.addi IntOp.muli
    rw [BitVec.toNat_add, BitVec.toNat_mul]
    have a2 : (256#32 : BitVec 32).toNat = 256 := by decide
    rw [a2]; omega
  have lt_stop : ∀ i, start wt ws i ≤ 22528 := fun i => by
    have h1 := ls i
    unfold stop at h1; omega
  have er : ∀ r : S22528.Idx, (BitVec.ofNat 32 (r 0).val).toNat = (r 0).val := fun r => by
    have := (r 0).isLt
    have e : S22528.size 0 = 22528 := rfl
    rw [BitVec.toNat_ofNat]; omega
  have is : ∀ i, (startW wt ws i).toInt = start wt ws i := fun i => by
    have := lt_stop i
    rw [toInt_small (by rw [es]; omega), es]
  have ie : ∀ i, (stopW wt ws wc i).toInt = stop wt ws wc i := fun i => by
    have := ls i
    rw [toInt_small (by rw [ee]; omega), ee]
  have ir : ∀ r : S22528.Idx, (BitVec.ofNat 32 (r 0).val).toInt = (r 0).val := fun r => by
    have := (r 0).isLt
    have e : S22528.size 0 = 22528 := rfl
    rw [toInt_small (by rw [er]; omega), er]
  refine ⟨wt_lt, we_lt, ws_lt, le_four, ?_, ?_, ?_, ?_, ?_, ?_⟩
  · intro i hi
    have h := ends (ix1 0)
    simp only [IntOp.andi_eq_one, IntOp.cmpi_eq] at h
    have e : i = ix1 0 := by
      funext a; obtain rfl : a = 0 := Subsingleton.elim _ _
      exact Fin.ext hi
    rw [e]
    exact ⟨by rw [h.1.1]; rfl, h.1.2⟩
  · intro i hi
    have h := ends (ix1 0)
    simp only [IntOp.andi_eq_one, IntOp.cmpi_eq] at h
    have e : i = ix1 28 := by
      funext a; obtain rfl : a = 0 := Subsingleton.elim _ _
      exact Fin.ext hi
    rw [e, h.2]; rfl
  · intro i j hj
    have hl : (j 0).val < 29 := (j 0).isLt
    have h := steps (ix1 ⟨(i 0).val, by omega⟩)
    simp only [IntOp.andi_eq_one, IntOp.ori_eq_one, IntOp.cmpi_eq, IntOp.cmpi_ne] at h
    have ei : i = ix1 ⟨(i 0).val, by omega⟩ := by
      funext a; obtain rfl : a = 0 := Subsingleton.elim _ _
      exact Fin.ext rfl
    have ej : j = ix1 ⟨1 + (i 0).val, by omega⟩ := by
      funext a; obtain rfl : a = 0 := Subsingleton.elim _ _
      exact Fin.ext (hj.trans (Nat.add_comm _ _))
    simp only [ix1_0] at h
    rw [← ei, ← ej] at h
    have h' : (wt j = wt i ∧ wf j ≠ 1#32) ∨ (wt j = IntOp.addi (wt i) 1#32 ∧ wf j = 1#32) := h
    rcases h' with h | h
    · exact .inl ⟨by rw [h.1], h.2⟩
    · refine .inr ⟨?_, h.2⟩
      have := wt_lt i
      have a1 : (1#32 : BitVec 32).toNat = 1 := by decide
      rw [h.1]; unfold IntOp.addi; rw [BitVec.toNat_add, a1]; omega
  · intro i j hij
    have h : IntOp.ori (IntOp.ori (IntOp.ori (IntOp.cmpi .eq (BitVec.ofNat 32 (i 0).val) (BitVec.ofNat 32 (j 0).val)) (IntOp.cmpi .eq (wc (ix1 (n0 := 29) (i 0))) 0#32))
        (IntOp.cmpi .sle (stopW wt ws wc (ix1 (n0 := 29) (i 0))) (startW wt ws (ix1 (n0 := 29) (j 0)))))
        (IntOp.cmpi .sle (stopW wt ws wc (ix1 (n0 := 29) (j 0))) (startW wt ws (ix1 (n0 := 29) (i 0)))) = 1#1 := apart (ix2 (n0 := 29) (n1 := 29) (i 0) (j 0))
    rw [ix1_self, ix1_self] at h
    simp only [IntOp.ori_eq_one, IntOp.cmpi_eq, IntOp.cmpi_sle] at h
    rw [ie, is, ie, is] at h
    rcases h with ((h | h) | h) | h
    · exfalso; apply hij
      rw [← ix1_self i, ← ix1_self j]
      have h := congrArg BitVec.toNat h
      rw [BitVec.toNat_ofNat, BitVec.toNat_ofNat] at h
      have h1 : (i 0).val < 29 := (i 0).isLt
      have h2 : (j 0).val < 29 := (j 0).isLt
      rw [Nat.mod_eq_of_lt (by omega), Nat.mod_eq_of_lt (by omega)] at h
      exact congrArg _ (Fin.ext h)
    · exact .inl (by rw [h]; rfl)
    · exact .inr (.inl (by exact_mod_cast h))
    · exact .inr (.inr (by exact_mod_cast h))
  · intro i r h1 h2
    have h : IntOp.ori (~~~IntOp.andi (IntOp.cmpi .sle (startW wt ws (ix1 (n0 := 29) (i 0))) (BitVec.ofNat 32 (r 0).val))
        (IntOp.cmpi .slt (BitVec.ofNat 32 (r 0).val) (stopW wt ws wc (ix1 (n0 := 29) (i 0)))))
        (IntOp.cmpi .eq (we (ix1 (n0 := 29) (i 0))) (row (ix1 (n0 := 22528) (r 0)))) = 1#1 := right (ix2 (n0 := 29) (n1 := 22528) (i 0) (r 0))
    rw [ix1_self, ix1_self] at h
    simp only [IntOp.ori_eq_one, IntOp.not_eq_one, IntOp.andi_eq_one, IntOp.cmpi_eq, IntOp.cmpi_sle, IntOp.cmpi_slt] at h
    rw [ir, is, ie] at h
    rcases h with h | h
    · exact absurd ⟨by exact_mod_cast h1, by exact_mod_cast h2⟩ h
    · exact h
  · intro r hr
    have h := taken r
    have e8 : (8#32 : BitVec 32).toInt = 8 := by decide
    have e0 : (0#32 : BitVec 32).toInt = 0 := by decide
    rw [IntOp.ori_eq_one, IntOp.ori_eq_one, IntOp.cmpi_slt, IntOp.cmpi_sge, toInt_small (x := row r) (by omega), e8, e0] at h
    rcases h with (h | h) | h
    · obtain ⟨x, hx⟩ := fold_ori_eq_one _ _ h
      have hx : IntOp.andi (IntOp.cmpi .sle (startW wt ws (ix1 x)) (BitVec.ofNat 32 (r 0).val)) (IntOp.cmpi .slt (BitVec.ofNat 32 (r 0).val) (stopW wt ws wc (ix1 x))) = 1#1 := hx
      rw [IntOp.andi_eq_one, IntOp.cmpi_sle, IntOp.cmpi_slt, ir, is, ie] at hx
      exact ⟨ix1 x, by exact_mod_cast hx.1, by exact_mod_cast hx.2⟩
    · omega
    · omega

end Cert.Plan

end
-- ==== Proof.MoeIdeal.Sched.lean ====
module

public import proofs.«01_k».proof.Proof.MoeIdeal.Frame
public import proofs.«01_k».proof.Proof.Plan

@[expose] public section

set_option maxRecDepth 16384

noncomputable section

namespace Cert.Kernel10Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The tables -/

/-- The item tables, by name. -/
abbrev wt : S29.Idx → BitVec 32 := m ((0 : Dev nD).tc.loc main_arg4)
abbrev we : S29.Idx → BitVec 32 := m ((0 : Dev nD).tc.loc main_arg5)
abbrev ws : S29.Idx → BitVec 32 := m ((0 : Dev nD).tc.loc main_arg6)
abbrev wc : S29.Idx → BitVec 32 := m ((0 : Dev nD).tc.loc main_arg7)
abbrev wf : S29.Idx → BitVec 32 := m ((0 : Dev nD).tc.loc main_arg8)

/-- The precondition of these tables. -/
abbrev Told : Prop := Cert.Plan.Told (m ((0 : Dev nD).tc.loc main_arg3)) (wt m) (we m) (ws m) (wc m) (wf m)

/-- The weight tile a grid point names: its own, or the last one for an item of no rows. -/
def part (i : grid0.Coords) : Nat := if (wc m (item i)).toNat = 0 then 10 else (i 1).val

theorem part_lt (i : grid0.Coords) : part m i < 11 := by
  unfold part
  have h : (i 1).val < 11 := (i 1).isLt
  split <;> omega

theorem sel_val (v : BitVec 32) (hv : v.toNat ≤ 4) (k : Nat) (hk : k < 11) :
    (Scalar.select (Scalar.cmpi .sgt v 0#32) (BitVec.ofNat 32 k) 10#32).toNat = if v.toNat = 0 then 10 else k := by
  obtain ⟨n, hn, rfl⟩ : ∃ n : Nat, n < 5 ∧ v = BitVec.ofNat 32 n := ⟨v.toNat, by omega, by simp⟩
  revert n hk k; decide
theorem sel_val' (v : BitVec 32) (hv : v.toNat ≤ 4) (k : Nat) (hk : k < 11) :
    (Scalar.addi 11#32 (Scalar.select (Scalar.cmpi .sgt v 0#32) (BitVec.ofNat 32 k) 10#32)).toNat = 11 + if v.toNat = 0 then 10 else k := by
  obtain ⟨n, hn, rfl⟩ : ∃ n : Nat, n < 5 ∧ v = BitVec.ofNat 32 n := ⟨v.toNat, by omega, by simp⟩
  revert n hk k; decide

variable {m}

theorem wc_le (hT : Told m) (i) : (wc m i).toNat ≤ 4 := by have := hT.le_four i; omega

/-- A word of a table, read at the grid point's item. -/
theorem at_word (f : S29.Idx → BitVec 32) (i : grid0.Coords) :
    f ((Rect.unit (s := S29) (k0_off1 i) S1.size (k0_off1_inb i)).emb (Shape.Idx.first (numel1_S1.symm ▸ Nat.one_pos))) = f (item i) :=
  congrArg f (emb_item i (off1_eq i) _ _)
theorem ix_0 (i : grid0.Coords) : cc0_transform_0 k0_off1_inb numel1_S1 (tbl m) i = ![(wt m (item i)).toNat, 0] :=
  congrArg (fun x : BitVec 32 => ![x.toNat, 0]) (at_word (wt m) i)
theorem ix_4 (i : grid0.Coords) : cc0_transform_4 k0_off1_inb numel1_S1 (tbl m) i = ![(wt m (item i)).toNat, 0] :=
  congrArg (fun x : BitVec 32 => ![x.toNat, 0]) (at_word (wt m) i)
theorem ix_1 (hT : Told m) (i : grid0.Coords) : cc0_transform_1 k0_off1_inb numel1_S1 (tbl m) i = ![0, (we m (item i)).toNat, 0, part m i] :=
  (congrArg₂ (fun x y : BitVec 32 => ![0, x.toNat, 0, (Scalar.select (Scalar.cmpi .sgt y 0#32) (BitVec.ofNat 32 (i 1).val) 10#32).toNat]) (at_word (we m) i) (at_word (wc m) i)).trans
    (congrArg (fun x => ![0, (we m (item i)).toNat, 0, x]) (sel_val _ (wc_le hT _) _ (i 1).isLt))
theorem ix_2 (hT : Told m) (i : grid0.Coords) : cc0_transform_2 k0_off1_inb numel1_S1 (tbl m) i = ![0, (we m (item i)).toNat, 0, 11 + part m i] :=
  (congrArg₂ (fun x y : BitVec 32 => ![0, x.toNat, 0, (Scalar.addi 11#32 (Scalar.select (Scalar.cmpi .sgt y 0#32) (BitVec.ofNat 32 (i 1).val) 10#32)).toNat]) (at_word (we m) i) (at_word (wc m) i)).trans
    (congrArg (fun x => ![0, (we m (item i)).toNat, 0, x]) (sel_val' _ (wc_le hT _) _ (i 1).isLt))
theorem ix_3 (hT : Told m) (i : grid0.Coords) : cc0_transform_3 k0_off1_inb numel1_S1 (tbl m) i = ![0, (we m (item i)).toNat, part m i, 0] :=
  (congrArg₂ (fun x y : BitVec 32 => ![0, x.toNat, (Scalar.select (Scalar.cmpi .sgt y 0#32) (BitVec.ofNat 32 (i 1).val) 10#32).toNat, 0]) (at_word (we m) i) (at_word (wc m) i)).trans
    (congrArg (fun x => ![0, (we m (item i)).toNat, x, 0]) (sel_val _ (wc_le hT _) _ (i 1).isLt))

/-- Every block lies inside its array. -/
theorem ok (hT : Told m) : Ok m := by
  refine ⟨fun i => ⟨?_, .inr (Affine.block_words_dvd (of_decide_eq_true rfl) (by decide))⟩, fun i => ⟨?_, .inl rfl⟩, fun i => ⟨?_, .inl rfl⟩, fun i => ⟨?_, .inl rfl⟩, fun i => ⟨?_, .inl rfl⟩⟩
  · have h := hT.wt_lt (item i)
    rw [ix_0, Fin.forall_fin_two]
    show ((wt m (item i)).toNat + 1) * 1024 ≤ 22528 ∧ (0 + 1) * 2048 ≤ 2048
    omega
  · have h := hT.we_lt (item i)
    have h' := part_lt m i
    rw [ix_1 hT, Fin.forall_fin_succ, Fin.forall_fin_succ, Fin.forall_fin_two]
    show (0 + 1) * 1 ≤ 2 ∧ ((we m (item i)).toNat + 1) * 1 ≤ 8 ∧ (0 + 1) * 2048 ≤ 2048 ∧ (part m i + 1) * 512 ≤ 11264
    omega
  · have h := hT.we_lt (item i)
    have h' := part_lt m i
    rw [ix_2 hT, Fin.forall_fin_succ, Fin.forall_fin_succ, Fin.forall_fin_two]
    show (0 + 1) * 1 ≤ 2 ∧ ((we m (item i)).toNat + 1) * 1 ≤ 8 ∧ (0 + 1) * 2048 ≤ 2048 ∧ (11 + part m i + 1) * 512 ≤ 11264
    omega
  · have h := hT.we_lt (item i)
    have h' := part_lt m i
    rw [ix_3 hT, Fin.forall_fin_succ, Fin.forall_fin_succ, Fin.forall_fin_two]
    show (0 + 1) * 1 ≤ 2 ∧ ((we m (item i)).toNat + 1) * 1 ≤ 8 ∧ (part m i + 1) * 512 ≤ 5632 ∧ (0 + 1) * 2048 ≤ 2048
    omega
  · have h := hT.wt_lt (item i)
    rw [ix_4, Fin.forall_fin_two]
    show ((wt m (item i)).toNat + 1) * 1024 ≤ 22528 ∧ (0 + 1) * 2048 ≤ 2048
    omega

/-! ## The order of the points -/

theorem coords_0 (t : Fin grid0.N) : (grid0.coords t 0).val = t.val / 11 := by
  rw [Pipeline.Grid.coords_val t 0 (S := 11) (B := 29) rfl rfl]
  have h : t.val < 319 := t.isLt
  omega
theorem coords_1 (t : Fin grid0.N) : (grid0.coords t 1).val = t.val % 11 := by
  rw [Pipeline.Grid.coords_val t 1 (S := 1) (B := 11) rfl rfl, Nat.div_one]

theorem cond1_iff (i : grid0.Coords) (v : BitVec 32) : k0_cond1 i v = 1#1 ↔ (i 1).val = 0 ∧ v = 1#32 := by
  have h : (i 1).val < 11 := (i 1).isLt
  unfold k0_cond1
  dsimp only
  refine (Scalar.guard_iff _).trans ?_
  refine IntOp.andi_eq_one.trans (and_congr (IntOp.cmpi_eq.trans ?_) IntOp.cmpi_eq)
  generalize (i 1).val = n at h
  revert n; decide

/-- Where the next tile begins, the item is the tile's first. -/
theorem flush_next (hT : Told m) (n : Nat) (h : n + 1 < (cfgM m (ok hT)).N) (hf : ((cfgM m (ok hT)).win 4).flush ⟨n, Nat.lt_of_succ_lt h⟩ = true) :
    (n + 1) % 11 = 0 ∧ wf m (item (grid0.coords ⟨n + 1, h⟩)) = 1#32 ∧ (wt m (item (grid0.coords ⟨n + 1, h⟩))).toNat = (wt m (item (grid0.coords ⟨n, Nat.lt_of_succ_lt h⟩))).toNat + 1 := by
  have hN : n + 1 < 319 := h
  have hd : (wt m (item (grid0.coords ⟨n + 1, h⟩))).toNat ≠ (wt m (item (grid0.coords ⟨n, Nat.lt_of_succ_lt h⟩))).toNat := by
    intro e
    unfold Window.flush at hf
    rw [Bool.and_eq_true, Bool.or_eq_true, decide_eq_true_eq, decide_eq_true_eq] at hf
    rcases hf.2 with h1 | ⟨h1, h2⟩
    · exact absurd (show n + 1 = 319 from h1) (by omega)
    · apply h2
      show cc0_transform_4 k0_off1_inb numel1_S1 (tbl m) _ = cc0_transform_4 k0_off1_inb numel1_S1 (tbl m) _
      rw [ix_4, ix_4]
      exact congrArg (fun x => ![x, 0]) e
  have c1 := coords_0 ⟨n + 1, h⟩
  have c0 := coords_0 ⟨n, Nat.lt_of_succ_lt h⟩
  have hm : (n + 1) % 11 = 0 := by
    by_contra hm
    apply hd
    have e : item (grid0.coords ⟨n + 1, h⟩) = item (grid0.coords ⟨n, Nat.lt_of_succ_lt h⟩) := by
      unfold item
      refine congrArg (ix1 (n0 := 29)) (Fin.ext ?_)
      rw [c1, c0]
      show (n + 1) / 11 = n / 11
      omega
    rw [e]
  refine ⟨hm, ?_⟩
  rcases hT.steps (item (grid0.coords ⟨n, Nat.lt_of_succ_lt h⟩)) (item (grid0.coords ⟨n + 1, h⟩)) (by
    show (grid0.coords ⟨n + 1, h⟩ 0).val = (grid0.coords ⟨n, Nat.lt_of_succ_lt h⟩ 0).val + 1
    rw [c1, c0]
    show (n + 1) / 11 = n / 11 + 1
    omega) with h' | h'
  · exact absurd h'.1 hd
  · exact ⟨h'.2, h'.1⟩

theorem clears (hT : Told m) : Clears m (ok hT) := by
  intro c t
  obtain rfl : c = 0 := Subsingleton.elim _ _
  obtain ⟨n, hn⟩ := t
  rw [word1_eq m]
  induction n with
  | zero =>
    intro _
    rw [cond1_iff, coords_1]
    refine ⟨rfl, (hT.first _ ?_).2⟩
    show (grid0.coords ⟨0, hn⟩ 0).val = 0
    rw [coords_0]
    exact Nat.zero_div _
  | succ n ih =>
    intro hf
    have hf : (cfgM m (ok hT)).fresh 4 (n + 1) = true := hf
    rw [Pipeline.Cfg.fresh_succ _ 4 n (Nat.lt_of_succ_lt hn), Bool.or_eq_true, Bool.and_eq_true] at hf
    rcases hf with hf | ⟨hi, hf⟩
    · have h := flush_next hT n hn hf
      rw [cond1_iff, coords_1]
      exact ⟨h.1, h.2.1⟩
    · exfalso
      have h1 := ih (Nat.lt_of_succ_lt hn) hf
      have hi' : idle0 (tbl m) 4 (grid0.coords ⟨n, Nat.lt_of_succ_lt hn⟩) = true := hi
      simp only [idle0, Bool.and_eq_true, Bool.not_eq_true', beq_eq_false_iff_ne, ne_eq] at hi'
      exact hi'.1.1.1.1.1.1.1.1.1.1 ((congrArg (k0_cond1 _) ((atD_word1 m _).trans (word1_eq m _))).trans h1)

end Cert.Kernel10Ideal.Gen

end
-- ==== Proof.MoeRef.lean ====
module

public import proofs.«01_k».proof.Proof.Rows
public import proofs.«01_k».proof.Proof.Gen.Reference10Ideal.Run
public import proofs.«01_k».proof.Proof.Gen.Reference10Ideal.Read

/-! The expert reference's result, element by element. -/

@[expose] public section

set_option maxRecDepth 16384

noncomputable section

namespace Cert.Rows

open Idealize.ShloMosaic
open scoped BigOperators

/-- One element of an expert's output for a row: its 5632 gated units' product with a column. -/
def expert (x : Fin 2048 → EReal) (w : Fin 2048 → Fin 11264 → EReal) (d : Fin 5632 → EReal) : EReal :=
  ∑ l : Fin 5632, gated x (fun k => w k ⟨l.val, by omega⟩) (fun k => w k ⟨5632 + l.val, by omega⟩) * d l

end Cert.Rows

namespace Cert.Reference10Ideal.Moe

open Cert.Reference10Ideal Cert.Reference10Ideal.Facts Cert.Reference10Ideal.Read Cert.Reference10Ideal.Gen Idealize.ShloMosaic
open scoped BigOperators

variable (x0 : FVec Ideal S22528x2048 .bf16) (x1 : FVec Ideal S2x8x2048x11264 .f32) (x2 : FVec Ideal S2x8x5632x2048 .f32) (x3 : IVec S22528 32)

/-- A choice between a value and zero by whether two words agree. -/
theorem select_zero (a b : BitVec 32) (x : EReal) :
    Scalar.select (IntOp.cmpi .eq a b) x (id (constant (F := Ideal) S_ .f32 0#32) ix0) = if a = b then x else 0 := by
  have z : (id (constant (F := Ideal) S_ .f32 0#32) ix0 : EReal) = 0 := by
    show Ideal.ofBits .f32 0#32 = 0
    simp
  rw [z]
  by_cases h : a = b
  · have h1 : IntOp.cmpi .eq a b = 1#1 := IntOp.cmpi_eq.2 h
    rw [if_pos h, h1]; rfl
  · have h1 : IntOp.cmpi .eq a b = 0#1 := by
      have h2 : ¬ IntOp.cmpi .eq a b = 1#1 := fun e => h (IntOp.cmpi_eq.1 e)
      revert h2; generalize IntOp.cmpi .eq a b = w; revert w; decide
    rw [if_neg h, h1]; rfl

/-- Expert `e`'s output for row `i`, column `j`. -/
abbrev out (e : Fin 8) (i : Fin 22528) (j : Fin 2048) : EReal :=
  Rows.expert (fun k => x0 (ix2 i k)) (fun k l => x1 (ix4 0 e k l)) (fun l => x2 (ix4 0 e l j))

/-- Expert 0: the product with the gate and up weights. -/
theorem gu0 (i : Fin 22528) (j : Fin 11264) : (val_main_v9 (F := Ideal) x0 x1 : FVec Ideal S22528x11264 .f32) (ix2 i j)
    = ∑ k : Fin 2048, x0 (ix2 i k) * x1 (ix4 0 0 k j) := by
  pointwise [val_main_v9, val_main_v6, val_main_v5, val_main_v0]
/-- Expert 0: a gated unit. -/
theorem unit0 (i : Fin 22528) (l : Fin 5632) : (val_main_v13 (F := Ideal) x0 x1 : FVec Ideal S22528x5632 .f32) (ix2 i l)
    = Rows.gated (fun k => x0 (ix2 i k)) (fun k => x1 (ix4 0 0 k ⟨l.val, by omega⟩)) (fun k => x1 (ix4 0 0 k ⟨5632 + l.val, by omega⟩)) := by
  pointwise [val_main_v13, val_main_v12, val_main_v11, val_main_call0_v5, val_main_call0_v4, val_main_call0_cst_0, val_main_call0_v3, val_main_call0_v2, val_main_call0_cst, val_main_call0_v1, val_main_call0_v0, val_main_v10]
  simp only [gu0, Ideal.ofBits_one_f32]
  rfl
/-- Expert 0: the output. -/
theorem out0 (i : Fin 22528) (j : Fin 2048) : (val_main_v14 (F := Ideal) x0 x1 x2 : FVec Ideal S22528x2048 .f32) (ix2 i j) = out x0 x1 x2 0 i j := by
  pointwise [val_main_v14, val_main_v8, val_main_v7]
  simp only [unit0]
  rfl

/-- The sum starts at zero. -/
theorem sum_start (i : Fin 22528) (j : Fin 2048) : (val_main_v1 (F := Ideal)  : FVec Ideal S22528x2048 .f32) (ix2 i j) = 0 := by
  pointwise [val_main_v1, val_main_cst]

/-- The sum over the experts up to 0. -/
theorem sum0 (i : Fin 22528) (j : Fin 2048) : (val_main_v16 (F := Ideal) x0 x1 x2 x3 : FVec Ideal S22528x2048 .f32) (ix2 i j)
    = (val_main_v1 (F := Ideal)  : FVec Ideal S22528x2048 .f32) (ix2 i j) + if x3 (ix1 i) = 0#32 then out x0 x1 x2 0 i j else 0 := by
  pointwise [val_main_v4, val_main_v3, val_main_v2, val_main_v16, val_main_v15, val_main_call1_v2, val_main_call1_v1, val_main_call1_v0, val_main_cst_0, val_main_c]
  rw [select_zero, out0]

/-- Expert 1: the product with the gate and up weights. -/
theorem gu1 (i : Fin 22528) (j : Fin 11264) : (val_main_v24 (F := Ideal) x0 x1 : FVec Ideal S22528x11264 .f32) (ix2 i j)
    = ∑ k : Fin 2048, x0 (ix2 i k) * x1 (ix4 0 1 k j) := by
  pointwise [val_main_v24, val_main_v21, val_main_v20, val_main_v0]
/-- Expert 1: a gated unit. -/
theorem unit1 (i : Fin 22528) (l : Fin 5632) : (val_main_v28 (F := Ideal) x0 x1 : FVec Ideal S22528x5632 .f32) (ix2 i l)
    = Rows.gated (fun k => x0 (ix2 i k)) (fun k => x1 (ix4 0 1 k ⟨l.val, by omega⟩)) (fun k => x1 (ix4 0 1 k ⟨5632 + l.val, by omega⟩)) := by
  pointwise [val_main_v28, val_main_v27, val_main_v26, val_main_call2_v5, val_main_call2_v4, val_main_call2_cst_0, val_main_call2_v3, val_main_call2_v2, val_main_call2_cst, val_main_call2_v1, val_main_call2_v0, val_main_v25]
  simp only [gu1, Ideal.ofBits_one_f32]
  rfl
/-- Expert 1: the output. -/
theorem out1 (i : Fin 22528) (j : Fin 2048) : (val_main_v29 (F := Ideal) x0 x1 x2 : FVec Ideal S22528x2048 .f32) (ix2 i j) = out x0 x1 x2 1 i j := by
  pointwise [val_main_v29, val_main_v23, val_main_v22]
  simp only [unit1]
  rfl

/-- The sum over the experts up to 1. -/
theorem sum1 (i : Fin 22528) (j : Fin 2048) : (val_main_v31 (F := Ideal) x0 x1 x2 x3 : FVec Ideal S22528x2048 .f32) (ix2 i j)
    = (val_main_v16 (F := Ideal) x0 x1 x2 x3 : FVec Ideal S22528x2048 .f32) (ix2 i j) + if x3 (ix1 i) = 1#32 then out x0 x1 x2 1 i j else 0 := by
  pointwise [val_main_v19, val_main_v18, val_main_v17, val_main_v31, val_main_v30, val_main_call3_v2, val_main_call3_v1, val_main_call3_v0, val_main_cst_2, val_main_c_1]
  rw [select_zero, out1]

/-- Expert 2: the product with the gate and up weights. -/
theorem gu2 (i : Fin 22528) (j : Fin 11264) : (val_main_v39 (F := Ideal) x0 x1 : FVec Ideal S22528x11264 .f32) (ix2 i j)
    = ∑ k : Fin 2048, x0 (ix2 i k) * x1 (ix4 0 2 k j) := by
  pointwise [val_main_v39, val_main_v36, val_main_v35, val_main_v0]
/-- Expert 2: a gated unit. -/
theorem unit2 (i : Fin 22528) (l : Fin 5632) : (val_main_v43 (F := Ideal) x0 x1 : FVec Ideal S22528x5632 .f32) (ix2 i l)
    = Rows.gated (fun k => x0 (ix2 i k)) (fun k => x1 (ix4 0 2 k ⟨l.val, by omega⟩)) (fun k => x1 (ix4 0 2 k ⟨5632 + l.val, by omega⟩)) := by
  pointwise [val_main_v43, val_main_v42, val_main_v41, val_main_call4_v5, val_main_call4_v4, val_main_call4_cst_0, val_main_call4_v3, val_main_call4_v2, val_main_call4_cst, val_main_call4_v1, val_main_call4_v0, val_main_v40]
  simp only [gu2, Ideal.ofBits_one_f32]
  rfl
/-- Expert 2: the output. -/
theorem out2 (i : Fin 22528) (j : Fin 2048) : (val_main_v44 (F := Ideal) x0 x1 x2 : FVec Ideal S22528x2048 .f32) (ix2 i j) = out x0 x1 x2 2 i j := by
  pointwise [val_main_v44, val_main_v38, val_main_v37]
  simp only [unit2]
  rfl

/-- The sum over the experts up to 2. -/
theorem sum2 (i : Fin 22528) (j : Fin 2048) : (val_main_v46 (F := Ideal) x0 x1 x2 x3 : FVec Ideal S22528x2048 .f32) (ix2 i j)
    = (val_main_v31 (F := Ideal) x0 x1 x2 x3 : FVec Ideal S22528x2048 .f32) (ix2 i j) + if x3 (ix1 i) = 2#32 then out x0 x1 x2 2 i j else 0 := by
  pointwise [val_main_v34, val_main_v33, val_main_v32, val_main_v46, val_main_v45, val_main_call5_v2, val_main_call5_v1, val_main_call5_v0, val_main_cst_4, val_main_c_3]
  rw [select_zero, out2]

/-- Expert 3: the product with the gate and up weights. -/
theorem gu3 (i : Fin 22528) (j : Fin 11264) : (val_main_v54 (F := Ideal) x0 x1 : FVec Ideal S22528x11264 .f32) (ix2 i j)
    = ∑ k : Fin 2048, x0 (ix2 i k) * x1 (ix4 0 3 k j) := by
  pointwise [val_main_v54, val_main_v51, val_main_v50, val_main_v0]
/-- Expert 3: a gated unit. -/
theorem unit3 (i : Fin 22528) (l : Fin 5632) : (val_main_v58 (F := Ideal) x0 x1 : FVec Ideal S22528x5632 .f32) (ix2 i l)
    = Rows.gated (fun k => x0 (ix2 i k)) (fun k => x1 (ix4 0 3 k ⟨l.val, by omega⟩)) (fun k => x1 (ix4 0 3 k ⟨5632 + l.val, by omega⟩)) := by
  pointwise [val_main_v58, val_main_v57, val_main_v56, val_main_call6_v5, val_main_call6_v4, val_main_call6_cst_0, val_main_call6_v3, val_main_call6_v2, val_main_call6_cst, val_main_call6_v1, val_main_call6_v0, val_main_v55]
  simp only [gu3, Ideal.ofBits_one_f32]
  rfl
/-- Expert 3: the output. -/
theorem out3 (i : Fin 22528) (j : Fin 2048) : (val_main_v59 (F := Ideal) x0 x1 x2 : FVec Ideal S22528x2048 .f32) (ix2 i j) = out x0 x1 x2 3 i j := by
  pointwise [val_main_v59, val_main_v53, val_main_v52]
  simp only [unit3]
  rfl

/-- The sum over the experts up to 3. -/
theorem sum3 (i : Fin 22528) (j : Fin 2048) : (val_main_v61 (F := Ideal) x0 x1 x2 x3 : FVec Ideal S22528x2048 .f32) (ix2 i j)
    = (val_main_v46 (F := Ideal) x0 x1 x2 x3 : FVec Ideal S22528x2048 .f32) (ix2 i j) + if x3 (ix1 i) = 3#32 then out x0 x1 x2 3 i j else 0 := by
  pointwise [val_main_v49, val_main_v48, val_main_v47, val_main_v61, val_main_v60, val_main_call7_v2, val_main_call7_v1, val_main_call7_v0, val_main_cst_6, val_main_c_5]
  rw [select_zero, out3]

/-- Expert 4: the product with the gate and up weights. -/
theorem gu4 (i : Fin 22528) (j : Fin 11264) : (val_main_v69 (F := Ideal) x0 x1 : FVec Ideal S22528x11264 .f32) (ix2 i j)
    = ∑ k : Fin 2048, x0 (ix2 i k) * x1 (ix4 0 4 k j) := by
  pointwise [val_main_v69, val_main_v66, val_main_v65, val_main_v0]
/-- Expert 4: a gated unit. -/
theorem unit4 (i : Fin 22528) (l : Fin 5632) : (val_main_v73 (F := Ideal) x0 x1 : FVec Ideal S22528x5632 .f32) (ix2 i l)
    = Rows.gated (fun k => x0 (ix2 i k)) (fun k => x1 (ix4 0 4 k ⟨l.val, by omega⟩)) (fun k => x1 (ix4 0 4 k ⟨5632 + l.val, by omega⟩)) := by
  pointwise [val_main_v73, val_main_v72, val_main_v71, val_main_call8_v5, val_main_call8_v4, val_main_call8_cst_0, val_main_call8_v3, val_main_call8_v2, val_main_call8_cst, val_main_call8_v1, val_main_call8_v0, val_main_v70]
  simp only [gu4, Ideal.ofBits_one_f32]
  rfl
/-- Expert 4: the output. -/
theorem out4 (i : Fin 22528) (j : Fin 2048) : (val_main_v74 (F := Ideal) x0 x1 x2 : FVec Ideal S22528x2048 .f32) (ix2 i j) = out x0 x1 x2 4 i j := by
  pointwise [val_main_v74, val_main_v68, val_main_v67]
  simp only [unit4]
  rfl

/-- The sum over the experts up to 4. -/
theorem sum4 (i : Fin 22528) (j : Fin 2048) : (val_main_v76 (F := Ideal) x0 x1 x2 x3 : FVec Ideal S22528x2048 .f32) (ix2 i j)
    = (val_main_v61 (F := Ideal) x0 x1 x2 x3 : FVec Ideal S22528x2048 .f32) (ix2 i j) + if x3 (ix1 i) = 4#32 then out x0 x1 x2 4 i j else 0 := by
  pointwise [val_main_v64, val_main_v63, val_main_v62, val_main_v76, val_main_v75, val_main_call9_v2, val_main_call9_v1, val_main_call9_v0, val_main_cst_8, val_main_c_7]
  rw [select_zero, out4]

/-- Expert 5: the product with the gate and up weights. -/
theorem gu5 (i : Fin 22528) (j : Fin 11264) : (val_main_v84 (F := Ideal) x0 x1 : FVec Ideal S22528x11264 .f32) (ix2 i j)
    = ∑ k : Fin 2048, x0 (ix2 i k) * x1 (ix4 0 5 k j) := by
  pointwise [val_main_v84, val_main_v81, val_main_v80, val_main_v0]
/-- Expert 5: a gated unit. -/
theorem unit5 (i : Fin 22528) (l : Fin 5632) : (val_main_v88 (F := Ideal) x0 x1 : FVec Ideal S22528x5632 .f32) (ix2 i l)
    = Rows.gated (fun k => x0 (ix2 i k)) (fun k => x1 (ix4 0 5 k ⟨l.val, by omega⟩)) (fun k => x1 (ix4 0 5 k ⟨5632 + l.val, by omega⟩)) := by
  pointwise [val_main_v88, val_main_v87, val_main_v86, val_main_call10_v5, val_main_call10_v4, val_main_call10_cst_0, val_main_call10_v3, val_main_call10_v2, val_main_call10_cst, val_main_call10_v1, val_main_call10_v0, val_main_v85]
  simp only [gu5, Ideal.ofBits_one_f32]
  rfl
/-- Expert 5: the output. -/
theorem out5 (i : Fin 22528) (j : Fin 2048) : (val_main_v89 (F := Ideal) x0 x1 x2 : FVec Ideal S22528x2048 .f32) (ix2 i j) = out x0 x1 x2 5 i j := by
  pointwise [val_main_v89, val_main_v83, val_main_v82]
  simp only [unit5]
  rfl

/-- The sum over the experts up to 5. -/
theorem sum5 (i : Fin 22528) (j : Fin 2048) : (val_main_v91 (F := Ideal) x0 x1 x2 x3 : FVec Ideal S22528x2048 .f32) (ix2 i j)
    = (val_main_v76 (F := Ideal) x0 x1 x2 x3 : FVec Ideal S22528x2048 .f32) (ix2 i j) + if x3 (ix1 i) = 5#32 then out x0 x1 x2 5 i j else 0 := by
  pointwise [val_main_v79, val_main_v78, val_main_v77, val_main_v91, val_main_v90, val_main_call11_v2, val_main_call11_v1, val_main_call11_v0, val_main_cst_10, val_main_c_9]
  rw [select_zero, out5]

/-- Expert 6: the product with the gate and up weights. -/
theorem gu6 (i : Fin 22528) (j : Fin 11264) : (val_main_v99 (F := Ideal) x0 x1 : FVec Ideal S22528x11264 .f32) (ix2 i j)
    = ∑ k : Fin 2048, x0 (ix2 i k) * x1 (ix4 0 6 k j) := by
  pointwise [val_main_v99, val_main_v96, val_main_v95, val_main_v0]
/-- Expert 6: a gated unit. -/
theorem unit6 (i : Fin 22528) (l : Fin 5632) : (val_main_v103 (F := Ideal) x0 x1 : FVec Ideal S22528x5632 .f32) (ix2 i l)
    = Rows.gated (fun k => x0 (ix2 i k)) (fun k => x1 (ix4 0 6 k ⟨l.val, by omega⟩)) (fun k => x1 (ix4 0 6 k ⟨5632 + l.val, by omega⟩)) := by
  pointwise [val_main_v103, val_main_v102, val_main_v101, val_main_call12_v5, val_main_call12_v4, val_main_call12_cst_0, val_main_call12_v3, val_main_call12_v2, val_main_call12_cst, val_main_call12_v1, val_main_call12_v0, val_main_v100]
  simp only [gu6, Ideal.ofBits_one_f32]
  rfl
/-- Expert 6: the output. -/
theorem out6 (i : Fin 22528) (j : Fin 2048) : (val_main_v104 (F := Ideal) x0 x1 x2 : FVec Ideal S22528x2048 .f32) (ix2 i j) = out x0 x1 x2 6 i j := by
  pointwise [val_main_v104, val_main_v98, val_main_v97]
  simp only [unit6]
  rfl

/-- The sum over the experts up to 6. -/
theorem sum6 (i : Fin 22528) (j : Fin 2048) : (val_main_v106 (F := Ideal) x0 x1 x2 x3 : FVec Ideal S22528x2048 .f32) (ix2 i j)
    = (val_main_v91 (F := Ideal) x0 x1 x2 x3 : FVec Ideal S22528x2048 .f32) (ix2 i j) + if x3 (ix1 i) = 6#32 then out x0 x1 x2 6 i j else 0 := by
  pointwise [val_main_v94, val_main_v93, val_main_v92, val_main_v106, val_main_v105, val_main_call13_v2, val_main_call13_v1, val_main_call13_v0, val_main_cst_12, val_main_c_11]
  rw [select_zero, out6]

/-- Expert 7: the product with the gate and up weights. -/
theorem gu7 (i : Fin 22528) (j : Fin 11264) : (val_main_v114 (F := Ideal) x0 x1 : FVec Ideal S22528x11264 .f32) (ix2 i j)
    = ∑ k : Fin 2048, x0 (ix2 i k) * x1 (ix4 0 7 k j) := by
  pointwise [val_main_v114, val_main_v111, val_main_v110, val_main_v0]
/-- Expert 7: a gated unit. -/
theorem unit7 (i : Fin 22528) (l : Fin 5632) : (val_main_v118 (F := Ideal) x0 x1 : FVec Ideal S22528x5632 .f32) (ix2 i l)
    = Rows.gated (fun k => x0 (ix2 i k)) (fun k => x1 (ix4 0 7 k ⟨l.val, by omega⟩)) (fun k => x1 (ix4 0 7 k ⟨5632 + l.val, by omega⟩)) := by
  pointwise [val_main_v118, val_main_v117, val_main_v116, val_main_call14_v5, val_main_call14_v4, val_main_call14_cst_0, val_main_call14_v3, val_main_call14_v2, val_main_call14_cst, val_main_call14_v1, val_main_call14_v0, val_main_v115]
  simp only [gu7, Ideal.ofBits_one_f32]
  rfl
/-- Expert 7: the output. -/
theorem out7 (i : Fin 22528) (j : Fin 2048) : (val_main_v119 (F := Ideal) x0 x1 x2 : FVec Ideal S22528x2048 .f32) (ix2 i j) = out x0 x1 x2 7 i j := by
  pointwise [val_main_v119, val_main_v113, val_main_v112]
  simp only [unit7]
  rfl

/-- The sum over the experts up to 7. -/
theorem sum7 (i : Fin 22528) (j : Fin 2048) : (val_main_v121 (F := Ideal) x0 x1 x2 x3 : FVec Ideal S22528x2048 .f32) (ix2 i j)
    = (val_main_v106 (F := Ideal) x0 x1 x2 x3 : FVec Ideal S22528x2048 .f32) (ix2 i j) + if x3 (ix1 i) = 7#32 then out x0 x1 x2 7 i j else 0 := by
  pointwise [val_main_v109, val_main_v108, val_main_v107, val_main_v121, val_main_v120, val_main_call15_v2, val_main_call15_v1, val_main_call15_v0, val_main_cst_14, val_main_c_13]
  rw [select_zero, out7]

/-- The reference's result: a row of an expert is that expert's output, any other row is zero. -/
theorem final (i : Fin 22528) (j : Fin 2048) : (val_main_v121 (F := Ideal) x0 x1 x2 x3 : FVec Ideal S22528x2048 .f32) (ix2 i j)
    = if h : (x3 (ix1 i)).toNat < 8 then out x0 x1 x2 ⟨(x3 (ix1 i)).toNat, h⟩ i j else 0 := by
  rw [sum7, sum6, sum5, sum4, sum3, sum2, sum1, sum0, sum_start]
  generalize x3 (ix1 i) = v
  by_cases h : v.toNat < 8
  · rw [dif_pos h]
    have key : v = 0#32 ∨ v = 1#32 ∨ v = 2#32 ∨ v = 3#32 ∨ v = 4#32 ∨ v = 5#32 ∨ v = 6#32 ∨ v = 7#32 := by
      simp only [← BitVec.toNat_inj, BitVec.toNat_ofNat]; omega
    rcases key with rfl | rfl | rfl | rfl | rfl | rfl | rfl | rfl <;> simp <;> rfl
  · rw [dif_neg h]
    have key : v ≠ 0#32 ∧ v ≠ 1#32 ∧ v ≠ 2#32 ∧ v ≠ 3#32 ∧ v ≠ 4#32 ∧ v ≠ 5#32 ∧ v ≠ 6#32 ∧ v ≠ 7#32 := by
      simp only [ne_eq, ← BitVec.toNat_inj, BitVec.toNat_ofNat]; omega
    obtain ⟨h0, h1, h2, h3, h4, h5, h6, h7⟩ := key
    rw [if_neg h0, if_neg h1, if_neg h2, if_neg h3, if_neg h4, if_neg h5, if_neg h6, if_neg h7]
    simp

end Cert.Reference10Ideal.Moe

end
-- ==== Proof.MoeIdeal.Step.lean ====
module

public import proofs.«01_k».proof.Proof.MoeIdeal.Sched
public import proofs.«01_k».proof.Proof.MoeRef
public import Idealize.ShloMosaic.Lib.Pipeline.ValueKit

/-! What a grid point of the expert kernel adds to its output tile. -/

@[expose] public section

set_option maxRecDepth 16384

noncomputable section

namespace Cert.Kernel10Ideal.Moe

open Cert.Kernel10Ideal Cert.Kernel10Ideal.Gen Idealize.ShloMosaic Idealize.ShloMosaic.TcCoe
open scoped BigOperators

/-- A row's 512 gated units of the weight tiles at hand, times a column. -/
def P (x0 : FVec Ideal S1024x2048 .bf16) (x1 x2 : FVec Ideal S1x1x2048x512 .f32) (x3 : FVec Ideal S1x1x512x2048 .f32) (r : Fin 1024) (j : Fin 2048) : EReal :=
  ∑ l : Fin 512, Rows.gated (fun k => x0 (ix2 r k)) (fun k => x1 (ix4 0 0 k l)) (fun k => x2 (ix4 0 0 k l)) * x3 (ix4 0 0 l j)

/-- The cleared tile. -/
theorem pay7_at (y : S1024x2048.Idx) : (k0_pay7 (F := Ideal) : FVec Ideal S1024x2048 .f32) y = 0 := by
  pointwise [k0_pay7]

variable (x0 : FVec Ideal S1024x2048 .bf16) (x1 x2 : FVec Ideal S1x1x2048x512 .f32) (x3 : FVec Ideal S1x1x512x2048 .f32) (X : FVec Ideal S1024x2048 .f32)

theorem pay8_at (acc : FVec Ideal S256x2048 .f32) (xb : FVec Ideal S256x2048 .bf16) (r : Fin 256) (j : Fin 2048) :
    (k0_pay8 (F := Ideal) acc xb x1 x2 x3 : FVec Ideal S256x2048 .f32) (ix2 r j)
      = acc (ix2 r j) + ∑ l : Fin 512, Rows.gated (fun k => xb (ix2 r k)) (fun k => x1 (ix4 0 0 k l)) (fun k => x2 (ix4 0 0 k l)) * x3 (ix4 0 0 l j) := by
  pointwise [k0_pay8]
  rfl
/-- The part for 1 blocks of 256 rows from row 0, element by element. -/
theorem upd2_at (r : Fin 1024) (j : Fin 2048) : upd2 (F := Ideal) x0 x1 x2 x3 X (ix2 r j)
    = if 256 * 0 ≤ r.val ∧ r.val < 256 * (0 + 1) then X (ix2 r j) + P x0 x1 x2 x3 r j else X (ix2 r j) := by
  unfold upd2
  by_cases h : 256 * 0 ≤ r.val ∧ r.val < 256 * (0 + 1)
  · have hr := r.isLt
    have hj := j.isLt
    have hh : ∀ a, (![0, 0] : Fin S1024x2048.rank → ℕ) a ≤ ((ix2 r j : S1024x2048.Idx) a).val ∧ ((ix2 r j : S1024x2048.Idx) a).val < (![0, 0] : Fin S1024x2048.rank → ℕ) a + S256x2048.size a := by
      intro a
      match a with
      | ⟨0, _⟩ => show 0 ≤ r.val ∧ r.val < 0 + 256; omega
      | ⟨1, _⟩ => show 0 ≤ j.val ∧ j.val < 0 + 2048; omega
    rw [dif_pos hh, if_pos h]
    have hl : Rect.unitLocal (s := S1024x2048) (off := ![0, 0]) (size := S256x2048.size) (ix2 r j) hh = ix2 (n0 := 256) (n1 := 2048) ⟨r.val - 0, by omega⟩ j := by
      funext a
      match a with
      | ⟨0, _⟩ => rfl
      | ⟨1, _⟩ => rfl
    have hk : ∀ k : Fin 2048, (Rect.unit (s := S1024x2048) ![0, 0] S256x2048.size inb_S1024x2048_S256x2048_0_0).emb (ix2 (n0 := 256) (n1 := 2048) ⟨r.val - 0, by omega⟩ k) = ix2 r k := by
      intro k
      funext a
      match a with
      | ⟨0, _⟩ => exact Fin.ext (show 0 + 1 * (r.val - 0) = r.val by omega)
      | ⟨1, _⟩ => exact Fin.ext (show 0 + 1 * k.val = k.val by omega)
    rw [hl, View.ld_unit_zero (by funext a; fin_cases a <;> rfl), View.ld_unit_zero (by funext a; fin_cases a <;> rfl), View.ld_unit_zero (by funext a; fin_cases a <;> rfl)]
    refine (pay8_at x1 x2 x3 _ _ _ j).trans ?_
    unfold P
    refine congrArg₂ (· + ·) (congrArg X (hk j)) (Finset.sum_congr rfl fun l _ => ?_)
    refine congrArg (fun f => Rows.gated f _ _ * _) (funext fun k => congrArg x0 (hk k))
  · rw [if_neg h, dif_neg]
    intro hh
    have h0 := hh 0
    have h0 : 0 ≤ r.val ∧ r.val < 0 + 256 := h0
    exact h (by omega)
theorem cond2_iff (v8 v10 : BitVec 32) : k0_cond2 v8 v10 = 1#1 ↔ v8 = 0#32 ∧ v10 = 1#32 := by
  unfold k0_cond2
  exact (Scalar.guard_iff _).trans (IntOp.andi_eq_one.trans (and_congr IntOp.cmpi_eq IntOp.cmpi_eq))

theorem pay9_at (acc : FVec Ideal S512x2048 .f32) (xb : FVec Ideal S512x2048 .bf16) (r : Fin 512) (j : Fin 2048) :
    (k0_pay9 (F := Ideal) acc xb x1 x2 x3 : FVec Ideal S512x2048 .f32) (ix2 r j)
      = acc (ix2 r j) + ∑ l : Fin 512, Rows.gated (fun k => xb (ix2 r k)) (fun k => x1 (ix4 0 0 k l)) (fun k => x2 (ix4 0 0 k l)) * x3 (ix4 0 0 l j) := by
  pointwise [k0_pay9]
  rfl
/-- The part for 2 blocks of 256 rows from row 0, element by element. -/
theorem upd3_at (r : Fin 1024) (j : Fin 2048) : upd3 (F := Ideal) x0 x1 x2 x3 X (ix2 r j)
    = if 256 * 0 ≤ r.val ∧ r.val < 256 * (0 + 2) then X (ix2 r j) + P x0 x1 x2 x3 r j else X (ix2 r j) := by
  unfold upd3
  by_cases h : 256 * 0 ≤ r.val ∧ r.val < 256 * (0 + 2)
  · have hr := r.isLt
    have hj := j.isLt
    have hh : ∀ a, (![0, 0] : Fin S1024x2048.rank → ℕ) a ≤ ((ix2 r j : S1024x2048.Idx) a).val ∧ ((ix2 r j : S1024x2048.Idx) a).val < (![0, 0] : Fin S1024x2048.rank → ℕ) a + S512x2048.size a := by
      intro a
      match a with
      | ⟨0, _⟩ => show 0 ≤ r.val ∧ r.val < 0 + 512; omega
      | ⟨1, _⟩ => show 0 ≤ j.val ∧ j.val < 0 + 2048; omega
    rw [dif_pos hh, if_pos h]
    have hl : Rect.unitLocal (s := S1024x2048) (off := ![0, 0]) (size := S512x2048.size) (ix2 r j) hh = ix2 (n0 := 512) (n1 := 2048) ⟨r.val - 0, by omega⟩ j := by
      funext a
      match a with
      | ⟨0, _⟩ => rfl
      | ⟨1, _⟩ => rfl
    have hk : ∀ k : Fin 2048, (Rect.unit (s := S1024x2048) ![0, 0] S512x2048.size inb_S1024x2048_S512x2048_0_0).emb (ix2 (n0 := 512) (n1 := 2048) ⟨r.val - 0, by omega⟩ k) = ix2 r k := by
      intro k
      funext a
      match a with
      | ⟨0, _⟩ => exact Fin.ext (show 0 + 1 * (r.val - 0) = r.val by omega)
      | ⟨1, _⟩ => exact Fin.ext (show 0 + 1 * k.val = k.val by omega)
    rw [hl, View.ld_unit_zero (by funext a; fin_cases a <;> rfl), View.ld_unit_zero (by funext a; fin_cases a <;> rfl), View.ld_unit_zero (by funext a; fin_cases a <;> rfl)]
    refine (pay9_at x1 x2 x3 _ _ _ j).trans ?_
    unfold P
    refine congrArg₂ (· + ·) (congrArg X (hk j)) (Finset.sum_congr rfl fun l _ => ?_)
    refine congrArg (fun f => Rows.gated f _ _ * _) (funext fun k => congrArg x0 (hk k))
  · rw [if_neg h, dif_neg]
    intro hh
    have h0 := hh 0
    have h0 : 0 ≤ r.val ∧ r.val < 0 + 512 := h0
    exact h (by omega)
theorem cond3_iff (v8 v10 : BitVec 32) : k0_cond3 v8 v10 = 1#1 ↔ v8 = 0#32 ∧ v10 = 2#32 := by
  unfold k0_cond3
  exact (Scalar.guard_iff _).trans (IntOp.andi_eq_one.trans (and_congr IntOp.cmpi_eq IntOp.cmpi_eq))

theorem pay10_at (acc : FVec Ideal S768x2048 .f32) (xb : FVec Ideal S768x2048 .bf16) (r : Fin 768) (j : Fin 2048) :
    (k0_pay10 (F := Ideal) acc xb x1 x2 x3 : FVec Ideal S768x2048 .f32) (ix2 r j)
      = acc (ix2 r j) + ∑ l : Fin 512, Rows.gated (fun k => xb (ix2 r k)) (fun k => x1 (ix4 0 0 k l)) (fun k => x2 (ix4 0 0 k l)) * x3 (ix4 0 0 l j) := by
  pointwise [k0_pay10]
  rfl
/-- The part for 3 blocks of 256 rows from row 0, element by element. -/
theorem upd4_at (r : Fin 1024) (j : Fin 2048) : upd4 (F := Ideal) x0 x1 x2 x3 X (ix2 r j)
    = if 256 * 0 ≤ r.val ∧ r.val < 256 * (0 + 3) then X (ix2 r j) + P x0 x1 x2 x3 r j else X (ix2 r j) := by
  unfold upd4
  by_cases h : 256 * 0 ≤ r.val ∧ r.val < 256 * (0 + 3)
  · have hr := r.isLt
    have hj := j.isLt
    have hh : ∀ a, (![0, 0] : Fin S1024x2048.rank → ℕ) a ≤ ((ix2 r j : S1024x2048.Idx) a).val ∧ ((ix2 r j : S1024x2048.Idx) a).val < (![0, 0] : Fin S1024x2048.rank → ℕ) a + S768x2048.size a := by
      intro a
      match a with
      | ⟨0, _⟩ => show 0 ≤ r.val ∧ r.val < 0 + 768; omega
      | ⟨1, _⟩ => show 0 ≤ j.val ∧ j.val < 0 + 2048; omega
    rw [dif_pos hh, if_pos h]
    have hl : Rect.unitLocal (s := S1024x2048) (off := ![0, 0]) (size := S768x2048.size) (ix2 r j) hh = ix2 (n0 := 768) (n1 := 2048) ⟨r.val - 0, by omega⟩ j := by
      funext a
      match a with
      | ⟨0, _⟩ => rfl
      | ⟨1, _⟩ => rfl
    have hk : ∀ k : Fin 2048, (Rect.unit (s := S1024x2048) ![0, 0] S768x2048.size inb_S1024x2048_S768x2048_0_0).emb (ix2 (n0 := 768) (n1 := 2048) ⟨r.val - 0, by omega⟩ k) = ix2 r k := by
      intro k
      funext a
      match a with
      | ⟨0, _⟩ => exact Fin.ext (show 0 + 1 * (r.val - 0) = r.val by omega)
      | ⟨1, _⟩ => exact Fin.ext (show 0 + 1 * k.val = k.val by omega)
    rw [hl, View.ld_unit_zero (by funext a; fin_cases a <;> rfl), View.ld_unit_zero (by funext a; fin_cases a <;> rfl), View.ld_unit_zero (by funext a; fin_cases a <;> rfl)]
    refine (pay10_at x1 x2 x3 _ _ _ j).trans ?_
    unfold P
    refine congrArg₂ (· + ·) (congrArg X (hk j)) (Finset.sum_congr rfl fun l _ => ?_)
    refine congrArg (fun f => Rows.gated f _ _ * _) (funext fun k => congrArg x0 (hk k))
  · rw [if_neg h, dif_neg]
    intro hh
    have h0 := hh 0
    have h0 : 0 ≤ r.val ∧ r.val < 0 + 768 := h0
    exact h (by omega)
theorem cond4_iff (v8 v10 : BitVec 32) : k0_cond4 v8 v10 = 1#1 ↔ v8 = 0#32 ∧ v10 = 3#32 := by
  unfold k0_cond4
  exact (Scalar.guard_iff _).trans (IntOp.andi_eq_one.trans (and_congr IntOp.cmpi_eq IntOp.cmpi_eq))

theorem pay11_at (acc : FVec Ideal S1024x2048 .f32) (xb : FVec Ideal S1024x2048 .bf16) (r : Fin 1024) (j : Fin 2048) :
    (k0_pay11 (F := Ideal) acc xb x1 x2 x3 : FVec Ideal S1024x2048 .f32) (ix2 r j)
      = acc (ix2 r j) + ∑ l : Fin 512, Rows.gated (fun k => xb (ix2 r k)) (fun k => x1 (ix4 0 0 k l)) (fun k => x2 (ix4 0 0 k l)) * x3 (ix4 0 0 l j) := by
  pointwise [k0_pay11]
  rfl
/-- The part for 4 blocks of 256 rows from row 0, element by element. -/
theorem upd5_at (r : Fin 1024) (j : Fin 2048) : upd5 (F := Ideal) x0 x1 x2 x3 X (ix2 r j)
    = if 256 * 0 ≤ r.val ∧ r.val < 256 * (0 + 4) then X (ix2 r j) + P x0 x1 x2 x3 r j else X (ix2 r j) := by
  unfold upd5
  by_cases h : 256 * 0 ≤ r.val ∧ r.val < 256 * (0 + 4)
  · have hr := r.isLt
    have hj := j.isLt
    have hh : ∀ a, (![0, 0] : Fin S1024x2048.rank → ℕ) a ≤ ((ix2 r j : S1024x2048.Idx) a).val ∧ ((ix2 r j : S1024x2048.Idx) a).val < (![0, 0] : Fin S1024x2048.rank → ℕ) a + S1024x2048.size a := by
      intro a
      match a with
      | ⟨0, _⟩ => show 0 ≤ r.val ∧ r.val < 0 + 1024; omega
      | ⟨1, _⟩ => show 0 ≤ j.val ∧ j.val < 0 + 2048; omega
    rw [dif_pos hh, if_pos h]
    have hl : Rect.unitLocal (s := S1024x2048) (off := ![0, 0]) (size := S1024x2048.size) (ix2 r j) hh = ix2 (n0 := 1024) (n1 := 2048) ⟨r.val - 0, by omega⟩ j := by
      funext a
      match a with
      | ⟨0, _⟩ => rfl
      | ⟨1, _⟩ => rfl
    have hk : ∀ k : Fin 2048, (Rect.unit (s := S1024x2048) ![0, 0] S1024x2048.size inb_S1024x2048_S1024x2048_0_0).emb (ix2 (n0 := 1024) (n1 := 2048) ⟨r.val - 0, by omega⟩ k) = ix2 r k := by
      intro k
      funext a
      match a with
      | ⟨0, _⟩ => exact Fin.ext (show 0 + 1 * (r.val - 0) = r.val by omega)
      | ⟨1, _⟩ => exact Fin.ext (show 0 + 1 * k.val = k.val by omega)
    rw [hl, View.ld_unit_zero (by funext a; fin_cases a <;> rfl), View.ld_unit_zero (by funext a; fin_cases a <;> rfl), View.ld_unit_zero (by funext a; fin_cases a <;> rfl), View.ld_unit_zero (by funext a; fin_cases a <;> rfl), View.ld_unit_zero (by funext a; fin_cases a <;> rfl)]
    refine (pay11_at x1 x2 x3 _ _ _ j).trans ?_
    unfold P
    refine congrArg₂ (· + ·) (rfl) (Finset.sum_congr rfl fun l _ => ?_)
    refine congrArg (fun f => Rows.gated f _ _ * _) (funext fun k => rfl)
  · rw [if_neg h, dif_neg]
    intro hh
    have h0 := hh 0
    have h0 : 0 ≤ r.val ∧ r.val < 0 + 1024 := h0
    exact h (by omega)
theorem cond5_iff (v8 v10 : BitVec 32) : k0_cond5 v8 v10 = 1#1 ↔ v8 = 0#32 ∧ v10 = 4#32 := by
  unfold k0_cond5
  exact (Scalar.guard_iff _).trans (IntOp.andi_eq_one.trans (and_congr IntOp.cmpi_eq IntOp.cmpi_eq))

theorem pay1_at (acc : FVec Ideal S256x2048 .f32) (xb : FVec Ideal S256x2048 .bf16) (r : Fin 256) (j : Fin 2048) :
    (k0_pay1 (F := Ideal) acc xb x1 x2 x3 : FVec Ideal S256x2048 .f32) (ix2 r j)
      = acc (ix2 r j) + ∑ l : Fin 512, Rows.gated (fun k => xb (ix2 r k)) (fun k => x1 (ix4 0 0 k l)) (fun k => x2 (ix4 0 0 k l)) * x3 (ix4 0 0 l j) := by
  pointwise [k0_pay1]
  rfl
/-- The part for 1 blocks of 256 rows from row 256, element by element. -/
theorem upd6_at (r : Fin 1024) (j : Fin 2048) : upd6 (F := Ideal) x0 x1 x2 x3 X (ix2 r j)
    = if 256 * 1 ≤ r.val ∧ r.val < 256 * (1 + 1) then X (ix2 r j) + P x0 x1 x2 x3 r j else X (ix2 r j) := by
  unfold upd6
  by_cases h : 256 * 1 ≤ r.val ∧ r.val < 256 * (1 + 1)
  · have hr := r.isLt
    have hj := j.isLt
    have hh : ∀ a, (![256, 0] : Fin S1024x2048.rank → ℕ) a ≤ ((ix2 r j : S1024x2048.Idx) a).val ∧ ((ix2 r j : S1024x2048.Idx) a).val < (![256, 0] : Fin S1024x2048.rank → ℕ) a + S256x2048.size a := by
      intro a
      match a with
      | ⟨0, _⟩ => show 256 ≤ r.val ∧ r.val < 256 + 256; omega
      | ⟨1, _⟩ => show 0 ≤ j.val ∧ j.val < 0 + 2048; omega
    rw [dif_pos hh, if_pos h]
    have hl : Rect.unitLocal (s := S1024x2048) (off := ![256, 0]) (size := S256x2048.size) (ix2 r j) hh = ix2 (n0 := 256) (n1 := 2048) ⟨r.val - 256, by omega⟩ j := by
      funext a
      match a with
      | ⟨0, _⟩ => rfl
      | ⟨1, _⟩ => rfl
    have hk : ∀ k : Fin 2048, (Rect.unit (s := S1024x2048) ![256, 0] S256x2048.size inb_S1024x2048_S256x2048_256_0).emb (ix2 (n0 := 256) (n1 := 2048) ⟨r.val - 256, by omega⟩ k) = ix2 r k := by
      intro k
      funext a
      match a with
      | ⟨0, _⟩ => exact Fin.ext (show 256 + 1 * (r.val - 256) = r.val by omega)
      | ⟨1, _⟩ => exact Fin.ext (show 0 + 1 * k.val = k.val by omega)
    rw [hl, View.ld_unit_zero (by funext a; fin_cases a <;> rfl), View.ld_unit_zero (by funext a; fin_cases a <;> rfl), View.ld_unit_zero (by funext a; fin_cases a <;> rfl)]
    refine (pay1_at x1 x2 x3 _ _ _ j).trans ?_
    unfold P
    refine congrArg₂ (· + ·) (congrArg X (hk j)) (Finset.sum_congr rfl fun l _ => ?_)
    refine congrArg (fun f => Rows.gated f _ _ * _) (funext fun k => congrArg x0 (hk k))
  · rw [if_neg h, dif_neg]
    intro hh
    have h0 := hh 0
    have h0 : 256 ≤ r.val ∧ r.val < 256 + 256 := h0
    exact h (by omega)
theorem cond6_iff (v8 v10 : BitVec 32) : k0_cond6 v8 v10 = 1#1 ↔ v8 = 1#32 ∧ v10 = 1#32 := by
  unfold k0_cond6
  exact (Scalar.guard_iff _).trans (IntOp.andi_eq_one.trans (and_congr IntOp.cmpi_eq IntOp.cmpi_eq))

theorem pay2_at (acc : FVec Ideal S512x2048 .f32) (xb : FVec Ideal S512x2048 .bf16) (r : Fin 512) (j : Fin 2048) :
    (k0_pay2 (F := Ideal) acc xb x1 x2 x3 : FVec Ideal S512x2048 .f32) (ix2 r j)
      = acc (ix2 r j) + ∑ l : Fin 512, Rows.gated (fun k => xb (ix2 r k)) (fun k => x1 (ix4 0 0 k l)) (fun k => x2 (ix4 0 0 k l)) * x3 (ix4 0 0 l j) := by
  pointwise [k0_pay2]
  rfl
/-- The part for 2 blocks of 256 rows from row 256, element by element. -/
theorem upd7_at (r : Fin 1024) (j : Fin 2048) : upd7 (F := Ideal) x0 x1 x2 x3 X (ix2 r j)
    = if 256 * 1 ≤ r.val ∧ r.val < 256 * (1 + 2) then X (ix2 r j) + P x0 x1 x2 x3 r j else X (ix2 r j) := by
  unfold upd7
  by_cases h : 256 * 1 ≤ r.val ∧ r.val < 256 * (1 + 2)
  · have hr := r.isLt
    have hj := j.isLt
    have hh : ∀ a, (![256, 0] : Fin S1024x2048.rank → ℕ) a ≤ ((ix2 r j : S1024x2048.Idx) a).val ∧ ((ix2 r j : S1024x2048.Idx) a).val < (![256, 0] : Fin S1024x2048.rank → ℕ) a + S512x2048.size a := by
      intro a
      match a with
      | ⟨0, _⟩ => show 256 ≤ r.val ∧ r.val < 256 + 512; omega
      | ⟨1, _⟩ => show 0 ≤ j.val ∧ j.val < 0 + 2048; omega
    rw [dif_pos hh, if_pos h]
    have hl : Rect.unitLocal (s := S1024x2048) (off := ![256, 0]) (size := S512x2048.size) (ix2 r j) hh = ix2 (n0 := 512) (n1 := 2048) ⟨r.val - 256, by omega⟩ j := by
      funext a
      match a with
      | ⟨0, _⟩ => rfl
      | ⟨1, _⟩ => rfl
    have hk : ∀ k : Fin 2048, (Rect.unit (s := S1024x2048) ![256, 0] S512x2048.size inb_S1024x2048_S512x2048_256_0).emb (ix2 (n0 := 512) (n1 := 2048) ⟨r.val - 256, by omega⟩ k) = ix2 r k := by
      intro k
      funext a
      match a with
      | ⟨0, _⟩ => exact Fin.ext (show 256 + 1 * (r.val - 256) = r.val by omega)
      | ⟨1, _⟩ => exact Fin.ext (show 0 + 1 * k.val = k.val by omega)
    rw [hl, View.ld_unit_zero (by funext a; fin_cases a <;> rfl), View.ld_unit_zero (by funext a; fin_cases a <;> rfl), View.ld_unit_zero (by funext a; fin_cases a <;> rfl)]
    refine (pay2_at x1 x2 x3 _ _ _ j).trans ?_
    unfold P
    refine congrArg₂ (· + ·) (congrArg X (hk j)) (Finset.sum_congr rfl fun l _ => ?_)
    refine congrArg (fun f => Rows.gated f _ _ * _) (funext fun k => congrArg x0 (hk k))
  · rw [if_neg h, dif_neg]
    intro hh
    have h0 := hh 0
    have h0 : 256 ≤ r.val ∧ r.val < 256 + 512 := h0
    exact h (by omega)
theorem cond7_iff (v8 v10 : BitVec 32) : k0_cond7 v8 v10 = 1#1 ↔ v8 = 1#32 ∧ v10 = 2#32 := by
  unfold k0_cond7
  exact (Scalar.guard_iff _).trans (IntOp.andi_eq_one.trans (and_congr IntOp.cmpi_eq IntOp.cmpi_eq))

theorem pay3_at (acc : FVec Ideal S768x2048 .f32) (xb : FVec Ideal S768x2048 .bf16) (r : Fin 768) (j : Fin 2048) :
    (k0_pay3 (F := Ideal) acc xb x1 x2 x3 : FVec Ideal S768x2048 .f32) (ix2 r j)
      = acc (ix2 r j) + ∑ l : Fin 512, Rows.gated (fun k => xb (ix2 r k)) (fun k => x1 (ix4 0 0 k l)) (fun k => x2 (ix4 0 0 k l)) * x3 (ix4 0 0 l j) := by
  pointwise [k0_pay3]
  rfl
/-- The part for 3 blocks of 256 rows from row 256, element by element. -/
theorem upd8_at (r : Fin 1024) (j : Fin 2048) : upd8 (F := Ideal) x0 x1 x2 x3 X (ix2 r j)
    = if 256 * 1 ≤ r.val ∧ r.val < 256 * (1 + 3) then X (ix2 r j) + P x0 x1 x2 x3 r j else X (ix2 r j) := by
  unfold upd8
  by_cases h : 256 * 1 ≤ r.val ∧ r.val < 256 * (1 + 3)
  · have hr := r.isLt
    have hj := j.isLt
    have hh : ∀ a, (![256, 0] : Fin S1024x2048.rank → ℕ) a ≤ ((ix2 r j : S1024x2048.Idx) a).val ∧ ((ix2 r j : S1024x2048.Idx) a).val < (![256, 0] : Fin S1024x2048.rank → ℕ) a + S768x2048.size a := by
      intro a
      match a with
      | ⟨0, _⟩ => show 256 ≤ r.val ∧ r.val < 256 + 768; omega
      | ⟨1, _⟩ => show 0 ≤ j.val ∧ j.val < 0 + 2048; omega
    rw [dif_pos hh, if_pos h]
    have hl : Rect.unitLocal (s := S1024x2048) (off := ![256, 0]) (size := S768x2048.size) (ix2 r j) hh = ix2 (n0 := 768) (n1 := 2048) ⟨r.val - 256, by omega⟩ j := by
      funext a
      match a with
      | ⟨0, _⟩ => rfl
      | ⟨1, _⟩ => rfl
    have hk : ∀ k : Fin 2048, (Rect.unit (s := S1024x2048) ![256, 0] S768x2048.size inb_S1024x2048_S768x2048_256_0).emb (ix2 (n0 := 768) (n1 := 2048) ⟨r.val - 256, by omega⟩ k) = ix2 r k := by
      intro k
      funext a
      match a with
      | ⟨0, _⟩ => exact Fin.ext (show 256 + 1 * (r.val - 256) = r.val by omega)
      | ⟨1, _⟩ => exact Fin.ext (show 0 + 1 * k.val = k.val by omega)
    rw [hl, View.ld_unit_zero (by funext a; fin_cases a <;> rfl), View.ld_unit_zero (by funext a; fin_cases a <;> rfl), View.ld_unit_zero (by funext a; fin_cases a <;> rfl)]
    refine (pay3_at x1 x2 x3 _ _ _ j).trans ?_
    unfold P
    refine congrArg₂ (· + ·) (congrArg X (hk j)) (Finset.sum_congr rfl fun l _ => ?_)
    refine congrArg (fun f => Rows.gated f _ _ * _) (funext fun k => congrArg x0 (hk k))
  · rw [if_neg h, dif_neg]
    intro hh
    have h0 := hh 0
    have h0 : 256 ≤ r.val ∧ r.val < 256 + 768 := h0
    exact h (by omega)
theorem cond8_iff (v8 v10 : BitVec 32) : k0_cond8 v8 v10 = 1#1 ↔ v8 = 1#32 ∧ v10 = 3#32 := by
  unfold k0_cond8
  exact (Scalar.guard_iff _).trans (IntOp.andi_eq_one.trans (and_congr IntOp.cmpi_eq IntOp.cmpi_eq))

theorem pay4_at (acc : FVec Ideal S256x2048 .f32) (xb : FVec Ideal S256x2048 .bf16) (r : Fin 256) (j : Fin 2048) :
    (k0_pay4 (F := Ideal) acc xb x1 x2 x3 : FVec Ideal S256x2048 .f32) (ix2 r j)
      = acc (ix2 r j) + ∑ l : Fin 512, Rows.gated (fun k => xb (ix2 r k)) (fun k => x1 (ix4 0 0 k l)) (fun k => x2 (ix4 0 0 k l)) * x3 (ix4 0 0 l j) := by
  pointwise [k0_pay4]
  rfl
/-- The part for 1 blocks of 256 rows from row 512, element by element. -/
theorem upd9_at (r : Fin 1024) (j : Fin 2048) : upd9 (F := Ideal) x0 x1 x2 x3 X (ix2 r j)
    = if 256 * 2 ≤ r.val ∧ r.val < 256 * (2 + 1) then X (ix2 r j) + P x0 x1 x2 x3 r j else X (ix2 r j) := by
  unfold upd9
  by_cases h : 256 * 2 ≤ r.val ∧ r.val < 256 * (2 + 1)
  · have hr := r.isLt
    have hj := j.isLt
    have hh : ∀ a, (![512, 0] : Fin S1024x2048.rank → ℕ) a ≤ ((ix2 r j : S1024x2048.Idx) a).val ∧ ((ix2 r j : S1024x2048.Idx) a).val < (![512, 0] : Fin S1024x2048.rank → ℕ) a + S256x2048.size a := by
      intro a
      match a with
      | ⟨0, _⟩ => show 512 ≤ r.val ∧ r.val < 512 + 256; omega
      | ⟨1, _⟩ => show 0 ≤ j.val ∧ j.val < 0 + 2048; omega
    rw [dif_pos hh, if_pos h]
    have hl : Rect.unitLocal (s := S1024x2048) (off := ![512, 0]) (size := S256x2048.size) (ix2 r j) hh = ix2 (n0 := 256) (n1 := 2048) ⟨r.val - 512, by omega⟩ j := by
      funext a
      match a with
      | ⟨0, _⟩ => rfl
      | ⟨1, _⟩ => rfl
    have hk : ∀ k : Fin 2048, (Rect.unit (s := S1024x2048) ![512, 0] S256x2048.size inb_S1024x2048_S256x2048_512_0).emb (ix2 (n0 := 256) (n1 := 2048) ⟨r.val - 512, by omega⟩ k) = ix2 r k := by
      intro k
      funext a
      match a with
      | ⟨0, _⟩ => exact Fin.ext (show 512 + 1 * (r.val - 512) = r.val by omega)
      | ⟨1, _⟩ => exact Fin.ext (show 0 + 1 * k.val = k.val by omega)
    rw [hl, View.ld_unit_zero (by funext a; fin_cases a <;> rfl), View.ld_unit_zero (by funext a; fin_cases a <;> rfl), View.ld_unit_zero (by funext a; fin_cases a <;> rfl)]
    refine (pay4_at x1 x2 x3 _ _ _ j).trans ?_
    unfold P
    refine congrArg₂ (· + ·) (congrArg X (hk j)) (Finset.sum_congr rfl fun l _ => ?_)
    refine congrArg (fun f => Rows.gated f _ _ * _) (funext fun k => congrArg x0 (hk k))
  · rw [if_neg h, dif_neg]
    intro hh
    have h0 := hh 0
    have h0 : 512 ≤ r.val ∧ r.val < 512 + 256 := h0
    exact h (by omega)
theorem cond9_iff (v8 v10 : BitVec 32) : k0_cond9 v8 v10 = 1#1 ↔ v8 = 2#32 ∧ v10 = 1#32 := by
  unfold k0_cond9
  exact (Scalar.guard_iff _).trans (IntOp.andi_eq_one.trans (and_congr IntOp.cmpi_eq IntOp.cmpi_eq))

theorem pay5_at (acc : FVec Ideal S512x2048 .f32) (xb : FVec Ideal S512x2048 .bf16) (r : Fin 512) (j : Fin 2048) :
    (k0_pay5 (F := Ideal) acc xb x1 x2 x3 : FVec Ideal S512x2048 .f32) (ix2 r j)
      = acc (ix2 r j) + ∑ l : Fin 512, Rows.gated (fun k => xb (ix2 r k)) (fun k => x1 (ix4 0 0 k l)) (fun k => x2 (ix4 0 0 k l)) * x3 (ix4 0 0 l j) := by
  pointwise [k0_pay5]
  rfl
/-- The part for 2 blocks of 256 rows from row 512, element by element. -/
theorem upd10_at (r : Fin 1024) (j : Fin 2048) : upd10 (F := Ideal) x0 x1 x2 x3 X (ix2 r j)
    = if 256 * 2 ≤ r.val ∧ r.val < 256 * (2 + 2) then X (ix2 r j) + P x0 x1 x2 x3 r j else X (ix2 r j) := by
  unfold upd10
  by_cases h : 256 * 2 ≤ r.val ∧ r.val < 256 * (2 + 2)
  · have hr := r.isLt
    have hj := j.isLt
    have hh : ∀ a, (![512, 0] : Fin S1024x2048.rank → ℕ) a ≤ ((ix2 r j : S1024x2048.Idx) a).val ∧ ((ix2 r j : S1024x2048.Idx) a).val < (![512, 0] : Fin S1024x2048.rank → ℕ) a + S512x2048.size a := by
      intro a
      match a with
      | ⟨0, _⟩ => show 512 ≤ r.val ∧ r.val < 512 + 512; omega
      | ⟨1, _⟩ => show 0 ≤ j.val ∧ j.val < 0 + 2048; omega
    rw [dif_pos hh, if_pos h]
    have hl : Rect.unitLocal (s := S1024x2048) (off := ![512, 0]) (size := S512x2048.size) (ix2 r j) hh = ix2 (n0 := 512) (n1 := 2048) ⟨r.val - 512, by omega⟩ j := by
      funext a
      match a with
      | ⟨0, _⟩ => rfl
      | ⟨1, _⟩ => rfl
    have hk : ∀ k : Fin 2048, (Rect.unit (s := S1024x2048) ![512, 0] S512x2048.size inb_S1024x2048_S512x2048_512_0).emb (ix2 (n0 := 512) (n1 := 2048) ⟨r.val - 512, by omega⟩ k) = ix2 r k := by
      intro k
      funext a
      match a with
      | ⟨0, _⟩ => exact Fin.ext (show 512 + 1 * (r.val - 512) = r.val by omega)
      | ⟨1, _⟩ => exact Fin.ext (show 0 + 1 * k.val = k.val by omega)
    rw [hl, View.ld_unit_zero (by funext a; fin_cases a <;> rfl), View.ld_unit_zero (by funext a; fin_cases a <;> rfl), View.ld_unit_zero (by funext a; fin_cases a <;> rfl)]
    refine (pay5_at x1 x2 x3 _ _ _ j).trans ?_
    unfold P
    refine congrArg₂ (· + ·) (congrArg X (hk j)) (Finset.sum_congr rfl fun l _ => ?_)
    refine congrArg (fun f => Rows.gated f _ _ * _) (funext fun k => congrArg x0 (hk k))
  · rw [if_neg h, dif_neg]
    intro hh
    have h0 := hh 0
    have h0 : 512 ≤ r.val ∧ r.val < 512 + 512 := h0
    exact h (by omega)
theorem cond10_iff (v8 v10 : BitVec 32) : k0_cond10 v8 v10 = 1#1 ↔ v8 = 2#32 ∧ v10 = 2#32 := by
  unfold k0_cond10
  exact (Scalar.guard_iff _).trans (IntOp.andi_eq_one.trans (and_congr IntOp.cmpi_eq IntOp.cmpi_eq))

theorem pay6_at (acc : FVec Ideal S256x2048 .f32) (xb : FVec Ideal S256x2048 .bf16) (r : Fin 256) (j : Fin 2048) :
    (k0_pay6 (F := Ideal) acc xb x1 x2 x3 : FVec Ideal S256x2048 .f32) (ix2 r j)
      = acc (ix2 r j) + ∑ l : Fin 512, Rows.gated (fun k => xb (ix2 r k)) (fun k => x1 (ix4 0 0 k l)) (fun k => x2 (ix4 0 0 k l)) * x3 (ix4 0 0 l j) := by
  pointwise [k0_pay6]
  rfl
/-- The part for 1 blocks of 256 rows from row 768, element by element. -/
theorem upd11_at (r : Fin 1024) (j : Fin 2048) : upd11 (F := Ideal) x0 x1 x2 x3 X (ix2 r j)
    = if 256 * 3 ≤ r.val ∧ r.val < 256 * (3 + 1) then X (ix2 r j) + P x0 x1 x2 x3 r j else X (ix2 r j) := by
  unfold upd11
  by_cases h : 256 * 3 ≤ r.val ∧ r.val < 256 * (3 + 1)
  · have hr := r.isLt
    have hj := j.isLt
    have hh : ∀ a, (![768, 0] : Fin S1024x2048.rank → ℕ) a ≤ ((ix2 r j : S1024x2048.Idx) a).val ∧ ((ix2 r j : S1024x2048.Idx) a).val < (![768, 0] : Fin S1024x2048.rank → ℕ) a + S256x2048.size a := by
      intro a
      match a with
      | ⟨0, _⟩ => show 768 ≤ r.val ∧ r.val < 768 + 256; omega
      | ⟨1, _⟩ => show 0 ≤ j.val ∧ j.val < 0 + 2048; omega
    rw [dif_pos hh, if_pos h]
    have hl : Rect.unitLocal (s := S1024x2048) (off := ![768, 0]) (size := S256x2048.size) (ix2 r j) hh = ix2 (n0 := 256) (n1 := 2048) ⟨r.val - 768, by omega⟩ j := by
      funext a
      match a with
      | ⟨0, _⟩ => rfl
      | ⟨1, _⟩ => rfl
    have hk : ∀ k : Fin 2048, (Rect.unit (s := S1024x2048) ![768, 0] S256x2048.size inb_S1024x2048_S256x2048_768_0).emb (ix2 (n0 := 256) (n1 := 2048) ⟨r.val - 768, by omega⟩ k) = ix2 r k := by
      intro k
      funext a
      match a with
      | ⟨0, _⟩ => exact Fin.ext (show 768 + 1 * (r.val - 768) = r.val by omega)
      | ⟨1, _⟩ => exact Fin.ext (show 0 + 1 * k.val = k.val by omega)
    rw [hl, View.ld_unit_zero (by funext a; fin_cases a <;> rfl), View.ld_unit_zero (by funext a; fin_cases a <;> rfl), View.ld_unit_zero (by funext a; fin_cases a <;> rfl)]
    refine (pay6_at x1 x2 x3 _ _ _ j).trans ?_
    unfold P
    refine congrArg₂ (· + ·) (congrArg X (hk j)) (Finset.sum_congr rfl fun l _ => ?_)
    refine congrArg (fun f => Rows.gated f _ _ * _) (funext fun k => congrArg x0 (hk k))
  · rw [if_neg h, dif_neg]
    intro hh
    have h0 := hh 0
    have h0 : 768 ≤ r.val ∧ r.val < 768 + 256 := h0
    exact h (by omega)
theorem cond11_iff (v8 v10 : BitVec 32) : k0_cond11 v8 v10 = 1#1 ↔ v8 = 3#32 ∧ v10 = 1#32 := by
  unfold k0_cond11
  exact (Scalar.guard_iff _).trans (IntOp.andi_eq_one.trans (and_congr IntOp.cmpi_eq IntOp.cmpi_eq))

theorem sel1_at (i : grid0.Coords) (v2 : BitVec 32) (y : S1024x2048.Idx) : sel1 (F := Ideal) (k0_cond1 i v2) X y = if (i 1).val = 0 ∧ v2 = 1#32 then 0 else X y := by
  unfold sel1
  by_cases h : (i 1).val = 0 ∧ v2 = 1#32
  · rw [if_pos ((cond1_iff i v2).2 h), if_pos h]; exact pay7_at y
  · rw [if_neg (fun h' => h ((cond1_iff i v2).1 h')), if_neg h]

theorem step_0_0 (i : grid0.Coords) (v2 : BitVec 32) (r : Fin 1024) (j : Fin 2048) : stepW (F := Ideal) i v2 0#32 0#32 x0 x1 x2 x3 X (ix2 r j)
    = (if (i 1).val = 0 ∧ v2 = 1#32 then 0 else X (ix2 r j)) + if 256 * 0 ≤ r.val ∧ r.val < 256 * (0 + 0) then P x0 x1 x2 x3 r j else 0 := by
  unfold stepW sel2 sel3 sel4 sel5 sel6 sel7 sel8 sel9 sel10 sel11
  rw [if_neg (by decide), if_neg (by decide), if_neg (by decide), if_neg (by decide), if_neg (by decide), if_neg (by decide), if_neg (by decide), if_neg (by decide), if_neg (by decide), if_neg (by decide)]
  rw [sel1_at, if_neg (by omega : ¬ (256 * 0 ≤ r.val ∧ r.val < 256 * (0 + 0))), add_zero]

theorem step_0_1 (i : grid0.Coords) (v2 : BitVec 32) (r : Fin 1024) (j : Fin 2048) : stepW (F := Ideal) i v2 0#32 1#32 x0 x1 x2 x3 X (ix2 r j)
    = (if (i 1).val = 0 ∧ v2 = 1#32 then 0 else X (ix2 r j)) + if 256 * 0 ≤ r.val ∧ r.val < 256 * (0 + 1) then P x0 x1 x2 x3 r j else 0 := by
  unfold stepW sel2 sel3 sel4 sel5 sel6 sel7 sel8 sel9 sel10 sel11
  rw [if_neg (by decide), if_neg (by decide), if_neg (by decide), if_neg (by decide), if_neg (by decide), if_neg (by decide), if_neg (by decide), if_neg (by decide), if_neg (by decide), if_pos (by decide)]
  refine (upd2_at x0 x1 x2 x3 _ r j).trans ?_
  rw [sel1_at]
  split
  · rfl
  · rw [add_zero]

theorem step_0_2 (i : grid0.Coords) (v2 : BitVec 32) (r : Fin 1024) (j : Fin 2048) : stepW (F := Ideal) i v2 0#32 2#32 x0 x1 x2 x3 X (ix2 r j)
    = (if (i 1).val = 0 ∧ v2 = 1#32 then 0 else X (ix2 r j)) + if 256 * 0 ≤ r.val ∧ r.val < 256 * (0 + 2) then P x0 x1 x2 x3 r j else 0 := by
  unfold stepW sel2 sel3 sel4 sel5 sel6 sel7 sel8 sel9 sel10 sel11
  rw [if_neg (by decide), if_neg (by decide), if_neg (by decide), if_neg (by decide), if_neg (by decide), if_neg (by decide), if_neg (by decide), if_neg (by decide), if_pos (by decide), if_neg (by decide)]
  refine (upd3_at x0 x1 x2 x3 _ r j).trans ?_
  rw [sel1_at]
  split
  · rfl
  · rw [add_zero]

theorem step_0_3 (i : grid0.Coords) (v2 : BitVec 32) (r : Fin 1024) (j : Fin 2048) : stepW (F := Ideal) i v2 0#32 3#32 x0 x1 x2 x3 X (ix2 r j)
    = (if (i 1).val = 0 ∧ v2 = 1#32 then 0 else X (ix2 r j)) + if 256 * 0 ≤ r.val ∧ r.val < 256 * (0 + 3) then P x0 x1 x2 x3 r j else 0 := by
  unfold stepW sel2 sel3 sel4 sel5 sel6 sel7 sel8 sel9 sel10 sel11
  rw [if_neg (by decide), if_neg (by decide), if_neg (by decide), if_neg (by decide), if_neg (by decide), if_neg (by decide), if_neg (by decide), if_pos (by decide), if_neg (by decide), if_neg (by decide)]
  refine (upd4_at x0 x1 x2 x3 _ r j).trans ?_
  rw [sel1_at]
  split
  · rfl
  · rw [add_zero]

theorem step_0_4 (i : grid0.Coords) (v2 : BitVec 32) (r : Fin 1024) (j : Fin 2048) : stepW (F := Ideal) i v2 0#32 4#32 x0 x1 x2 x3 X (ix2 r j)
    = (if (i 1).val = 0 ∧ v2 = 1#32 then 0 else X (ix2 r j)) + if 256 * 0 ≤ r.val ∧ r.val < 256 * (0 + 4) then P x0 x1 x2 x3 r j else 0 := by
  unfold stepW sel2 sel3 sel4 sel5 sel6 sel7 sel8 sel9 sel10 sel11
  rw [if_neg (by decide), if_neg (by decide), if_neg (by decide), if_neg (by decide), if_neg (by decide), if_neg (by decide), if_pos (by decide), if_neg (by decide), if_neg (by decide), if_neg (by decide)]
  refine (upd5_at x0 x1 x2 x3 _ r j).trans ?_
  rw [sel1_at]
  split
  · rfl
  · rw [add_zero]

theorem step_1_0 (i : grid0.Coords) (v2 : BitVec 32) (r : Fin 1024) (j : Fin 2048) : stepW (F := Ideal) i v2 1#32 0#32 x0 x1 x2 x3 X (ix2 r j)
    = (if (i 1).val = 0 ∧ v2 = 1#32 then 0 else X (ix2 r j)) + if 256 * 1 ≤ r.val ∧ r.val < 256 * (1 + 0) then P x0 x1 x2 x3 r j else 0 := by
  unfold stepW sel2 sel3 sel4 sel5 sel6 sel7 sel8 sel9 sel10 sel11
  rw [if_neg (by decide), if_neg (by decide), if_neg (by decide), if_neg (by decide), if_neg (by decide), if_neg (by decide), if_neg (by decide), if_neg (by decide), if_neg (by decide), if_neg (by decide)]
  rw [sel1_at, if_neg (by omega : ¬ (256 * 1 ≤ r.val ∧ r.val < 256 * (1 + 0))), add_zero]

theorem step_1_1 (i : grid0.Coords) (v2 : BitVec 32) (r : Fin 1024) (j : Fin 2048) : stepW (F := Ideal) i v2 1#32 1#32 x0 x1 x2 x3 X (ix2 r j)
    = (if (i 1).val = 0 ∧ v2 = 1#32 then 0 else X (ix2 r j)) + if 256 * 1 ≤ r.val ∧ r.val < 256 * (1 + 1) then P x0 x1 x2 x3 r j else 0 := by
  unfold stepW sel2 sel3 sel4 sel5 sel6 sel7 sel8 sel9 sel10 sel11
  rw [if_neg (by decide), if_neg (by decide), if_neg (by decide), if_neg (by decide), if_neg (by decide), if_pos (by decide), if_neg (by decide), if_neg (by decide), if_neg (by decide), if_neg (by decide)]
  refine (upd6_at x0 x1 x2 x3 _ r j).trans ?_
  rw [sel1_at]
  split
  · rfl
  · rw [add_zero]

theorem step_1_2 (i : grid0.Coords) (v2 : BitVec 32) (r : Fin 1024) (j : Fin 2048) : stepW (F := Ideal) i v2 1#32 2#32 x0 x1 x2 x3 X (ix2 r j)
    = (if (i 1).val = 0 ∧ v2 = 1#32 then 0 else X (ix2 r j)) + if 256 * 1 ≤ r.val ∧ r.val < 256 * (1 + 2) then P x0 x1 x2 x3 r j else 0 := by
  unfold stepW sel2 sel3 sel4 sel5 sel6 sel7 sel8 sel9 sel10 sel11
  rw [if_neg (by decide), if_neg (by decide), if_neg (by decide), if_neg (by decide), if_pos (by decide), if_neg (by decide), if_neg (by decide), if_neg (by decide), if_neg (by decide), if_neg (by decide)]
  refine (upd7_at x0 x1 x2 x3 _ r j).trans ?_
  rw [sel1_at]
  split
  · rfl
  · rw [add_zero]

theorem step_1_3 (i : grid0.Coords) (v2 : BitVec 32) (r : Fin 1024) (j : Fin 2048) : stepW (F := Ideal) i v2 1#32 3#32 x0 x1 x2 x3 X (ix2 r j)
    = (if (i 1).val = 0 ∧ v2 = 1#32 then 0 else X (ix2 r j)) + if 256 * 1 ≤ r.val ∧ r.val < 256 * (1 + 3) then P x0 x1 x2 x3 r j else 0 := by
  unfold stepW sel2 sel3 sel4 sel5 sel6 sel7 sel8 sel9 sel10 sel11
  rw [if_neg (by decide), if_neg (by decide), if_neg (by decide), if_pos (by decide), if_neg (by decide), if_neg (by decide), if_neg (by decide), if_neg (by decide), if_neg (by decide), if_neg (by decide)]
  refine (upd8_at x0 x1 x2 x3 _ r j).trans ?_
  rw [sel1_at]
  split
  · rfl
  · rw [add_zero]

theorem step_2_0 (i : grid0.Coords) (v2 : BitVec 32) (r : Fin 1024) (j : Fin 2048) : stepW (F := Ideal) i v2 2#32 0#32 x0 x1 x2 x3 X (ix2 r j)
    = (if (i 1).val = 0 ∧ v2 = 1#32 then 0 else X (ix2 r j)) + if 256 * 2 ≤ r.val ∧ r.val < 256 * (2 + 0) then P x0 x1 x2 x3 r j else 0 := by
  unfold stepW sel2 sel3 sel4 sel5 sel6 sel7 sel8 sel9 sel10 sel11
  rw [if_neg (by decide), if_neg (by decide), if_neg (by decide), if_neg (by decide), if_neg (by decide), if_neg (by decide), if_neg (by decide), if_neg (by decide), if_neg (by decide), if_neg (by decide)]
  rw [sel1_at, if_neg (by omega : ¬ (256 * 2 ≤ r.val ∧ r.val < 256 * (2 + 0))), add_zero]

theorem step_2_1 (i : grid0.Coords) (v2 : BitVec 32) (r : Fin 1024) (j : Fin 2048) : stepW (F := Ideal) i v2 2#32 1#32 x0 x1 x2 x3 X (ix2 r j)
    = (if (i 1).val = 0 ∧ v2 = 1#32 then 0 else X (ix2 r j)) + if 256 * 2 ≤ r.val ∧ r.val < 256 * (2 + 1) then P x0 x1 x2 x3 r j else 0 := by
  unfold stepW sel2 sel3 sel4 sel5 sel6 sel7 sel8 sel9 sel10 sel11
  rw [if_neg (by decide), if_neg (by decide), if_pos (by decide), if_neg (by decide), if_neg (by decide), if_neg (by decide), if_neg (by decide), if_neg (by decide), if_neg (by decide), if_neg (by decide)]
  refine (upd9_at x0 x1 x2 x3 _ r j).trans ?_
  rw [sel1_at]
  split
  · rfl
  · rw [add_zero]

theorem step_2_2 (i : grid0.Coords) (v2 : BitVec 32) (r : Fin 1024) (j : Fin 2048) : stepW (F := Ideal) i v2 2#32 2#32 x0 x1 x2 x3 X (ix2 r j)
    = (if (i 1).val = 0 ∧ v2 = 1#32 then 0 else X (ix2 r j)) + if 256 * 2 ≤ r.val ∧ r.val < 256 * (2 + 2) then P x0 x1 x2 x3 r j else 0 := by
  unfold stepW sel2 sel3 sel4 sel5 sel6 sel7 sel8 sel9 sel10 sel11
  rw [if_neg (by decide), if_pos (by decide), if_neg (by decide), if_neg (by decide), if_neg (by decide), if_neg (by decide), if_neg (by decide), if_neg (by decide), if_neg (by decide), if_neg (by decide)]
  refine (upd10_at x0 x1 x2 x3 _ r j).trans ?_
  rw [sel1_at]
  split
  · rfl
  · rw [add_zero]

theorem step_3_0 (i : grid0.Coords) (v2 : BitVec 32) (r : Fin 1024) (j : Fin 2048) : stepW (F := Ideal) i v2 3#32 0#32 x0 x1 x2 x3 X (ix2 r j)
    = (if (i 1).val = 0 ∧ v2 = 1#32 then 0 else X (ix2 r j)) + if 256 * 3 ≤ r.val ∧ r.val < 256 * (3 + 0) then P x0 x1 x2 x3 r j else 0 := by
  unfold stepW sel2 sel3 sel4 sel5 sel6 sel7 sel8 sel9 sel10 sel11
  rw [if_neg (by decide), if_neg (by decide), if_neg (by decide), if_neg (by decide), if_neg (by decide), if_neg (by decide), if_neg (by decide), if_neg (by decide), if_neg (by decide), if_neg (by decide)]
  rw [sel1_at, if_neg (by omega : ¬ (256 * 3 ≤ r.val ∧ r.val < 256 * (3 + 0))), add_zero]

theorem step_3_1 (i : grid0.Coords) (v2 : BitVec 32) (r : Fin 1024) (j : Fin 2048) : stepW (F := Ideal) i v2 3#32 1#32 x0 x1 x2 x3 X (ix2 r j)
    = (if (i 1).val = 0 ∧ v2 = 1#32 then 0 else X (ix2 r j)) + if 256 * 3 ≤ r.val ∧ r.val < 256 * (3 + 1) then P x0 x1 x2 x3 r j else 0 := by
  unfold stepW sel2 sel3 sel4 sel5 sel6 sel7 sel8 sel9 sel10 sel11
  rw [if_pos (by decide), if_neg (by decide), if_neg (by decide), if_neg (by decide), if_neg (by decide), if_neg (by decide), if_neg (by decide), if_neg (by decide), if_neg (by decide), if_neg (by decide)]
  refine (upd11_at x0 x1 x2 x3 _ r j).trans ?_
  rw [sel1_at]
  split
  · rfl
  · rw [add_zero]

/-- What a grid point makes of the output tile: cleared or kept, plus the product for the item's rows. -/
theorem step_at (i : grid0.Coords) (v2 v8 v10 : BitVec 32) (h8 : v8.toNat < 4) (h10 : v8.toNat + v10.toNat ≤ 4) (r : Fin 1024) (j : Fin 2048) :
    stepW (F := Ideal) i v2 v8 v10 x0 x1 x2 x3 X (ix2 r j)
    = (if (i 1).val = 0 ∧ v2 = 1#32 then 0 else X (ix2 r j)) + if 256 * v8.toNat ≤ r.val ∧ r.val < 256 * (v8.toNat + v10.toNat) then P x0 x1 x2 x3 r j else 0 := by
  have key : (v8 = 0#32 ∧ v10 = 0#32) ∨ (v8 = 0#32 ∧ v10 = 1#32) ∨ (v8 = 0#32 ∧ v10 = 2#32) ∨ (v8 = 0#32 ∧ v10 = 3#32) ∨ (v8 = 0#32 ∧ v10 = 4#32) ∨ (v8 = 1#32 ∧ v10 = 0#32) ∨ (v8 = 1#32 ∧ v10 = 1#32) ∨ (v8 = 1#32 ∧ v10 = 2#32) ∨ (v8 = 1#32 ∧ v10 = 3#32) ∨ (v8 = 2#32 ∧ v10 = 0#32) ∨ (v8 = 2#32 ∧ v10 = 1#32) ∨ (v8 = 2#32 ∧ v10 = 2#32) ∨ (v8 = 3#32 ∧ v10 = 0#32) ∨ (v8 = 3#32 ∧ v10 = 1#32) := by
    simp only [← BitVec.toNat_inj, BitVec.toNat_ofNat]; omega
  rcases key with ⟨rfl, rfl⟩ | ⟨rfl, rfl⟩ | ⟨rfl, rfl⟩ | ⟨rfl, rfl⟩ | ⟨rfl, rfl⟩ | ⟨rfl, rfl⟩ | ⟨rfl, rfl⟩ | ⟨rfl, rfl⟩ | ⟨rfl, rfl⟩ | ⟨rfl, rfl⟩ | ⟨rfl, rfl⟩ | ⟨rfl, rfl⟩ | ⟨rfl, rfl⟩ | ⟨rfl, rfl⟩
  · exact step_0_0 x0 x1 x2 x3 X i v2 r j
  · exact step_0_1 x0 x1 x2 x3 X i v2 r j
  · exact step_0_2 x0 x1 x2 x3 X i v2 r j
  · exact step_0_3 x0 x1 x2 x3 X i v2 r j
  · exact step_0_4 x0 x1 x2 x3 X i v2 r j
  · exact step_1_0 x0 x1 x2 x3 X i v2 r j
  · exact step_1_1 x0 x1 x2 x3 X i v2 r j
  · exact step_1_2 x0 x1 x2 x3 X i v2 r j
  · exact step_1_3 x0 x1 x2 x3 X i v2 r j
  · exact step_2_0 x0 x1 x2 x3 X i v2 r j
  · exact step_2_1 x0 x1 x2 x3 X i v2 r j
  · exact step_2_2 x0 x1 x2 x3 X i v2 r j
  · exact step_3_0 x0 x1 x2 x3 X i v2 r j
  · exact step_3_1 x0 x1 x2 x3 X i v2 r j

end Cert.Kernel10Ideal.Moe

end
-- ==== Proof.MoeIdeal.Blocks.lean ====
module

public import proofs.«01_k».proof.Proof.MoeIdeal.Step

/-! The blocks of the expert kernel's inputs, as the item tables place them. -/

@[expose] public section

set_option maxRecDepth 16384

noncomputable section

namespace Cert.Kernel10Ideal.Moe

open Cert.Kernel10Ideal Cert.Kernel10Ideal.Gen Idealize.ShloMosaic Idealize.ShloMosaic.TcCoe
open scoped BigOperators

variable (m : (ℓ : Loc nD τ sig) → Buf (Elt Ideal) ℓ)

/-- The item of a point. -/
abbrev at_ (n : ℕ) (h : n < 319) : S29.Idx := item (grid0.coords ⟨n, h⟩)

/-- The rows. -/
abbrev xs : FVec Ideal S22528x2048 .bf16 := m ((0 : Dev nD).tc.loc main_arg0)
/-- The gate and up weights. -/
abbrev wgu : FVec Ideal S2x8x2048x11264 .f32 := m ((0 : Dev nD).tc.loc main_arg1)
/-- The down weights. -/
abbrev wd : FVec Ideal S2x8x5632x2048 .f32 := m ((0 : Dev nD).tc.loc main_arg2)

variable {m} (hT : Told m)

theorem blk0 (t : Fin grid0.N) (r : Fin 1024) (k : Fin 2048) : (show FVec Ideal S1024x2048 .bf16 from iblk m (ok hT) 0 0 t) (ix2 r k)
    = xs m (ix2 ⟨(wt m (item (grid0.coords t))).toNat * 1024 + r.val, by have := hT.wt_lt (item (grid0.coords t)); omega⟩ k) := by
  refine congrArg (xs m) ?_
  have e := ix_0 (m := m) (grid0.coords t)
  funext a
  match a with
  | ⟨0, _⟩ => exact Fin.ext ((congrArg (fun f : Fin 2 → ℕ => f 0 * 1024 + 1 * r.val) e).trans (show (wt m (item (grid0.coords t))).toNat * 1024 + 1 * r.val = _ by rw [Nat.one_mul]; rfl))
  | ⟨1, _⟩ => exact Fin.ext ((congrArg (fun f : Fin 2 → ℕ => f 1 * 2048 + 1 * k.val) e).trans (show 0 * 2048 + 1 * k.val = k.val by omega))

theorem blk1 (t : Fin grid0.N) (k : Fin 2048) (l : Fin 512) : (show FVec Ideal S1x1x2048x512 .f32 from iblk m (ok hT) 0 1 t) (ix4 0 0 k l)
    = wgu m (ix4 0 ⟨(we m (item (grid0.coords t))).toNat, hT.we_lt _⟩ k ⟨part m (grid0.coords t) * 512 + l.val, by have := part_lt m (grid0.coords t); omega⟩) := by
  refine congrArg (wgu m) ?_
  have e := ix_1 hT (grid0.coords t)
  funext a
  match a with
  | ⟨0, _⟩ => exact Fin.ext ((congrArg (fun f : Fin 4 → ℕ => f 0 * 1 + 1 * 0) e).trans rfl)
  | ⟨1, _⟩ => exact Fin.ext ((congrArg (fun f : Fin 4 → ℕ => f 1 * 1 + 1 * 0) e).trans (show (we m (item (grid0.coords t))).toNat * 1 + 1 * 0 = (we m (item (grid0.coords t))).toNat by omega))
  | ⟨2, _⟩ => exact Fin.ext ((congrArg (fun f : Fin 4 → ℕ => f 2 * 2048 + 1 * k.val) e).trans (show 0 * 2048 + 1 * k.val = k.val by omega))
  | ⟨3, _⟩ => exact Fin.ext ((congrArg (fun f : Fin 4 → ℕ => f 3 * 512 + 1 * l.val) e).trans (show part m (grid0.coords t) * 512 + 1 * l.val = part m (grid0.coords t) * 512 + l.val by omega))

theorem blk2 (t : Fin grid0.N) (k : Fin 2048) (l : Fin 512) : (show FVec Ideal S1x1x2048x512 .f32 from iblk m (ok hT) 0 2 t) (ix4 0 0 k l)
    = wgu m (ix4 0 ⟨(we m (item (grid0.coords t))).toNat, hT.we_lt _⟩ k ⟨5632 + (part m (grid0.coords t) * 512 + l.val), by have := part_lt m (grid0.coords t); omega⟩) := by
  refine congrArg (wgu m) ?_
  have e := ix_2 hT (grid0.coords t)
  funext a
  match a with
  | ⟨0, _⟩ => exact Fin.ext ((congrArg (fun f : Fin 4 → ℕ => f 0 * 1 + 1 * 0) e).trans rfl)
  | ⟨1, _⟩ => exact Fin.ext ((congrArg (fun f : Fin 4 → ℕ => f 1 * 1 + 1 * 0) e).trans (show (we m (item (grid0.coords t))).toNat * 1 + 1 * 0 = (we m (item (grid0.coords t))).toNat by omega))
  | ⟨2, _⟩ => exact Fin.ext ((congrArg (fun f : Fin 4 → ℕ => f 2 * 2048 + 1 * k.val) e).trans (show 0 * 2048 + 1 * k.val = k.val by omega))
  | ⟨3, _⟩ => exact Fin.ext ((congrArg (fun f : Fin 4 → ℕ => f 3 * 512 + 1 * l.val) e).trans (show (11 + part m (grid0.coords t)) * 512 + 1 * l.val = 5632 + (part m (grid0.coords t) * 512 + l.val) by omega))

theorem blk3 (t : Fin grid0.N) (l : Fin 512) (j : Fin 2048) : (show FVec Ideal S1x1x512x2048 .f32 from iblk m (ok hT) 0 3 t) (ix4 0 0 l j)
    = wd m (ix4 0 ⟨(we m (item (grid0.coords t))).toNat, hT.we_lt _⟩ ⟨part m (grid0.coords t) * 512 + l.val, by have := part_lt m (grid0.coords t); omega⟩ j) := by
  refine congrArg (wd m) ?_
  have e := ix_3 hT (grid0.coords t)
  funext a
  match a with
  | ⟨0, _⟩ => exact Fin.ext ((congrArg (fun f : Fin 4 → ℕ => f 0 * 1 + 1 * 0) e).trans rfl)
  | ⟨1, _⟩ => exact Fin.ext ((congrArg (fun f : Fin 4 → ℕ => f 1 * 1 + 1 * 0) e).trans (show (we m (item (grid0.coords t))).toNat * 1 + 1 * 0 = (we m (item (grid0.coords t))).toNat by omega))
  | ⟨2, _⟩ => exact Fin.ext ((congrArg (fun f : Fin 4 → ℕ => f 2 * 512 + 1 * l.val) e).trans (show part m (grid0.coords t) * 512 + 1 * l.val = part m (grid0.coords t) * 512 + l.val by omega))
  | ⟨3, _⟩ => exact Fin.ext ((congrArg (fun f : Fin 4 → ℕ => f 3 * 2048 + 1 * j.val) e).trans (show 0 * 2048 + 1 * j.val = j.val by omega))

/-- Expert `e`'s output for a row, its 512 units of block `f` alone. -/
def Q (m : (ℓ : Loc nD τ sig) → Buf (Elt Ideal) ℓ) (e : Fin 8) (f : Fin 11) (p : Fin 22528) (q : Fin 2048) : EReal :=
  ∑ l : Fin 512, Rows.gated (fun k => xs m (ix2 p k)) (fun k => wgu m (ix4 0 e k ⟨f.val * 512 + l.val, by omega⟩))
    (fun k => wgu m (ix4 0 e k ⟨5632 + (f.val * 512 + l.val), by omega⟩)) * wd m (ix4 0 e ⟨f.val * 512 + l.val, by omega⟩ q)

/-- A point's product for a row, in terms of the arrays. -/
theorem P_eq (t : Fin grid0.N) (r : Fin 1024) (j : Fin 2048) :
    P (iblk m (ok hT) 0 0 t) (iblk m (ok hT) 0 1 t) (iblk m (ok hT) 0 2 t) (iblk m (ok hT) 0 3 t) r j
      = Q m ⟨(we m (item (grid0.coords t))).toNat, hT.we_lt _⟩ ⟨part m (grid0.coords t), part_lt m _⟩ ⟨(wt m (item (grid0.coords t))).toNat * 1024 + r.val, by have := hT.wt_lt (item (grid0.coords t)); omega⟩ j := by
  unfold P Q
  refine Finset.sum_congr rfl fun l _ => ?_
  refine congrArg₂ (· * ·) ?_ (blk3 hT t l j)
  have h0 := funext fun k => blk0 hT t r k
  have h1 := funext fun k => blk1 hT t k l
  have h2 := funext fun k => blk2 hT t k l
  exact (congrArg₂ (fun f g => Rows.gated f g _) h0 h1).trans (congrArg (fun f => Rows.gated _ _ f) h2)

end Cert.Kernel10Ideal.Moe

end
-- ==== Proof.MoeIdeal.Value.lean ====
module

public import proofs.«01_k».proof.Proof.MoeIdeal.Blocks

/-! The expert kernel's array: every row is the sum over the items that hold it. -/

@[expose] public section

set_option maxRecDepth 16384

noncomputable section

namespace Cert.Kernel10Ideal.Moe

open Cert.Kernel10Ideal Cert.Kernel10Ideal.Gen Idealize.ShloMosaic Idealize.ShloMosaic.TcCoe
open scoped BigOperators

variable (m : (ℓ : Loc nD τ sig) → Buf (Elt Ideal) ℓ)

/-- Item number `n`. -/
def it (n : ℕ) : S29.Idx := ix1 (n0 := 29) ⟨n % 29, Nat.mod_lt _ (by decide)⟩

theorem it_val (n : ℕ) (h : n < 29) : (it n 0).val = n := Nat.mod_eq_of_lt h

theorem item_it (t : Fin grid0.N) : item (grid0.coords t) = it (t.val / 11) := by
  have h := coords_0 t
  have ht : t.val < 319 := t.isLt
  unfold item it
  refine congrArg (ix1 (n0 := 29)) (Fin.ext ?_)
  rw [h]
  exact (Nat.mod_eq_of_lt (by omega)).symm

/-- Item `w` holds row `p`. -/
def holds (w : ℕ) (p : ℕ) : Prop := Plan.start (wt m) (ws m) (it w) ≤ p ∧ p < Plan.stop (wt m) (ws m) (wc m) (it w)

instance (w p : ℕ) : Decidable (holds m w p) := by unfold holds; infer_instance

variable {m} (hT : Told m)
include hT

/-- A row of an item lies in the item's tile. -/
theorem tile_of_holds {w p : ℕ} (h : holds m w p) : (wt m (it w)).toNat = p / 1024 := by
  have h4 := hT.le_four (it w)
  unfold holds Plan.stop Plan.start at h
  omega

/-- Item `w`'s product for row `p` in block `f` of the units, if the item holds the row. -/
def h1 (w f : ℕ) (p : Fin 22528) (q : Fin 2048) : EReal :=
  if holds m w p.val then (if hf : f < 11 then Q m ⟨(we m (it w)).toNat, hT.we_lt _⟩ ⟨f, hf⟩ p q else 0) else 0

/-- Item `w`'s products for row `p` in the first `k` blocks of the units. -/
def g (w k : ℕ) (p : Fin 22528) (q : Fin 2048) : EReal := ∑ f ∈ Finset.range k, h1 hT w f p q

theorem g_zero {w : ℕ} {p : Fin 22528} (h : (wt m (it w)).toNat ≠ p.val / 1024) (k : ℕ) (q : Fin 2048) : g hT w k p q = 0 :=
  Finset.sum_eq_zero fun f _ => if_neg fun h' => h (tile_of_holds hT h')

/-- The row under a tile's row at an item. -/
def row (i : ℕ) (r : Fin 1024) : Fin 22528 := ⟨(wt m (it i)).toNat * 1024 + r.val, by have := hT.wt_lt (it i); omega⟩

theorem row_tile (i : ℕ) (r : Fin 1024) : (row hT i r).val / 1024 = (wt m (it i)).toNat := by
  show ((wt m (it i)).toNat * 1024 + r.val) / 1024 = _
  omega

/-- One point of the grid, in terms of the rows. -/
theorem point (t : Fin grid0.N) (r : Fin 1024) (j : Fin 2048) :
    (show FVec Ideal S1024x2048 .f32 from traj m (ok hT) 0 (t.val + 1)) (ix2 r j)
      = (if t.val % 11 = 0 ∧ wf m (it (t.val / 11)) = 1#32 then 0 else (show FVec Ideal S1024x2048 .f32 from traj m (ok hT) 0 t.val) (ix2 r j)) + h1 hT (t.val / 11) (t.val % 11) (row hT (t.val / 11) r) j := by
  have e : traj m (ok hT) 0 (t.val + 1) = stepAt m (ok hT) 0 t (traj m (ok hT) 0 t.val) := traj_succ m (ok hT) 0 t
  have ei : item (grid0.coords t) = it (t.val / 11) := item_it t
  have ek : (grid0.coords t 1).val = t.val % 11 := coords_1 t
  have h4 := hT.le_four (it (t.val / 11))
  have h3 := hT.ws_lt (it (t.val / 11))
  rw [e]
  unfold stepAt
  rw [word1_eq, word2_eq, word3_eq]
  rw [ei]
  refine (step_at _ _ _ _ _ _ _ _ _ h3 h4 r j).trans ?_
  rw [ek]
  refine congrArg₂ (· + ·) rfl ?_
  rw [P_eq hT t r j]
  unfold h1
  have hk : t.val % 11 < 11 := Nat.mod_lt _ (by decide)
  by_cases hr : 256 * (ws m (it (t.val / 11))).toNat ≤ r.val ∧ r.val < 256 * ((ws m (it (t.val / 11))).toNat + (wc m (it (t.val / 11))).toNat)
  · have hh : holds m (t.val / 11) (row hT (t.val / 11) r).val := by
      unfold holds Plan.stop Plan.start row
      dsimp only
      omega
    rw [if_pos hr, if_pos hh, dif_pos hk]
    have hp : part m (grid0.coords t) = t.val % 11 := by
      unfold part
      rw [ei, ek, if_neg (by omega)]
    have q1 : (⟨part m (grid0.coords t), part_lt m _⟩ : Fin 11) = ⟨t.val % 11, hk⟩ := Fin.ext hp
    have q2 : (⟨(we m (item (grid0.coords t))).toNat, hT.we_lt _⟩ : Fin 8) = ⟨(we m (it (t.val / 11))).toNat, hT.we_lt _⟩ := Fin.ext (congrArg (fun i => (we m i).toNat) ei)
    have q3 : (⟨(wt m (item (grid0.coords t))).toNat * 1024 + r.val, by have := hT.wt_lt (item (grid0.coords t)); omega⟩ : Fin 22528) = row hT (t.val / 11) r := Fin.ext (congrArg (fun i => (wt m i).toNat * 1024 + r.val) ei)
    rw [q1, q2, q3]
  · have hh : ¬ holds m (t.val / 11) (row hT (t.val / 11) r).val := by
      unfold holds Plan.stop Plan.start row
      dsimp only
      omega
    rw [if_neg hr, if_neg hh]

/-- The tiles come in order. -/
theorem mono (a : ℕ) : ∀ b, a ≤ b → b < 29 → (wt m (it a)).toNat ≤ (wt m (it b)).toNat := by
  intro b hab
  induction b, hab using Nat.le_induction with
  | base => exact fun _ => Nat.le_refl _
  | succ b hab ih =>
    intro hb
    have := ih (by omega)
    rcases hT.steps (it b) (it (b + 1)) (by rw [it_val _ hb, it_val _ (by omega)]) with h | h
    · omega
    · omega

/-- The tile after a point: all of the earlier items' products for its rows, and the item's so far. -/
theorem tile_at (n : ℕ) (h : n < grid0.N) (r : Fin 1024) (j : Fin 2048) :
    (show FVec Ideal S1024x2048 .f32 from traj m (ok hT) 0 (n + 1)) (ix2 r j)
      = ∑ w ∈ Finset.range (n / 11), g hT w 11 (row hT (n / 11) r) j + g hT (n / 11) (n % 11 + 1) (row hT (n / 11) r) j := by
  induction n with
  | zero =>
    rw [point hT ⟨0, h⟩ r j, if_pos ⟨rfl, (hT.first _ (it_val (0 / 11) (by decide))).2⟩]
    unfold g
    dsimp only
    simp
  | succ n ih =>
    have ih := ih (Nat.lt_of_succ_lt h)
    dsimp only at ih
    have h' : n + 1 < 319 := h
    rw [point hT ⟨n + 1, h⟩ r j]
    dsimp only
    by_cases h0 : (n + 1) % 11 = 0
    · have ed : (n + 1) / 11 = n / 11 + 1 := by omega
      have em : n % 11 + 1 = 11 := by omega
      rw [ed, h0]
      rw [em] at ih
      have eg : ∀ p : Fin 22528, g hT (n / 11 + 1) (0 + 1) p j = h1 hT (n / 11 + 1) 0 p j := fun p => by unfold g; simp
      rw [eg]
      rcases hT.steps (it (n / 11)) (it (n / 11 + 1)) (by rw [it_val _ (by omega), it_val _ (by omega)]) with hs | hs
      · rw [if_neg (fun h' => hs.2 h'.2), ih, Finset.sum_range_succ]
        have er : row hT (n / 11 + 1) r = row hT (n / 11) r := Fin.ext (by unfold row; dsimp only; rw [hs.1])
        rw [er]
      · rw [if_pos ⟨rfl, hs.2⟩]
        rw [Finset.sum_eq_zero]
        intro w hw
        have hw := Finset.mem_range.1 hw
        have h2 := mono hT w (n / 11) (by omega) (by omega)
        refine g_zero hT ?_ _ _
        rw [row_tile]
        omega
    · have ed : (n + 1) / 11 = n / 11 := by omega
      have em : (n + 1) % 11 = n % 11 + 1 := by omega
      rw [if_neg (fun h' => h0 h'.1), ih, ed, em, add_assoc]
      refine congrArg (_ + ·) ?_
      unfold g
      rw [Finset.sum_range_succ _ (n % 11 + 1)]

/-- Row `p` of the kernel's array. -/
def out (p : Fin 22528) (q : Fin 2048) : EReal := ∑ w ∈ Finset.range 29, g hT w 11 p q

/-- The last point of a tile's run. -/
theorem flush_at (t : Fin grid0.N) (hf : ((cfgM m (ok hT)).win 4).flush t = true) :
    t.val % 11 = 10 ∧ ∀ w, t.val / 11 < w → w < 29 → (wt m (it (t.val / 11))).toNat < (wt m (it w)).toNat := by
  obtain ⟨n, hn⟩ := t
  have hn' : n < 319 := hn
  by_cases h : n + 1 < (cfgM m (ok hT)).N
  · have hx := flush_next hT n h hf
    rw [item_it, item_it] at hx
    have h0 := hx.1
    have h2 := hx.2.2
    have h2 : (wt m (it ((n + 1) / 11))).toNat = (wt m (it (n / 11))).toNat + 1 := h2
    refine ⟨show n % 11 = 10 by omega, fun w hw hw' => ?_⟩
    have hw : n / 11 < w := hw
    have h3 := mono hT ((n + 1) / 11) w (by omega) hw'
    show (wt m (it (n / 11))).toNat < _
    omega
  · have h : ¬ n + 1 < 319 := h
    refine ⟨show n % 11 = 10 by omega, fun w hw hw' => ?_⟩
    have hw : n / 11 < w := hw
    omega

/-- At the last point of a tile's run the tile holds the array's rows. -/
theorem tile_end (t : Fin grid0.N) (hf : ((cfgM m (ok hT)).win 4).flush t = true) (r : Fin 1024) (j : Fin 2048) :
    (show FVec Ideal S1024x2048 .f32 from traj m (ok hT) 0 (t.val + 1)) (ix2 r j) = out hT (row hT (t.val / 11) r) j := by
  obtain ⟨h10, hl⟩ := flush_at hT t hf
  have ht : t.val < 319 := t.isLt
  rw [tile_at hT t.val t.isLt r j, h10, ← Finset.sum_range_succ]
  unfold out
  refine Finset.sum_subset (Finset.range_subset_range.2 (by omega)) fun w hw hw' => ?_
  have hw := Finset.mem_range.1 hw
  have hw' : ¬ w < t.val / 11 + 1 := fun h => hw' (Finset.mem_range.2 h)
  refine g_zero hT ?_ _ _
  rw [row_tile]
  have := hl w (by omega) hw
  omega

/-- Every tile has a last item, after which the next tile follows. -/
theorem last_item (b : ℕ) (hb : b < 22) : ∃ i, i < 29 ∧ (wt m (it i)).toNat = b ∧ (i = 28 ∨ (wt m (it (i + 1))).toNat = b + 1) := by
  classical
  have h0 : (wt m (it 0)).toNat = 0 := (hT.first _ rfl).1
  have h28 : (wt m (it 28)).toNat = 21 := hT.last _ rfl
  have hi := Nat.findGreatest_le (P := fun n => (wt m (it n)).toNat ≤ b) 28
  have hs := Nat.findGreatest_spec (P := fun n => (wt m (it n)).toNat ≤ b) (Nat.zero_le 28) (show (wt m (it 0)).toNat ≤ b by omega)
  have hg := fun k => Nat.findGreatest_is_greatest (P := fun n => (wt m (it n)).toNat ≤ b) (n := 28) (k := k)
  generalize Nat.findGreatest (fun n => (wt m (it n)).toNat ≤ b) 28 = i at hi hs hg
  refine ⟨i, by omega, ?_⟩
  by_cases h : i = 28
  · subst h
    exact ⟨by omega, .inl rfl⟩
  · have h1 := hg (i + 1) (by omega) (by omega)
    rcases hT.steps (it i) (it (i + 1)) (by rw [it_val _ (by omega), it_val _ (by omega)]) with h2 | h2
    · omega
    · exact ⟨by omega, .inr (by omega)⟩

/-- Every row's tile is written back. -/
theorem covers : ((cfgM m (ok hT)).win 4).Covers := by
  refine ⟨fun a => ?_, fun β => ?_⟩
  · match a with
    | ⟨0, _⟩ => exact (by decide : 0 < 1024)
    | ⟨1, _⟩ => exact (by decide : 0 < 2048)
  · have hb0 : (β (0 : Fin 2)).val < 22 := lt_of_lt_of_eq (β (0 : Fin 2)).isLt (show (22528 + 1024 - 1) / 1024 = 22 by norm_num)
    have hb1 : (β (1 : Fin 2)).val < 1 := lt_of_lt_of_eq (β (1 : Fin 2)).isLt (show (2048 + 2048 - 1) / 2048 = 1 by norm_num)
    obtain ⟨i, hi, hw, hl⟩ := last_item hT (β (0 : Fin 2)).val hb0
    have hn : 11 * i + 10 < 319 := by omega
    refine ⟨⟨11 * i + 10, hn⟩, ?_, ?_⟩
    · unfold Pipeline.Window.flush
      rw [Bool.and_eq_true, Bool.or_eq_true, decide_eq_true_eq, decide_eq_true_eq]
      refine ⟨rfl, ?_⟩
      rcases hl with hl | hl
      · left
        show 11 * i + 10 + 1 = 319
        omega
      · by_cases h28 : i = 28
        · left
          show 11 * i + 10 + 1 = 319
          omega
        right
        have hn' : 11 * i + 10 + 1 < 319 := by omega
        refine ⟨hn', ?_⟩
        show cc0_transform_4 k0_off1_inb numel1_S1 (tbl m) (grid0.coords ⟨11 * i + 10 + 1, hn'⟩) ≠ cc0_transform_4 k0_off1_inb numel1_S1 (tbl m) (grid0.coords ⟨11 * i + 10, hn⟩)
        rw [ix_4, ix_4, item_it, item_it]
        intro e
        have e := congrFun e 0
        have e : (wt m (it ((11 * i + 10 + 1) / 11))).toNat = (wt m (it ((11 * i + 10) / 11))).toNat := e
        rw [show (11 * i + 10 + 1) / 11 = i + 1 by omega, show (11 * i + 10) / 11 = i by omega] at e
        omega
    · have e : cc0_transform_4 k0_off1_inb numel1_S1 (tbl m) (grid0.coords ⟨11 * i + 10, hn⟩) = ![(β (0 : Fin 2)).val, 0] := by
        rw [ix_4, item_it]
        show ![(wt m (it ((11 * i + 10) / 11))).toNat, 0] = _
        rw [show (11 * i + 10) / 11 = i by omega, hw]
      intro a
      match a with
      | ⟨0, _⟩ => exact ⟨congrFun e 0, .inl rfl⟩
      | ⟨1, _⟩ => exact ⟨(congrFun e 1).trans (show 0 = (β (1 : Fin 2)).val by omega), .inl rfl⟩

/-- Where the block of a point lies in the array. -/
theorem emb_at (t : Fin grid0.N) (r : Fin 1024) (j : Fin 2048) :
    (show S22528x2048.Idx from (((cfgM m (ok hT)).win 4).blk t).view.emb (ix2 r j : S1024x2048.Idx)) = ix2 (row hT (t.val / 11) r) j := by
  have e := ix_4 (m := m) (grid0.coords t)
  rw [item_it] at e
  funext a
  match a with
  | ⟨0, _⟩ => exact Fin.ext ((congrArg (fun f : Fin 2 → ℕ => f 0 * 1024 + 1 * r.val) e).trans (show (wt m (it (t.val / 11))).toNat * 1024 + 1 * r.val = (wt m (it (t.val / 11))).toNat * 1024 + r.val by rw [Nat.one_mul]))
  | ⟨1, _⟩ => exact Fin.ext ((congrArg (fun f : Fin 2 → ℕ => f 1 * 2048 + 1 * j.val) e).trans (show 0 * 2048 + 1 * j.val = j.val by omega))

/-- What is written back at a point, where it is written. -/
theorem back (t : Fin grid0.N) (hf : ((cfgM m (ok hT)).win 4).flush t = true) (y : S1024x2048.Idx) :
    (show FVec Ideal S1024x2048 .f32 from traj m (ok hT) 0 (t.val + 1)) y
      = (fun i : S22528x2048.Idx => out hT (i 0) (i 1)) (show S22528x2048.Idx from (((cfgM m (ok hT)).win 4).blk t).view.emb y) := by
  have hy : y = ix2 (n0 := 1024) (n1 := 2048) (y 0) (y 1) := by funext k; fin_cases k <;> rfl
  refine ((congrArg (traj m (ok hT) 0 (t.val + 1)) hy).trans (tile_end hT t hf (y 0) (y 1))).trans ?_
  exact (congrArg (fun i : S22528x2048.Idx => out hT (i 0) (i 1)) ((congrArg (((cfgM m (ok hT)).win 4).blk t).view.emb hy).trans (emb_at hT t (y 0) (y 1)))).symm

/-- The kernel's array, row by row. -/
theorem final : (dats m (ok hT) 0 0).arrAt 4 (cfgM m (ok hT)).N = fun i : S22528x2048.Idx => out hT (i 0) (i 1) := by
  refine (dats m (ok hT) 0 0).arrAt_eq_of_covers 4 _ (covers hT) fun t hf y => ?_
  rw [after0_4]
  exact back hT t hf y

end Cert.Kernel10Ideal.Moe

end
-- ==== Proof.MoeSame.lean ====
module

public import proofs.«01_k».proof.Proof.MoeIdeal.Value

/-! The two expert programs compute one array. -/

@[expose] public section

set_option maxRecDepth 16384

noncomputable section

namespace Cert.Moe

open Cert.Kernel10Ideal Cert.Kernel10Ideal.Gen Cert.Kernel10Ideal.Moe Idealize.ShloMosaic Idealize.ShloMosaic.TcCoe
open scoped BigOperators

variable {m : (ℓ : Loc nD τ sig) → Buf (Elt Ideal) ℓ} (hT : Told m)
include hT

/-- The eleven blocks of the units are all the units. -/
theorem sum_Q (e : Fin 8) (p : Fin 22528) (q : Fin 2048) :
    ∑ f : Fin 11, Q m e f p q = Cert.Reference10Ideal.Moe.out (xs m) (wgu m) (wd m) e p q := by
  unfold Q Cert.Reference10Ideal.Moe.out Rows.expert
  exact Fin.sum_mul_add_congr fun s k hl => rfl

/-- An item that holds a row gives it the whole of its expert's output. -/
theorem g_holds {w : ℕ} {p : Fin 22528} (h : holds m w p.val) (q : Fin 2048) :
    g hT w 11 p q = Cert.Reference10Ideal.Moe.out (xs m) (wgu m) (wd m) ⟨(we m (it w)).toNat, hT.we_lt _⟩ p q := by
  rw [← sum_Q hT]
  unfold g
  rw [Finset.sum_range]
  refine Finset.sum_congr rfl fun f _ => ?_
  unfold h1
  rw [if_pos h, dif_pos f.isLt]

theorem g_not {w : ℕ} {p : Fin 22528} (h : ¬ holds m w p.val) (q : Fin 2048) : g hT w 11 p q = 0 :=
  Finset.sum_eq_zero fun f _ => if_neg h

theorem it_self (i : S29.Idx) : it (i 0).val = i := by
  have h : (i 0).val < 29 := (i 0).isLt
  unfold it
  rw [← Plan.ix1_self i]
  exact congrArg (ix1 (n0 := 29)) (Fin.ext (Nat.mod_eq_of_lt h))

/-- A row of an expert is held by one item, which is of that expert; any other row is held by none. -/
theorem out_eq (p : Fin 22528) (q : Fin 2048) :
    out hT p q = Cert.Reference10Ideal.Read.val_main_v121 (F := Ideal) (xs m) (wgu m) (wd m) (m ((0 : Dev nD).tc.loc main_arg3)) (ix2 p q) := by
  rw [Cert.Reference10Ideal.Moe.final]
  unfold out
  by_cases h : ((m ((0 : Dev nD).tc.loc main_arg3) : S22528.Idx → BitVec 32) (ix1 p)).toNat < 8
  · rw [dif_pos h]
    obtain ⟨i, hi⟩ := hT.taken (ix1 p) h
    have hh : holds m (i 0).val p.val := by
      unfold holds
      rw [it_self hT i]
      exact hi
    have hn : (i 0).val < 29 := (i 0).isLt
    rw [Finset.sum_eq_single (i 0).val]
    · rw [g_holds hT hh]
      have e := hT.right i (ix1 p) hi.1 hi.2
      refine congrArg (fun e => Cert.Reference10Ideal.Moe.out (xs m) (wgu m) (wd m) e p q) (Fin.ext ?_)
      show (we m (it (i 0).val)).toNat = _
      rw [it_self hT i, e]
    · intro w hw hne
      refine g_not hT (fun hw' => ?_) q
      have hw := Finset.mem_range.1 hw
      have hne' : it w ≠ i := fun e => hne (by rw [← e]; exact (it_val w hw).symm)
      have hi : Plan.start (wt m) (ws m) i ≤ p.val ∧ p.val < Plan.stop (wt m) (ws m) (wc m) i := hi
      unfold holds at hw'
      rcases hT.apart (it w) i hne' with h1 | h1 | h1
      · unfold Plan.stop at hw'
        rw [h1] at hw'
        omega
      · omega
      · omega
    · intro h'
      exact absurd (Finset.mem_range.2 hn) h'
  · rw [dif_neg h]
    refine Finset.sum_eq_zero fun w hw => g_not hT (fun hw' => h ?_) q
    have e := hT.right (it w) (ix1 p) hw'.1 hw'.2
    have e : we m (it w) = (m ((0 : Dev nD).tc.loc main_arg3) : S22528.Idx → BitVec 32) (ix1 p) := e
    rw [← e]
    exact hT.we_lt _

/-- From memories that agree on the arguments, the expert kernel's array is the reference's. -/
theorem same : Cert.Reference10Ideal.Read.val_main_v121 (F := Ideal) (xs m) (wgu m) (wd m) (m ((0 : Dev nD).tc.loc main_arg3))
    = (dats m (ok hT) 0 0).arrAt 4 (cfgM m (ok hT)).N := by
  rw [final hT]
  funext i
  have hi : i = ix2 (n0 := 22528) (n1 := 2048) (i 0) (i 1) := by funext k; fin_cases k <;> rfl
  exact (congrArg _ hi).trans (out_eq hT (i 0) (i 1)).symm

end Cert.Moe

end
-- ==== Proof.MoeText.lean ====
module

public import proofs.«01_k».proof.Proof.Gen.Kernel10
public import proofs.«01_k».proof.Proof.Gen.Kernel10Ideal

@[expose] public section

/-! The expert kernel and its ideal form have one text: a run of the one is a run of the other. -/

namespace Cert.Moe

open Idealize.ShloMosaic

variable {F : FTy → Type} [FloatOps F]

set_option maxHeartbeats 2000000 in
/-- The two bodies are one. -/
theorem body10 : @Cert.Kernel10.cc0_moe_ffn F _ _ = @Cert.Kernel10Ideal.cc0_moe_ffn F _ _ := rfl

/-! The staging buffers are the same. -/

theorem stage10_0 : @Cert.Kernel10.stage0_0 = @Cert.Kernel10Ideal.stage0_0 :=
  funext fun | 0 => rfl | 1 => rfl | ⟨_ + 2, h⟩ => absurd h (Nat.not_lt.2 (Nat.le_add_left _ _))
theorem stage10_1 : @Cert.Kernel10.stage0_1 = @Cert.Kernel10Ideal.stage0_1 :=
  funext fun | 0 => rfl | 1 => rfl | ⟨_ + 2, h⟩ => absurd h (Nat.not_lt.2 (Nat.le_add_left _ _))
theorem stage10_2 : @Cert.Kernel10.stage0_2 = @Cert.Kernel10Ideal.stage0_2 :=
  funext fun | 0 => rfl | 1 => rfl | ⟨_ + 2, h⟩ => absurd h (Nat.not_lt.2 (Nat.le_add_left _ _))
theorem stage10_3 : @Cert.Kernel10.stage0_3 = @Cert.Kernel10Ideal.stage0_3 :=
  funext fun | 0 => rfl | 1 => rfl | ⟨_ + 2, h⟩ => absurd h (Nat.not_lt.2 (Nat.le_add_left _ _))
theorem stage10_4 : @Cert.Kernel10.stage0_4 = @Cert.Kernel10Ideal.stage0_4 :=
  funext fun | 0 => rfl | 1 => rfl | ⟨_ + 2, h⟩ => absurd h (Nat.not_lt.2 (Nat.le_add_left _ _))

/-- The kernels' tables are one. -/
theorem defs₀10 : Cert.Kernel10.defs₀ (F := F) = Cert.Kernel10Ideal.defs₀ (F := F) := by
  unfold Cert.Kernel10.defs₀ Cert.Kernel10Ideal.defs₀
  refine congrArg Defs.onTc ?_
  funext l a
  match l, a with
  | 0, (t, s) =>
    dsimp only
    rw [body10]
    simp only [stage10_0, stage10_1, stage10_2, stage10_3, stage10_4]
    try rfl
  | ⟨n + 1, h⟩, _ => exact absurd h (Nat.not_lt.2 (Nat.le_add_left _ _))

/-- The programs' tables are one. -/
theorem defs10 : Cert.Kernel10.defs (F := F) = Cert.Kernel10Ideal.defs (F := F) := by
  unfold Cert.Kernel10.defs Cert.Kernel10Ideal.defs
  exact congrArg (Pipeline.defs Cert.Kernel10Ideal.pcfgs) defs₀10

end Cert.Moe

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel10
public import proofs.«01_k».proof.Proof.Gen.Kernel10.Skeleton
public import proofs.«01_k».proof.Proof.Gen.Kernel10.Launch
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Reference10Ideal
public import proofs.«01_k».proof.Proof.Gen.Reference10Ideal.Run
public import proofs.«01_k».proof.Proof.Gen.Reference10Ideal.Read
public import proofs.«01_k».proof.Proof.Gen.Pre_plan
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Same
public import proofs.«01_k».proof.Proof.FfnSame
public import proofs.«01_k».proof.Proof.KvSame
public import proofs.«01_k».proof.Proof.Mem
public import proofs.«01_k».proof.Proof.Gate
public import proofs.«01_k».proof.Proof.Last
public import proofs.«01_k».proof.Proof.Latent
public import proofs.«01_k».proof.Proof.Outp
public import proofs.«01_k».proof.Proof.MoeSame
public import proofs.«01_k».proof.Proof.MoeText
public import Idealize.ShloMosaic.Adequacy
public import Idealize.ShloMosaic.Init

@[expose] public section

noncomputable section

namespace Cert.Proof

open Idealize.ShloMosaic Idealize.SL.Sem Cert.Kernel

/-- The reference runs, leaves its arguments as they were and ends quiescent. -/
theorem frame_reference : Cert.quiescent_ReferenceIdeal (hReferenceIdeal := Cert.ReferenceIdeal.Gen.facts) := by
  intro m g _
  exact (θ_run _ _ _).mono (fun r h => ⟨fun c => (h c).2, sem_eq_zero_of_no_sems rfl r.2⟩) (Cert.ReferenceIdeal.Value.run (F := Ideal) m g)

/-- The latent attention and its reference give one array of reals. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp he
  refine ⟨fun c => (Cert.KernelIdeal.Gen.dats m 0 c).arrAt 8 Cert.KernelIdeal.cfg0.N, Cert.KernelIdeal.Value.run_blocks m g, ?_⟩
  exact (θ_run _ _ _).mono (fun r h c => ⟨(h c).1.trans (Cert.Attn.same m m' c (hp c) (he c)), (h c).2⟩)
    (Cert.ReferenceIdeal.Value.run (F := Ideal) m' g')

/-- The feed-forward reference runs, leaves its arguments as they were and ends quiescent. -/
theorem frame_reference2 : Cert.quiescent_Reference2Ideal (hReference2Ideal := Cert.Reference2Ideal.Gen.facts) := by
  intro m g _
  exact (θ_run _ _ _).mono (fun r h => ⟨fun c => (h c).2, sem_eq_zero_of_no_sems rfl r.2⟩) (Cert.Reference2Ideal.Value.run (F := Ideal) m g)

/-- The feed-forward kernel and its reference give one array. -/
theorem algebraic2 : Cert.algebraic_Kernel2Ideal_Reference2Ideal (hKernel2Ideal := Cert.Kernel2Ideal.Gen.facts)
    (hReference2Ideal := Cert.Reference2Ideal.Gen.facts) := by
  intro m g m' g' _ he
  refine ⟨fun c => (Cert.Kernel2Ideal.Gen.dats m 0 c).arrAt 5 Cert.Kernel2Ideal.cfg0.N, Cert.Kernel2Ideal.Value.run_blocks m g, ?_⟩
  exact (θ_run _ _ _).mono (fun r h c => ⟨(h c).1.trans ((Cert.Reference2Ideal.Read.val_main_v23_eq _ _ _ _).trans (Cert.Ffn.same m m' c (he c))), (h c).2⟩)
    (Cert.Reference2Ideal.Value.run (F := Ideal) m' g')

/-- The projection's reference runs, leaves its arguments as they were and ends quiescent. -/
theorem frame_reference3 : Cert.quiescent_Reference3Ideal (hReference3Ideal := Cert.Reference3Ideal.Gen.facts) := by
  intro m g _
  exact (θ_run _ _ _).mono (fun r h => ⟨fun c => (h c).2.2, sem_eq_zero_of_no_sems rfl r.2⟩) (Cert.Reference3Ideal.Value.run (F := Ideal) m g)

/-- The projection kernel and its reference give the same two arrays. -/
theorem algebraic3 : Cert.algebraic_Kernel3Ideal_Reference3Ideal (hKernel3Ideal := Cert.Kernel3Ideal.Gen.facts)
    (hReference3Ideal := Cert.Reference3Ideal.Gen.facts) := by
  intro m g m' g' _ he
  refine ⟨fun c => (Cert.Kernel3Ideal.Gen.dats m 0 c).arrAt 3 Cert.Kernel3Ideal.cfg0.N, fun c => (Cert.Kernel3Ideal.Gen.dats m 0 c).arrAt 4 Cert.Kernel3Ideal.cfg0.N, Cert.Kernel3Ideal.Value.run_blocks m g, ?_⟩
  exact (θ_run _ _ _).mono (fun r h c => ⟨(h c).1.trans ((Cert.Reference3Ideal.Read.val_main_v40_eq _ _ _ _).trans (Cert.Kv.same m m' c (he c))),
    (h c).2.1.trans ((Cert.Reference3Ideal.Read.val_main_v41_eq _ _ _ _).trans (Cert.Kv.same_rounded m m' c (he c))), (h c).2.2⟩)
    (Cert.Reference3Ideal.Value.run (F := Ideal) m' g')

/-- The memory's projection's reference runs, leaves its arguments as they were and ends quiescent. -/
theorem frame_reference4 : Cert.quiescent_Reference4Ideal (hReference4Ideal := Cert.Reference4Ideal.Gen.facts) := by
  intro m g _
  exact (θ_run _ _ _).mono (fun r h => ⟨fun c => (h c).2, sem_eq_zero_of_no_sems rfl r.2⟩) (Cert.Reference4Ideal.Value.run (F := Ideal) m g)

/-- The memory's projection's kernel and its reference give one array. -/
theorem algebraic4 : Cert.algebraic_Kernel4Ideal_Reference4Ideal (hKernel4Ideal := Cert.Kernel4Ideal.Gen.facts)
    (hReference4Ideal := Cert.Reference4Ideal.Gen.facts) := by
  intro m g m' g' _ he
  refine ⟨fun c => (Cert.Kernel4Ideal.Gen.dats m 0 c).arrAt 2 Cert.Kernel4Ideal.cfg0.N, Cert.Kernel4Ideal.Value.run_blocks m g, ?_⟩
  exact (θ_run _ _ _).mono (fun r h c => ⟨(h c).1.trans ((Cert.Reference4Ideal.Read.val_main_v3_eq _ _).trans (Cert.Mem.same m m' c (he c))), (h c).2⟩)
    (Cert.Reference4Ideal.Value.run (F := Ideal) m' g')

/-- The forget gates' reference runs, leaves its arguments as they were and ends quiescent. -/
theorem frame_reference5 : Cert.quiescent_Reference5Ideal (hReference5Ideal := Cert.Reference5Ideal.Gen.facts) := by
  intro m g _
  exact (θ_run _ _ _).mono (fun r h => ⟨fun c => (h c).2, sem_eq_zero_of_no_sems rfl r.2⟩) (Cert.Reference5Ideal.Value.run (F := Ideal) m g)

/-- The forget gates' kernel and its reference give one array. -/
theorem algebraic5 : Cert.algebraic_Kernel5Ideal_Reference5Ideal (hKernel5Ideal := Cert.Kernel5Ideal.Gen.facts)
    (hReference5Ideal := Cert.Reference5Ideal.Gen.facts) := by
  intro m g m' g' _ he
  refine ⟨fun c => (Cert.Kernel5Ideal.Gen.dats m 0 c).arrAt 4 Cert.Kernel5Ideal.cfg0.N, Cert.Kernel5Ideal.Value.run_blocks m g, ?_⟩
  exact (θ_run _ _ _).mono (fun r h c => ⟨(h c).1.trans (Cert.Gate.same m m' c (he c)), (h c).2⟩)
    (Cert.Reference5Ideal.Value.run (F := Ideal) m' g')

/-- The prompt's last norm's reference runs, leaves its arguments as they were and ends quiescent. -/
theorem frame_reference6 : Cert.quiescent_Reference6Ideal (hReference6Ideal := Cert.Reference6Ideal.Gen.facts) := by
  intro m g _
  exact (θ_run _ _ _).mono (fun r h => ⟨fun c => (h c).2, sem_eq_zero_of_no_sems rfl r.2⟩) (Cert.Reference6Ideal.Value.run (F := Ideal) m g)

/-- The prompt's last norm's kernel and its reference give one array. -/
theorem algebraic6 : Cert.algebraic_Kernel6Ideal_Reference6Ideal (hKernel6Ideal := Cert.Kernel6Ideal.Gen.facts)
    (hReference6Ideal := Cert.Reference6Ideal.Gen.facts) := by
  intro m g m' g' _ he
  refine ⟨fun c => (Cert.Kernel6Ideal.Gen.dats m 0 c).arrAt 2 Cert.Kernel6Ideal.cfg0.N, Cert.Kernel6Ideal.Value.run_blocks m g, ?_⟩
  exact (θ_run _ _ _).mono (fun r h c => ⟨(h c).1.trans ((Cert.Reference6Ideal.Read.val_main_v13_eq _ _).trans (Cert.LastP.same m m' c (he c))), (h c).2⟩)
    (Cert.Reference6Ideal.Value.run (F := Ideal) m' g')

/-- The samples' last norm's reference runs, leaves its arguments as they were and ends quiescent. -/
theorem frame_reference7 : Cert.quiescent_Reference7Ideal (hReference7Ideal := Cert.Reference7Ideal.Gen.facts) := by
  intro m g _
  exact (θ_run _ _ _).mono (fun r h => ⟨fun c => (h c).2, sem_eq_zero_of_no_sems rfl r.2⟩) (Cert.Reference7Ideal.Value.run (F := Ideal) m g)

/-- The samples' last norm's kernel and its reference give one array. -/
theorem algebraic7 : Cert.algebraic_Kernel7Ideal_Reference7Ideal (hKernel7Ideal := Cert.Kernel7Ideal.Gen.facts)
    (hReference7Ideal := Cert.Reference7Ideal.Gen.facts) := by
  intro m g m' g' _ he
  refine ⟨fun c => (Cert.Kernel7Ideal.Gen.dats m 0 c).arrAt 2 Cert.Kernel7Ideal.cfg0.N, Cert.Kernel7Ideal.Value.run_blocks m g, ?_⟩
  exact (θ_run _ _ _).mono (fun r h c => ⟨(h c).1.trans ((Cert.Reference7Ideal.Read.val_main_v13_eq _ _).trans (Cert.LastS.same m m' c (he c))), (h c).2⟩)
    (Cert.Reference7Ideal.Value.run (F := Ideal) m' g')

/-- The latent's norm's reference runs, leaves its arguments as they were and ends quiescent. -/
theorem frame_reference8 : Cert.quiescent_Reference8Ideal (hReference8Ideal := Cert.Reference8Ideal.Gen.facts) := by
  intro m g _
  exact (θ_run _ _ _).mono (fun r h => ⟨fun c => (h c).2.2, sem_eq_zero_of_no_sems rfl r.2⟩) (Cert.Reference8Ideal.Value.run (F := Ideal) m g)

/-- The latent's norm's kernel and its reference give the same two arrays. -/
theorem algebraic8 : Cert.algebraic_Kernel8Ideal_Reference8Ideal (hKernel8Ideal := Cert.Kernel8Ideal.Gen.facts)
    (hReference8Ideal := Cert.Reference8Ideal.Gen.facts) := by
  intro m g m' g' _ he
  refine ⟨fun c => (Cert.Kernel8Ideal.Gen.dats m 0 c).arrAt 2 Cert.Kernel8Ideal.cfg0.N, fun c => (Cert.Kernel8Ideal.Gen.dats m 0 c).arrAt 3 Cert.Kernel8Ideal.cfg0.N, Cert.Kernel8Ideal.Value.run_blocks m g, ?_⟩
  exact (θ_run _ _ _).mono (fun r h c => ⟨(h c).1.trans ((Cert.Reference8Ideal.Read.val_main_v13_eq _ _).trans (Cert.Latent.same m m' c (he c))),
    (h c).2.1.trans ((Cert.Reference8Ideal.Read.val_main_v14_eq _ _).trans (Cert.Latent.same_rounded m m' c (he c))), (h c).2.2⟩)
    (Cert.Reference8Ideal.Value.run (F := Ideal) m' g')

/-- The output projection's reference runs, leaves its arguments as they were and ends quiescent. -/
theorem frame_reference9 : Cert.quiescent_Reference9Ideal (hReference9Ideal := Cert.Reference9Ideal.Gen.facts) := by
  intro m g _
  exact (θ_run _ _ _).mono (fun r h => ⟨fun c => (h c).2, sem_eq_zero_of_no_sems rfl r.2⟩) (Cert.Reference9Ideal.Value.run (F := Ideal) m g)

/-- The output projection's kernel and its reference give one array. -/
theorem algebraic9 : Cert.algebraic_Kernel9Ideal_Reference9Ideal (hKernel9Ideal := Cert.Kernel9Ideal.Gen.facts)
    (hReference9Ideal := Cert.Reference9Ideal.Gen.facts) := by
  intro m g m' g' _ he
  refine ⟨fun c => (Cert.Kernel9Ideal.Gen.dats m 0 c).arrAt 4 Cert.Kernel9Ideal.cfg0.N, Cert.Kernel9Ideal.Value.run_blocks m g, ?_⟩
  exact (θ_run _ _ _).mono (fun r h c => ⟨(h c).1.trans ((Cert.Reference9Ideal.Read.val_main_v4_eq _ _ _ _).trans (Cert.Outp.same m m' c (he c))), (h c).2⟩)
    (Cert.Reference9Ideal.Value.run (F := Ideal) m' g')

/-- The expert kernel runs, leaves its arguments as they were and ends quiescent, given tables that fit. -/
theorem frame_kernel10 : Cert.quiescent_Kernel10 (hKernel10 := Cert.Kernel10.Gen.facts) (hPre_plan := Cert.Pre_plan.Gen.facts) := by
  intro m g hp
  have hT : Cert.Kernel10Ideal.Gen.Told (F := Bits) m := Cert.Plan.told (hp 0)
  have h := Cert.Kernel10Ideal.Gen.frame (F := Bits) m g (Cert.Kernel10Ideal.Gen.ok hT) (Cert.Kernel10Ideal.Gen.clears hT)
  rw [← Cert.Moe.defs10] at h
  exact h

/-- The same of the expert kernel over the reals. -/
theorem frame_kernel10_ideal : Cert.quiescent_Kernel10Ideal (hKernel10Ideal := Cert.Kernel10Ideal.Gen.facts) (hPre_plan := Cert.Pre_plan.Gen.facts) := by
  intro m g hp
  have hT : Cert.Kernel10Ideal.Gen.Told m := Cert.Plan.told (hp 0)
  exact Cert.Kernel10Ideal.Gen.frame m g (Cert.Kernel10Ideal.Gen.ok hT) (Cert.Kernel10Ideal.Gen.clears hT)

/-- The experts' reference runs, leaves its arguments as they were and ends quiescent. -/
theorem frame_reference10 : Cert.quiescent_Reference10Ideal (hReference10Ideal := Cert.Reference10Ideal.Gen.facts) := by
  intro m g _
  exact (θ_run _ _ _).mono (fun r h => ⟨fun c => (h c).2, sem_eq_zero_of_no_sems rfl r.2⟩) (Cert.Reference10Ideal.Value.run (F := Ideal) m g)

/-- The expert kernel and its reference give one array, given tables that fit. -/
theorem algebraic10 : Cert.algebraic_Kernel10Ideal_Reference10Ideal (hKernel10Ideal := Cert.Kernel10Ideal.Gen.facts)
    (hReference10Ideal := Cert.Reference10Ideal.Gen.facts) (hPre_plan := Cert.Pre_plan.Gen.facts) := by
  intro m g m' g' hp he
  have hT : Cert.Kernel10Ideal.Gen.Told m := Cert.Plan.told (hp 0)
  refine ⟨fun c => (Cert.Kernel10Ideal.Gen.dats m (Cert.Kernel10Ideal.Gen.ok hT) 0 c).arrAt 4 (Cert.Kernel10Ideal.Gen.cfgM m (Cert.Kernel10Ideal.Gen.ok hT)).N,
    (θ_run _ _ _).mono (fun r h => h.1) (Cert.Kernel10Ideal.Gen.run m g (Cert.Kernel10Ideal.Gen.ok hT) (Cert.Kernel10Ideal.Gen.clears hT)), ?_⟩
  refine (θ_run _ _ _).mono (fun r h c => ⟨?_, (h c).2⟩) (Cert.Reference10Ideal.Value.run (F := Ideal) m' g')
  obtain rfl : c = 0 := Subsingleton.elim _ _
  obtain ⟨e0, e1, e2, e3, -⟩ := he 0
  refine ((h 0).1.trans (Cert.Reference10Ideal.Read.val_main_v121_eq _)).trans (Eq.trans ?_ (Cert.Moe.same hT))
  refine (congrArg₂ (fun a b => Cert.Reference10Ideal.Read.val_main_v121 (F := Ideal) a b _ _) e0 e1).trans ?_
  exact congrArg₂ (fun a b => Cert.Reference10Ideal.Read.val_main_v121 (F := Ideal) _ _ a b) e2 e3

/-- Everything the certificate claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Pre_finite.Gen.facts, Cert.Pre_plan.Gen.facts,
  fun m g _ => Cert.Kernel.Gen.frame m g,
  fun m g _ => Cert.KernelIdeal.Gen.frame m g,
  fun m g _ => Cert.KernelIdeal.Gen.frame m g,
  frame_reference,
  fun m g _ => frame_reference m g trivial,
  fun m g _ => Cert.Kernel2.Gen.frame m g,
  fun m g _ => Cert.Kernel2Ideal.Gen.frame m g,
  frame_reference2,
  fun m g _ => Cert.Kernel3.Gen.frame m g,
  fun m g _ => Cert.Kernel3Ideal.Gen.frame m g,
  frame_reference3,
  fun m g _ => Cert.Kernel4.Gen.frame m g,
  fun m g _ => Cert.Kernel4Ideal.Gen.frame m g,
  frame_reference4,
  fun m g _ => Cert.Kernel5.Gen.frame m g,
  fun m g _ => Cert.Kernel5Ideal.Gen.frame m g,
  frame_reference5,
  fun m g _ => Cert.Kernel6.Gen.frame m g,
  fun m g _ => Cert.Kernel6Ideal.Gen.frame m g,
  frame_reference6,
  fun m g _ => Cert.Kernel7.Gen.frame m g,
  fun m g _ => Cert.Kernel7Ideal.Gen.frame m g,
  frame_reference7,
  fun m g _ => Cert.Kernel8.Gen.frame m g,
  fun m g _ => Cert.Kernel8Ideal.Gen.frame m g,
  frame_reference8,
  fun m g _ => Cert.Kernel9.Gen.frame m g,
  fun m g _ => Cert.Kernel9Ideal.Gen.frame m g,
  frame_reference9,
  frame_kernel10,
  frame_kernel10_ideal,
  frame_reference10,
  fun m g _ => frame_reference10 m g trivial,
  IdealRules.named_const.statement Cert.KernelIdeal.κ "q_scale" .f32 0x3DD53B95#32 _ rfl,
  algebraic,
  trivial,
  algebraic2,
  trivial,
  algebraic3,
  trivial,
  algebraic4,
  trivial,
  algebraic5,
  trivial,
  algebraic6,
  trivial,
  algebraic7,
  trivial,
  algebraic8,
  trivial,
  algebraic9,
  trivial,
  algebraic10⟩

end Cert.Proof

end
